-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v134) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "inv_192" .f32 0x3BAAAAAB#32 ((1 / 192 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v59_0)) (v1 : (c : Dev Cert.Kernel3Ideal.nD) → Buf (Elt Ideal) ((c.tc : Thread Cert.Kernel3Ideal.nD Cert.Kernel3Ideal.τ).loc Cert.Kernel3Ideal.main_v59_1)) (v2 : (c : Dev Cert.Kernel3Ideal.nD) → Buf (Elt Ideal) ((c.tc : Thread Cert.Kernel3Ideal.nD Cert.Kernel3Ideal.τ).loc Cert.Kernel3Ideal.main_v59_2)) (v3 : (c : Dev Cert.Kernel3Ideal.nD) → Buf (Elt Ideal) ((c.tc : Thread Cert.Kernel3Ideal.nD Cert.Kernel3Ideal.τ).loc Cert.Kernel3Ideal.main_v59_3)) (v4 : (c : Dev Cert.Kernel3Ideal.nD) → Buf (Elt Ideal) ((c.tc : Thread Cert.Kernel3Ideal.nD Cert.Kernel3Ideal.τ).loc Cert.Kernel3Ideal.main_v59_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59_0) = v0 c
          ∧ r.2.mem ((c.tc : Thread Cert.Kernel3Ideal.nD Cert.Kernel3Ideal.τ).loc Cert.Kernel3Ideal.main_v59_1) = v1 c
          ∧ r.2.mem ((c.tc : Thread Cert.Kernel3Ideal.nD Cert.Kernel3Ideal.τ).loc Cert.Kernel3Ideal.main_v59_2) = v2 c
          ∧ r.2.mem ((c.tc : Thread Cert.Kernel3Ideal.nD Cert.Kernel3Ideal.τ).loc Cert.Kernel3Ideal.main_v59_3) = v3 c
          ∧ r.2.mem ((c.tc : Thread Cert.Kernel3Ideal.nD Cert.Kernel3Ideal.τ).loc Cert.Kernel3Ideal.main_v59_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v133) = v1 c
          ∧ r.2.mem ((c.tc : Thread Cert.Reference3Ideal.nD Cert.Reference3Ideal.τ).loc Cert.Reference3Ideal.main_v134) = v2 c
          ∧ r.2.mem ((c.tc : Thread Cert.Reference3Ideal.nD Cert.Reference3Ideal.τ).loc Cert.Reference3Ideal.main_v135) = v3 c
          ∧ r.2.mem ((c.tc : Thread Cert.Reference3Ideal.nD Cert.Reference3Ideal.τ).loc Cert.Reference3Ideal.main_v136) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "inv_192" .f32 0x3BAAAAAB#32 ((1 / 192 : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v59_0)) (v1 : (c : Dev Cert.Kernel4Ideal.nD) → Buf (Elt Ideal) ((c.tc : Thread Cert.Kernel4Ideal.nD Cert.Kernel4Ideal.τ).loc Cert.Kernel4Ideal.main_v59_1)) (v2 : (c : Dev Cert.Kernel4Ideal.nD) → Buf (Elt Ideal) ((c.tc : Thread Cert.Kernel4Ideal.nD Cert.Kernel4Ideal.τ).loc Cert.Kernel4Ideal.main_v59_2)) (v3 : (c : Dev Cert.Kernel4Ideal.nD) → Buf (Elt Ideal) ((c.tc : Thread Cert.Kernel4Ideal.nD Cert.Kernel4Ideal.τ).loc Cert.Kernel4Ideal.main_v59_3)) (v4 : (c : Dev Cert.Kernel4Ideal.nD) → Buf (Elt Ideal) ((c.tc : Thread Cert.Kernel4Ideal.nD Cert.Kernel4Ideal.τ).loc Cert.Kernel4Ideal.main_v59_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v59_0) = v0 c
          ∧ r.2.mem ((c.tc : Thread Cert.Kernel4Ideal.nD Cert.Kernel4Ideal.τ).loc Cert.Kernel4Ideal.main_v59_1) = v1 c
          ∧ r.2.mem ((c.tc : Thread Cert.Kernel4Ideal.nD Cert.Kernel4Ideal.τ).loc Cert.Kernel4Ideal.main_v59_2) = v2 c
          ∧ r.2.mem ((c.tc : Thread Cert.Kernel4Ideal.nD Cert.Kernel4Ideal.τ).loc Cert.Kernel4Ideal.main_v59_3) = v3 c
          ∧ r.2.mem ((c.tc : Thread Cert.Kernel4Ideal.nD Cert.Kernel4Ideal.τ).loc Cert.Kernel4Ideal.main_v59_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v129) = v1 c
          ∧ r.2.mem ((c.tc : Thread Cert.Reference4Ideal.nD Cert.Reference4Ideal.τ).loc Cert.Reference4Ideal.main_v130) = v2 c
          ∧ r.2.mem ((c.tc : Thread Cert.Reference4Ideal.nD Cert.Reference4Ideal.τ).loc Cert.Reference4Ideal.main_v131) = v3 c
          ∧ r.2.mem ((c.tc : Thread Cert.Reference4Ideal.nD Cert.Reference4Ideal.τ).loc Cert.Reference4Ideal.main_v132) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite3.lean ====
abbrev S4x4096x1024 : Shape := ⟨3, ![4, 4096, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2x1024x1376 : S_.BroadcastsInDim S2x1024x1376 (![] : Fin 0 → Fin S2x1024x1376.rank)
  reducesTo_S2x1024x1376_S_d0_1_2 : S2x1024x1376.ReducesTo [0, 1, 2] S_
  bcast_S_S2x192 : S_.BroadcastsInDim S2x192 (![] : Fin 0 → Fin S2x192.rank)
  reducesTo_S2x192_S_d0_1 : S2x192.ReducesTo [0, 1] S_
  bcast_S_S2x192x384 : S_.BroadcastsInDim S2x192x384 (![] : Fin 0 → Fin S2x192x384.rank)
  reducesTo_S2x192x384_S_d0_1_2 : S2x192x384.ReducesTo [0, 1, 2] S_

variable [Facts]

def fn_part1 {F : FTy → Type} [FloatOps F] (main_arg4 : FVec F S2x192 .f32) (main_arg6 : FVec F S2x192x384 .f32) (main_v3 : IVec S_ 1) (main_v7 : IVec S_ 1) (main_v11 : IVec S_ 1) (main_v15 : IVec S_ 1) : IVec S_ 1 :=
  let main_v16 : FVec F S2x192 .f32 := Host.absf main_arg4
  let main_cst_6 : FVec F S_ .f32 := constant S_ .f32 0x7F800000#32
  let main_v17 : FVec F S2x192 .f32 := broadcastInDim S2x192 ![] bcast_S_S2x192 main_cst_6
  let main_v18 : IVec S2x192 1 := cmpf .olt main_v16 main_v17
  let main_c_7 : IVec S_ 1 := constantI S_ 1 1#1
  let main_v19 : IVec S_ 1 := (fun x v => Host.reduce IntOp.andi x v reducesTo_S2x192_S_d0_1 h_S_) main_v18 main_c_7
  let main_v20 : FVec F S2x192x384 .f32 := Host.absf main_arg6
  let main_cst_8 : FVec F S_ .f32 := constant S_ .f32 0x7F800000#32
  let main_v21 : FVec F S2x192x384 .f32 := broadcastInDim S2x192x384 ![] bcast_S_S2x192x384 main_cst_8
  let main_v22 : IVec S2x192x384 1 := cmpf .olt main_v20 main_v21
  let main_c_9 : IVec S_ 1 := constantI S_ 1 1#1
  let main_v23 : IVec S_ 1 := (fun x v => Host.reduce IntOp.andi x v reducesTo_S2x192x384_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x4096x1024 .f32) (main_arg1 : FVec F S16x1024 .f32) (main_arg2 : FVec F S2x1024 .f32) (main_arg3 : FVec F S2x1024x1376 .f32) (main_arg4 : FVec F S2x192 .f32) (main_arg5 : FVec F S2x128 .f32) (main_arg6 : FVec F S2x192x384 .f32) (main_arg7 : FVec F S2x128x256 .f32) (main_arg8 : FVec F S4224x16 .f32) (main_arg9 : FVec F S4224x16 .f32) (main_arg10 : FVec F S4224x128 .bf16) (main_arg11 : FVec F S4224x128 .bf16) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : FVec F S2x1024 .f32 := Host.absf main_arg2
  let main_cst_2 : FVec F S_ .f32 := constant S_ .f32 0x7F800000#32
  let main_v9 : FVec F S2x1024 .f32 := broadcastInDim S2x1024 ![] bcast_S_S2x1024 main_cst_2
  let main_v10 : IVec S2x1024 1 := cmpf .olt main_v8 main_v9
  let main_c_3 : IVec S_ 1 := constantI S_ 1 1#1
  let main_v11 : IVec S_ 1 := (fun x v => Host.reduce IntOp.andi x v reducesTo_S2x1024_S_d0_1 h_S_) main_v10 main_c_3
  let main_v12 : FVec F S2x1024x1376 .f32 := Host.absf main_arg3
  let main_cst_4 : FVec F S_ .f32 := constant S_ .f32 0x7F800000#32
  let main_v13 : FVec F S2x1024x1376 .f32 := broadcastInDim S2x1024x1376 ![] bcast_S_S2x1024x1376 main_cst_4
  let main_v14 : IVec S2x1024x1376 1 := cmpf .olt main_v12 main_v13
  let main_c_5 : IVec S_ 1 := constantI S_ 1 1#1
  let main_v15 : IVec S_ 1 := (fun x v => Host.reduce IntOp.andi x v reducesTo_S2x1024x1376_S_d0_1_2 h_S_) main_v14 main_c_5
  fn_part1 (F := F) main_arg4 main_arg6 main_v3 main_v7 main_v11 main_v15
-- ==== Pre_finite4.lean ====
abbrev S4x4224x1024 : Shape := ⟨3, ![4, 4224, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S_ : Shape := ⟨0, ![]⟩

class Facts : Prop where
  bcast_S_S4x4224x1024 : S_.BroadcastsInDim S4x4224x1024 (![] : Fin 0 → Fin S4x4224x1024.rank)
  reducesTo_S4x4224x1024_S_d0_1_2 : S4x4224x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x1024x1376 : S_.BroadcastsInDim S2x1024x1376 (![] : Fin 0 → Fin S2x1024x1376.rank)
  reducesTo_S2x1024x1376_S_d0_1_2 : S2x1024x1376.ReducesTo [0, 1, 2] S_
  bcast_S_S2x192 : S_.BroadcastsInDim S2x192 (![] : Fin 0 → Fin S2x192.rank)
  reducesTo_S2x192_S_d0_1 : S2x192.ReducesTo [0, 1] S_
  bcast_S_S2x192x384 : S_.BroadcastsInDim S2x192x384 (![] : Fin 0 → Fin S2x192x384.rank)
  reducesTo_S2x192x384_S_d0_1_2 : S2x192x384.ReducesTo [0, 1, 2] S_

variable [Facts]

def fn_part1 {F : FTy → Type} [FloatOps F] (main_arg6 : FVec F S2x192x384 .f32) (main_v3 : IVec S_ 1) (main_v7 : IVec S_ 1) (main_v11 : IVec S_ 1) (main_v15 : IVec S_ 1) : IVec S_ 1 :=
  let main_v16 : FVec F S2x192x384 .f32 := Host.absf main_arg6
  let main_cst_6 : FVec F S_ .f32 := constant S_ .f32 0x7F800000#32
  let main_v17 : FVec F S2x192x384 .f32 := broadcastInDim S2x192x384 ![] bcast_S_S2x192x384 main_cst_6
  let main_v18 : IVec S2x192x384 1 := cmpf .olt main_v16 main_v17
  let main_c_7 : IVec S_ 1 := constantI S_ 1 1#1
  let main_v19 : IVec S_ 1 := (fun x v => Host.reduce IntOp.andi x v reducesTo_S2x192x384_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x4224x1024 .f32) (main_arg1 : FVec F S16x1024 .f32) (main_arg2 : FVec F S2x1024 .f32) (main_arg3 : FVec F S2x1024x1376 .f32) (main_arg4 : FVec F S2x192 .f32) (main_arg5 : FVec F S2x128 .f32) (main_arg6 : FVec F S2x192x384 .f32) (main_arg7 : FVec F S2x128x256 .f32) (main_arg8 : FVec F S4224x16 .f32) (main_arg9 : FVec F S4224x16 .f32) (main_arg10 : FVec F S4224x128 .bf16) (main_arg11 : FVec F S4224x128 .bf16) : IVec S_ 1 :=
  let main_v0 : FVec F S4x4224x1024 .f32 := Host.absf main_arg0
  let main_cst : FVec F S_ .f32 := constant S_ .f32 0x7F800000#32
  let main_v1 : FVec F S4x4224x1024 .f32 := broadcastInDim S4x4224x1024 ![] bcast_S_S4x4224x1024 main_cst
  let main_v2 : IVec S4x4224x1024 1 := cmpf .olt main_v0 main_v1
  let main_c : IVec S_ 1 := constantI S_ 1 1#1
  let main_v3 : IVec S_ 1 := (fun x v => Host.reduce IntOp.andi x v reducesTo_S4x4224x1024_S_d0_1_2 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : FVec F S2x1024x1376 .f32 := Host.absf main_arg3
  let main_cst_2 : FVec F S_ .f32 := constant S_ .f32 0x7F800000#32
  let main_v9 : FVec F S2x1024x1376 .f32 := broadcastInDim S2x1024x1376 ![] bcast_S_S2x1024x1376 main_cst_2
  let main_v10 : IVec S2x1024x1376 1 := cmpf .olt main_v8 main_v9
  let main_c_3 : IVec S_ 1 := constantI S_ 1 1#1
  let main_v11 : IVec S_ 1 := (fun x v => Host.reduce IntOp.andi x v reducesTo_S2x1024x1376_S_d0_1_2 h_S_) main_v10 main_c_3
  let main_v12 : FVec F S2x192 .f32 := Host.absf main_arg4
  let main_cst_4 : FVec F S_ .f32 := constant S_ .f32 0x7F800000#32
  let main_v13 : FVec F S2x192 .f32 := broadcastInDim S2x192 ![] bcast_S_S2x192 main_cst_4
  let main_v14 : IVec S2x192 1 := cmpf .olt main_v12 main_v13
  let main_c_5 : IVec S_ 1 := constantI S_ 1 1#1
  let main_v15 : IVec S_ 1 := (fun x v => Host.reduce IntOp.andi x v reducesTo_S2x192_S_d0_1 h_S_) main_v14 main_c_5
  fn_part1 (F := F) main_arg6 main_v3 main_v7 main_v11 main_v15
-- ==== Pre_finite5.lean ====
abbrev S4x4224x512 : Shape := ⟨3, ![4, 4224, 512]⟩
abbrev S4x4224x128 : Shape := ⟨3, ![4, 4224, 128]⟩
abbrev S3x2x256x512 : Shape := ⟨4, ![3, 2, 256, 512]⟩
abbrev S8 : Shape := ⟨1, ![8]⟩
abbrev S_ : Shape := ⟨0, ![]⟩

class Facts : Prop where
  bitsLt_bf16_f32 : FTy.bits .bf16 < FTy.bits .f32
  bcast_S_S4x4224x512 : S_.BroadcastsInDim S4x4224x512 (![] : Fin 0 → Fin S4x4224x512.rank)
  reducesTo_S4x4224x512_S_d0_1_2 : S4x4224x512.ReducesTo [0, 1, 2] S_
  h_S_ : 0 < S_.numel
  bcast_S_S4x4224x128 : S_.BroadcastsInDim S4x4224x128 (![] : Fin 0 → Fin S4x4224x128.rank)
  reducesTo_S4x4224x128_S_d0_1_2 : S4x4224x128.ReducesTo [0, 1, 2] S_
  bcast_S_S3x2x256x512 : S_.BroadcastsInDim S3x2x256x512 (![] : Fin 0 → Fin S3x2x256x512.rank)
  reducesTo_S3x2x256x512_S_d0_1_2_3 : S3x2x256x512.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v5 : IVec S_ 1) (main_v9 : IVec S_ 1) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S4x4224x512 .bf16) (main_arg1 : FVec F S4x4224x128 .bf16) (main_arg2 : FVec F S4x4224x128 .bf16) (main_arg3 : FVec F S3x2x256x512 .f32) (main_arg4 : FVec F S8 .f32) : IVec S_ 1 :=
  let main_v0 : FVec F S4x4224x512 .f32 := (extf .f32 · bitsLt_bf16_f32) main_arg0
  let main_v1 : FVec F S4x4224x128 .f32 := (extf .f32 · bitsLt_bf16_f32) main_arg1
  let main_v2 : FVec F S4x4224x512 .f32 := Host.absf main_v0
  let main_cst : FVec F S_ .f32 := constant S_ .f32 0x7F800000#32
  let main_v3 : FVec F S4x4224x512 .f32 := broadcastInDim S4x4224x512 ![] bcast_S_S4x4224x512 main_cst
  let main_v4 : IVec S4x4224x512 1 := cmpf .olt main_v2 main_v3
  let main_c : IVec S_ 1 := constantI S_ 1 1#1
  let main_v5 : IVec S_ 1 := (fun x v => Host.reduce IntOp.andi x v reducesTo_S4x4224x512_S_d0_1_2 h_S_) main_v4 main_c
  let main_v6 : FVec F S4x4224x128 .f32 := Host.absf main_v1
  let main_cst_0 : FVec F S_ .f32 := constant S_ .f32 0x7F800000#32
  let main_v7 : FVec F S4x4224x128 .f32 := broadcastInDim S4x4224x128 ![] bcast_S_S4x4224x128 main_cst_0
  let main_v8 : IVec S4x4224x128 1 := cmpf .olt main_v6 main_v7
  let main_c_1 : IVec S_ 1 := constantI S_ 1 1#1
  let main_v9 : IVec S_ 1 := (fun x v => Host.reduce IntOp.andi x v reducesTo_S4x4224x128_S_d0_1_2 h_S_) main_v8 main_c_1
  let main_v10 : FVec F S3x2x256x512 .f32 := Host.absf main_arg3
  let main_cst_2 : FVec F S_ .f32 := constant S_ .f32 0x7F800000#32
  let main_v11 : FVec F S3x2x256x512 .f32 := broadcastInDim S3x2x256x512 ![] bcast_S_S3x2x256x512 main_cst_2
  let main_v12 : IVec S3x2x256x512 1 := cmpf .olt main_v10 main_v11
  let main_c_3 : IVec S_ 1 := constantI S_ 1 1#1
  let main_v13 : IVec S_ 1 := (fun x v => Host.reduce IntOp.andi x v reducesTo_S3x2x256x512_S_d0_1_2_3 h_S_) main_v12 main_c_3
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v5 main_v9 main_v13 main_v16
-- ==== Kernel.lean ====
abbrev S4x4224x1024 : Shape := ⟨3, ![4, 4224, 1024]⟩
abbrev S16x1024 : Shape := ⟨2, ![16, 1024]⟩
abbrev S4x4224x256 : Shape := ⟨3, ![4, 4224, 256]⟩
abbrev S4x4224x512 : Shape := ⟨3, ![4, 4224, 512]⟩
abbrev S2x256x256 : Shape := ⟨3, ![2, 256, 256]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S112x1024 : Shape := ⟨2, ![112, 1024]⟩
abbrev S128x1024 : Shape := ⟨2, ![128, 1024]⟩
abbrev S4x4224x2x128 : Shape := ⟨4, ![4, 4224, 2, 128]⟩
abbrev S4x2x4224x128 : Shape := ⟨4, ![4, 2, 4224, 128]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S4x4096x1024 : Shape := ⟨3, ![4, 4096, 1024]⟩
abbrev S1x1024x1024 : Shape := ⟨3, ![1, 1024, 1024]⟩
abbrev S1x2x1024x128 : Shape := ⟨4, ![1, 2, 1024, 128]⟩
abbrev S1x1024x512 : Shape := ⟨3, ![1, 1024, 512]⟩
abbrev S1x1024x256 : Shape := ⟨3, ![1, 1024, 256]⟩
abbrev S1x256x256 : Shape := ⟨3, ![1, 256, 256]⟩
abbrev S1x1024x4096 : Shape := ⟨3, ![1, 1024, 4096]⟩
abbrev S1x4096x1024 : Shape := ⟨3, ![1, 4096, 1024]⟩
abbrev S1x1x1024x128 : Shape := ⟨4, ![1, 1, 1024, 128]⟩
abbrev S1024x128 : Shape := ⟨2, ![1024, 128]⟩
abbrev S1024x256 : Shape := ⟨2, ![1024, 256]⟩
abbrev S256x256 : Shape := ⟨2, ![256, 256]⟩
abbrev S1024x1 : Shape := ⟨2, ![1024, 1]⟩
abbrev S1024x512 : Shape := ⟨2, ![1024, 512]⟩
abbrev S1x512 : Shape := ⟨2, ![1, 512]⟩
abbrev S1024x1024 : Shape := ⟨2, ![1024, 1024]⟩

abbrev nBuf : Space → Nat
  | .hbm => 39
  | .vmem => 20
  | .smem => 0
  | _ => 0

abbrev bufTy : (tb : Table) → Fin (tcTables nBuf tb) → BufTy
  | .hbm, ⟨0, _⟩ => ⟨S4x4224x1024, .f32⟩
  | .hbm, ⟨1, _⟩ => ⟨S16x1024, .f32⟩
  | .hbm, ⟨2, _⟩ => ⟨S4x4224x256, .f32⟩
  | .hbm, ⟨3, _⟩ => ⟨S4x4224x512, .f32⟩
  | .hbm, ⟨4, _⟩ => ⟨S4x4224x256, .f32⟩
  | .hbm, ⟨5, _⟩ => ⟨S2x256x256, .f32⟩
  | .hbm, ⟨6, _⟩ => ⟨S2x256, .f32⟩
  | .hbm, ⟨7, _⟩ => ⟨S2x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S2x1024, .f32⟩
  | .hbm, ⟨14, _⟩ => ⟨S_, .f32⟩
  | .hbm, ⟨15, _⟩ => ⟨S112x1024, .f32⟩
  | .hbm, ⟨16, _⟩ => ⟨S128x1024, .f32⟩
  | .hbm, ⟨17, _⟩ => ⟨S2x256x256, .bf16⟩
  | .hbm, ⟨18, _⟩ => ⟨S2x1024x1024, .bf16⟩
  | .hbm, ⟨19, _⟩ => ⟨S2x1024x4096, .bf16⟩
  | .hbm, ⟨20, _⟩ => ⟨S2x4096x1024, .bf16⟩
  | .hbm, ⟨21, _⟩ => ⟨S4x4224x2x128, .f32⟩
  | .hbm, ⟨22, _⟩ => ⟨S4x2x4224x128, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S128x1024, .f32⟩
  | .local _ .vmem, ⟨3, _⟩ => ⟨S1x2x1024x128, .f32⟩
  | .local _ .vmem, ⟨4, _⟩ => ⟨S1x2x1024x128, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x256, .f32⟩
  | .local _ .vmem, ⟨8, _⟩ => ⟨S1x1024x256, .f32⟩
  | .local _ .vmem, ⟨9, _⟩ => ⟨S1x256x256, .bf16⟩
  | .local _ .vmem, ⟨10, _⟩ => ⟨S1x256, .f32⟩
  | .local _ .vmem, ⟨11, _⟩ => ⟨S1x1024, .f32⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult2 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult3 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult4 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x4224x1024 : Shape := ⟨3, ![4, 4224, 1024]⟩
abbrev S16x1024 : Shape := ⟨2, ![16, 1024]⟩
abbrev S4x4224x256 : Shape := ⟨3, ![4, 4224, 256]⟩
abbrev S4x4224x512 : Shape := ⟨3, ![4, 4224, 512]⟩
abbrev S2x256x256 : Shape := ⟨3, ![2, 256, 256]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S1x1024 : Shape := ⟨2, ![1, 1024]⟩
abbrev S1024 : Shape := ⟨1, ![1024]⟩
abbrev S4x4224 : Shape := ⟨2, ![4, 4224]⟩
abbrev S4x4224x1 : Shape := ⟨3, ![4, 4224, 1]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4224x4096 : Shape := ⟨3, ![4, 4224, 4096]⟩
abbrev S1x4096x1024 : Shape := ⟨3, ![1, 4096, 1024]⟩
abbrev S4096x1024 : Shape := ⟨2, ![4096, 1024]⟩
abbrev S4x4096x1024 : Shape := ⟨3, ![4, 4096, 1024]⟩

abbrev nBuf : Space → Nat
  | .hbm => 172
  | .vmem => 0
  | .smem => 0
  | _ => 0

abbrev hbmTy0_0 (i : Nat) : BufTy := match i % 128 with
  | 0 => ⟨S4x4224x1024, .f32⟩
  | 1 => ⟨S16x1024, .f32⟩
  | 2 => ⟨S4x4224x256, .f32⟩
  | 3 => ⟨S4x4224x512, .f32⟩
  | 4 => ⟨S4x4224x256, .f32⟩
  | 5 => ⟨S2x256x256, .f32⟩
  | 6 => ⟨S2x256, .f32⟩
  | 7 => ⟨S2x1024, .f32⟩
  | 8 => ⟨S2x1024x1024, .f32⟩
  | 9 => ⟨S2x1024, .f32⟩
  | 10 => ⟨S2x1024, .f32⟩
  | 11 => ⟨S2x1024x4096, .f32⟩
  | 12 => ⟨S2x4096x1024, .f32⟩
  | 13 => ⟨S2x1024, .f32⟩
  | 14 => ⟨S4x4224x256, .f32⟩
  | 15 => ⟨S4x4224x256, .f32⟩
  | 16 => ⟨S_, .f32⟩
  | 17 => ⟨S4x4224x256, .f32⟩
  | 18 => ⟨S4x4224x256, .f32⟩
  | 19 => ⟨S4x4224x256, .f32⟩
  | 20 => ⟨S_, .f32⟩
  | 21 => ⟨S4x4224x256, .f32⟩
  | 22 => ⟨S4x4224x256, .f32⟩
  | 23 => ⟨S4x4224x256, .f32⟩
  | 24 => ⟨S_, .f32⟩
  | 25 => ⟨S4x4224x256, .f32⟩
  | 26 => ⟨S4x4224x256, .f32⟩
  | 27 => ⟨S_, .f32⟩
  | 28 => ⟨S4x4224x256, .f32⟩
  | 29 => ⟨S4x4224x256, .f32⟩
  | 30 => ⟨S4x4224x256, .f32⟩
  | 31 => ⟨S1x256x256, .f32⟩
  | 32 => ⟨S256x256, .f32⟩
  | 33 => ⟨S4x4224x256, .f32⟩
  | 34 => ⟨S1x256, .f32⟩
  | 35 => ⟨S256, .f32⟩
  | 36 => ⟨S1x1x256, .f32⟩
  | 37 => ⟨S4x4224x256, .f32⟩
  | 38 => ⟨S4x4224x256, .f32⟩
  | 39 => ⟨S4x4224x256, .f32⟩
  | 40 => ⟨S4x4224x256, .f32⟩
  | 41 => ⟨S_, .f32⟩
  | 42 => ⟨S4x4224x256, .f32⟩
  | 43 => ⟨S4x4224x256, .f32⟩
  | 44 => ⟨S_, .f32⟩
  | 45 => ⟨S4x4224x256, .f32⟩
  | 46 => ⟨S4x4224x256, .f32⟩
  | 47 => ⟨S4x4224x256, .f32⟩
  | 48 => ⟨S1x1024, .f32⟩
  | 49 => ⟨S1024, .f32⟩
  | 50 => ⟨S256, .f32⟩
  | 51 => ⟨S4x4224x256, .f32⟩
  | 52 => ⟨S_, .f32⟩
  | 53 => ⟨S4x4224, .f32⟩
  | 54 => ⟨S4x4224x1, .f32⟩
  | 55 => ⟨S_, .f32⟩
  | 56 => ⟨S4x4224x1, .f32⟩
  | 57 => ⟨S4x4224x1, .f32⟩
  | 58 => ⟨S_, .f32⟩
  | 59 => ⟨S4x4224x1, .f32⟩
  | 60 => ⟨S4x4224x1, .f32⟩
  | 61 => ⟨S4x4224x1, .f32⟩
  | 62 => ⟨S4x4224x256, .f32⟩
  | 63 => ⟨S4x4224x256, .f32⟩
  | 64 => ⟨S1x1x256, .f32⟩
  | 65 => ⟨S4x4224x256, .f32⟩
  | 66 => ⟨S4x4224x256, .f32⟩
  | 67 => ⟨S512, .f32⟩
  | 68 => ⟨S4x4224x512, .f32⟩
  | 69 => ⟨S_, .f32⟩
  | 70 => ⟨S4x4224, .f32⟩
  | 71 => ⟨S4x4224x1, .f32⟩
  | 72 => ⟨S_, .f32⟩
  | 73 => ⟨S4x4224x1, .f32⟩
  | 74 => ⟨S4x4224x1, .f32⟩
  | 75 => ⟨S_, .f32⟩
  | 76 => ⟨S4x4224x1, .f32⟩
  | 77 => ⟨S4x4224x1, .f32⟩
  | 78 => ⟨S4x4224x1, .f32⟩
  | 79 => ⟨S4x4224x512, .f32⟩
  | 80 => ⟨S4x4224x512, .f32⟩
  | 81 => ⟨S1x1x512, .f32⟩
  | 82 => ⟨S4x4224x512, .f32⟩
  | 83 => ⟨S4x4224x512, .f32⟩
  | 84 => ⟨S256, .f32⟩
  | 85 => ⟨S4x4224x256, .f32⟩
  | 86 => ⟨S_, .f32⟩
  | 87 => ⟨S4x4224, .f32⟩
  | 88 => ⟨S4x4224x1, .f32⟩
  | 89 => ⟨S_, .f32⟩
  | 90 => ⟨S4x4224x1, .f32⟩
  | 91 => ⟨S4x4224x1, .f32⟩
  | 92 => ⟨S_, .f32⟩
  | 93 => ⟨S4x4224x1, .f32⟩
  | 94 => ⟨S4x4224x1, .f32⟩
  | 95 => ⟨S4x4224x1, .f32⟩
  | 96 => ⟨S4x4224x256, .f32⟩
  | 97 => ⟨S4x4224x256, .f32⟩
  | 98 => ⟨S1x1x256, .f32⟩
  | 99 => ⟨S4x4224x256, .f32⟩
  | 100 => ⟨S4x4224x256, .f32⟩
  | 101 => ⟨S4x4224x1024, .f32⟩
  | 102 => ⟨S1x1024x1024, .f32⟩
  | 103 => ⟨S1024x1024, .f32⟩
  | 104 => ⟨S4x4224x1024, .f32⟩
  | 105 => ⟨S1x1024, .f32⟩
  | 106 => ⟨S1024, .f32⟩
  | 107 => ⟨S4x4224x1024, .f32⟩
  | 108 => ⟨S_, .f32⟩
  | 109 => ⟨S4x4224, .f32⟩
  | 110 => ⟨S4x4224x1, .f32⟩
  | 111 => ⟨S_, .f32⟩
  | 112 => ⟨S4x4224x1, .f32⟩
  | 113 => ⟨S4x4224x1, .f32⟩
  | 114 => ⟨S_, .f32⟩
  | 115 => ⟨S4x4224x1, .f32⟩
  | 116 => ⟨S4x4224x1, .f32⟩
  | 117 => ⟨S4x4224x1, .f32⟩
  | 118 => ⟨S4x4224x1024, .f32⟩
  | 119 => ⟨S4x4224x1024, .f32⟩
  | 120 => ⟨S1x1x1024, .f32⟩
  | 121 => ⟨S4x4224x1024, .f32⟩
  | 122 => ⟨S4x4224x1024, .f32⟩
  | 123 => ⟨S4x4224x1024, .f32⟩
  | 124 => ⟨S1x1024, .f32⟩
  | 125 => ⟨S1024, .f32⟩
  | 126 => ⟨S4x4224x1024, .f32⟩
  | 127 => ⟨S_, .f32⟩
  | _ => ⟨S4x4224x1024, .f32⟩

abbrev hbmTy0_1 (i : Nat) : BufTy := match i % 128 with
  | 0 => ⟨S4x4224, .f32⟩
  | 1 => ⟨S4x4224x1, .f32⟩
  | 2 => ⟨S_, .f32⟩
  | 3 => ⟨S4x4224x1, .f32⟩
  | 4 => ⟨S4x4224x1, .f32⟩
  | 5 => ⟨S_, .f32⟩
  | 6 => ⟨S4x4224x1, .f32⟩
  | 7 => ⟨S4x4224x1, .f32⟩
  | 8 => ⟨S4x4224x1, .f32⟩
  | 9 => ⟨S4x4224x1024, .f32⟩
  | 10 => ⟨S4x4224x1024, .f32⟩
  | 11 => ⟨S1x1x1024, .f32⟩
  | 12 => ⟨S4x4224x1024, .f32⟩
  | 13 => ⟨S4x4224x1024, .f32⟩
  | 14 => ⟨S1x1024x4096, .f32⟩
  | 15 => ⟨S1024x4096, .f32⟩
  | 16 => ⟨S4x4224x4096, .f32⟩
  | 17 => ⟨S_, .f32⟩
  | 18 => ⟨S4x4224x4096, .f32⟩
  | 19 => ⟨S4x4224x4096, .f32⟩
  | 20 => ⟨S4x4224x4096, .f32⟩
  | 21 => ⟨S1x4096x1024, .f32⟩
  | 22 => ⟨S4096x1024, .f32⟩
  | 23 => ⟨S4x4224x1024, .f32⟩
  | 24 => ⟨S1x1024, .f32⟩
  | 25 => ⟨S1024, .f32⟩
  | 26 => ⟨S4x4224x1024, .f32⟩
  | 27 => ⟨S_, .f32⟩
  | 28 => ⟨S4x4224, .f32⟩
  | 29 => ⟨S4x4224x1, .f32⟩
  | 30 => ⟨S_, .f32⟩
  | 31 => ⟨S4x4224x1, .f32⟩
  | 32 => ⟨S4x4224x1, .f32⟩
  | 33 => ⟨S_, .f32⟩
  | 34 => ⟨S4x4224x1, .f32⟩
  | 35 => ⟨S4x4224x1, .f32⟩
  | 36 => ⟨S4x4224x1, .f32⟩
  | 37 => ⟨S4x4224x1024, .f32⟩
  | 38 => ⟨S4x4224x1024, .f32⟩
  | 39 => ⟨S1x1x1024, .f32⟩
  | 40 => ⟨S4x4224x1024, .f32⟩
  | 41 => ⟨S4x4224x1024, .f32⟩
  | 42 => ⟨S4x4224x1024, .f32⟩
  | 43 => ⟨S4x4096x1024, .f32⟩
  | _ => ⟨S4x4224x1024, .f32⟩

abbrev hbmTy (i : Nat) : BufTy := match i / 128 with
  | 0 => hbmTy0_0 i
  | 1 => hbmTy0_1 i
  | _ => ⟨S4x4224x1024, .f32⟩

abbrev bufTy : (tb : Table) → Fin (tcTables nBuf tb) → BufTy
  | .hbm, ⟨i, _⟩ => hbmTy i
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_cst_18 : Ref sig .tc := ⟨.hbm, 130, rfl⟩
abbrev main_v97 : Ref sig .tc := ⟨.hbm, 131, rfl⟩
abbrev main_v98 : Ref sig .tc := ⟨.hbm, 132, rfl⟩
abbrev main_cst_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call0_cst : Ref sig .tc := ⟨.hbm, 145, rfl⟩
abbrev main_call0_v0 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_20 : Ref sig .tc := ⟨.hbm, 155, rfl⟩
abbrev main_v118 : Ref sig .tc := ⟨.hbm, 156, rfl⟩
abbrev main_v119 : Ref sig .tc := ⟨.hbm, 157, rfl⟩
abbrev main_cst_21 : Ref sig .tc := ⟨.hbm, 158, rfl⟩
abbrev main_v120 : Ref sig .tc := ⟨.hbm, 159, rfl⟩
abbrev main_v121 : Ref sig .tc := ⟨.hbm, 160, rfl⟩
abbrev main_cst_22 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩

abbrev nD : Nat := 1
abbrev τ : Topo := Topo.v7x

variable {F : FTy → Type} [FloatOps F]
-- ==== Kernel2.lean ====
abbrev S4x4096x1024 : Shape := ⟨3, ![4, 4096, 1024]⟩
abbrev S16x1024 : Shape := ⟨2, ![16, 1024]⟩
abbrev S4x4224x256 : Shape := ⟨3, ![4, 4224, 256]⟩
abbrev S4x4224x512 : Shape := ⟨3, ![4, 4224, 512]⟩
abbrev S2x256x256 : Shape := ⟨3, ![2, 256, 256]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S112x1024 : Shape := ⟨2, ![112, 1024]⟩
abbrev S128x1024 : Shape := ⟨2, ![128, 1024]⟩
abbrev S4x4224x2x128 : Shape := ⟨4, ![4, 4224, 2, 128]⟩
abbrev S4x2x4224x128 : Shape := ⟨4, ![4, 2, 4224, 128]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S4x4224x1024 : Shape := ⟨3, ![4, 4224, 1024]⟩
abbrev S1x1056x1024 : Shape := ⟨3, ![1, 1056, 1024]⟩
abbrev S1x2x1056x128 : Shape := ⟨4, ![1, 2, 1056, 128]⟩
abbrev S1x1056x512 : Shape := ⟨3, ![1, 1056, 512]⟩
abbrev S1x1056x256 : Shape := ⟨3, ![1, 1056, 256]⟩
abbrev S1x256x256 : Shape := ⟨3, ![1, 256, 256]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1x1056x128 : Shape := ⟨4, ![1, 1, 1056, 128]⟩
abbrev S1056x128 : Shape := ⟨2, ![1056, 128]⟩
abbrev S1056x256 : Shape := ⟨2, ![1056, 256]⟩
abbrev S256x256 : Shape := ⟨2, ![256, 256]⟩
abbrev S1056 : Shape := ⟨1, ![1056]⟩
abbrev S1056x1 : Shape := ⟨2, ![1056, 1]⟩
abbrev S1056x512 : Shape := ⟨2, ![1056, 512]⟩
abbrev S1x512 : Shape := ⟨2, ![1, 512]⟩
abbrev S1056x1024 : Shape := ⟨2, ![1056, 1024]⟩
abbrev S1024x1024 : Shape := ⟨2, ![1024, 1024]⟩
abbrev S1x128x1024 : Shape := ⟨3, ![1, 128, 1024]⟩
abbrev S1x928x1024 : Shape := ⟨3, ![1, 928, 1024]⟩
abbrev S928x1024 : Shape := ⟨2, ![928, 1024]⟩

abbrev nBuf : Space → Nat
  | .hbm => 39
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S4x4224x256, .f32⟩
  | .hbm, ⟨3, _⟩ => ⟨S4x4224x512, .f32⟩
  | .hbm, ⟨4, _⟩ => ⟨S4x4224x256, .f32⟩
  | .hbm, ⟨5, _⟩ => ⟨S2x256x256, .f32⟩
  | .hbm, ⟨6, _⟩ => ⟨S2x256, .f32⟩
  | .hbm, ⟨7, _⟩ => ⟨S2x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x4096, .f32⟩
  | .hbm, ⟨12, _⟩ => ⟨S2x4096x1024, .f32⟩
  | .hbm, ⟨13, _⟩ => ⟨S2x1024, .f32⟩
  | .hbm, ⟨14, _⟩ => ⟨S_, .f32⟩
  | .hbm, ⟨15, _⟩ => ⟨S112x1024, .f32⟩
  | .hbm, ⟨16, _⟩ => ⟨S128x1024, .f32⟩
  | .hbm, ⟨17, _⟩ => ⟨S2x256x256, .bf16⟩
  | .hbm, ⟨18, _⟩ => ⟨S2x1024x1024, .bf16⟩
  | .hbm, ⟨19, _⟩ => ⟨S2x1024x4096, .bf16⟩
  | .hbm, ⟨20, _⟩ => ⟨S2x4096x1024, .bf16⟩
  | .hbm, ⟨21, _⟩ => ⟨S4x4224x2x128, .f32⟩
  | .hbm, ⟨22, _⟩ => ⟨S4x2x4224x128, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4x4224x1024, .f32⟩
  | .local _ .vmem, ⟨0, _⟩ => ⟨S1x1056x1024, .f32⟩
  | .local _ .vmem, ⟨1, _⟩ => ⟨S1x1056x1024, .f32⟩
  | .local _ .vmem, ⟨2, _⟩ => ⟨S128x1024, .f32⟩
  | .local _ .vmem, ⟨3, _⟩ => ⟨S1x2x1056x128, .f32⟩
  | .local _ .vmem, ⟨4, _⟩ => ⟨S1x2x1056x128, .f32⟩
  | .local _ .vmem, ⟨5, _⟩ => ⟨S1x1056x512, .f32⟩
  | .local _ .vmem, ⟨6, _⟩ => ⟨S1x1056x512, .f32⟩
  | .local _ .vmem, ⟨7, _⟩ => ⟨S1x1056x256, .f32⟩
  | .local _ .vmem, ⟨8, _⟩ => ⟨S1x1056x256, .f32⟩
  | .local _ .vmem, ⟨9, _⟩ => ⟨S1x256x256, .bf16⟩
  | .local _ .vmem, ⟨10, _⟩ => ⟨S1x256, .f32⟩
  | .local _ .vmem, ⟨11, _⟩ => ⟨S1x1024, .f32⟩
  | .local _ .vmem, ⟨12, _⟩ => ⟨S1x1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S1x1024, .f32⟩
  | .local _ .vmem, ⟨18, _⟩ => ⟨S1x1056x1024, .f32⟩
  | .local _ .vmem, ⟨19, _⟩ => ⟨S1x1056x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1056_i32 : BitVec 32 := 1056#32
  let v0 : BitVec 32 := Scalar.muli arg1 c1056_i32
  let c128_i32 : BitVec 32 := 128#32
  let v1 : BitVec 32 := Scalar.subi v0 c128_i32
  let c0_i32 : BitVec 32 := 0#32
  let v2 : BitVec 32 := Scalar.maxsi v1 c0_i32
  v2
def k0_mult2 (i : grid0.Coords) : BitVec 32 :=
  let c128_i32_46 : BitVec 32 := 128#32
  let c128_i32 : BitVec 32 := 128#32
  let arg1 : BitVec 32 := BitVec.ofNat 32 (i 1).val
  let c0_i32 : BitVec 32 := 0#32
  let v84 : BitVec 1 := Scalar.cmpi .eq arg1 c0_i32
  let c1_i32 : BitVec 32 := 1#32
  let c0_i32_39 : BitVec 32 := 0#32
  let v85 : BitVec 32 := Scalar.select v84 c1_i32 c0_i32_39
  let v92 : BitVec 32 := Scalar.muli c128_i32 v85
  let v93 : BitVec 32 := Scalar.subi c128_i32_46 v92
  v93
def k0_off1 (i : grid0.Coords) : Fin 3 → Nat :=
  let c0_47 : Index := 0#32
  let c128_i32_46 : BitVec 32 := 128#32
  let c128_i32 : BitVec 32 := 128#32
  let arg1 : BitVec 32 := BitVec.ofNat 32 (i 1).val
  let c0_i32 : BitVec 32 := 0#32
  let v84 : BitVec 1 := Scalar.cmpi .eq arg1 c0_i32
  let c1_i32 : BitVec 32 := 1#32
  let c0_i32_39 : BitVec 32 := 0#32
  let v85 : BitVec 32 := Scalar.select v84 c1_i32 c0_i32_39
  let v92 : BitVec 32 := Scalar.muli c128_i32 v85
  let v93 : BitVec 32 := Scalar.subi c128_i32_46 v92
  let v94 : BitVec 32 := v93
  let v95 : Index := Scalar.indexCast v94
  let c0_48 : Index := 0#32
  ![0, v95.toNat, 0]
def cc0_transform_0 (i : grid0.Coords) : Fin 3 → Nat :=
  let arg0 : BitVec 32 := BitVec.ofNat 32 (i 0).val
  let arg1 : BitVec 32 := BitVec.ofNat 32 (i 1).val
  let c1056_i32 : BitVec 32 := 1056#32
  let v0 : BitVec 32 := Scalar.muli arg1 c1056_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1056x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1056x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S4x4096x1024 : Shape := ⟨3, ![4, 4096, 1024]⟩
abbrev S16x1024 : Shape := ⟨2, ![16, 1024]⟩
abbrev S4x4224x256 : Shape := ⟨3, ![4, 4224, 256]⟩
abbrev S4x4224x512 : Shape := ⟨3, ![4, 4224, 512]⟩
abbrev S2x256x256 : Shape := ⟨3, ![2, 256, 256]⟩
abbrev S2x256 : Shape := ⟨2, ![2, 256]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x4224x1024 : Shape := ⟨3, ![4, 4224, 1024]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S1x1024 : Shape := ⟨2, ![1, 1024]⟩
abbrev S1024 : Shape := ⟨1, ![1024]⟩
abbrev S4x4224 : Shape := ⟨2, ![4, 4224]⟩
abbrev S4x4224x1 : Shape := ⟨3, ![4, 4224, 1]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4224x4096 : Shape := ⟨3, ![4, 4224, 4096]⟩
abbrev S1x4096x1024 : Shape := ⟨3, ![1, 4096, 1024]⟩
abbrev S4096x1024 : Shape := ⟨2, ![4096, 1024]⟩

abbrev nBuf : Space → Nat
  | .hbm => 176
  | .vmem => 0
  | .smem => 0
  | _ => 0

abbrev hbmTy0_0 (i : Nat) : BufTy := match i % 128 with
  | 0 => ⟨S4x4096x1024, .f32⟩
  | 1 => ⟨S16x1024, .f32⟩
  | 2 => ⟨S4x4224x256, .f32⟩
  | 3 => ⟨S4x4224x512, .f32⟩
  | 4 => ⟨S4x4224x256, .f32⟩
  | 5 => ⟨S2x256x256, .f32⟩
  | 6 => ⟨S2x256, .f32⟩
  | 7 => ⟨S2x1024, .f32⟩
  | 8 => ⟨S2x1024x1024, .f32⟩
  | 9 => ⟨S2x1024, .f32⟩
  | 10 => ⟨S2x1024, .f32⟩
  | 11 => ⟨S2x1024x4096, .f32⟩
  | 12 => ⟨S2x4096x1024, .f32⟩
  | 13 => ⟨S2x1024, .f32⟩
  | 14 => ⟨S1x16x1024, .f32⟩
  | 15 => ⟨S4x16x1024, .f32⟩
  | 16 => ⟨S_, .f32⟩
  | 17 => ⟨S4x112x1024, .f32⟩
  | 18 => ⟨S4x4224x1024, .f32⟩
  | 19 => ⟨S4x4224x256, .f32⟩
  | 20 => ⟨S4x4224x256, .f32⟩
  | 21 => ⟨S_, .f32⟩
  | 22 => ⟨S4x4224x256, .f32⟩
  | 23 => ⟨S4x4224x256, .f32⟩
  | 24 => ⟨S4x4224x256, .f32⟩
  | 25 => ⟨S_, .f32⟩
  | 26 => ⟨S4x4224x256, .f32⟩
  | 27 => ⟨S4x4224x256, .f32⟩
  | 28 => ⟨S4x4224x256, .f32⟩
  | 29 => ⟨S_, .f32⟩
  | 30 => ⟨S4x4224x256, .f32⟩
  | 31 => ⟨S4x4224x256, .f32⟩
  | 32 => ⟨S_, .f32⟩
  | 33 => ⟨S4x4224x256, .f32⟩
  | 34 => ⟨S4x4224x256, .f32⟩
  | 35 => ⟨S4x4224x256, .f32⟩
  | 36 => ⟨S1x256x256, .f32⟩
  | 37 => ⟨S256x256, .f32⟩
  | 38 => ⟨S4x4224x256, .f32⟩
  | 39 => ⟨S1x256, .f32⟩
  | 40 => ⟨S256, .f32⟩
  | 41 => ⟨S1x1x256, .f32⟩
  | 42 => ⟨S4x4224x256, .f32⟩
  | 43 => ⟨S4x4224x256, .f32⟩
  | 44 => ⟨S4x4224x256, .f32⟩
  | 45 => ⟨S4x4224x256, .f32⟩
  | 46 => ⟨S_, .f32⟩
  | 47 => ⟨S4x4224x256, .f32⟩
  | 48 => ⟨S4x4224x256, .f32⟩
  | 49 => ⟨S_, .f32⟩
  | 50 => ⟨S4x4224x256, .f32⟩
  | 51 => ⟨S4x4224x256, .f32⟩
  | 52 => ⟨S4x4224x256, .f32⟩
  | 53 => ⟨S1x1024, .f32⟩
  | 54 => ⟨S1024, .f32⟩
  | 55 => ⟨S256, .f32⟩
  | 56 => ⟨S4x4224x256, .f32⟩
  | 57 => ⟨S_, .f32⟩
  | 58 => ⟨S4x4224, .f32⟩
  | 59 => ⟨S4x4224x1, .f32⟩
  | 60 => ⟨S_, .f32⟩
  | 61 => ⟨S4x4224x1, .f32⟩
  | 62 => ⟨S4x4224x1, .f32⟩
  | 63 => ⟨S_, .f32⟩
  | 64 => ⟨S4x4224x1, .f32⟩
  | 65 => ⟨S4x4224x1, .f32⟩
  | 66 => ⟨S4x4224x1, .f32⟩
  | 67 => ⟨S4x4224x256, .f32⟩
  | 68 => ⟨S4x4224x256, .f32⟩
  | 69 => ⟨S1x1x256, .f32⟩
  | 70 => ⟨S4x4224x256, .f32⟩
  | 71 => ⟨S4x4224x256, .f32⟩
  | 72 => ⟨S512, .f32⟩
  | 73 => ⟨S4x4224x512, .f32⟩
  | 74 => ⟨S_, .f32⟩
  | 75 => ⟨S4x4224, .f32⟩
  | 76 => ⟨S4x4224x1, .f32⟩
  | 77 => ⟨S_, .f32⟩
  | 78 => ⟨S4x4224x1, .f32⟩
  | 79 => ⟨S4x4224x1, .f32⟩
  | 80 => ⟨S_, .f32⟩
  | 81 => ⟨S4x4224x1, .f32⟩
  | 82 => ⟨S4x4224x1, .f32⟩
  | 83 => ⟨S4x4224x1, .f32⟩
  | 84 => ⟨S4x4224x512, .f32⟩
  | 85 => ⟨S4x4224x512, .f32⟩
  | 86 => ⟨S1x1x512, .f32⟩
  | 87 => ⟨S4x4224x512, .f32⟩
  | 88 => ⟨S4x4224x512, .f32⟩
  | 89 => ⟨S256, .f32⟩
  | 90 => ⟨S4x4224x256, .f32⟩
  | 91 => ⟨S_, .f32⟩
  | 92 => ⟨S4x4224, .f32⟩
  | 93 => ⟨S4x4224x1, .f32⟩
  | 94 => ⟨S_, .f32⟩
  | 95 => ⟨S4x4224x1, .f32⟩
  | 96 => ⟨S4x4224x1, .f32⟩
  | 97 => ⟨S_, .f32⟩
  | 98 => ⟨S4x4224x1, .f32⟩
  | 99 => ⟨S4x4224x1, .f32⟩
  | 100 => ⟨S4x4224x1, .f32⟩
  | 101 => ⟨S4x4224x256, .f32⟩
  | 102 => ⟨S4x4224x256, .f32⟩
  | 103 => ⟨S1x1x256, .f32⟩
  | 104 => ⟨S4x4224x256, .f32⟩
  | 105 => ⟨S4x4224x256, .f32⟩
  | 106 => ⟨S4x4224x1024, .f32⟩
  | 107 => ⟨S1x1024x1024, .f32⟩
  | 108 => ⟨S1024x1024, .f32⟩
  | 109 => ⟨S4x4224x1024, .f32⟩
  | 110 => ⟨S1x1024, .f32⟩
  | 111 => ⟨S1024, .f32⟩
  | 112 => ⟨S4x4224x1024, .f32⟩
  | 113 => ⟨S_, .f32⟩
  | 114 => ⟨S4x4224, .f32⟩
  | 115 => ⟨S4x4224x1, .f32⟩
  | 116 => ⟨S_, .f32⟩
  | 117 => ⟨S4x4224x1, .f32⟩
  | 118 => ⟨S4x4224x1, .f32⟩
  | 119 => ⟨S_, .f32⟩
  | 120 => ⟨S4x4224x1, .f32⟩
  | 121 => ⟨S4x4224x1, .f32⟩
  | 122 => ⟨S4x4224x1, .f32⟩
  | 123 => ⟨S4x4224x1024, .f32⟩
  | 124 => ⟨S4x4224x1024, .f32⟩
  | 125 => ⟨S1x1x1024, .f32⟩
  | 126 => ⟨S4x4224x1024, .f32⟩
  | 127 => ⟨S4x4224x1024, .f32⟩
  | _ => ⟨S4x4096x1024, .f32⟩

abbrev hbmTy0_1 (i : Nat) : BufTy := match i % 128 with
  | 0 => ⟨S4x4224x1024, .f32⟩
  | 1 => ⟨S1x1024, .f32⟩
  | 2 => ⟨S1024, .f32⟩
  | 3 => ⟨S4x4224x1024, .f32⟩
  | 4 => ⟨S_, .f32⟩
  | 5 => ⟨S4x4224, .f32⟩
  | 6 => ⟨S4x4224x1, .f32⟩
  | 7 => ⟨S_, .f32⟩
  | 8 => ⟨S4x4224x1, .f32⟩
  | 9 => ⟨S4x4224x1, .f32⟩
  | 10 => ⟨S_, .f32⟩
  | 11 => ⟨S4x4224x1, .f32⟩
  | 12 => ⟨S4x4224x1, .f32⟩
  | 13 => ⟨S4x4224x1, .f32⟩
  | 14 => ⟨S4x4224x1024, .f32⟩
  | 15 => ⟨S4x4224x1024, .f32⟩
  | 16 => ⟨S1x1x1024, .f32⟩
  | 17 => ⟨S4x4224x1024, .f32⟩
  | 18 => ⟨S4x4224x1024, .f32⟩
  | 19 => ⟨S1x1024x4096, .f32⟩
  | 20 => ⟨S1024x4096, .f32⟩
  | 21 => ⟨S4x4224x4096, .f32⟩
  | 22 => ⟨S_, .f32⟩
  | 23 => ⟨S4x4224x4096, .f32⟩
  | 24 => ⟨S4x4224x4096, .f32⟩
  | 25 => ⟨S4x4224x4096, .f32⟩
  | 26 => ⟨S1x4096x1024, .f32⟩
  | 27 => ⟨S4096x1024, .f32⟩
  | 28 => ⟨S4x4224x1024, .f32⟩
  | 29 => ⟨S1x1024, .f32⟩
  | 30 => ⟨S1024, .f32⟩
  | 31 => ⟨S4x4224x1024, .f32⟩
  | 32 => ⟨S_, .f32⟩
  | 33 => ⟨S4x4224, .f32⟩
  | 34 => ⟨S4x4224x1, .f32⟩
  | 35 => ⟨S_, .f32⟩
  | 36 => ⟨S4x4224x1, .f32⟩
  | 37 => ⟨S4x4224x1, .f32⟩
  | 38 => ⟨S_, .f32⟩
  | 39 => ⟨S4x4224x1, .f32⟩
  | 40 => ⟨S4x4224x1, .f32⟩
  | 41 => ⟨S4x4224x1, .f32⟩
  | 42 => ⟨S4x4224x1024, .f32⟩
  | 43 => ⟨S4x4224x1024, .f32⟩
  | 44 => ⟨S1x1x1024, .f32⟩
  | 45 => ⟨S4x4224x1024, .f32⟩
  | 46 => ⟨S4x4224x1024, .f32⟩
  | 47 => ⟨S4x4224x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_cst_19 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_call0_cst : Ref sig .tc := ⟨.hbm, 150, rfl⟩
abbrev main_call0_v0 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_21 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_cst_23 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩

abbrev nD : Nat := 1
abbrev τ : Topo := Topo.v7x

variable {F : FTy → Type} [FloatOps F]
-- ==== Kernel3.lean ====
abbrev S4x4096x1024 : Shape := ⟨3, ![4, 4096, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S_ : Shape := ⟨0, ![]⟩
abbrev S112x1024 : Shape := ⟨2, ![112, 1024]⟩
abbrev S128x1024 : Shape := ⟨2, ![128, 1024]⟩
abbrev S1x4224x1x16 : Shape := ⟨4, ![1, 4224, 1, 16]⟩
abbrev S1x4224x8x16 : Shape := ⟨4, ![1, 4224, 8, 16]⟩
abbrev S2x1024x32 : Shape := ⟨3, ![2, 1024, 32]⟩
abbrev S2x1024x1216 : Shape := ⟨3, ![2, 1024, 1216]⟩
abbrev S2x1024x64 : Shape := ⟨3, ![2, 1024, 64]⟩
abbrev S2x1024x128 : Shape := ⟨3, ![2, 1024, 128]⟩
abbrev S2x1024x16 : Shape := ⟨3, ![2, 1024, 16]⟩
abbrev S2x1024x1536 : Shape := ⟨3, ![2, 1024, 1536]⟩
abbrev S2x192x4x96 : Shape := ⟨4, ![2, 192, 4, 96]⟩
abbrev S2x192x4x32 : Shape := ⟨4, ![2, 192, 4, 32]⟩
abbrev S2x192x4x64 : Shape := ⟨4, ![2, 192, 4, 64]⟩
abbrev S2x192x256 : Shape := ⟨3, ![2, 192, 256]⟩
abbrev S2x192x128 : Shape := ⟨3, ![2, 192, 128]⟩
abbrev S2x192x4x16 : Shape := ⟨4, ![2, 192, 4, 16]⟩
abbrev S2x192x512 : Shape := ⟨3, ![2, 192, 512]⟩
abbrev S2x256x512 : Shape := ⟨3, ![2, 256, 512]⟩
abbrev S2x128x4x64 : Shape := ⟨4, ![2, 128, 4, 64]⟩
abbrev S2x4x64x128 : Shape := ⟨4, ![2, 4, 64, 128]⟩
abbrev S4x4 : Shape := ⟨2, ![4, 4]⟩
abbrev S2x4x64x1x128 : Shape := ⟨5, ![2, 4, 64, 1, 128]⟩
abbrev S4x1x4x1 : Shape := ⟨4, ![4, 1, 4, 1]⟩
abbrev S1x4x1x4x1 : Shape := ⟨5, ![1, 4, 1, 4, 1]⟩
abbrev S2x4x64x4x128 : Shape := ⟨5, ![2, 4, 64, 4, 128]⟩
abbrev S1x192 : Shape := ⟨2, ![1, 192]⟩
abbrev S192 : Shape := ⟨1, ![192]⟩
abbrev S64 : Shape := ⟨1, ![64]⟩
abbrev S256 : Shape := ⟨1, ![256]⟩
abbrev S1x256 : Shape := ⟨2, ![1, 256]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S4x2x4224x128 : Shape := ⟨4, ![4, 2, 4224, 128]⟩
abbrev S4x4224x512 : Shape := ⟨3, ![4, 4224, 512]⟩
abbrev S4x4224x384 : Shape := ⟨3, ![4, 4224, 384]⟩
abbrev S4x4x4224x208 : Shape := ⟨4, ![4, 4, 4224, 208]⟩
abbrev S4x4224x208 : Shape := ⟨3, ![4, 4224, 208]⟩
abbrev S1x2112x1024 : Shape := ⟨3, ![1, 2112, 1024]⟩
abbrev S1x1024x1536 : Shape := ⟨3, ![1, 1024, 1536]⟩
abbrev S1x256x512 : Shape := ⟨3, ![1, 256, 512]⟩
abbrev S2112x128 : Shape := ⟨2, ![2112, 128]⟩
abbrev S1x2x2112x128 : Shape := ⟨4, ![1, 2, 2112, 128]⟩
abbrev S1x2112x512 : Shape := ⟨3, ![1, 2112, 512]⟩
abbrev S1x2112x384 : Shape := ⟨3, ![1, 2112, 384]⟩
abbrev S1x4x2112x208 : Shape := ⟨4, ![1, 4, 2112, 208]⟩
abbrev S1x2112x208 : Shape := ⟨3, ![1, 2112, 208]⟩
abbrev S1x128x1024 : Shape := ⟨3, ![1, 128, 1024]⟩
abbrev S1x400x1024 : Shape := ⟨3, ![1, 400, 1024]⟩
abbrev S400x1024 : Shape := ⟨2, ![400, 1024]⟩
abbrev S528x1024 : Shape := ⟨2, ![528, 1024]⟩
abbrev S528 : Shape := ⟨1, ![528]⟩
abbrev S528x1 : Shape := ⟨2, ![528, 1]⟩
abbrev S1024x1536 : Shape := ⟨2, ![1024, 1536]⟩
abbrev S528x1536 : Shape := ⟨2, ![528, 1536]⟩
abbrev S528x128 : Shape := ⟨2, ![528, 128]⟩
abbrev S1x1x528x128 : Shape := ⟨4, ![1, 1, 528, 128]⟩
abbrev S528x512 : Shape := ⟨2, ![528, 512]⟩
abbrev S1x528x512 : Shape := ⟨3, ![1, 528, 512]⟩
abbrev S1x528x128 : Shape := ⟨3, ![1, 528, 128]⟩
abbrev S528x64 : Shape := ⟨2, ![528, 64]⟩
abbrev S1x528x64 : Shape := ⟨3, ![1, 528, 64]⟩
abbrev S528x256 : Shape := ⟨2, ![528, 256]⟩
abbrev S256x512 : Shape := ⟨2, ![256, 512]⟩
abbrev S528x32 : Shape := ⟨2, ![528, 32]⟩
abbrev S528x48 : Shape := ⟨2, ![528, 48]⟩
abbrev S1x1x528x48 : Shape := ⟨4, ![1, 1, 528, 48]⟩
abbrev S1x1x528x32 : Shape := ⟨4, ![1, 1, 528, 32]⟩
abbrev S1x528x48 : Shape := ⟨3, ![1, 528, 48]⟩
abbrev S1x528x32 : Shape := ⟨3, ![1, 528, 32]⟩
abbrev S1x528x1024 : Shape := ⟨3, ![1, 528, 1024]⟩

abbrev nBuf : Space → Nat
  | .hbm => 83
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S2x1024, .f32⟩
  | .hbm, ⟨3, _⟩ => ⟨S2x1024x1376, .f32⟩
  | .hbm, ⟨4, _⟩ => ⟨S2x192, .f32⟩
  | .hbm, ⟨5, _⟩ => ⟨S2x128, .f32⟩
  | .hbm, ⟨6, _⟩ => ⟨S2x192x384, .f32⟩
  | .hbm, ⟨7, _⟩ => ⟨S2x128x256, .f32⟩
  | .hbm, ⟨8, _⟩ => ⟨S4224x16, .f32⟩
  | .hbm, ⟨9, _⟩ => ⟨S4224x16, .f32⟩
  | .hbm, ⟨10, _⟩ => ⟨S4224x128, .bf16⟩
  | .hbm, ⟨11, _⟩ => ⟨S4224x128, .bf16⟩
  | .hbm, ⟨12, _⟩ => ⟨S_, .f32⟩
  | .hbm, ⟨13, _⟩ => ⟨S112x1024, .f32⟩
  | .hbm, ⟨14, _⟩ => ⟨S128x1024, .f32⟩
  | .hbm, ⟨15, _⟩ => ⟨S1x4224x1x16, .f32⟩
  | .hbm, ⟨16, _⟩ => ⟨S1x4224x8x16, .f32⟩
  | .hbm, ⟨17, _⟩ => ⟨S4224x128, .f32⟩
  | .hbm, ⟨18, _⟩ => ⟨S1x4224x1x16, .f32⟩
  | .hbm, ⟨19, _⟩ => ⟨S1x4224x8x16, .f32⟩
  | .hbm, ⟨20, _⟩ => ⟨S4224x128, .f32⟩
  | .hbm, ⟨21, _⟩ => ⟨S2x1024x1376, .bf16⟩
  | .hbm, ⟨22, _⟩ => ⟨S2x192x384, .bf16⟩
  | .hbm, ⟨23, _⟩ => ⟨S2x128x256, .bf16⟩
  | .hbm, ⟨24, _⟩ => ⟨S2x1024x32, .bf16⟩
  | .hbm, ⟨25, _⟩ => ⟨S2x1024x1216, .bf16⟩
  | .hbm, ⟨26, _⟩ => ⟨S_, .bf16⟩
  | .hbm, ⟨27, _⟩ => ⟨S2x1024x64, .bf16⟩
  | .hbm, ⟨28, _⟩ => ⟨S2x1024x128, .bf16⟩
  | .hbm, ⟨29, _⟩ => ⟨S2x1024x16, .bf16⟩
  | .hbm, ⟨30, _⟩ => ⟨S2x1024x16, .bf16⟩
  | .hbm, ⟨31, _⟩ => ⟨S2x1024x16, .bf16⟩
  | .hbm, ⟨32, _⟩ => ⟨S2x1024x32, .bf16⟩
  | .hbm, ⟨33, _⟩ => ⟨S_, .bf16⟩
  | .hbm, ⟨34, _⟩ => ⟨S2x1024x64, .bf16⟩
  | .hbm, ⟨35, _⟩ => ⟨S2x1024x1536, .bf16⟩
  | .hbm, ⟨36, _⟩ => ⟨S2x192x4x96, .bf16⟩
  | .hbm, ⟨37, _⟩ => ⟨S2x192x4x32, .bf16⟩
  | .hbm, ⟨38, _⟩ => ⟨S2x192x4x64, .bf16⟩
  | .hbm, ⟨39, _⟩ => ⟨S2x192x256, .bf16⟩
  | .hbm, ⟨40, _⟩ => ⟨S2x192x128, .bf16⟩
  | .hbm, ⟨41, _⟩ => ⟨S2x192x4x16, .bf16⟩
  | .hbm, ⟨42, _⟩ => ⟨S2x192x4x16, .bf16⟩
  | .hbm, ⟨43, _⟩ => ⟨S2x192x4x16, .bf16⟩
  | .hbm, ⟨44, _⟩ => ⟨S2x192x4x32, .bf16⟩
  | .hbm, ⟨45, _⟩ => ⟨S2x192x128, .bf16⟩
  | .hbm, ⟨46, _⟩ => ⟨S2x192x512, .bf16⟩
  | .hbm, ⟨47, _⟩ => ⟨S_, .i32⟩
  | .hbm, ⟨48, _⟩ => ⟨S_, .bf16⟩
  | .hbm, ⟨49, _⟩ => ⟨S2x256x512, .bf16⟩
  | .hbm, ⟨50, _⟩ => ⟨S2x128x4x64, .bf16⟩
  | .hbm, ⟨51, _⟩ => ⟨S2x4x64x128, .bf16⟩
  | .hbm, ⟨52, _⟩ => ⟨S4x4, .i32⟩
  | .hbm, ⟨53, _⟩ => ⟨S4x4, .i32⟩
  | .hbm, ⟨54, _⟩ => ⟨S_, .i32⟩
  | .hbm, ⟨55, _⟩ => ⟨S4x4, .i32⟩
  | .hbm, ⟨56, _⟩ => ⟨S4x4, .i32⟩
  | .hbm, ⟨57, _⟩ => ⟨S4x4, .i1⟩
  | .hbm, ⟨58, _⟩ => ⟨S4x4, .bf16⟩
  | .hbm, ⟨59, _⟩ => ⟨S2x4x64x1x128, .bf16⟩
  | .hbm, ⟨60, _⟩ => ⟨S4x1x4x1, .bf16⟩
  | .hbm, ⟨61, _⟩ => ⟨S1x4x1x4x1, .bf16⟩
  | .hbm, ⟨62, _⟩ => ⟨S2x4x64x4x128, .bf16⟩
  | .hbm, ⟨63, _⟩ => ⟨S2x4x64x4x128, .bf16⟩
  | .hbm, ⟨64, _⟩ => ⟨S2x4x64x4x128, .bf16⟩
  | .hbm, ⟨65, _⟩ => ⟨S2x256x512, .bf16⟩
  | .hbm, ⟨66, _⟩ => ⟨S1x192, .f32⟩
  | .hbm, ⟨67, _⟩ => ⟨S192, .f32⟩
  | .hbm, ⟨68, _⟩ => ⟨S_, .f32⟩
  | .hbm, ⟨69, _⟩ => ⟨S64, .f32⟩
  | .hbm, ⟨70, _⟩ => ⟨S256, .f32⟩
  | .hbm, ⟨71, _⟩ => ⟨S1x256, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S4x2x4224x128, .f32⟩
  | .hbm, ⟨79, _⟩ => ⟨S4x4224x512, .bf16⟩
  | .hbm, ⟨80, _⟩ => ⟨S4x4224x384, .bf16⟩
  | .hbm, ⟨81, _⟩ => ⟨S4x4x4224x208, .bf16⟩
  | .hbm, ⟨82, _⟩ => ⟨S4x4224x208, .bf16⟩
  | .local _ .vmem, ⟨0, _⟩ => ⟨S1x2112x1024, .f32⟩
  | .local _ .vmem, ⟨1, _⟩ => ⟨S1x2112x1024, .f32⟩
  | .local _ .vmem, ⟨2, _⟩ => ⟨S128x1024, .f32⟩
  | .local _ .vmem, ⟨3, _⟩ => ⟨S1x1024, .f32⟩
  | .local _ .vmem, ⟨4, _⟩ => ⟨S1x1024x1536, .bf16⟩
  | .local _ .vmem, ⟨5, _⟩ => ⟨S1x256, .f32⟩
  | .local _ .vmem, ⟨6, _⟩ => ⟨S1x128, .f32⟩
  | .local _ .vmem, ⟨7, _⟩ => ⟨S1x256x512, .bf16⟩
  | .local _ .vmem, ⟨8, _⟩ => ⟨S1x256x512, .bf16⟩
  | .local _ .vmem, ⟨9, _⟩ => ⟨S2112x128, .f32⟩
  | .local _ .vmem, ⟨10, _⟩ => ⟨S2112x128, .f32⟩
  | .local _ .vmem, ⟨11, _⟩ => ⟨S2112x128, .f32⟩
  | .local _ .vmem, ⟨12, _⟩ => ⟨S2112x128, .f32⟩
  | .local _ .vmem, ⟨13, _⟩ => ⟨S2112x128, .bf16⟩
  | .local _ .vmem, ⟨14, _⟩ => ⟨S2112x128, .bf16⟩
  | .local _ .vmem, ⟨15, _⟩ => ⟨S2112x128, .bf16⟩
  | .local _ .vmem, ⟨16, _⟩ => ⟨S2112x128, .bf16⟩
  | .local _ .vmem, ⟨17, _⟩ => ⟨S1x2x2112x128, .f32⟩
  | .local _ .vmem, ⟨18, _⟩ => ⟨S1x2x2112x128, .f32⟩
  | .local _ .vmem, ⟨19, _⟩ => ⟨S1x2112x512, .bf16⟩
  | .local _ .vmem, ⟨20, _⟩ => ⟨S1x2112x512, .bf16⟩
  | .local _ .vmem, ⟨21, _⟩ => ⟨S1x2112x384, .bf16⟩
  | .local _ .vmem, ⟨22, _⟩ => ⟨S1x2112x384, .bf16⟩
  | .local _ .vmem, ⟨23, _⟩ => ⟨S1x4x2112x208, .bf16⟩
  | .local _ .vmem, ⟨24, _⟩ => ⟨S1x4x2112x208, .bf16⟩
  | .local _ .vmem, ⟨25, _⟩ => ⟨S1x2112x208, .bf16⟩
  | .local _ .vmem, ⟨26, _⟩ => ⟨S1x2112x208, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v59_3 : Ref sig .tc := ⟨.hbm, 81, rfl⟩
abbrev main_v59_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c2112_i32 : BitVec 32 := 2112#32
  let v0 : BitVec 32 := Scalar.muli arg1 c2112_i32
  let c128_i32 : BitVec 32 := 128#32
  let v1 : BitVec 32 := Scalar.subi v0 c128_i32
  let c0_i32 : BitVec 32 := 0#32
  let v2 : BitVec 32 := Scalar.maxsi v1 c0_i32
  v2
def k0_mult2 (i : grid0.Coords) : BitVec 32 :=
  let c128_i32_6 : BitVec 32 := 128#32
  let c128_i32 : BitVec 32 := 128#32
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v8 : BitVec 32 := Scalar.muli c128_i32 v1
  let v9 : BitVec 32 := Scalar.subi c128_i32_6 v8
  v9
def k0_off1 (i : grid0.Coords) : Fin 3 → Nat :=
  let c0_7 : Index := 0#32
  let c128_i32_6 : BitVec 32 := 128#32
  let c128_i32 : BitVec 32 := 128#32
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let v8 : BitVec 32 := Scalar.muli c128_i32 v1
  let v9 : BitVec 32 := Scalar.subi c128_i32_6 v8
  let v10 : BitVec 32 := v9
  let v11 : Index := Scalar.indexCast v10
  let c0_8 : Index := 0#32
  ![0, v11.toNat, 0]
def k0_mult3 (i : grid0.Coords) : BitVec 32 :=
  let c528_i32 : BitVec 32 := 528#32
  let c128_i32_137 : BitVec 32 := 128#32
  let arg1 : BitVec 32 := BitVec.ofNat 32 (i 1).val
  let c0_i32_134 : BitVec 32 := 0#32
  let v219 : BitVec 1 := Scalar.cmpi .eq arg1 c0_i32_134
  let c1_i32_135 : BitVec 32 := 1#32
  let c0_i32_136 : BitVec 32 := 0#32
  let v220 : BitVec 32 := Scalar.select v219 c1_i32_135 c0_i32_136
  let v221 : BitVec 32 := Scalar.muli c128_i32_137 v220
  let v222 : BitVec 32 := Scalar.subi c528_i32 v221
  v222
def k0_off2 (i : grid0.Coords) (c528_i32 : BitVec 32) : Fin 3 → Nat :=
  let c0_138 : Index := 0#32
  let c128_i32_137 : BitVec 32 := 128#32
  let arg1 : BitVec 32 := BitVec.ofNat 32 (i 1).val
  let c0_i32_134 : BitVec 32 := 0#32
  let v219 : BitVec 1 := Scalar.cmpi .eq arg1 c0_i32_134
  let c1_i32_135 : BitVec 32 := 1#32
  let c0_i32_136 : BitVec 32 := 0#32
  let v220 : BitVec 32 := Scalar.select v219 c1_i32_135 c0_i32_136
  let v221 : BitVec 32 := Scalar.muli c128_i32_137 v220
  let v222 : BitVec 32 := Scalar.subi c528_i32 v221
  let v223 : BitVec 32 := v222
  let v224 : Index := Scalar.indexCast v223
  let c0_139 : Index := 0#32
  ![0, v224.toNat, 0]
def k0_mult4 (i : grid0.Coords) : BitVec 32 :=
  let c1056_i32 : BitVec 32 := 1056#32
  let c128_i32_278 : BitVec 32 := 128#32
  let arg1 : BitVec 32 := BitVec.ofNat 32 (i 1).val
  let c0_i32_275 : BitVec 32 := 0#32
  let v431 : BitVec 1 := Scalar.cmpi .eq arg1 c0_i32_275
  let c1_i32_276 : BitVec 32 := 1#32
  let c0_i32_277 : BitVec 32 := 0#32
  let v432 : BitVec 32 := Scalar.select v431 c1_i32_276 c0_i32_277
  let v433 : BitVec 32 := Scalar.muli c128_i32_278 v432
  let v434 : BitVec 32 := Scalar.subi c1056_i32 v433
  v434
def k0_mult5 (i : grid0.Coords) : BitVec 32 :=
  let c1584_i32 : BitVec 32 := 1584#32
  let c128_i32_419 : BitVec 32 := 128#32
  let arg1 : BitVec 32 := BitVec.ofNat 32 (i 1).val
  let c0_i32_416 : BitVec 32 := 0#32
  let v643 : BitVec 1 := Scalar.cmpi .eq arg1 c0_i32_416
  let c1_i32_417 : BitVec 32 := 1#32
  let c0_i32_418 : BitVec 32 := 0#32
  let v644 : BitVec 32 := Scalar.select v643 c1_i32_417 c0_i32_418
  let v645 : BitVec 32 := Scalar.muli c128_i32_419 v644
  let v646 : BitVec 32 := Scalar.subi c1584_i32 v645
  v646
def cc0_transform_0 (i : grid0.Coords) : Fin 3 → Nat :=
  let arg0 : BitVec 32 := BitVec.ofNat 32 (i 0).val
  let arg1 : BitVec 32 := BitVec.ofNat 32 (i 1).val
  let c2112_i32 : BitVec 32 := 2112#32
  let v0 : BitVec 32 := Scalar.muli arg1 c2112_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2112x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2112x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2112x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2112x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2x2112x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2112x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2112x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2112x208 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2112x208 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel3Ideal.lean ====
variable {F : FTy → Type} [FloatOps F] [Named F]
def κ : String → Option EReal := fun
  | "inv_192" => some ((1 / 192 : ℝ) : EReal)
  | _ => none
-- ==== Reference3Ideal.lean ====
abbrev S4x4096x1024 : Shape := ⟨3, ![4, 4096, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x4224x1024 : Shape := ⟨3, ![4, 4224, 1024]⟩
abbrev S1x1024 : Shape := ⟨2, ![1, 1024]⟩
abbrev S1024 : Shape := ⟨1, ![1024]⟩
abbrev S1x1024x1376 : Shape := ⟨3, ![1, 1024, 1376]⟩
abbrev S1024x1376 : Shape := ⟨2, ![1024, 1376]⟩
abbrev S1x192 : Shape := ⟨2, ![1, 192]⟩
abbrev S192 : Shape := ⟨1, ![192]⟩
abbrev S1x128 : Shape := ⟨2, ![1, 128]⟩
abbrev S128 : Shape := ⟨1, ![128]⟩
abbrev S1x192x384 : Shape := ⟨3, ![1, 192, 384]⟩
abbrev S192x384 : Shape := ⟨2, ![192, 384]⟩
abbrev S1x128x256 : Shape := ⟨3, ![1, 128, 256]⟩
abbrev S128x256 : Shape := ⟨2, ![128, 256]⟩
abbrev S4224 : Shape := ⟨1, ![4224]⟩
abbrev S4x4224 : Shape := ⟨2, ![4, 4224]⟩
abbrev S4x4224x1 : Shape := ⟨3, ![4, 4224, 1]⟩
abbrev S1x1x1024 : Shape := ⟨3, ![1, 1, 1024]⟩
abbrev S4x4224x1376 : Shape := ⟨3, ![4, 4224, 1376]⟩
abbrev S4x4224x256 : Shape := ⟨3, ![4, 4224, 256]⟩
abbrev S4x4224x512 : Shape := ⟨3, ![4, 4224, 512]⟩
abbrev S4x4224x128 : Shape := ⟨3, ![4, 4224, 128]⟩
abbrev S4x4224x192 : Shape := ⟨3, ![4, 4224, 192]⟩
abbrev S4x4224x32 : Shape := ⟨3, ![4, 4224, 32]⟩
abbrev S1x4224x1 : Shape := ⟨3, ![1, 4224, 1]⟩
abbrev S4x4224x2x128 : Shape := ⟨4, ![4, 4224, 2, 128]⟩
abbrev S4x2x4224x128 : Shape := ⟨4, ![4, 2, 4224, 128]⟩
abbrev S64 : Shape := ⟨1, ![64]⟩
abbrev S4x4224x64 : Shape := ⟨3, ![4, 4224, 64]⟩
abbrev S4x4224x384 : Shape := ⟨3, ![4, 4224, 384]⟩
abbrev S1x1x192 : Shape := ⟨3, ![1, 1, 192]⟩
abbrev S4x4224x4x96 : Shape := ⟨4, ![4, 4224, 4, 96]⟩
abbrev S4x4224x4x64 : Shape := ⟨4, ![4, 4224, 4, 64]⟩
abbrev S4x4224x4x32 : Shape := ⟨4, ![4, 4224, 4, 32]⟩
abbrev S1x4224x1x16 : Shape := ⟨4, ![1, 4224, 1, 16]⟩
abbrev S4x4224x4x16 : Shape := ⟨4, ![4, 4224, 4, 16]⟩
abbrev S128x4x64 : Shape := ⟨3, ![128, 4, 64]⟩
abbrev S4x128x4x4224 : Shape := ⟨4, ![4, 128, 4, 4224]⟩
abbrev S4x4x4224x128 : Shape := ⟨4, ![4, 4, 4224, 128]⟩
abbrev S4224x48 : Shape := ⟨2, ![4224, 48]⟩
abbrev S4x4x4224x48 : Shape := ⟨4, ![4, 4, 4224, 48]⟩
abbrev S4x4x4224x32 : Shape := ⟨4, ![4, 4, 4224, 32]⟩
abbrev S4x4x4224x208 : Shape := ⟨4, ![4, 4, 4224, 208]⟩
abbrev S4x4224x1x32 : Shape := ⟨4, ![4, 4224, 1, 32]⟩
abbrev S4x4224x1x16 : Shape := ⟨4, ![4, 4224, 1, 16]⟩
abbrev S1x1x128 : Shape := ⟨3, ![1, 1, 128]⟩
abbrev S4x4224x48 : Shape := ⟨3, ![4, 4224, 48]⟩
abbrev S4x4224x208 : Shape := ⟨3, ![4, 4224, 208]⟩

abbrev nBuf : Space → Nat
  | .hbm => 172
  | .vmem => 0
  | .smem => 0
  | _ => 0

abbrev hbmTy0_0 (i : Nat) : BufTy := match i % 128 with
  | 0 => ⟨S4x4096x1024, .f32⟩
  | 1 => ⟨S16x1024, .f32⟩
  | 2 => ⟨S2x1024, .f32⟩
  | 3 => ⟨S2x1024x1376, .f32⟩
  | 4 => ⟨S2x192, .f32⟩
  | 5 => ⟨S2x128, .f32⟩
  | 6 => ⟨S2x192x384, .f32⟩
  | 7 => ⟨S2x128x256, .f32⟩
  | 8 => ⟨S4224x16, .f32⟩
  | 9 => ⟨S4224x16, .f32⟩
  | 10 => ⟨S4224x128, .bf16⟩
  | 11 => ⟨S4224x128, .bf16⟩
  | 12 => ⟨S1x16x1024, .f32⟩
  | 13 => ⟨S4x16x1024, .f32⟩
  | 14 => ⟨S_, .f32⟩
  | 15 => ⟨S4x112x1024, .f32⟩
  | 16 => ⟨S4x4224x1024, .f32⟩
  | 17 => ⟨S1x1024, .f32⟩
  | 18 => ⟨S1024, .f32⟩
  | 19 => ⟨S1x1024x1376, .f32⟩
  | 20 => ⟨S1024x1376, .f32⟩
  | 21 => ⟨S1x192, .f32⟩
  | 22 => ⟨S192, .f32⟩
  | 23 => ⟨S1x128, .f32⟩
  | 24 => ⟨S128, .f32⟩
  | 25 => ⟨S1x192x384, .f32⟩
  | 26 => ⟨S192x384, .f32⟩
  | 27 => ⟨S1x128x256, .f32⟩
  | 28 => ⟨S128x256, .f32⟩
  | 29 => ⟨S4224, .i32⟩
  | 30 => ⟨S_, .i32⟩
  | 31 => ⟨S4224, .i32⟩
  | 32 => ⟨S4224, .i1⟩
  | 33 => ⟨S4x4224x1024, .f32⟩
  | 34 => ⟨S_, .f32⟩
  | 35 => ⟨S4x4224, .f32⟩
  | 36 => ⟨S4x4224x1, .f32⟩
  | 37 => ⟨S_, .f32⟩
  | 38 => ⟨S4x4224x1, .f32⟩
  | 39 => ⟨S4x4224x1, .f32⟩
  | 40 => ⟨S_, .f32⟩
  | 41 => ⟨S4x4224x1, .f32⟩
  | 42 => ⟨S4x4224x1, .f32⟩
  | 43 => ⟨S4x4224x1, .f32⟩
  | 44 => ⟨S4x4224x1024, .f32⟩
  | 45 => ⟨S4x4224x1024, .f32⟩
  | 46 => ⟨S1x1x1024, .f32⟩
  | 47 => ⟨S4x4224x1024, .f32⟩
  | 48 => ⟨S4x4224x1024, .f32⟩
  | 49 => ⟨S4x4224x1376, .f32⟩
  | 50 => ⟨S4x4224x256, .f32⟩
  | 51 => ⟨S4x4224x512, .f32⟩
  | 52 => ⟨S4x4224x128, .f32⟩
  | 53 => ⟨S4x4224x128, .f32⟩
  | 54 => ⟨S4x4224x192, .f32⟩
  | 55 => ⟨S4x4224x128, .f32⟩
  | 56 => ⟨S4x4224x32, .f32⟩
  | 57 => ⟨S1x4224x1, .i1⟩
  | 58 => ⟨S_, .i32⟩
  | 59 => ⟨S_, .f32⟩
  | 60 => ⟨S4x4224x256, .i1⟩
  | 61 => ⟨S4x4224x256, .f32⟩
  | 62 => ⟨S4x4224x256, .f32⟩
  | 63 => ⟨S4x4224x2x128, .f32⟩
  | 64 => ⟨S4x2x4224x128, .f32⟩
  | 65 => ⟨S_, .f32⟩
  | 66 => ⟨S4x4224x512, .f32⟩
  | 67 => ⟨S4x4224x512, .f32⟩
  | 68 => ⟨S64, .i32⟩
  | 69 => ⟨S_, .i32⟩
  | 70 => ⟨S64, .i32⟩
  | 71 => ⟨S64, .i1⟩
  | 72 => ⟨S_, .f32⟩
  | 73 => ⟨S_, .f32⟩
  | 74 => ⟨S64, .f32⟩
  | 75 => ⟨S64, .f32⟩
  | 76 => ⟨S64, .f32⟩
  | 77 => ⟨S64, .f32⟩
  | 78 => ⟨S4x4224x64, .f32⟩
  | 79 => ⟨S4x4224x64, .f32⟩
  | 80 => ⟨S4x4224x64, .f32⟩
  | 81 => ⟨S4x4224x384, .f32⟩
  | 82 => ⟨S4x4224x192, .f32⟩
  | 83 => ⟨S_, .f32⟩
  | 84 => ⟨S4x4224, .f32⟩
  | 85 => ⟨S4x4224x1, .f32⟩
  | 86 => ⟨S_, .f32⟩
  | 87 => ⟨S4x4224x1, .f32⟩
  | 88 => ⟨S4x4224x1, .f32⟩
  | 89 => ⟨S_, .f32⟩
  | 90 => ⟨S4x4224x1, .f32⟩
  | 91 => ⟨S4x4224x1, .f32⟩
  | 92 => ⟨S4x4224x1, .f32⟩
  | 93 => ⟨S4x4224x192, .f32⟩
  | 94 => ⟨S4x4224x192, .f32⟩
  | 95 => ⟨S1x1x192, .f32⟩
  | 96 => ⟨S4x4224x192, .f32⟩
  | 97 => ⟨S4x4224x192, .f32⟩
  | 98 => ⟨S4x4224x384, .f32⟩
  | 99 => ⟨S4x4224x4x96, .f32⟩
  | 100 => ⟨S4x4224x4x64, .f32⟩
  | 101 => ⟨S4x4224x4x32, .f32⟩
  | 102 => ⟨S1x4224x1x16, .f32⟩
  | 103 => ⟨S1x4224x1x16, .f32⟩
  | 104 => ⟨S4x4224x4x16, .f32⟩
  | 105 => ⟨S4x4224x4x16, .f32⟩
  | 106 => ⟨S4x4224x4x16, .f32⟩
  | 107 => ⟨S4x4224x4x16, .f32⟩
  | 108 => ⟨S4x4224x4x16, .f32⟩
  | 109 => ⟨S4x4224x4x16, .f32⟩
  | 110 => ⟨S4x4224x4x16, .f32⟩
  | 111 => ⟨S4x4224x4x16, .f32⟩
  | 112 => ⟨S4x4224x4x16, .f32⟩
  | 113 => ⟨S4x4224x4x16, .f32⟩
  | 114 => ⟨S4x4224x4x16, .f32⟩
  | 115 => ⟨S4x4224x4x16, .f32⟩
  | 116 => ⟨S4x4224x4x32, .f32⟩
  | 117 => ⟨S128x4x64, .f32⟩
  | 118 => ⟨S4x128x4x4224, .f32⟩
  | 119 => ⟨S4x4x4224x128, .f32⟩
  | 120 => ⟨S_, .f32⟩
  | 121 => ⟨S4x4x4224x128, .f32⟩
  | 122 => ⟨S4x4x4224x128, .f32⟩
  | 123 => ⟨S4224x48, .bf16⟩
  | 124 => ⟨S4224x48, .f32⟩
  | 125 => ⟨S4x4x4224x48, .f32⟩
  | 126 => ⟨S4x4x4224x32, .f32⟩
  | 127 => ⟨S_, .f32⟩
  | _ => ⟨S4x4096x1024, .f32⟩

abbrev hbmTy0_1 (i : Nat) : BufTy := match i % 128 with
  | 0 => ⟨S4x4x4224x32, .f32⟩
  | 1 => ⟨S4x4x4224x32, .f32⟩
  | 2 => ⟨S4x4x4224x208, .f32⟩
  | 3 => ⟨S4x4224x1x32, .f32⟩
  | 4 => ⟨S1x4224x1x16, .f32⟩
  | 5 => ⟨S1x4224x1x16, .f32⟩
  | 6 => ⟨S4x4224x1x16, .f32⟩
  | 7 => ⟨S4x4224x1x16, .f32⟩
  | 8 => ⟨S4x4224x1x16, .f32⟩
  | 9 => ⟨S4x4224x1x16, .f32⟩
  | 10 => ⟨S4x4224x1x16, .f32⟩
  | 11 => ⟨S4x4224x1x16, .f32⟩
  | 12 => ⟨S4x4224x1x16, .f32⟩
  | 13 => ⟨S4x4224x1x16, .f32⟩
  | 14 => ⟨S4x4224x1x16, .f32⟩
  | 15 => ⟨S4x4224x1x16, .f32⟩
  | 16 => ⟨S4x4224x1x16, .f32⟩
  | 17 => ⟨S4x4224x1x16, .f32⟩
  | 18 => ⟨S4x4224x1x32, .f32⟩
  | 19 => ⟨S4x4224x32, .f32⟩
  | 20 => ⟨S4x4224x128, .f32⟩
  | 21 => ⟨S_, .f32⟩
  | 22 => ⟨S4x4224, .f32⟩
  | 23 => ⟨S4x4224x1, .f32⟩
  | 24 => ⟨S_, .f32⟩
  | 25 => ⟨S4x4224x1, .f32⟩
  | 26 => ⟨S4x4224x1, .f32⟩
  | 27 => ⟨S_, .f32⟩
  | 28 => ⟨S4x4224x1, .f32⟩
  | 29 => ⟨S4x4224x1, .f32⟩
  | 30 => ⟨S4x4224x1, .f32⟩
  | 31 => ⟨S4x4224x128, .f32⟩
  | 32 => ⟨S4x4224x128, .f32⟩
  | 33 => ⟨S1x1x128, .f32⟩
  | 34 => ⟨S4x4224x128, .f32⟩
  | 35 => ⟨S4x4224x128, .f32⟩
  | 36 => ⟨S4224x48, .bf16⟩
  | 37 => ⟨S4224x48, .f32⟩
  | 38 => ⟨S4x4224x48, .f32⟩
  | 39 => ⟨S4x4224x208, .f32⟩
  | 40 => ⟨S4x4224x512, .bf16⟩
  | 41 => ⟨S4x4224x384, .bf16⟩
  | 42 => ⟨S4x4x4224x208, .bf16⟩
  | 43 => ⟨S4x4224x208, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_3 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_cst_7 : Ref sig .tc := ⟨.hbm, 73, rfl⟩
abbrev main_call1_v0 : Ref sig .tc := ⟨.hbm, 74, rfl⟩
abbrev main_call1_v1 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_13 : Ref sig .tc := ⟨.hbm, 149, rfl⟩
abbrev main_v117 : Ref sig .tc := ⟨.hbm, 150, rfl⟩
abbrev main_v118 : Ref sig .tc := ⟨.hbm, 151, rfl⟩
abbrev main_cst_14 : Ref sig .tc := ⟨.hbm, 152, rfl⟩
abbrev main_v119 : Ref sig .tc := ⟨.hbm, 153, rfl⟩
abbrev main_v120 : Ref sig .tc := ⟨.hbm, 154, rfl⟩
abbrev main_cst_15 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]
-- ==== Kernel4.lean ====
abbrev S4x4224x1024 : Shape := ⟨3, ![4, 4224, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S_ : Shape := ⟨0, ![]⟩
abbrev S112x1024 : Shape := ⟨2, ![112, 1024]⟩
abbrev S128x1024 : Shape := ⟨2, ![128, 1024]⟩
abbrev S1x4224x1x16 : Shape := ⟨4, ![1, 4224, 1, 16]⟩
abbrev S1x4224x8x16 : Shape := ⟨4, ![1, 4224, 8, 16]⟩
abbrev S2x1024x32 : Shape := ⟨3, ![2, 1024, 32]⟩
abbrev S2x1024x1216 : Shape := ⟨3, ![2, 1024, 1216]⟩
abbrev S2x1024x64 : Shape := ⟨3, ![2, 1024, 64]⟩
abbrev S2x1024x128 : Shape := ⟨3, ![2, 1024, 128]⟩
abbrev S2x1024x16 : Shape := ⟨3, ![2, 1024, 16]⟩
abbrev S2x1024x1536 : Shape := ⟨3, ![2, 1024, 1536]⟩
abbrev S2x192x4x96 : Shape := ⟨4, ![2, 192, 4, 96]⟩
abbrev S2x192x4x32 : Shape := ⟨4, ![2, 192, 4, 32]⟩
abbrev S2x192x4x64 : Shape := ⟨4, ![2, 192, 4, 64]⟩
abbrev S2x192x256 : Shape := ⟨3, ![2, 192, 256]⟩
abbrev S2x192x128 : Shape := ⟨3, ![2, 192, 128]⟩
abbrev S2x192x4x16 : Shape := ⟨4, ![2, 192, 4, 16]⟩
abbrev S2x192x512 : Shape := ⟨3, ![2, 192, 512]⟩
abbrev S2x256x512 : Shape := ⟨3, ![2, 256, 512]⟩
abbrev S2x128x4x64 : Shape := ⟨4, ![2, 128, 4, 64]⟩
abbrev S2x4x64x128 : Shape := ⟨4, ![2, 4, 64, 128]⟩
abbrev S4x4 : Shape := ⟨2, ![4, 4]⟩
abbrev S2x4x64x1x128 : Shape := ⟨5, ![2, 4, 64, 1, 128]⟩
abbrev S4x1x4x1 : Shape := ⟨4, ![4, 1, 4, 1]⟩
abbrev S1x4x1x4x1 : Shape := ⟨5, ![1, 4, 1, 4, 1]⟩
abbrev S2x4x64x4x128 : Shape := ⟨5, ![2, 4, 64, 4, 128]⟩
abbrev S1x192 : Shape := ⟨2, ![1, 192]⟩
abbrev S192 : Shape := ⟨1, ![192]⟩
abbrev S64 : Shape := ⟨1, ![64]⟩
abbrev S256 : Shape := ⟨1, ![256]⟩
abbrev S1x256 : Shape := ⟨2, ![1, 256]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S4x2x4224x128 : Shape := ⟨4, ![4, 2, 4224, 128]⟩
abbrev S4x4224x512 : Shape := ⟨3, ![4, 4224, 512]⟩
abbrev S4x4224x384 : Shape := ⟨3, ![4, 4224, 384]⟩
abbrev S4x4x4224x208 : Shape := ⟨4, ![4, 4, 4224, 208]⟩
abbrev S4x4224x208 : Shape := ⟨3, ![4, 4224, 208]⟩
abbrev S1x2112x1024 : Shape := ⟨3, ![1, 2112, 1024]⟩
abbrev S1x1024x1536 : Shape := ⟨3, ![1, 1024, 1536]⟩
abbrev S1x256x512 : Shape := ⟨3, ![1, 256, 512]⟩
abbrev S2112x128 : Shape := ⟨2, ![2112, 128]⟩
abbrev S1x2x2112x128 : Shape := ⟨4, ![1, 2, 2112, 128]⟩
abbrev S1x2112x512 : Shape := ⟨3, ![1, 2112, 512]⟩
abbrev S1x2112x384 : Shape := ⟨3, ![1, 2112, 384]⟩
abbrev S1x4x2112x208 : Shape := ⟨4, ![1, 4, 2112, 208]⟩
abbrev S1x2112x208 : Shape := ⟨3, ![1, 2112, 208]⟩
abbrev S1x528x1024 : Shape := ⟨3, ![1, 528, 1024]⟩
abbrev S528x1024 : Shape := ⟨2, ![528, 1024]⟩
abbrev S528 : Shape := ⟨1, ![528]⟩
abbrev S528x1 : Shape := ⟨2, ![528, 1]⟩
abbrev S1024x1536 : Shape := ⟨2, ![1024, 1536]⟩
abbrev S528x1536 : Shape := ⟨2, ![528, 1536]⟩
abbrev S528x128 : Shape := ⟨2, ![528, 128]⟩
abbrev S1x1x528x128 : Shape := ⟨4, ![1, 1, 528, 128]⟩
abbrev S528x512 : Shape := ⟨2, ![528, 512]⟩
abbrev S1x528x512 : Shape := ⟨3, ![1, 528, 512]⟩
abbrev S1x528x128 : Shape := ⟨3, ![1, 528, 128]⟩
abbrev S528x64 : Shape := ⟨2, ![528, 64]⟩
abbrev S1x528x64 : Shape := ⟨3, ![1, 528, 64]⟩
abbrev S528x256 : Shape := ⟨2, ![528, 256]⟩
abbrev S256x512 : Shape := ⟨2, ![256, 512]⟩
abbrev S528x32 : Shape := ⟨2, ![528, 32]⟩
abbrev S528x48 : Shape := ⟨2, ![528, 48]⟩
abbrev S1x1x528x48 : Shape := ⟨4, ![1, 1, 528, 48]⟩
abbrev S1x1x528x32 : Shape := ⟨4, ![1, 1, 528, 32]⟩
abbrev S1x528x48 : Shape := ⟨3, ![1, 528, 48]⟩
abbrev S1x528x32 : Shape := ⟨3, ![1, 528, 32]⟩

abbrev nBuf : Space → Nat
  | .hbm => 83
  | .vmem => 27
  | .smem => 0
  | _ => 0

abbrev bufTy : (tb : Table) → Fin (tcTables nBuf tb) → BufTy
  | .hbm, ⟨0, _⟩ => ⟨S4x4224x1024, .f32⟩
  | .hbm, ⟨1, _⟩ => ⟨S16x1024, .f32⟩
  | .hbm, ⟨2, _⟩ => ⟨S2x1024, .f32⟩
  | .hbm, ⟨3, _⟩ => ⟨S2x1024x1376, .f32⟩
  | .hbm, ⟨4, _⟩ => ⟨S2x192, .f32⟩
  | .hbm, ⟨5, _⟩ => ⟨S2x128, .f32⟩
  | .hbm, ⟨6, _⟩ => ⟨S2x192x384, .f32⟩
  | .hbm, ⟨7, _⟩ => ⟨S2x128x256, .f32⟩
  | .hbm, ⟨8, _⟩ => ⟨S4224x16, .f32⟩
  | .hbm, ⟨9, _⟩ => ⟨S4224x16, .f32⟩
  | .hbm, ⟨10, _⟩ => ⟨S4224x128, .bf16⟩
  | .hbm, ⟨11, _⟩ => ⟨S4224x128, .bf16⟩
  | .hbm, ⟨12, _⟩ => ⟨S_, .f32⟩
  | .hbm, ⟨13, _⟩ => ⟨S112x1024, .f32⟩
  | .hbm, ⟨14, _⟩ => ⟨S128x1024, .f32⟩
  | .hbm, ⟨15, _⟩ => ⟨S1x4224x1x16, .f32⟩
  | .hbm, ⟨16, _⟩ => ⟨S1x4224x8x16, .f32⟩
  | .hbm, ⟨17, _⟩ => ⟨S4224x128, .f32⟩
  | .hbm, ⟨18, _⟩ => ⟨S1x4224x1x16, .f32⟩
  | .hbm, ⟨19, _⟩ => ⟨S1x4224x8x16, .f32⟩
  | .hbm, ⟨20, _⟩ => ⟨S4224x128, .f32⟩
  | .hbm, ⟨21, _⟩ => ⟨S2x1024x1376, .bf16⟩
  | .hbm, ⟨22, _⟩ => ⟨S2x192x384, .bf16⟩
  | .hbm, ⟨23, _⟩ => ⟨S2x128x256, .bf16⟩
  | .hbm, ⟨24, _⟩ => ⟨S2x1024x32, .bf16⟩
  | .hbm, ⟨25, _⟩ => ⟨S2x1024x1216, .bf16⟩
  | .hbm, ⟨26, _⟩ => ⟨S_, .bf16⟩
  | .hbm, ⟨27, _⟩ => ⟨S2x1024x64, .bf16⟩
  | .hbm, ⟨28, _⟩ => ⟨S2x1024x128, .bf16⟩
  | .hbm, ⟨29, _⟩ => ⟨S2x1024x16, .bf16⟩
  | .hbm, ⟨30, _⟩ => ⟨S2x1024x16, .bf16⟩
  | .hbm, ⟨31, _⟩ => ⟨S2x1024x16, .bf16⟩
  | .hbm, ⟨32, _⟩ => ⟨S2x1024x32, .bf16⟩
  | .hbm, ⟨33, _⟩ => ⟨S_, .bf16⟩
  | .hbm, ⟨34, _⟩ => ⟨S2x1024x64, .bf16⟩
  | .hbm, ⟨35, _⟩ => ⟨S2x1024x1536, .bf16⟩
  | .hbm, ⟨36, _⟩ => ⟨S2x192x4x96, .bf16⟩
  | .hbm, ⟨37, _⟩ => ⟨S2x192x4x32, .bf16⟩
  | .hbm, ⟨38, _⟩ => ⟨S2x192x4x64, .bf16⟩
  | .hbm, ⟨39, _⟩ => ⟨S2x192x256, .bf16⟩
  | .hbm, ⟨40, _⟩ => ⟨S2x192x128, .bf16⟩
  | .hbm, ⟨41, _⟩ => ⟨S2x192x4x16, .bf16⟩
  | .hbm, ⟨42, _⟩ => ⟨S2x192x4x16, .bf16⟩
  | .hbm, ⟨43, _⟩ => ⟨S2x192x4x16, .bf16⟩
  | .hbm, ⟨44, _⟩ => ⟨S2x192x4x32, .bf16⟩
  | .hbm, ⟨45, _⟩ => ⟨S2x192x128, .bf16⟩
  | .hbm, ⟨46, _⟩ => ⟨S2x192x512, .bf16⟩
  | .hbm, ⟨47, _⟩ => ⟨S_, .i32⟩
  | .hbm, ⟨48, _⟩ => ⟨S_, .bf16⟩
  | .hbm, ⟨49, _⟩ => ⟨S2x256x512, .bf16⟩
  | .hbm, ⟨50, _⟩ => ⟨S2x128x4x64, .bf16⟩
  | .hbm, ⟨51, _⟩ => ⟨S2x4x64x128, .bf16⟩
  | .hbm, ⟨52, _⟩ => ⟨S4x4, .i32⟩
  | .hbm, ⟨53, _⟩ => ⟨S4x4, .i32⟩
  | .hbm, ⟨54, _⟩ => ⟨S_, .i32⟩
  | .hbm, ⟨55, _⟩ => ⟨S4x4, .i32⟩
  | .hbm, ⟨56, _⟩ => ⟨S4x4, .i32⟩
  | .hbm, ⟨57, _⟩ => ⟨S4x4, .i1⟩
  | .hbm, ⟨58, _⟩ => ⟨S4x4, .bf16⟩
  | .hbm, ⟨59, _⟩ => ⟨S2x4x64x1x128, .bf16⟩
  | .hbm, ⟨60, _⟩ => ⟨S4x1x4x1, .bf16⟩
  | .hbm, ⟨61, _⟩ => ⟨S1x4x1x4x1, .bf16⟩
  | .hbm, ⟨62, _⟩ => ⟨S2x4x64x4x128, .bf16⟩
  | .hbm, ⟨63, _⟩ => ⟨S2x4x64x4x128, .bf16⟩
  | .hbm, ⟨64, _⟩ => ⟨S2x4x64x4x128, .bf16⟩
  | .hbm, ⟨65, _⟩ => ⟨S2x256x512, .bf16⟩
  | .hbm, ⟨66, _⟩ => ⟨S1x192, .f32⟩
  | .hbm, ⟨67, _⟩ => ⟨S192, .f32⟩
  | .hbm, ⟨68, _⟩ => ⟨S_, .f32⟩
  | .hbm, ⟨69, _⟩ => ⟨S64, .f32⟩
  | .hbm, ⟨70, _⟩ => ⟨S256, .f32⟩
  | .hbm, ⟨71, _⟩ => ⟨S1x256, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S4x2x4224x128, .f32⟩
  | .hbm, ⟨79, _⟩ => ⟨S4x4224x512, .bf16⟩
  | .hbm, ⟨80, _⟩ => ⟨S4x4224x384, .bf16⟩
  | .hbm, ⟨81, _⟩ => ⟨S4x4x4224x208, .bf16⟩
  | .hbm, ⟨82, _⟩ => ⟨S4x4224x208, .bf16⟩
  | .local _ .vmem, ⟨0, _⟩ => ⟨S1x2112x1024, .f32⟩
  | .local _ .vmem, ⟨1, _⟩ => ⟨S1x2112x1024, .f32⟩
  | .local _ .vmem, ⟨2, _⟩ => ⟨S128x1024, .f32⟩
  | .local _ .vmem, ⟨3, _⟩ => ⟨S1x1024, .f32⟩
  | .local _ .vmem, ⟨4, _⟩ => ⟨S1x1024x1536, .bf16⟩
  | .local _ .vmem, ⟨5, _⟩ => ⟨S1x256, .f32⟩
  | .local _ .vmem, ⟨6, _⟩ => ⟨S1x128, .f32⟩
  | .local _ .vmem, ⟨7, _⟩ => ⟨S1x256x512, .bf16⟩
  | .local _ .vmem, ⟨8, _⟩ => ⟨S1x256x512, .bf16⟩
  | .local _ .vmem, ⟨9, _⟩ => ⟨S2112x128, .f32⟩
  | .local _ .vmem, ⟨10, _⟩ => ⟨S2112x128, .f32⟩
  | .local _ .vmem, ⟨11, _⟩ => ⟨S2112x128, .f32⟩
  | .local _ .vmem, ⟨12, _⟩ => ⟨S2112x128, .f32⟩
  | .local _ .vmem, ⟨13, _⟩ => ⟨S2112x128, .bf16⟩
  | .local _ .vmem, ⟨14, _⟩ => ⟨S2112x128, .bf16⟩
  | .local _ .vmem, ⟨15, _⟩ => ⟨S2112x128, .bf16⟩
  | .local _ .vmem, ⟨16, _⟩ => ⟨S2112x128, .bf16⟩
  | .local _ .vmem, ⟨17, _⟩ => ⟨S1x2x2112x128, .f32⟩
  | .local _ .vmem, ⟨18, _⟩ => ⟨S1x2x2112x128, .f32⟩
  | .local _ .vmem, ⟨19, _⟩ => ⟨S1x2112x512, .bf16⟩
  | .local _ .vmem, ⟨20, _⟩ => ⟨S1x2112x512, .bf16⟩
  | .local _ .vmem, ⟨21, _⟩ => ⟨S1x2112x384, .bf16⟩
  | .local _ .vmem, ⟨22, _⟩ => ⟨S1x2112x384, .bf16⟩
  | .local _ .vmem, ⟨23, _⟩ => ⟨S1x4x2112x208, .bf16⟩
  | .local _ .vmem, ⟨24, _⟩ => ⟨S1x4x2112x208, .bf16⟩
  | .local _ .vmem, ⟨25, _⟩ => ⟨S1x2112x208, .bf16⟩
  | .local _ .vmem, ⟨26, _⟩ => ⟨S1x2112x208, .bf16⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v59_3 : Ref sig .tc := ⟨.hbm, 81, rfl⟩
abbrev main_v59_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2112x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2112x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2112x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2112x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2x2112x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2112x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2112x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2112x208 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2112x208 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel4Ideal.lean ====
variable {F : FTy → Type} [FloatOps F] [Named F]
def κ : String → Option EReal := fun
  | "inv_192" => some ((1 / 192 : ℝ) : EReal)
  | _ => none
-- ==== Reference4Ideal.lean ====
abbrev S4x4224x1024 : Shape := ⟨3, ![4, 4224, 1024]⟩
abbrev S16x1024 : Shape := ⟨2, ![16, 1024]⟩
abbrev S2x1024 : Shape := ⟨2, ![2, 1024]⟩
abbrev S2x1024x1376 : Shape := ⟨3, ![2, 1024, 1376]⟩
abbrev S2x192 : Shape := ⟨2, ![2, 192]⟩
abbrev S2x128 : Shape := ⟨2, ![2, 128]⟩
abbrev S2x192x384 : Shape := ⟨3, ![2, 192, 384]⟩
abbrev S2x128x256 : Shape := ⟨3, ![2, 128, 256]⟩
abbrev S4224x16 : Shape := ⟨2, ![4224, 16]⟩
abbrev S4224x128 : Shape := ⟨2, ![4224, 128]⟩
abbrev S1x1024 : Shape := ⟨2, ![1, 1024]⟩
abbrev S1024 : Shape := ⟨1, ![1024]⟩
abbrev S1x1024x1376 : Shape := ⟨3, ![1, 1024, 1376]⟩
abbrev S1024x1376 : Shape := ⟨2, ![1024, 1376]⟩
abbrev S1x192 : Shape := ⟨2, ![1, 192]⟩
abbrev S192 : Shape := ⟨1, ![192]⟩
abbrev S1x128 : Shape := ⟨2, ![1, 128]⟩
abbrev S128 : Shape := ⟨1, ![128]⟩
abbrev S1x192x384 : Shape := ⟨3, ![1, 192, 384]⟩
abbrev S192x384 : Shape := ⟨2, ![192, 384]⟩
abbrev S1x128x256 : Shape := ⟨3, ![1, 128, 256]⟩
abbrev S128x256 : Shape := ⟨2, ![128, 256]⟩
abbrev S4224 : Shape := ⟨1, ![4224]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S4x4224x1376 : Shape := ⟨3, ![4, 4224, 1376]⟩
abbrev S4x4224x256 : Shape := ⟨3, ![4, 4224, 256]⟩
abbrev S4x4224x512 : Shape := ⟨3, ![4, 4224, 512]⟩
abbrev S4x4224x128 : Shape := ⟨3, ![4, 4224, 128]⟩
abbrev S4x4224x192 : Shape := ⟨3, ![4, 4224, 192]⟩
abbrev S4x4224x32 : Shape := ⟨3, ![4, 4224, 32]⟩
abbrev S1x4224x1 : Shape := ⟨3, ![1, 4224, 1]⟩
abbrev S4x4224x2x128 : Shape := ⟨4, ![4, 4224, 2, 128]⟩
abbrev S4x2x4224x128 : Shape := ⟨4, ![4, 2, 4224, 128]⟩
abbrev S64 : Shape := ⟨1, ![64]⟩
abbrev S4x4224x64 : Shape := ⟨3, ![4, 4224, 64]⟩
abbrev S4x4224x384 : Shape := ⟨3, ![4, 4224, 384]⟩
abbrev S1x1x192 : Shape := ⟨3, ![1, 1, 192]⟩
abbrev S4x4224x4x96 : Shape := ⟨4, ![4, 4224, 4, 96]⟩
abbrev S4x4224x4x64 : Shape := ⟨4, ![4, 4224, 4, 64]⟩
abbrev S4x4224x4x32 : Shape := ⟨4, ![4, 4224, 4, 32]⟩
abbrev S1x4224x1x16 : Shape := ⟨4, ![1, 4224, 1, 16]⟩
abbrev S4x4224x4x16 : Shape := ⟨4, ![4, 4224, 4, 16]⟩
abbrev S128x4x64 : Shape := ⟨3, ![128, 4, 64]⟩
abbrev S4x128x4x4224 : Shape := ⟨4, ![4, 128, 4, 4224]⟩
abbrev S4x4x4224x128 : Shape := ⟨4, ![4, 4, 4224, 128]⟩
abbrev S4224x48 : Shape := ⟨2, ![4224, 48]⟩
abbrev S4x4x4224x48 : Shape := ⟨4, ![4, 4, 4224, 48]⟩
abbrev S4x4x4224x32 : Shape := ⟨4, ![4, 4, 4224, 32]⟩
abbrev S4x4x4224x208 : Shape := ⟨4, ![4, 4, 4224, 208]⟩
abbrev S4x4224x1x32 : Shape := ⟨4, ![4, 4224, 1, 32]⟩
abbrev S4x4224x1x16 : Shape := ⟨4, ![4, 4224, 1, 16]⟩
abbrev S1x1x128 : Shape := ⟨3, ![1, 1, 128]⟩
abbrev S4x4224x48 : Shape := ⟨3, ![4, 4224, 48]⟩
abbrev S4x4224x208 : Shape := ⟨3, ![4, 4224, 208]⟩

abbrev nBuf : Space → Nat
  | .hbm => 167
  | .vmem => 0
  | .smem => 0
  | _ => 0

abbrev hbmTy0_0 (i : Nat) : BufTy := match i % 128 with
  | 0 => ⟨S4x4224x1024, .f32⟩
  | 1 => ⟨S16x1024, .f32⟩
  | 2 => ⟨S2x1024, .f32⟩
  | 3 => ⟨S2x1024x1376, .f32⟩
  | 4 => ⟨S2x192, .f32⟩
  | 5 => ⟨S2x128, .f32⟩
  | 6 => ⟨S2x192x384, .f32⟩
  | 7 => ⟨S2x128x256, .f32⟩
  | 8 => ⟨S4224x16, .f32⟩
  | 9 => ⟨S4224x16, .f32⟩
  | 10 => ⟨S4224x128, .bf16⟩
  | 11 => ⟨S4224x128, .bf16⟩
  | 12 => ⟨S1x1024, .f32⟩
  | 13 => ⟨S1024, .f32⟩
  | 14 => ⟨S1x1024x1376, .f32⟩
  | 15 => ⟨S1024x1376, .f32⟩
  | 16 => ⟨S1x192, .f32⟩
  | 17 => ⟨S192, .f32⟩
  | 18 => ⟨S1x128, .f32⟩
  | 19 => ⟨S128, .f32⟩
  | 20 => ⟨S1x192x384, .f32⟩
  | 21 => ⟨S192x384, .f32⟩
  | 22 => ⟨S1x128x256, .f32⟩
  | 23 => ⟨S128x256, .f32⟩
  | 24 => ⟨S4224, .i32⟩
  | 25 => ⟨S_, .i32⟩
  | 26 => ⟨S4224, .i32⟩
  | 27 => ⟨S4224, .i1⟩
  | 28 => ⟨S4x4224x1024, .f32⟩
  | 29 => ⟨S_, .f32⟩
  | 30 => ⟨S4x4224, .f32⟩
  | 31 => ⟨S4x4224x1, .f32⟩
  | 32 => ⟨S_, .f32⟩
  | 33 => ⟨S4x4224x1, .f32⟩
  | 34 => ⟨S4x4224x1, .f32⟩
  | 35 => ⟨S_, .f32⟩
  | 36 => ⟨S4x4224x1, .f32⟩
  | 37 => ⟨S4x4224x1, .f32⟩
  | 38 => ⟨S4x4224x1, .f32⟩
  | 39 => ⟨S4x4224x1024, .f32⟩
  | 40 => ⟨S4x4224x1024, .f32⟩
  | 41 => ⟨S1x1x1024, .f32⟩
  | 42 => ⟨S4x4224x1024, .f32⟩
  | 43 => ⟨S4x4224x1024, .f32⟩
  | 44 => ⟨S4x4224x1376, .f32⟩
  | 45 => ⟨S4x4224x256, .f32⟩
  | 46 => ⟨S4x4224x512, .f32⟩
  | 47 => ⟨S4x4224x128, .f32⟩
  | 48 => ⟨S4x4224x128, .f32⟩
  | 49 => ⟨S4x4224x192, .f32⟩
  | 50 => ⟨S4x4224x128, .f32⟩
  | 51 => ⟨S4x4224x32, .f32⟩
  | 52 => ⟨S1x4224x1, .i1⟩
  | 53 => ⟨S_, .i32⟩
  | 54 => ⟨S_, .f32⟩
  | 55 => ⟨S4x4224x256, .i1⟩
  | 56 => ⟨S4x4224x256, .f32⟩
  | 57 => ⟨S4x4224x256, .f32⟩
  | 58 => ⟨S4x4224x2x128, .f32⟩
  | 59 => ⟨S4x2x4224x128, .f32⟩
  | 60 => ⟨S_, .f32⟩
  | 61 => ⟨S4x4224x512, .f32⟩
  | 62 => ⟨S4x4224x512, .f32⟩
  | 63 => ⟨S64, .i32⟩
  | 64 => ⟨S_, .i32⟩
  | 65 => ⟨S64, .i32⟩
  | 66 => ⟨S64, .i1⟩
  | 67 => ⟨S_, .f32⟩
  | 68 => ⟨S_, .f32⟩
  | 69 => ⟨S64, .f32⟩
  | 70 => ⟨S64, .f32⟩
  | 71 => ⟨S64, .f32⟩
  | 72 => ⟨S64, .f32⟩
  | 73 => ⟨S4x4224x64, .f32⟩
  | 74 => ⟨S4x4224x64, .f32⟩
  | 75 => ⟨S4x4224x64, .f32⟩
  | 76 => ⟨S4x4224x384, .f32⟩
  | 77 => ⟨S4x4224x192, .f32⟩
  | 78 => ⟨S_, .f32⟩
  | 79 => ⟨S4x4224, .f32⟩
  | 80 => ⟨S4x4224x1, .f32⟩
  | 81 => ⟨S_, .f32⟩
  | 82 => ⟨S4x4224x1, .f32⟩
  | 83 => ⟨S4x4224x1, .f32⟩
  | 84 => ⟨S_, .f32⟩
  | 85 => ⟨S4x4224x1, .f32⟩
  | 86 => ⟨S4x4224x1, .f32⟩
  | 87 => ⟨S4x4224x1, .f32⟩
  | 88 => ⟨S4x4224x192, .f32⟩
  | 89 => ⟨S4x4224x192, .f32⟩
  | 90 => ⟨S1x1x192, .f32⟩
  | 91 => ⟨S4x4224x192, .f32⟩
  | 92 => ⟨S4x4224x192, .f32⟩
  | 93 => ⟨S4x4224x384, .f32⟩
  | 94 => ⟨S4x4224x4x96, .f32⟩
  | 95 => ⟨S4x4224x4x64, .f32⟩
  | 96 => ⟨S4x4224x4x32, .f32⟩
  | 97 => ⟨S1x4224x1x16, .f32⟩
  | 98 => ⟨S1x4224x1x16, .f32⟩
  | 99 => ⟨S4x4224x4x16, .f32⟩
  | 100 => ⟨S4x4224x4x16, .f32⟩
  | 101 => ⟨S4x4224x4x16, .f32⟩
  | 102 => ⟨S4x4224x4x16, .f32⟩
  | 103 => ⟨S4x4224x4x16, .f32⟩
  | 104 => ⟨S4x4224x4x16, .f32⟩
  | 105 => ⟨S4x4224x4x16, .f32⟩
  | 106 => ⟨S4x4224x4x16, .f32⟩
  | 107 => ⟨S4x4224x4x16, .f32⟩
  | 108 => ⟨S4x4224x4x16, .f32⟩
  | 109 => ⟨S4x4224x4x16, .f32⟩
  | 110 => ⟨S4x4224x4x16, .f32⟩
  | 111 => ⟨S4x4224x4x32, .f32⟩
  | 112 => ⟨S128x4x64, .f32⟩
  | 113 => ⟨S4x128x4x4224, .f32⟩
  | 114 => ⟨S4x4x4224x128, .f32⟩
  | 115 => ⟨S_, .f32⟩
  | 116 => ⟨S4x4x4224x128, .f32⟩
  | 117 => ⟨S4x4x4224x128, .f32⟩
  | 118 => ⟨S4224x48, .bf16⟩
  | 119 => ⟨S4224x48, .f32⟩
  | 120 => ⟨S4x4x4224x48, .f32⟩
  | 121 => ⟨S4x4x4224x32, .f32⟩
  | 122 => ⟨S_, .f32⟩
  | 123 => ⟨S4x4x4224x32, .f32⟩
  | 124 => ⟨S4x4x4224x32, .f32⟩
  | 125 => ⟨S4x4x4224x208, .f32⟩
  | 126 => ⟨S4x4224x1x32, .f32⟩
  | 127 => ⟨S1x4224x1x16, .f32⟩
  | _ => ⟨S4x4224x1024, .f32⟩

abbrev hbmTy0_1 (i : Nat) : BufTy := match i % 128 with
  | 0 => ⟨S1x4224x1x16, .f32⟩
  | 1 => ⟨S4x4224x1x16, .f32⟩
  | 2 => ⟨S4x4224x1x16, .f32⟩
  | 3 => ⟨S4x4224x1x16, .f32⟩
  | 4 => ⟨S4x4224x1x16, .f32⟩
  | 5 => ⟨S4x4224x1x16, .f32⟩
  | 6 => ⟨S4x4224x1x16, .f32⟩
  | 7 => ⟨S4x4224x1x16, .f32⟩
  | 8 => ⟨S4x4224x1x16, .f32⟩
  | 9 => ⟨S4x4224x1x16, .f32⟩
  | 10 => ⟨S4x4224x1x16, .f32⟩
  | 11 => ⟨S4x4224x1x16, .f32⟩
  | 12 => ⟨S4x4224x1x16, .f32⟩
  | 13 => ⟨S4x4224x1x32, .f32⟩
  | 14 => ⟨S4x4224x32, .f32⟩
  | 15 => ⟨S4x4224x128, .f32⟩
  | 16 => ⟨S_, .f32⟩
  | 17 => ⟨S4x4224, .f32⟩
  | 18 => ⟨S4x4224x1, .f32⟩
  | 19 => ⟨S_, .f32⟩
  | 20 => ⟨S4x4224x1, .f32⟩
  | 21 => ⟨S4x4224x1, .f32⟩
  | 22 => ⟨S_, .f32⟩
  | 23 => ⟨S4x4224x1, .f32⟩
  | 24 => ⟨S4x4224x1, .f32⟩
  | 25 => ⟨S4x4224x1, .f32⟩
  | 26 => ⟨S4x4224x128, .f32⟩
  | 27 => ⟨S4x4224x128, .f32⟩
  | 28 => ⟨S1x1x128, .f32⟩
  | 29 => ⟨S4x4224x128, .f32⟩
  | 30 => ⟨S4x4224x128, .f32⟩
  | 31 => ⟨S4224x48, .bf16⟩
  | 32 => ⟨S4224x48, .f32⟩
  | 33 => ⟨S4x4224x48, .f32⟩
  | 34 => ⟨S4x4224x208, .f32⟩
  | 35 => ⟨S4x4224x512, .bf16⟩
  | 36 => ⟨S4x4224x384, .bf16⟩
  | 37 => ⟨S4x4x4224x208, .bf16⟩
  | 38 => ⟨S4x4224x208, .bf16⟩
  | _ => ⟨S4x4224x1024, .f32⟩

abbrev hbmTy (i : Nat) : BufTy := match i / 128 with
  | 0 => hbmTy0_0 i
  | 1 => hbmTy0_1 i
  | _ => ⟨S4x4224x1024, .f32⟩

abbrev bufTy : (tb : Table) → Fin (tcTables nBuf tb) → BufTy
  | .hbm, ⟨i, _⟩ => hbmTy i
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_10 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_11 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_12 : Ref sig .tc := ⟨.hbm, 144, rfl⟩
abbrev main_v113 : Ref sig .tc := ⟨.hbm, 145, rfl⟩
abbrev main_v114 : Ref sig .tc := ⟨.hbm, 146, rfl⟩
abbrev main_cst_13 : Ref sig .tc := ⟨.hbm, 147, rfl⟩
abbrev main_v115 : Ref sig .tc := ⟨.hbm, 148, rfl⟩
abbrev main_v116 : Ref sig .tc := ⟨.hbm, 149, rfl⟩
abbrev main_cst_14 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩

abbrev nD : Nat := 1
abbrev τ : Topo := Topo.v7x

variable {F : FTy → Type} [FloatOps F]
-- ==== Kernel5.lean ====
abbrev S4x4224x512 : Shape := ⟨3, ![4, 4224, 512]⟩
abbrev S4x4224x128 : Shape := ⟨3, ![4, 4224, 128]⟩
abbrev S3x2x256x512 : Shape := ⟨4, ![3, 2, 256, 512]⟩
abbrev S8 : Shape := ⟨1, ![8]⟩
abbrev S64 : Shape := ⟨1, ![64]⟩
abbrev S_ : Shape := ⟨0, ![]⟩
abbrev S4x4224x64 : Shape := ⟨3, ![4, 4224, 64]⟩
abbrev S4x4224x384 : Shape := ⟨3, ![4, 4224, 384]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S1x1408x512 : Shape := ⟨3, ![1, 1408, 512]⟩
abbrev S1x128x384 : Shape := ⟨3, ![1, 128, 384]⟩
abbrev S1x1408x384 : Shape := ⟨3, ![1, 1408, 384]⟩
abbrev S1x128x512 : Shape := ⟨3, ![1, 128, 512]⟩
abbrev S128x512 : Shape := ⟨2, ![128, 512]⟩
abbrev S128x384 : Shape := ⟨2, ![128, 384]⟩
abbrev S128x64 : Shape := ⟨2, ![128, 64]⟩
abbrev S256x64 : Shape := ⟨2, ![256, 64]⟩
abbrev S128x128 : Shape := ⟨2, ![128, 128]⟩
abbrev S256x128 : Shape := ⟨2, ![256, 128]⟩
abbrev S512x64 : Shape := ⟨2, ![512, 64]⟩
abbrev S256x512 : Shape := ⟨2, ![256, 512]⟩
abbrev S1x1x256x512 : Shape := ⟨4, ![1, 1, 256, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S64x128 : Shape := ⟨2, ![64, 128]⟩
abbrev S512x128 : Shape := ⟨2, ![512, 128]⟩

abbrev nBuf : Space → Nat
  | .hbm => 27
  | .vmem => 10
  | .smem => 0
  | _ => 0

abbrev bufTy : (tb : Table) → Fin (tcTables nBuf tb) → BufTy
  | .hbm, ⟨0, _⟩ => ⟨S4x4224x512, .bf16⟩
  | .hbm, ⟨1, _⟩ => ⟨S4x4224x128, .bf16⟩
  | .hbm, ⟨2, _⟩ => ⟨S4x4224x128, .bf16⟩
  | .hbm, ⟨3, _⟩ => ⟨S3x2x256x512, .f32⟩
  | .hbm, ⟨4, _⟩ => ⟨S8, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .bf16⟩
  | .hbm, ⟨15, _⟩ => ⟨S4x4224x64, .bf16⟩
  | .hbm, ⟨16, _⟩ => ⟨S4x4224x64, .bf16⟩
  | .hbm, ⟨17, _⟩ => ⟨S4x4224x64, .bf16⟩
  | .hbm, ⟨18, _⟩ => ⟨S4x4224x384, .bf16⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2x4, .f32⟩
  | .hbm, ⟨23, _⟩ => ⟨S2x4x128, .f32⟩
  | .hbm, ⟨24, _⟩ => ⟨S2x512, .f32⟩
  | .hbm, ⟨25, _⟩ => ⟨S2x1x512, .f32⟩
  | .hbm, ⟨26, _⟩ => ⟨S4x4224x512, .f32⟩
  | .local _ .vmem, ⟨0, _⟩ => ⟨S1x1408x512, .bf16⟩
  | .local _ .vmem, ⟨1, _⟩ => ⟨S1x1408x512, .bf16⟩
  | .local _ .vmem, ⟨2, _⟩ => ⟨S1x128x384, .bf16⟩
  | .local _ .vmem, ⟨3, _⟩ => ⟨S1x128x384, .bf16⟩
  | .local _ .vmem, ⟨4, _⟩ => ⟨S1x1408x384, .bf16⟩
  | .local _ .vmem, ⟨5, _⟩ => ⟨S1x1408x384, .bf16⟩
  | .local _ .vmem, ⟨6, _⟩ => ⟨S3x2x256x512, .f32⟩
  | .local _ .vmem, ⟨7, _⟩ => ⟨S2x1x512, .f32⟩
  | .local _ .vmem, ⟨8, _⟩ => ⟨S1x1408x512, .f32⟩
  | .local _ .vmem, ⟨9, _⟩ => ⟨S1x1408x512, .f32⟩
  | _, _ => ⟨S4x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 3], ![false, false]⟩

def k0_off1 (i : grid0.Coords) (c0_i32 : BitVec 32) : Fin 4 → Nat :=
  let arg1 : BitVec 32 := BitVec.ofNat 32 (i 1).val
  let c11_i32 : BitVec 32 := 11#32
  let v17 : BitVec 32 := Scalar.muli arg1 c11_i32
  let v18 : BitVec 32 := Scalar.addi v17 c0_i32
  let c2_i32 : BitVec 32 := 2#32
  let v19 : BitVec 32 := Scalar.minsi v18 c2_i32
  let v21 : Index := Scalar.indexCast v19
  let c0_8 : Index := 0#32
  let c0_9 : Index := 0#32
  let c0_10 : Index := 0#32
  ![v21.toNat, 0, 0, 0]
def k0_off2 (i : grid0.Coords) (c0_i32_21 : BitVec 32) : Fin 4 → Nat :=
  let arg1 : BitVec 32 := BitVec.ofNat 32 (i 1).val
  let c11_i32_20 : BitVec 32 := 11#32
  let v42 : BitVec 32 := Scalar.muli arg1 c11_i32_20
  let v43 : BitVec 32 := Scalar.addi v42 c0_i32_21
  let c2_i32_22 : BitVec 32 := 2#32
  let v44 : BitVec 32 := Scalar.minsi v43 c2_i32_22
  let v46 : Index := Scalar.indexCast v44
  let c1 : Index := 1#32
  let c0_24 : Index := 0#32
  let c0_25 : Index := 0#32
  ![v46.toNat, 1, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli c11_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x4224x512 : Shape := ⟨3, ![4, 4224, 512]⟩
abbrev S4x4224x128 : Shape := ⟨3, ![4, 4224, 128]⟩
abbrev S3x2x256x512 : Shape := ⟨4, ![3, 2, 256, 512]⟩
abbrev S8 : Shape := ⟨1, ![8]⟩
abbrev S4x33x128x2x4x64 : Shape := ⟨6, ![4, 33, 128, 2, 4, 64]⟩
abbrev S4x33x128x2x64 : Shape := ⟨5, ![4, 33, 128, 2, 64]⟩
abbrev S4x1x128x2x64 : Shape := ⟨5, ![4, 1, 128, 2, 64]⟩
abbrev S4x32x128x2x64 : Shape := ⟨5, ![4, 32, 128, 2, 64]⟩
abbrev S4x33x256x2x64 : Shape := ⟨5, ![4, 33, 256, 2, 64]⟩
abbrev S3x2x256x4x128 : Shape := ⟨5, ![3, 2, 256, 4, 128]⟩
abbrev S3x2x4x128x256 : Shape := ⟨5, ![3, 2, 4, 128, 256]⟩
abbrev S1x2x4x128x256 : Shape := ⟨5, ![1, 2, 4, 128, 256]⟩
abbrev S31x2x4x128x256 : Shape := ⟨5, ![31, 2, 4, 128, 256]⟩
abbrev S2x2x4x128x256 : Shape := ⟨5, ![2, 2, 4, 128, 256]⟩
abbrev S33x2x4x128x256 : Shape := ⟨5, ![33, 2, 4, 128, 256]⟩
abbrev S4x33x2x256x128x4 : Shape := ⟨6, ![4, 33, 2, 256, 128, 4]⟩
abbrev S4x33x2x4x128x256 : Shape := ⟨6, ![4, 33, 2, 4, 128, 256]⟩
abbrev S1x33x2x4x128x256 : Shape := ⟨6, ![1, 33, 2, 4, 128, 256]⟩
abbrev S_ : Shape := ⟨0, ![]⟩
abbrev S2x4 : Shape := ⟨2, ![2, 4]⟩
abbrev S1x1x2x4x1x1 : Shape := ⟨6, ![1, 1, 2, 4, 1, 1]⟩
abbrev S4x33x2x4x128 : Shape := ⟨5, ![4, 33, 2, 4, 128]⟩
abbrev S4x33x2x4x128x1 : Shape := ⟨6, ![4, 33, 2, 4, 128, 1]⟩
abbrev S4x33x2x64x4x128 : Shape := ⟨6, ![4, 33, 2, 64, 4, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x4224x512, .bf16⟩
  | .hbm, ⟨1, _⟩ => ⟨S4x4224x128, .bf16⟩
  | .hbm, ⟨2, _⟩ => ⟨S4x4224x128, .bf16⟩
  | .hbm, ⟨3, _⟩ => ⟨S3x2x256x512, .f32⟩
  | .hbm, ⟨4, _⟩ => ⟨S8, .f32⟩
  | .hbm, ⟨5, _⟩ => ⟨S4x4224x512, .f32⟩
  | .hbm, ⟨6, _⟩ => ⟨S4x4224x128, .f32⟩
  | .hbm, ⟨7, _⟩ => ⟨S4x4224x128, .f32⟩
  | .hbm, ⟨8, _⟩ => ⟨S4x33x128x2x4x64, .f32⟩
  | .hbm, ⟨9, _⟩ => ⟨S4x33x128x2x64, .f32⟩
  | .hbm, ⟨10, _⟩ => ⟨S4x33x128x2x64, .f32⟩
  | .hbm, ⟨11, _⟩ => ⟨S4x1x128x2x64, .f32⟩
  | .hbm, ⟨12, _⟩ => ⟨S4x32x128x2x64, .f32⟩
  | .hbm, ⟨13, _⟩ => ⟨S4x33x128x2x64, .f32⟩
  | .hbm, ⟨14, _⟩ => ⟨S4x33x256x2x64, .f32⟩
  | .hbm, ⟨15, _⟩ => ⟨S4x1x128x2x64, .f32⟩
  | .hbm, ⟨16, _⟩ => ⟨S4x32x128x2x64, .f32⟩
  | .hbm, ⟨17, _⟩ => ⟨S4x33x128x2x64, .f32⟩
  | .hbm, ⟨18, _⟩ => ⟨S4x33x256x2x64, .f32⟩
  | .hbm, ⟨19, _⟩ => ⟨S3x2x256x4x128, .f32⟩
  | .hbm, ⟨20, _⟩ => ⟨S3x2x4x128x256, .f32⟩
  | .hbm, ⟨21, _⟩ => ⟨S1x2x4x128x256, .f32⟩
  | .hbm, ⟨22, _⟩ => ⟨S31x2x4x128x256, .f32⟩
  | .hbm, ⟨23, _⟩ => ⟨S2x2x4x128x256, .f32⟩
  | .hbm, ⟨24, _⟩ => ⟨S33x2x4x128x256, .f32⟩
  | .hbm, ⟨25, _⟩ => ⟨S4x33x2x256x128x4, .f32⟩
  | .hbm, ⟨26, _⟩ => ⟨S4x33x2x4x128x256, .f32⟩
  | .hbm, ⟨27, _⟩ => ⟨S1x33x2x4x128x256, .f32⟩
  | .hbm, ⟨28, _⟩ => ⟨S4x33x2x4x128x256, .f32⟩
  | .hbm, ⟨29, _⟩ => ⟨S4x33x2x4x128x256, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S2x4, .f32⟩
  | .hbm, ⟨34, _⟩ => ⟨S1x1x2x4x1x1, .f32⟩
  | .hbm, ⟨35, _⟩ => ⟨S_, .f32⟩
  | .hbm, ⟨36, _⟩ => ⟨S4x33x2x4x128, .f32⟩
  | .hbm, ⟨37, _⟩ => ⟨S4x33x2x4x128x1, .f32⟩
  | .hbm, ⟨38, _⟩ => ⟨S4x33x2x4x128x1, .f32⟩
  | .hbm, ⟨39, _⟩ => ⟨S4x33x2x4x128x1, .f32⟩
  | .hbm, ⟨40, _⟩ => ⟨S4x33x2x4x128x256, .f32⟩
  | .hbm, ⟨41, _⟩ => ⟨S4x33x2x4x128x256, .f32⟩
  | .hbm, ⟨42, _⟩ => ⟨S_, .f32⟩
  | .hbm, ⟨43, _⟩ => ⟨S4x33x2x4x128x256, .f32⟩
  | .hbm, ⟨44, _⟩ => ⟨S4x33x2x4x128x256, .f32⟩
  | .hbm, ⟨45, _⟩ => ⟨S_, .f32⟩
  | .hbm, ⟨46, _⟩ => ⟨S4x33x2x4x128, .f32⟩
  | .hbm, ⟨47, _⟩ => ⟨S4x33x2x4x128x1, .f32⟩
  | .hbm, ⟨48, _⟩ => ⟨S4x33x2x4x128x1, .f32⟩
  | .hbm, ⟨49, _⟩ => ⟨S4x33x2x4x128x1, .f32⟩
  | .hbm, ⟨50, _⟩ => ⟨S_, .f32⟩
  | .hbm, ⟨51, _⟩ => ⟨S4x33x2x4x128x1, .f32⟩
  | .hbm, ⟨52, _⟩ => ⟨S4x33x2x4x128x1, .f32⟩
  | .hbm, ⟨53, _⟩ => ⟨S4x33x2x4x128x1, .f32⟩
  | .hbm, ⟨54, _⟩ => ⟨S4x33x2x4x128x256, .f32⟩
  | .hbm, ⟨55, _⟩ => ⟨S4x33x2x4x128x256, .f32⟩
  | .hbm, ⟨56, _⟩ => ⟨S4x33x2x64x4x128, .f32⟩
  | .hbm, ⟨57, _⟩ => ⟨S4x33x128x2x4x64, .f32⟩
  | .hbm, ⟨58, _⟩ => ⟨S4x4224x512, .f32⟩
  | _, _ => ⟨S4x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Proof.RowModel.lean ====
/- The layer's closing arithmetic on one row of the residual stream, over the extended reals: a root-mean-square norm, the
   state-space branch's gated GELU, the three head norms side by side, and the squared-ReLU feed-forward. The kernel's stored
   block and the reference's result are both read as these functions of the same argument rows. -/
module

public import Idealize.ShloMosaic.Lib.Pointwise

@[expose] public section

set_option maxRecDepth 16384

noncomputable section

namespace Cert.RowModel

open Idealize.ShloMosaic

/-- The norms' additive constant. -/
def eps : EReal := Ideal.ofBits .f32 0x358637BD#32
/-- One over 256, one over 512 and one over 1024, as the kernel spells them. -/
def inv256 : EReal := Ideal.ofBits .f32 0x3B800000#32
def inv512 : EReal := Ideal.ofBits .f32 0x3B000000#32
def inv1024 : EReal := Ideal.ofBits .f32 0x3A800000#32

/-- A root-mean-square norm of the row `x` with gains `g`, `inv` one over its length. -/
def rms {n : ℕ} (inv : EReal) (x g : Fin n → EReal) (k : Fin n) : EReal :=
  x k * Ideal.rsqrt ((∑ j, x j * x j) * inv + eps) * g k

/-- GELU by its tanh form. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- The state-space branch: GELU of the row, times the logistic gate of its linear image. -/
def gate (y : Fin 256 → EReal) (w : Fin 256 → Fin 256 → EReal) (b : Fin 256 → EReal) (k : Fin 256) : EReal :=
  gelu (y k) * Ideal.div 1 (1 + Ideal.exp (-((∑ j, gelu (y j) * w j k) + b k)))

/-- The three branches' norms side by side: 256 lanes, 512 lanes, 256 lanes. -/
def heads (s : Fin 256 → EReal) (a : Fin 512 → EReal) (l : Fin 256 → EReal) (g : Fin 1024 → EReal) (k : Fin 1024) : EReal :=
  if h : k.val < 256 then rms inv256 s (fun i => g ⟨i.val, by omega⟩) ⟨k.val, h⟩
  else if h' : k.val - 256 < 512 then rms inv512 a (fun i => g ⟨256 + i.val, by omega⟩) ⟨k.val - 256, h'⟩
  else rms inv256 l (fun i => g ⟨768 + i.val, by omega⟩) ⟨k.val - 256 - 512, by omega⟩

/-- A row times a matrix. -/
def lin {n p : ℕ} (x : Fin n → EReal) (w : Fin n → Fin p → EReal) (k : Fin p) : EReal := ∑ j, x j * w j k

/-- The square of the positive part. -/
def relu2 (u : EReal) : EReal := max u 0 * max u 0

/-- The feed-forward: 4096 hidden lanes. -/
def mlp (a : Fin 1024 → EReal) (up : Fin 1024 → Fin 4096 → EReal) (dn : Fin 4096 → Fin 1024 → EReal) (k : Fin 1024) : EReal :=
  ∑ q, relu2 (lin a up q) * dn q k

/-- A residual step: the row plus the norm of what a branch made. -/
def step (h f g : Fin 1024 → EReal) (k : Fin 1024) : EReal := h k + rms inv1024 f g k

/-- The whole row: mixers' norms, output projection, residual step, feed-forward, residual step. -/
def out (h : Fin 1024 → EReal) (s : Fin 256 → EReal) (a : Fin 512 → EReal) (l : Fin 256 → EReal)
    (wg : Fin 256 → Fin 256 → EReal) (bg : Fin 256 → EReal) (gh : Fin 1024 → EReal) (wo : Fin 1024 → Fin 1024 → EReal)
    (gm gp : Fin 1024 → EReal) (up : Fin 1024 → Fin 4096 → EReal) (dn : Fin 4096 → Fin 1024 → EReal) (gq : Fin 1024 → EReal)
    (k : Fin 1024) : EReal :=
  step (step h (lin (heads (gate s wg bg) a l gh) wo) gm)
    (mlp (rms inv1024 (step h (lin (heads (gate s wg bg) a l gh) wo) gm) gp) up dn) gq k

/-- Row `i` of the first layer's residual stream: 112 empty rows, the 16 meta tokens, then the real tokens. -/
def stream (g : Fin 16 → Fin 1024 → EReal) (x : Fin 4096 → Fin 1024 → EReal) (i : Fin 4224) (k : Fin 1024) : EReal :=
  if i.val < 112 then 0
  else if h : i.val < 128 then g ⟨i.val - 112, by omega⟩ k
  else x ⟨i.val - 128, by omega⟩ k

/-- Dividing by 256 is multiplying by its reciprocal, both being binary32 words for exact powers of two. -/
theorem div_256 (x : EReal) : Ideal.div x (Ideal.ofBits .f32 0x43800000#32) = x * inv256 := by
  have e : Ideal.ofBits .f32 0x43800000#32 = ((256 : ℝ) : EReal) := by simp [Ideal.ofBits, Ideal.ieee, -EReal.coe_mul]; norm_num
  have e' : inv256 = ((1 / 256 : ℝ) : EReal) := by simp [inv256, Ideal.ofBits, Ideal.ieee, -EReal.coe_mul]; norm_num
  rw [e, e', Ideal.div_coe (by norm_num)]

/-- The same at 512. -/
theorem div_512 (x : EReal) : Ideal.div x (Ideal.ofBits .f32 0x44000000#32) = x * inv512 := by
  have e : Ideal.ofBits .f32 0x44000000#32 = ((512 : ℝ) : EReal) := by simp [Ideal.ofBits, Ideal.ieee, -EReal.coe_mul]; norm_num
  have e' : inv512 = ((1 / 512 : ℝ) : EReal) := by simp [inv512, Ideal.ofBits, Ideal.ieee, -EReal.coe_mul]; norm_num
  rw [e, e', Ideal.div_coe (by norm_num)]

/-- The same at 1024. -/
theorem div_1024 (x : EReal) : Ideal.div x (Ideal.ofBits .f32 0x44800000#32) = x * inv1024 := by
  have e : Ideal.ofBits .f32 0x44800000#32 = ((1024 : ℝ) : EReal) := by simp [Ideal.ofBits, Ideal.ieee, -EReal.coe_mul]; norm_num
  have e' : inv1024 = ((1 / 1024 : ℝ) : EReal) := by simp [inv1024, Ideal.ofBits, Ideal.ieee, -EReal.coe_mul]; norm_num
  rw [e, e', Ideal.div_coe (by norm_num)]

/-- Zero minus a number is its negation. -/
theorem zero_sub' (x : EReal) : 0 - x = -x := by rw [sub_eq_add_neg, zero_add]

/-- The reference's order of GELU's factors. -/
theorem gelu_comm (x : EReal) :
    x * (Ideal.ofBits .f32 0x3F000000#32
      * (1 + Ideal.tanh (Ideal.ofBits .f32 0x3F4C422A#32 * (x + Ideal.ofBits .f32 0x3D372713#32 * (x * x * x))))) = gelu x := by
  rw [gelu, mul_comm (Ideal.ofBits .f32 0x3F000000#32) x, mul_assoc x (Ideal.ofBits .f32 0x3F000000#32)]

/-- A sum over 4096 lanes is the sum of its four quarters, added from the left. -/
theorem sum_quarters (f : Fin 4096 → EReal) :
    ∑ q, f q = (((∑ x : Fin 1024, f ⟨x.val, by omega⟩) + ∑ x : Fin 1024, f ⟨1024 + x.val, by omega⟩)
      + ∑ x : Fin 1024, f ⟨2048 + x.val, by omega⟩) + ∑ x : Fin 1024, f ⟨3072 + x.val, by omega⟩ := by
  rw [Fin.sum_univ_two_halves 3072 1024 rfl f, Fin.sum_univ_two_halves 2048 1024 rfl (fun k : Fin 3072 => f ⟨k.val, by omega⟩),
    Fin.sum_univ_two_halves 1024 1024 rfl (fun k : Fin 2048 => f ⟨k.val, by omega⟩)]

end Cert.RowModel
-- ==== Proof.KernelBlock.lean ====
/- The kernel's block of the result, read at a row and a lane: the body's vectors, each at an index, as the row functions of the
   blocks it loads. -/
module

public import proofs.«01_k».proof.Proof.Gen.KernelIdeal.Frame
public import proofs.«01_k».proof.Proof.RowModel
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.RowModel Idealize.ShloMosaic

/-- A row of 256 lanes held as two slabs of 128. -/
def slabs (x : Vec Ideal S1x2x1024x128 .f32) (r : Fin 1024) (k : Fin 256) : EReal :=
  if h : k.val < 128 then x (ix4 0 0 r ⟨k.val, h⟩) else x (ix4 0 1 r ⟨k.val - 128, by omega⟩)

/-- The gated GELU of the two slabs. -/
theorem pay2_apply (x2 : Vec Ideal S1x2x1024x128 .f32) (v19 : Vec Ideal S1x256x256 .bf16) (v22 : Vec Ideal S1x256 .f32)
    (r : Fin 1024) (k : Fin 256) :
    k0_pay2 (F := Ideal) (View.ld x2 r0_0) (View.ld x2 r0_1) (View.ld v19 r0_2) (View.ld v22 r0_3) (ix2 r k)
      = gate (slabs x2 r) (fun i j => v19 (ix3 0 i j)) (fun j => v22 (ix2 0 j)) k := by
  unfold gate
  rw [Fin.sum_univ_two_halves 128 128 rfl]
  pointwise [k0_pay2, slabs, gelu, r0_0, r0_1, r0_2, r0_3, zero_sub']

/-- The three branches' norms. -/
theorem pay3_apply (v33 : FVec Ideal S1024x256 .f32) (x7 : Vec Ideal S1x1024 .f32) (x3 : Vec Ideal S1x1024x512 .f32)
    (x4 : Vec Ideal S1x1024x256 .f32) (r : Fin 1024) (k : Fin 1024) :
    k0_pay3 (F := Ideal) v33 (View.ld x7 r0_4) (View.ld x3 r0_5) (View.ld x4 r0_6) (ix2 r k)
      = heads (fun i => v33 (ix2 r i)) (fun i => x3 (ix3 0 r i)) (fun i => x4 (ix3 0 r i)) (fun i => x7 (ix2 0 i)) k := by
  pointwise [k0_pay3, heads, rms, eps, inv256, inv512, r0_4, r0_5, r0_6]

/-- The residual stream after the mixers. -/
theorem pay4_apply (v79 : FVec Ideal S1024x1024 .f32) (x8 : Vec Ideal S1x1024x1024 .bf16) (x0 : Vec Ideal S1x1024x1024 .f32)
    (x9 : Vec Ideal S1x1024 .f32) (r : Fin 1024) (k : Fin 1024) :
    k0_pay4 (F := Ideal) v79 (View.ld x8 r0_7) (View.ld x0 r0_7) (View.ld x9 r0_4) (ix2 r k)
      = step (fun i => x0 (ix3 0 r i)) (lin (fun i => v79 (ix2 r i)) fun i j => x8 (ix3 0 i j)) (fun i => x9 (ix2 0 i)) k := by
  pointwise [k0_pay4, step, rms, lin, eps, inv1024, r0_4, r0_7]

/-- Its norm, the feed-forward's operand. -/
theorem pay5_apply (v79 : FVec Ideal S1024x1024 .f32) (x8 : Vec Ideal S1x1024x1024 .bf16) (x0 : Vec Ideal S1x1024x1024 .f32)
    (x9 x10 : Vec Ideal S1x1024 .f32) (r : Fin 1024) (k : Fin 1024) :
    k0_pay5 (F := Ideal) v79 (View.ld x8 r0_7) (View.ld x0 r0_7) (View.ld x9 r0_4) (View.ld x10 r0_4) (ix2 r k)
      = rms inv1024 (fun i => k0_pay4 (F := Ideal) v79 (View.ld x8 r0_7) (View.ld x0 r0_7) (View.ld x9 r0_4) (ix2 r i))
          (fun i => x10 (ix2 0 i)) k := by
  pointwise [k0_pay5, rms, eps, inv1024, r0_4]

/-- The block stored: the residual stream plus the norm of the feed-forward, its four quarters of the hidden lanes added up. -/
theorem pay1_apply (v100 : FVec Ideal S1024x1024 .f32) (v115 : FVec Ideal S1024x1024 .bf16) (x11 : Vec Ideal S1x1024x4096 .bf16)
    (x12 : Vec Ideal S1x4096x1024 .bf16) (x13 : Vec Ideal S1x1024 .f32) (r : Fin 1024) (k : Fin 1024) :
    k0_pay1 (F := Ideal) v100 v115
        (k0_pay8 v115 k0_pay6 (k0_pay7 (View.ld x11 r0_8)) (View.ld x12 r0_9) (View.ld x11 r0_10) (View.ld x12 r0_11)
          (View.ld x11 r0_12) (View.ld x12 r0_13))
        (k0_pay9 (View.ld x11 r0_14)) (View.ld x12 r0_15) (View.ld x13 r0_4) (ix3 0 r k)
      = step (fun i => v100 (ix2 r i))
          (mlp (fun i => v115 (ix2 r i)) (fun i j => x11 (ix3 0 i j)) fun i j => x12 (ix3 0 i j)) (fun i => x13 (ix2 0 i)) k := by
  unfold step rms mlp
  simp only [sum_quarters]
  pointwise [k0_pay1, k0_pay6, k0_pay7, k0_pay8, k0_pay9, relu2, lin, eps, inv1024, r0_4, r0_8, r0_9, r0_10, r0_11, r0_12, r0_13,
    r0_14, r0_15]

/-- What one grid point stores, at a row and a lane of the block. -/
theorem out_apply (x0 : Vec Ideal S1x1024x1024 .f32) (x1 : Vec Ideal S128x1024 .f32) (x2 : Vec Ideal S1x2x1024x128 .f32) (x3 : Vec Ideal S1x1024x512 .f32)
    (x4 : Vec Ideal S1x1024x256 .f32) (x5 : Vec Ideal S1x256x256 .bf16) (x6 : Vec Ideal S1x256 .f32) (x7 : Vec Ideal S1x1024 .f32)
    (x8 : Vec Ideal S1x1024x1024 .bf16) (x9 x10 : Vec Ideal S1x1024 .f32) (x11 : Vec Ideal S1x1024x4096 .bf16)
    (x12 : Vec Ideal S1x4096x1024 .bf16) (x13 : Vec Ideal S1x1024 .f32) (r : Fin 1024) (k : Fin 1024) :
    out0_14 (F := Ideal) x0 x1 x2 x3 x4 x5 x6 x7 x8 x9 x10 x11 x12 x13 (ix3 0 r k)
      = RowModel.out (fun i => x0 (ix3 0 r i)) (slabs x2 r) (fun i => x3 (ix3 0 r i)) (fun i => x4 (ix3 0 r i))
          (fun i j => x5 (ix3 0 i j)) (fun j => x6 (ix2 0 j)) (fun i => x7 (ix2 0 i)) (fun i j => x8 (ix3 0 i j))
          (fun i => x9 (ix2 0 i)) (fun i => x10 (ix2 0 i)) (fun i j => x11 (ix3 0 i j)) (fun i j => x12 (ix3 0 i j))
          (fun i => x13 (ix2 0 i)) k := by
  unfold out0_14 RowModel.out
  have hz : (![0, 0, 0] : Fin 3 → Nat) = fun _ => 0 := by funext a; fin_cases a <;> rfl
  rw [View.canon_unit_zero hz, pay1_apply]
  simp only [k0_pay11, k0_pay10, pay5_apply, pay4_apply, pay3_apply, pay2_apply]

end Cert.KernelIdeal.Block
-- ==== Proof.KernelRows.lean ====
/- The kernel's whole result: each block window read off the argument arrays, and the blocks written back put together. -/
module

public import proofs.«01_k».proof.Proof.Gen.KernelIdeal.Value
public import proofs.«01_k».proof.Proof.KernelBlock
public import Idealize.ShloMosaic.Lib.Pointwise
public import Idealize.ShloMosaic.Lib.Pipeline.ValueKit

@[expose] public section

set_option maxRecDepth 16384

noncomputable section

namespace Cert.KernelIdeal.Rows

open Cert.KernelIdeal Cert.KernelIdeal.Gen Cert.KernelIdeal.Block Cert.RowModel Idealize.ShloMosaic Idealize.ShloMosaic.TcCoe
  Idealize.SL.Sem

variable (m : (ℓ : Loc nD τ sig) → Buf (Elt Ideal) ℓ)

/-- The places of the windows that move with the grid: batch `t / 4`, rows from `128 + 1024 (t mod 4)` of the inputs and from
    `1024 (t mod 4)` of the result. -/
theorem idx : ∀ t : Fin grid0.N,
    (win0_0.index t 0 = t.val / 4 ∧ win0_0.index t 1 = 128 + 1024 * (t.val % 4) ∧ win0_0.index t 2 = 0)
    ∧ (win0_2.index t 0 = t.val / 4 ∧ win0_2.index t 1 = 0 ∧ win0_2.index t 2 = 128 + 1024 * (t.val % 4) ∧ win0_2.index t 3 = 0)
    ∧ (win0_3.index t 0 = t.val / 4 ∧ win0_3.index t 1 = 128 + 1024 * (t.val % 4) ∧ win0_3.index t 2 = 0)
    ∧ (win0_4.index t 0 = t.val / 4 ∧ win0_4.index t 1 = 128 + 1024 * (t.val % 4) ∧ win0_4.index t 2 = 0)
    ∧ (win0_5.index t 0 = 1 ∧ win0_5.index t 1 = 0 ∧ win0_5.index t 2 = 0)
    ∧ (win0_8.index t 0 = 1 ∧ win0_8.index t 1 = 0 ∧ win0_8.index t 2 = 0)
    ∧ (win0_11.index t 0 = 1 ∧ win0_11.index t 1 = 0 ∧ win0_11.index t 2 = 0)
    ∧ (win0_12.index t 0 = 1 ∧ win0_12.index t 1 = 0 ∧ win0_12.index t 2 = 0)
    ∧ (win0_6.index t 0 = 0 ∧ win0_6.index t 1 = 0) ∧ (win0_7.index t 0 = 0 ∧ win0_7.index t 1 = 0)
    ∧ (win0_9.index t 0 = 0 ∧ win0_9.index t 1 = 0) ∧ (win0_10.index t 0 = 0 ∧ win0_10.index t 1 = 0)
    ∧ (win0_13.index t 0 = 0 ∧ win0_13.index t 1 = 0)
    ∧ (win0_14.index t 0 = t.val / 4 ∧ win0_14.index t 1 = t.val % 4 ∧ win0_14.index t 2 = 0) := by
  decide +kernel

/-- Where an element of the residual stream's block lies in its array. -/
theorem emb0 (t : Fin grid0.N) (r : Fin 1024) (k : Fin 1024) (b : Fin 4) (i : Fin 4224) (hb : b.val = t.val / 4)
    (hi : i.val = 128 + 1024 * (t.val % 4) + r.val) : (win0_0.blk t).view.emb (ix3 0 r k) = ix3 b i k := by
  funext a
  apply Fin.ext
  refine (win0_0.rect_emb_val_off t (ix3 0 r k) a).trans ?_
  have h := (idx t).1
  match a with
  | ⟨0, _⟩ => exact (congrArg (· + 0) h.1).trans (by simpa using hb.symm)
  | ⟨1, _⟩ => exact (congrArg (· + r.val) h.2.1).trans (by simpa using hi.symm)
  | ⟨2, _⟩ => exact (congrArg (· + k.val) h.2.2).trans (by simp [ix3])

/-- The residual stream's block: batch `b`, row `i`. -/
theorem blk0 (c : Dev nD) (t : Fin grid0.N) (r : Fin 1024) (k : Fin 1024) (b : Fin 4) (i : Fin 4224) (hb : b.val = t.val / 4)
    (hi : i.val = 128 + 1024 * (t.val % 4) + r.val) :
    iblk m c 0 t (ix3 0 r k) = m ((c : Thread nD τ).loc main_arg0) (ix3 b i k) := by
  rw [← V_main_arg0 m c, ← emb0 t r k b i hb hi]
  rfl

/-- Where an element of the state-space slabs' block lies in their array. -/
theorem emb2 (t : Fin grid0.N) (s : Fin 2) (r : Fin 1024) (k : Fin 128) (b : Fin 4) (i : Fin 4224) (hb : b.val = t.val / 4)
    (hi : i.val = 128 + 1024 * (t.val % 4) + r.val) : (win0_2.blk t).view.emb (ix4 0 s r k) = ix4 b s i k := by
  funext a
  apply Fin.ext
  refine (win0_2.rect_emb_val_off t (ix4 0 s r k) a).trans ?_
  have h := (idx t).2.1
  match a with
  | ⟨0, _⟩ => exact (congrArg (· + 0) h.1).trans (by simpa using hb.symm)
  | ⟨1, _⟩ => exact (congrArg (· + s.val) h.2.1).trans (by simp [ix4])
  | ⟨2, _⟩ => exact (congrArg (· + r.val) h.2.2.1).trans (by simpa using hi.symm)
  | ⟨3, _⟩ => exact (congrArg (· + k.val) h.2.2.2).trans (by simp [ix4])

/-- The slabs' block, slab by slab: lane `128 s + k` of the branch's row. -/
theorem blk2' (c : Dev nD) (t : Fin grid0.N) (s : Fin 2) (r : Fin 1024) (k : Fin 128) (b : Fin 4) (i : Fin 4224) (hb : b.val = t.val / 4)
    (hi : i.val = 128 + 1024 * (t.val % 4) + r.val) :
    iblk m c 2 t (ix4 0 s r k) = m ((c : Thread nD τ).loc main_arg2) (ix3 b i ⟨128 * s.val + k.val, by omega⟩) := by
  have h : iblk m c 2 t (ix4 0 s r k) = V m c main_v7 (ix4 b s i k) := by
    rw [← emb2 t s r k b i hb hi]; rfl
  rw [h]
  entry_read
  pointwise
  blk_ext

/-- The two slabs of the block are the branch's row of 256 lanes. -/
theorem blk2 (c : Dev nD) (t : Fin grid0.N) (r : Fin 1024) (b : Fin 4) (i : Fin 4224) (hb : b.val = t.val / 4)
    (hi : i.val = 128 + 1024 * (t.val % 4) + r.val) :
    slabs (iblk m c 2 t) r = fun k => m ((c : Thread nD τ).loc main_arg2) (ix3 b i k) := by
  funext k
  unfold slabs
  split
  · rename_i h
    rw [blk2' m c t 0 r ⟨k.val, h⟩ b i hb hi]
    congr 2; apply Fin.ext; simp
  · rename_i h
    rw [blk2' m c t 1 r ⟨k.val - 128, by omega⟩ b i hb hi]
    congr 2; apply Fin.ext; simp; omega

/-- Where an element of the windowed-attention branch's block lies in its array. -/
theorem emb3 (t : Fin grid0.N) (r : Fin 1024) (k : Fin 512) (b : Fin 4) (i : Fin 4224) (hb : b.val = t.val / 4)
    (hi : i.val = 128 + 1024 * (t.val % 4) + r.val) : (win0_3.blk t).view.emb (ix3 0 r k) = ix3 b i k := by
  funext a
  apply Fin.ext
  refine (win0_3.rect_emb_val_off t (ix3 0 r k) a).trans ?_
  have h := (idx t).2.2.1
  match a with
  | ⟨0, _⟩ => exact (congrArg (· + 0) h.1).trans (by simpa using hb.symm)
  | ⟨1, _⟩ => exact (congrArg (· + r.val) h.2.1).trans (by simpa using hi.symm)
  | ⟨2, _⟩ => exact (congrArg (· + k.val) h.2.2).trans (by simp [ix3])

/-- The windowed-attention branch's block: batch `b`, row `i`. -/
theorem blk3 (c : Dev nD) (t : Fin grid0.N) (r : Fin 1024) (k : Fin 512) (b : Fin 4) (i : Fin 4224) (hb : b.val = t.val / 4)
    (hi : i.val = 128 + 1024 * (t.val % 4) + r.val) :
    iblk m c 3 t (ix3 0 r k) = m ((c : Thread nD τ).loc main_arg3) (ix3 b i k) := by
  rw [← V_main_arg3 m c, ← emb3 t r k b i hb hi]
  rfl

/-- Where an element of the latent-attention branch's block lies in its array. -/
theorem emb4 (t : Fin grid0.N) (r : Fin 1024) (k : Fin 256) (b : Fin 4) (i : Fin 4224) (hb : b.val = t.val / 4)
    (hi : i.val = 128 + 1024 * (t.val % 4) + r.val) : (win0_4.blk t).view.emb (ix3 0 r k) = ix3 b i k := by
  funext a
  apply Fin.ext
  refine (win0_4.rect_emb_val_off t (ix3 0 r k) a).trans ?_
  have h := (idx t).2.2.2.1
  match a with
  | ⟨0, _⟩ => exact (congrArg (· + 0) h.1).trans (by simpa using hb.symm)
  | ⟨1, _⟩ => exact (congrArg (· + r.val) h.2.1).trans (by simpa using hi.symm)
  | ⟨2, _⟩ => exact (congrArg (· + k.val) h.2.2).trans (by simp [ix3])

/-- The latent-attention branch's block: batch `b`, row `i`. -/
theorem blk4 (c : Dev nD) (t : Fin grid0.N) (r : Fin 1024) (k : Fin 256) (b : Fin 4) (i : Fin 4224) (hb : b.val = t.val / 4)
    (hi : i.val = 128 + 1024 * (t.val % 4) + r.val) :
    iblk m c 4 t (ix3 0 r k) = m ((c : Thread nD τ).loc main_arg4) (ix3 b i k) := by
  rw [← V_main_arg4 m c, ← emb4 t r k b i hb hi]
  rfl

/-- Argument 6's row of the second layer. -/
theorem blk6 (c : Dev nD) (t : Fin grid0.N) (k : Fin 256) :
    iblk m c 6 t (ix2 0 k) = m ((c : Thread nD τ).loc main_arg6) (ix2 1 k) := by
  have h : iblk m c 6 t (ix2 0 k) = V m c main_v10 (ix2 0 k) := by
    blk_ext [iblk, idx t]
  rw [h]
  entry_read
  pointwise

/-- Argument 7's row of the second layer. -/
theorem blk7 (c : Dev nD) (t : Fin grid0.N) (k : Fin 1024) :
    iblk m c 7 t (ix2 0 k) = m ((c : Thread nD τ).loc main_arg7) (ix2 1 k) := by
  have h : iblk m c 7 t (ix2 0 k) = V m c main_v13 (ix2 0 k) := by
    blk_ext [iblk, idx t]
  rw [h]
  entry_read
  pointwise

/-- Argument 9's row of the second layer. -/
theorem blk9 (c : Dev nD) (t : Fin grid0.N) (k : Fin 1024) :
    iblk m c 9 t (ix2 0 k) = m ((c : Thread nD τ).loc main_arg9) (ix2 1 k) := by
  have h : iblk m c 9 t (ix2 0 k) = V m c main_v16 (ix2 0 k) := by
    blk_ext [iblk, idx t]
  rw [h]
  entry_read
  pointwise

/-- Argument 10's row of the second layer. -/
theorem blk10 (c : Dev nD) (t : Fin grid0.N) (k : Fin 1024) :
    iblk m c 10 t (ix2 0 k) = m ((c : Thread nD τ).loc main_arg10) (ix2 1 k) := by
  have h : iblk m c 10 t (ix2 0 k) = V m c main_v19 (ix2 0 k) := by
    blk_ext [iblk, idx t]
  rw [h]
  entry_read
  pointwise

/-- Argument 13's row of the second layer. -/
theorem blk13 (c : Dev nD) (t : Fin grid0.N) (k : Fin 1024) :
    iblk m c 13 t (ix2 0 k) = m ((c : Thread nD τ).loc main_arg13) (ix2 1 k) := by
  have h : iblk m c 13 t (ix2 0 k) = V m c main_v22 (ix2 0 k) := by
    blk_ext [iblk, idx t]
  rw [h]
  entry_read
  pointwise

/-- Argument 5's matrix of the second layer. -/
theorem blk5 (c : Dev nD) (t : Fin grid0.N) (r : Fin 256) (k : Fin 256) :
    iblk m c 5 t (ix3 0 r k) = m ((c : Thread nD τ).loc main_arg5) (ix3 1 r k) := by
  blk_ext [iblk, V, idx t]

/-- Argument 8's matrix of the second layer. -/
theorem blk8 (c : Dev nD) (t : Fin grid0.N) (r : Fin 1024) (k : Fin 1024) :
    iblk m c 8 t (ix3 0 r k) = m ((c : Thread nD τ).loc main_arg8) (ix3 1 r k) := by
  blk_ext [iblk, V, idx t]

/-- Argument 11's matrix of the second layer. -/
theorem blk11 (c : Dev nD) (t : Fin grid0.N) (r : Fin 1024) (k : Fin 4096) :
    iblk m c 11 t (ix3 0 r k) = m ((c : Thread nD τ).loc main_arg11) (ix3 1 r k) := by
  blk_ext [iblk, V, idx t]

/-- Argument 12's matrix of the second layer. -/
theorem blk12 (c : Dev nD) (t : Fin grid0.N) (r : Fin 4096) (k : Fin 1024) :
    iblk m c 12 t (ix3 0 r k) = m ((c : Thread nD τ).loc main_arg12) (ix3 1 r k) := by
  blk_ext [iblk, V, idx t]

/-- The result, as a function of the arguments: each row of it from the same row of the inputs, 128 further down. -/
def result (c : Dev nD) (b : Fin 4) (i : Fin 4096) (k : Fin 1024) : EReal :=
  RowModel.out (fun j => m ((c : Thread nD τ).loc main_arg0) (ix3 b ⟨128 + i.val, by omega⟩ j))
    (fun j => m ((c : Thread nD τ).loc main_arg2) (ix3 b ⟨128 + i.val, by omega⟩ j))
    (fun j => m ((c : Thread nD τ).loc main_arg3) (ix3 b ⟨128 + i.val, by omega⟩ j))
    (fun j => m ((c : Thread nD τ).loc main_arg4) (ix3 b ⟨128 + i.val, by omega⟩ j))
    (fun j q => m ((c : Thread nD τ).loc main_arg5) (ix3 1 j q)) (fun q => m ((c : Thread nD τ).loc main_arg6) (ix2 1 q))
    (fun j => m ((c : Thread nD τ).loc main_arg7) (ix2 1 j)) (fun j q => m ((c : Thread nD τ).loc main_arg8) (ix3 1 j q))
    (fun j => m ((c : Thread nD τ).loc main_arg9) (ix2 1 j)) (fun j => m ((c : Thread nD τ).loc main_arg10) (ix2 1 j))
    (fun j q => m ((c : Thread nD τ).loc main_arg11) (ix3 1 j q)) (fun j q => m ((c : Thread nD τ).loc main_arg12) (ix3 1 j q))
    (fun j => m ((c : Thread nD τ).loc main_arg13) (ix2 1 j)) k

/-- What grid point `t` stores at row `r` and lane `k` of its block is the result's row `1024 (t mod 4) + r` of batch `t / 4`. -/
theorem block (c : Dev nD) (t : Fin grid0.N) (r k : Fin 1024) (b : Fin 4) (i : Fin 4096) (hb : b.val = t.val / 4)
    (hi : i.val = 1024 * (t.val % 4) + r.val) :
    out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix3 0 r k)
      = result m c b i k := by
  have hi' : (⟨128 + i.val, by omega⟩ : Fin 4224).val = 128 + 1024 * (t.val % 4) + r.val := by simp [hi]; omega
  rw [out_apply, blk2 m c t r b _ hb hi']
  simp only [blk0 m c t r _ b _ hb hi', blk3 m c t r _ b _ hb hi', blk4 m c t r _ b _ hb hi', blk5, blk6, blk7, blk8, blk9, blk10,
    blk11, blk12, blk13]
  rfl

/-- Where an element of the output's block lies in the result array. -/
theorem emb14 (t : Fin grid0.N) (r : Fin 1024) (k : Fin 1024) (b : Fin 4) (i : Fin 4096) (hb : b.val = t.val / 4)
    (hi : i.val = 1024 * (t.val % 4) + r.val) : (win0_14.blk t).view.emb (ix3 0 r k) = ix3 b i k := by
  funext a
  apply Fin.ext
  refine (win0_14.rect_emb_val t (ix3 0 r k) a).trans ?_
  have h := (idx t).2.2.2.2.2.2.2.2.2.2.2.2.2
  match a with
  | ⟨0, _⟩ => exact (congrArg (· * 1 + 0) h.1).trans (by simpa using hb.symm)
  | ⟨1, _⟩ => exact (congrArg (· * 1024 + r.val) h.2.1).trans (by simp [ix3]; omega)
  | ⟨2, _⟩ => exact (congrArg (· * 1024 + k.val) h.2.2).trans (by simp [ix3])

/-- THE RESULT ARRAY after the run. -/
theorem final (c : Dev nD) :
    (dats m 0 c).arrAt 14 cfg0.N = fun y : S4x4096x1024.Idx => result m c (y 0) (y 1) (y 2) := by
  refine (dats m 0 c).arrAt_eq_of_covers 14 _ (by decide +kernel) fun t hf y => ?_
  blk_simp
  rw [after0_14]
  obtain ⟨r, k, rfl⟩ : ∃ (r : Fin 1024) (k : Fin 1024), (y : S1x1024x1024.Idx) = ix3 0 r k :=
    ⟨y 1, y 2, by funext a; match a with | ⟨0, _⟩ => exact Subsingleton.elim (α := Fin 1) _ _ | ⟨1, _⟩ => rfl | ⟨2, _⟩ => rfl⟩
  have ht := t.isLt
  have hN : cfg0.grid.N = 16 := rfl
  rw [emb14 t r k ⟨t.val / 4, by omega⟩ ⟨1024 * (t.val % 4) + r.val, by omega⟩ rfl rfl]
  exact block m c t r k _ _ rfl rfl

end Cert.KernelIdeal.Rows
-- ==== Proof.RefRows.lean ====
/- The reference's result at an index, as the row functions of the argument rows: its operations are read one norm or one
   product at a time. -/
module

public import proofs.«01_k».proof.Proof.Gen.ReferenceIdeal.Read
public import proofs.«01_k».proof.Proof.RowModel
public import Idealize.ShloMosaic.Lib.Pointwise

@[expose] public section

set_option maxRecDepth 16384

noncomputable section

namespace Cert.ReferenceIdeal.Rows

open Cert.ReferenceIdeal Cert.ReferenceIdeal.Gen Cert.ReferenceIdeal.Read Cert.RowModel Idealize.ShloMosaic

variable (x0 : (⟨S4x4224x1024, .f32⟩ : BufTy).Contents (Elt Ideal))
variable (x2 : (⟨S4x4224x256, .f32⟩ : BufTy).Contents (Elt Ideal))
variable (x3 : (⟨S4x4224x512, .f32⟩ : BufTy).Contents (Elt Ideal))
variable (x4 : (⟨S4x4224x256, .f32⟩ : BufTy).Contents (Elt Ideal))
variable (x5 : (⟨S2x256x256, .f32⟩ : BufTy).Contents (Elt Ideal))
variable (x6 : (⟨S2x256, .f32⟩ : BufTy).Contents (Elt Ideal))
variable (x7 : (⟨S2x1024, .f32⟩ : BufTy).Contents (Elt Ideal))
variable (x8 : (⟨S2x1024x1024, .f32⟩ : BufTy).Contents (Elt Ideal))
variable (x9 : (⟨S2x1024, .f32⟩ : BufTy).Contents (Elt Ideal))
variable (x10 : (⟨S2x1024, .f32⟩ : BufTy).Contents (Elt Ideal))
variable (x11 : (⟨S2x1024x4096, .f32⟩ : BufTy).Contents (Elt Ideal))
variable (x12 : (⟨S2x4096x1024, .f32⟩ : BufTy).Contents (Elt Ideal))
variable (x13 : (⟨S2x1024, .f32⟩ : BufTy).Contents (Elt Ideal))

/-- GELU of the state-space branch. -/
theorem gelu_apply (b : Fin 4) (i : Fin 4224) (k : Fin 256) : val_main_v12 (F := Ideal) x2 (ix3 b i k) = gelu (x2 (ix3 b i k)) := by
  rw [← gelu_comm]
  pointwise [val_main_v12, val_main_v11, val_main_v10, val_main_v9, val_main_v8, val_main_v7, val_main_v6, val_main_v5, val_main_v4, val_main_v3, val_main_v2, val_main_v1, val_main_v0, val_main_cst_0, val_main_cst_1, val_main_cst_2, val_main_cst]

/-- The gated branch. -/
theorem gate_apply (b : Fin 4) (i : Fin 4224) (k : Fin 256) :
    val_main_v27 (F := Ideal) x2 x5 x6 (ix3 b i k)
      = gate (fun j => x2 (ix3 b i j)) (fun j q => x5 (ix3 1 j q)) (fun q => x6 (ix2 1 q)) k := by
  pointwise [val_main_v27, val_main_v26, val_main_v25, val_main_v24, val_main_v23, val_main_v22, val_main_v21, val_main_v20, val_main_v19, val_main_v18, val_main_v17, val_main_v16, val_main_v15, val_main_v14, val_main_v13, val_main_cst_3, val_main_cst_4, gate, gelu_apply]

/-- The norm of the gated branch. -/
theorem norm_ssm_apply (b : Fin 4) (i : Fin 4224) (k : Fin 256) :
    val_main_v43 (F := Ideal) x2 x5 x6 x7 (ix3 b i k)
      = rms inv256 (fun j => val_main_v27 (F := Ideal) x2 x5 x6 (ix3 b i j)) (fun j => x7 (ix2 1 ⟨j.val, by omega⟩)) k := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_cst_5, val_main_cst_6, val_main_cst_7, rms, eps, div_256]

/-- The norm of the windowed-attention branch. -/
theorem norm_swa_apply (b : Fin 4) (i : Fin 4224) (k : Fin 512) :
    val_main_v57 (F := Ideal) x3 x7 (ix3 b i k)
      = rms inv512 (fun j => x3 (ix3 b i j)) (fun j => x7 (ix2 1 ⟨256 + j.val, by omega⟩)) k := by
  pointwise [val_main_v57, val_main_v56, val_main_v55, val_main_v54, val_main_v53, val_main_v52, val_main_v51, val_main_v50, val_main_v49, val_main_v48, val_main_v47, val_main_v46, val_main_v45, val_main_v44, val_main_cst_8, val_main_cst_9, val_main_cst_10, val_main_v29, val_main_v28, rms, eps, div_512]

/-- The norm of the latent-attention branch. -/
theorem norm_mla_apply (b : Fin 4) (i : Fin 4224) (k : Fin 256) :
    val_main_v71 (F := Ideal) x4 x7 (ix3 b i k)
      = rms inv256 (fun j => x4 (ix3 b i j)) (fun j => x7 (ix2 1 ⟨768 + j.val, by omega⟩)) k := by
  pointwise [val_main_v71, val_main_v70, val_main_v69, val_main_v68, val_main_v67, val_main_v66, val_main_v65, val_main_v64, val_main_v63, val_main_v62, val_main_v61, val_main_v60, val_main_v59, val_main_v58, val_main_cst_11, val_main_cst_12, val_main_cst_13, val_main_v29, val_main_v28, rms, eps, div_256]

/-- The three norms side by side. -/
theorem heads_apply (b : Fin 4) (i : Fin 4224) (k : Fin 1024) :
    val_main_v72 (F := Ideal) x2 x3 x4 x5 x6 x7 (ix3 b i k)
      = heads (fun j => val_main_v27 (F := Ideal) x2 x5 x6 (ix3 b i j)) (fun j => x3 (ix3 b i j)) (fun j => x4 (ix3 b i j))
          (fun j => x7 (ix2 1 j)) k := by
  pointwise [val_main_v72, heads, norm_ssm_apply, norm_swa_apply, norm_mla_apply]

/-- The output projection. -/
theorem proj_apply (b : Fin 4) (i : Fin 4224) (k : Fin 1024) :
    val_main_v75 (F := Ideal) x2 x3 x4 x5 x6 x7 x8 (ix3 b i k)
      = lin (fun j => val_main_v72 (F := Ideal) x2 x3 x4 x5 x6 x7 (ix3 b i j)) (fun j q => x8 (ix3 1 j q)) k := by
  pointwise [val_main_v75, val_main_v74, val_main_v73, lin]

/-- The first residual step. -/
theorem step_apply (b : Fin 4) (i : Fin 4224) (k : Fin 1024) :
    val_main_v91 (F := Ideal) x0 x2 x3 x4 x5 x6 x7 x8 x9 (ix3 b i k)
      = step (fun j => x0 (ix3 b i j)) (fun j => val_main_v75 (F := Ideal) x2 x3 x4 x5 x6 x7 x8 (ix3 b i j)) (fun j => x9 (ix2 1 j)) k := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_cst_14, val_main_cst_15, val_main_cst_16, step, rms, eps, div_1024]

/-- The feed-forward's operand. -/
theorem pre_apply (b : Fin 4) (i : Fin 4224) (k : Fin 1024) :
    val_main_v106 (F := Ideal) x0 x2 x3 x4 x5 x6 x7 x8 x9 x10 (ix3 b i k)
      = rms inv1024 (fun j => val_main_v91 (F := Ideal) x0 x2 x3 x4 x5 x6 x7 x8 x9 (ix3 b i j)) (fun j => x10 (ix2 1 j)) k := by
  pointwise [val_main_v106, val_main_v105, val_main_v104, val_main_v103, val_main_v102, val_main_v101, val_main_v100, val_main_v99, val_main_v98, val_main_v97, val_main_v96, val_main_v95, val_main_v94, val_main_v93, val_main_v92, val_main_cst_17, val_main_cst_18, val_main_cst_19, rms, eps, div_1024]

/-- The feed-forward. -/
theorem mlp_apply (b : Fin 4) (i : Fin 4224) (k : Fin 1024) :
    val_main_v114 (F := Ideal) x0 x2 x3 x4 x5 x6 x7 x8 x9 x10 x11 x12 (ix3 b i k)
      = mlp (fun j => val_main_v106 (F := Ideal) x0 x2 x3 x4 x5 x6 x7 x8 x9 x10 (ix3 b i j)) (fun j q => x11 (ix3 1 j q))
          (fun j q => x12 (ix3 1 j q)) k := by
  pointwise [val_main_v114, val_main_v113, val_main_v112, val_main_v111, val_main_v110, val_main_v109, val_main_v108, val_main_v107, mlp, lin, relu2, val_main_call0_v0, val_main_call0_cst]

/-- The second residual step. -/
theorem last_apply (b : Fin 4) (i : Fin 4224) (k : Fin 1024) :
    val_main_v130 (F := Ideal) x0 x2 x3 x4 x5 x6 x7 x8 x9 x10 x11 x12 x13 (ix3 b i k)
      = step (fun j => val_main_v91 (F := Ideal) x0 x2 x3 x4 x5 x6 x7 x8 x9 (ix3 b i j))
          (fun j => val_main_v114 (F := Ideal) x0 x2 x3 x4 x5 x6 x7 x8 x9 x10 x11 x12 (ix3 b i j)) (fun j => x13 (ix2 1 j)) k := by
  pointwise [val_main_v130, val_main_v129, val_main_v128, val_main_v127, val_main_v126, val_main_v125, val_main_v124, val_main_v123, val_main_v122, val_main_v121, val_main_v120, val_main_v119, val_main_v118, val_main_v117, val_main_v116, val_main_v115, val_main_cst_20, val_main_cst_21, val_main_cst_22, step, rms, eps, div_1024]

/-- THE RESULT of the reference at batch `b`, row `i` after the 128 leading ones, lane `k`. -/
theorem out_apply (b : Fin 4) (i : Fin 4096) (k : Fin 1024) :
    val_main_v131 (F := Ideal) x0 x2 x3 x4 x5 x6 x7 x8 x9 x10 x11 x12 x13 (ix3 b i k)
      = RowModel.out (fun j => x0 (ix3 b ⟨128 + i.val, by omega⟩ j)) (fun j => x2 (ix3 b ⟨128 + i.val, by omega⟩ j))
          (fun j => x3 (ix3 b ⟨128 + i.val, by omega⟩ j)) (fun j => x4 (ix3 b ⟨128 + i.val, by omega⟩ j))
          (fun j q => x5 (ix3 1 j q)) (fun q => x6 (ix2 1 q)) (fun j => x7 (ix2 1 j)) (fun j q => x8 (ix3 1 j q))
          (fun j => x9 (ix2 1 j)) (fun j => x10 (ix2 1 j)) (fun j q => x11 (ix3 1 j q)) (fun j q => x12 (ix3 1 j q))
          (fun j => x13 (ix2 1 j)) k := by
  unfold RowModel.out
  pointwise [val_main_v131]
  simp only [last_apply, mlp_apply, pre_apply, step_apply, proj_apply, heads_apply, gate_apply]

end Cert.ReferenceIdeal.Rows
-- ==== Proof.Kernel2Block.lean ====
/- The first layer's output kernel: its block of the result, read at a row and a lane, as the row functions of the blocks it
   loads. -/
module

public import proofs.«01_k».proof.Proof.Gen.Kernel2Ideal.Frame
public import proofs.«01_k».proof.Proof.RowModel
public import Idealize.ShloMosaic.Lib.Pointwise
public import Idealize.ShloMosaic.Lib.Pipeline.ValueKit

@[expose] public section

set_option maxRecDepth 16384

noncomputable section

namespace Cert.Kernel2Ideal.Block

open Cert.Kernel2Ideal Cert.Kernel2Ideal.Gen Cert.RowModel Idealize.ShloMosaic

/-- A row of 256 lanes held as two slabs of 128. -/
def slabs (a b : Vec Ideal S1x1x1056x128 .f32) (r : Fin 1056) (k : Fin 256) : EReal :=
  if h : k.val < 128 then a (ix4 0 0 r ⟨k.val, h⟩) else b (ix4 0 0 r ⟨k.val - 128, by omega⟩)

/-- A row of the residual stream as the body puts it together: its first 128 rows from the head or from the block by the tile's
    number, the others from the block. -/
def rows (n : BitVec 32) (hd : Vec Ideal S128x1024 .f32) (a : Vec Ideal S1x128x1024 .f32) (b : Vec Ideal S1x928x1024 .f32)
    (r : Fin 1056) (k : Fin 1024) : EReal :=
  if h : r.val < 128 then (if n = 0#32 then hd (ix2 ⟨r.val, h⟩ k) else a (ix3 0 ⟨r.val, h⟩ k))
  else b (ix3 0 ⟨r.val - 128, by omega⟩ k)

/-- The gated GELU of the two slabs. -/
theorem pay2_apply (a b : Vec Ideal S1x1x1056x128 .f32) (w : Vec Ideal S1x256x256 .bf16) (v : Vec Ideal S1x256 .f32)
    (r : Fin 1056) (k : Fin 256) :
    k0_pay2 (F := Ideal) a b w v (ix2 r k)
      = gate (slabs a b r) (fun i j => w (ix3 0 i j)) (fun j => v (ix2 0 j)) k := by
  unfold gate
  rw [Fin.sum_univ_two_halves 128 128 rfl]
  pointwise [k0_pay2, slabs, gelu, zero_sub']

/-- The three branches' norms. -/
theorem pay3_apply (v33 : FVec Ideal S1056x256 .f32) (x7 : Vec Ideal S1x1024 .f32) (x3 : Vec Ideal S1x1056x512 .f32)
    (x4 : Vec Ideal S1x1056x256 .f32) (r : Fin 1056) (k : Fin 1024) :
    k0_pay3 (F := Ideal) v33 x7 x3 x4 (ix2 r k)
      = heads (fun i => v33 (ix2 r i)) (fun i => x3 (ix3 0 r i)) (fun i => x4 (ix3 0 r i)) (fun i => x7 (ix2 0 i)) k := by
  pointwise [k0_pay3, heads, rms, eps, inv256, inv512]

/-- A choice by an equality of words. -/
theorem select_eq {α : Type} (n k : BitVec 32) (a b : α) : Scalar.select (Scalar.cmpi .eq n k) a b = if n = k then a else b := by
  by_cases h : n = k
  · simp [Scalar.select, Scalar.cmpi, IntOp.cmpi, h]
  · have e : (n == k) = false := by simpa using h
    simp [Scalar.select, Scalar.cmpi, IntOp.cmpi, h, e]

/-- The residual stream after the mixers. -/
theorem pay4_apply (n : BitVec 32) (v79 : FVec Ideal S1056x1024 .f32) (x8 : Vec Ideal S1x1024x1024 .bf16)
    (hd : Vec Ideal S128x1024 .f32) (a : Vec Ideal S1x128x1024 .f32) (b : Vec Ideal S1x928x1024 .f32)
    (x9 : Vec Ideal S1x1024 .f32) (r : Fin 1056) (k : Fin 1024) :
    k0_pay4 (F := Ideal) n v79 x8 hd a b x9 (ix2 r k)
      = step (rows n hd a b r) (lin (fun i => v79 (ix2 r i)) fun i j => x8 (ix3 0 i j)) (fun i => x9 (ix2 0 i)) k := by
  pointwise [k0_pay4, step, rows, rms, lin, eps, inv1024]
  simp only [select_eq]

/-- Its norm, the feed-forward's operand. -/
theorem pay6_apply (v113 : FVec Ideal S1056x1024 .f32) (x10 : Vec Ideal S1x1024 .f32) (r : Fin 1056) (k : Fin 1024) :
    k0_pay6 (F := Ideal) v113 (k0_pay5 x10) (ix2 r k)
      = rms inv1024 (fun i => v113 (ix2 r i)) (fun i => x10 (ix2 0 i)) k := by
  pointwise [k0_pay5, k0_pay6, rms, eps, inv1024]

/-- Half of the feed-forward: its first two quarters of the hidden lanes added up. -/
theorem pay7_apply (v113 : FVec Ideal S1056x1024 .f32) (v115 : FVec Ideal S1x1024 .f32) (u0 d0 u1 d1 : Vec Ideal S1x1024x1024 .bf16)
    (r : Fin 1056) (k : Fin 1024) :
    k0_pay7 (F := Ideal) v113 v115 u0 d0 u1 d1 (ix2 r k)
      = (∑ q, relu2 (lin (fun i => k0_pay6 (F := Ideal) v113 v115 (ix2 r i)) (fun i j => u0 (ix3 0 i j)) q) * d0 (ix3 0 q k))
        + ∑ q, relu2 (lin (fun i => k0_pay6 (F := Ideal) v113 v115 (ix2 r i)) (fun i j => u1 (ix3 0 i j)) q) * d1 (ix3 0 q k) := by
  pointwise [k0_pay7, relu2, lin]

/-- The block stored, before its leading axis is put back: the residual stream plus the norm of the feed-forward. -/
theorem pay8_apply (v113 : FVec Ideal S1056x1024 .f32) (v128 : FVec Ideal S1056x1024 .bf16) (v151 : FVec Ideal S1056x1024 .f32)
    (u2 d2 u3 d3 : Vec Ideal S1x1024x1024 .bf16) (x13 : Vec Ideal S1x1024 .f32) (r : Fin 1056) (k : Fin 1024) :
    k0_pay1 (F := Ideal) (k0_pay8 v113 v128 v151 u2 d2 u3 d3 x13) (ix3 0 r k)
      = step (fun i => v113 (ix2 r i))
          (fun i => v151 (ix2 r i) + (∑ q, relu2 (lin (fun i => v128 (ix2 r i)) (fun i j => u2 (ix3 0 i j)) q) * d2 (ix3 0 q i))
            + ∑ q, relu2 (lin (fun i => v128 (ix2 r i)) (fun i j => u3 (ix3 0 i j)) q) * d3 (ix3 0 q i))
          (fun i => x13 (ix2 0 i)) k := by
  pointwise [k0_pay1, k0_pay8, step, relu2, lin, rms, eps, inv1024]

/-- What one grid point stores, at a row and a lane of the block. -/
theorem out_apply (n : BitVec 32) (a b : Vec Ideal S1x1x1056x128 .f32) (x5 : Vec Ideal S1x256x256 .bf16) (x6 : Vec Ideal S1x256 .f32)
    (x7 : Vec Ideal S1x1024 .f32) (x3 : Vec Ideal S1x1056x512 .f32) (x4 : Vec Ideal S1x1056x256 .f32)
    (x8 : Vec Ideal S1x1024x1024 .bf16) (hd : Vec Ideal S128x1024 .f32) (p : Vec Ideal S1x128x1024 .f32)
    (q : Vec Ideal S1x928x1024 .f32) (x9 x10 : Vec Ideal S1x1024 .f32) (x11 : Vec Ideal S1x1024x4096 .bf16)
    (x12 : Vec Ideal S1x4096x1024 .bf16) (x13 : Vec Ideal S1x1024 .f32) (r : Fin 1056) (k : Fin 1024)
    (h : FVec Ideal S1056x1024 .f32) (hh : h = k0_pay4 n (k0_pay3 (k0_pay2 a b x5 x6) x7 x3 x4) x8 hd p q x9) :
    k0_pay1 (F := Ideal) (k0_pay8 h (k0_pay6 h (k0_pay5 x10))
        (k0_pay7 h (k0_pay5 x10)
          (View.ld x11 (Rect.unit ![0, 0, 0] ![1, 1024, 1024] inb_S1x1024x4096_S1x1024x1024_0_0_0))
          (View.ld x12 (Rect.unit ![0, 0, 0] ![1, 1024, 1024] inb_S1x4096x1024_S1x1024x1024_0_0_0))
          (View.ld x11 (Rect.unit ![0, 0, 1024] ![1, 1024, 1024] inb_S1x1024x4096_S1x1024x1024_0_0_1024))
          (View.ld x12 (Rect.unit ![0, 1024, 0] ![1, 1024, 1024] inb_S1x4096x1024_S1x1024x1024_0_1024_0)))
        (View.ld x11 (Rect.unit ![0, 0, 2048] ![1, 1024, 1024] inb_S1x1024x4096_S1x1024x1024_0_0_2048))
        (View.ld x12 (Rect.unit ![0, 2048, 0] ![1, 1024, 1024] inb_S1x4096x1024_S1x1024x1024_0_2048_0))
        (View.ld x11 (Rect.unit ![0, 0, 3072] ![1, 1024, 1024] inb_S1x1024x4096_S1x1024x1024_0_0_3072))
        (View.ld x12 (Rect.unit ![0, 3072, 0] ![1, 1024, 1024] inb_S1x4096x1024_S1x1024x1024_0_3072_0)) x13) (ix3 0 r k)
      = RowModel.out (rows n hd p q r) (slabs a b r) (fun i => x3 (ix3 0 r i)) (fun i => x4 (ix3 0 r i))
          (fun i j => x5 (ix3 0 i j)) (fun j => x6 (ix2 0 j)) (fun i => x7 (ix2 0 i)) (fun i j => x8 (ix3 0 i j))
          (fun i => x9 (ix2 0 i)) (fun i => x10 (ix2 0 i)) (fun i j => x11 (ix3 0 i j)) (fun i j => x12 (ix3 0 i j))
          (fun i => x13 (ix2 0 i)) k := by
  have e : ∀ i, h (ix2 r i) = step (rows n hd p q r) (lin (heads (gate (slabs a b r) (fun i j => x5 (ix3 0 i j)) fun j => x6 (ix2 0 j))
      (fun i => x3 (ix3 0 r i)) (fun i => x4 (ix3 0 r i)) fun i => x7 (ix2 0 i)) fun i j => x8 (ix3 0 i j)) (fun i => x9 (ix2 0 i)) i := by
    intro i
    simp only [hh, pay4_apply, pay3_apply, pay2_apply]
  rw [pay8_apply, RowModel.out]
  simp only [pay7_apply, pay6_apply, e]
  unfold mlp
  simp only [sum_quarters, lin]
  pointwise []

end Cert.Kernel2Ideal.Block
-- ==== Proof.Kernel2Rows.lean ====
/- The first layer's output kernel, its whole result: each block window read off the argument arrays, and the blocks written back put together. -/
module

public import proofs.«01_k».proof.Proof.Gen.Kernel2Ideal.Value
public import proofs.«01_k».proof.Proof.Kernel2Block
public import Idealize.ShloMosaic.Lib.Pointwise
public import Idealize.ShloMosaic.Lib.Pipeline.ValueKit

@[expose] public section

set_option maxRecDepth 16384

noncomputable section

namespace Cert.Kernel2Ideal.Rows

open Cert.Kernel2Ideal Cert.Kernel2Ideal.Gen Cert.Kernel2Ideal.Block Cert.RowModel Idealize.ShloMosaic Idealize.ShloMosaic.TcCoe
  Idealize.SL.Sem

variable (m : (ℓ : Loc nD τ sig) → Buf (Elt Ideal) ℓ)

/-- The places of the windows: batch `t / 4` and tile `t mod 4` of the mixers' outputs and of the result; the tokens' window
    starts 128 rows before its tile, or at the first row. -/
theorem idx : ∀ t : Fin grid0.N,
    (win0_0.index t 0 = t.val / 4 ∧ win0_0.index t 1 = 1056 * (t.val % 4) - 128 ∧ win0_0.index t 2 = 0)
    ∧ (win0_1.index t 0 = 0 ∧ win0_1.index t 1 = 0)
    ∧ (win0_2.index t 0 = t.val / 4 ∧ win0_2.index t 1 = 0 ∧ win0_2.index t 2 = t.val % 4 ∧ win0_2.index t 3 = 0)
    ∧ (win0_3.index t 0 = t.val / 4 ∧ win0_3.index t 1 = t.val % 4 ∧ win0_3.index t 2 = 0)
    ∧ (win0_4.index t 0 = t.val / 4 ∧ win0_4.index t 1 = t.val % 4 ∧ win0_4.index t 2 = 0)
    ∧ (win0_5.index t 0 = 0 ∧ win0_5.index t 1 = 0 ∧ win0_5.index t 2 = 0)
    ∧ (win0_8.index t 0 = 0 ∧ win0_8.index t 1 = 0 ∧ win0_8.index t 2 = 0)
    ∧ (win0_11.index t 0 = 0 ∧ win0_11.index t 1 = 0 ∧ win0_11.index t 2 = 0)
    ∧ (win0_12.index t 0 = 0 ∧ win0_12.index t 1 = 0 ∧ win0_12.index t 2 = 0)
    ∧ (win0_6.index t 0 = 0 ∧ win0_6.index t 1 = 0) ∧ (win0_7.index t 0 = 0 ∧ win0_7.index t 1 = 0)
    ∧ (win0_9.index t 0 = 0 ∧ win0_9.index t 1 = 0) ∧ (win0_10.index t 0 = 0 ∧ win0_10.index t 1 = 0)
    ∧ (win0_13.index t 0 = 0 ∧ win0_13.index t 1 = 0)
    ∧ (win0_14.index t 0 = t.val / 4 ∧ win0_14.index t 1 = t.val % 4 ∧ win0_14.index t 2 = 0) := by
  decide +kernel

/-- At a batch's first tile the body takes the head and reads the block from its first row on. -/
theorem first : ∀ t : Fin grid0.N, t.val % 4 = 0 →
    BitVec.ofNat 32 (grid0.coords t 1).val = 0#32 ∧ k0_off1 (grid0.coords t) = ![0, 0, 0] := by
  decide +kernel

/-- At the others it reads the block throughout. -/
theorem later : ∀ t : Fin grid0.N, t.val % 4 ≠ 0 →
    BitVec.ofNat 32 (grid0.coords t 1).val ≠ 0#32 ∧ k0_off1 (grid0.coords t) = ![0, 128, 0] := by
  decide +kernel

/-- Where an element of the tokens' block lies in their array. -/
theorem emb0 (t : Fin grid0.N) (r : Fin 1056) (k : Fin 1024) (b : Fin 4) (i : Fin 4096) (hb : b.val = t.val / 4)
    (hi : i.val = 1056 * (t.val % 4) - 128 + r.val) : (win0_0.blk t).view.emb (ix3 0 r k) = ix3 b i k := by
  funext a
  apply Fin.ext
  refine (win0_0.rect_emb_val_off t (ix3 0 r k) a).trans ?_
  have h := (idx t).1
  match a with
  | ⟨0, _⟩ => exact (congrArg (· + 0) h.1).trans (by simpa using hb.symm)
  | ⟨1, _⟩ => exact (congrArg (· + r.val) h.2.1).trans (by simpa using hi.symm)
  | ⟨2, _⟩ => exact (congrArg (· + k.val) h.2.2).trans (by simp [ix3])

/-- The tokens' block: batch `b`, row `i`. -/
theorem blk0 (c : Dev nD) (t : Fin grid0.N) (r : Fin 1056) (k : Fin 1024) (b : Fin 4) (i : Fin 4096) (hb : b.val = t.val / 4)
    (hi : i.val = 1056 * (t.val % 4) - 128 + r.val) :
    iblk m c 0 t (ix3 0 r k) = m ((c : Thread nD τ).loc main_arg0) (ix3 b i k) := by
  rw [← V_main_arg0 m c, ← emb0 t r k b i hb hi]
  rfl

/-- The head: 112 empty rows and the meta tokens. -/
theorem blk1 (c : Dev nD) (t : Fin grid0.N) (r : Fin 128) (k : Fin 1024) :
    iblk m c 1 t (ix2 r k)
      = if h : r.val < 112 then (0 : EReal) else (m ((c : Thread nD τ).loc main_arg1) (ix2 ⟨r.val - 112, by omega⟩ k) : EReal) := by
  have h : iblk m c 1 t (ix2 r k) = V m c main_v1 (ix2 r k) := by
    blk_ext [iblk, idx t]
  rw [h]
  entry_read
  pointwise

/-- A load of 928 rows from row `d` on. -/
theorem ld_rows (x : Vec Ideal S1x1056x1024 .f32) (off : Fin 3 → Nat) (d : Nat) (e : off = ![0, d, 0]) (hd : d + 928 ≤ 1056) (inb)
    (r : Fin 928) (k : Fin 1024) :
    View.ld x (Rect.unit off ![1, 928, 1024] inb) (ix3 0 r k) = x (ix3 0 ⟨d + r.val, by omega⟩ k) := by
  subst e
  show x _ = x _
  congr 1
  funext a
  apply Fin.ext
  match a with
  | ⟨0, _⟩ => simp [ix3]
  | ⟨1, _⟩ => simp [ix3]
  | ⟨2, _⟩ => simp [ix3]

/-- A load of the first 128 rows. -/
theorem ld_top (x : Vec Ideal S1x1056x1024 .f32) (inb) (r : Fin 128) (k : Fin 1024) :
    View.ld x (Rect.unit ![0, 0, 0] ![1, 128, 1024] inb) (ix3 0 r k) = x (ix3 0 ⟨r.val, by omega⟩ k) := by
  show x _ = x _
  congr 1
  funext a
  apply Fin.ext
  match a with
  | ⟨0, _⟩ => simp [ix3]
  | ⟨1, _⟩ => simp [ix3]
  | ⟨2, _⟩ => simp [ix3]

/-- What the body puts together is the residual stream's row. -/
theorem rows_eq (c : Dev nD) (t : Fin grid0.N) (r : Fin 1056) (b : Fin 4) (i : Fin 4224) (hb : b.val = t.val / 4)
    (hi : i.val = 1056 * (t.val % 4) + r.val) (inb) (inb') :
    rows (BitVec.ofNat 32 (grid0.coords t 1).val) (iblk m c 1 t)
        (View.ld (iblk m c 0 t) (Rect.unit ![0, 0, 0] ![1, 128, 1024] inb))
        (View.ld (iblk m c 0 t) (Rect.unit (k0_off1 (grid0.coords t)) ![1, 928, 1024] inb')) r
      = stream (fun p q => m ((c : Thread nD τ).loc main_arg1) (ix2 p q)) (fun p q => m ((c : Thread nD τ).loc main_arg0) (ix3 b p q)) i := by
  funext k
  have hr := r.isLt
  unfold rows stream
  by_cases h0 : t.val % 4 = 0
  · obtain ⟨e, o⟩ := first t h0
    have hi' : i.val = r.val := by omega
    by_cases h : r.val < 128
    · rw [dif_pos h, if_pos e, blk1]
      by_cases h' : r.val < 112
      · rw [dif_pos h', if_pos (by omega)]
      · rw [dif_neg h', if_neg (by omega), dif_pos (by omega)]
        simp only [hi']
    · rw [dif_neg h, ld_rows _ _ 0 o (by omega), if_neg (by omega), dif_neg (by omega)]
      exact blk0 m c t _ k b _ hb (by simp; omega)
  · obtain ⟨e, o⟩ := later t h0
    rw [if_neg (show ¬i.val < 112 by omega), dif_neg (show ¬i.val < 128 by omega)]
    by_cases h : r.val < 128
    · rw [dif_pos h, if_neg e, ld_top]
      exact blk0 m c t _ k b _ hb (by simp; omega)
    · rw [dif_neg h, ld_rows _ _ 128 o (by omega)]
      exact blk0 m c t _ k b _ hb (by simp; omega)

/-- The slabs' block, slab by slab: lane `128 s + k` of the branch's row. -/
theorem blk2' (c : Dev nD) (t : Fin grid0.N) (s : Fin 2) (r : Fin 1056) (k : Fin 128) (b : Fin 4) (i : Fin 4224) (hb : b.val = t.val / 4)
    (hi : i.val = 1056 * (t.val % 4) + r.val) :
    iblk m c 2 t (ix4 0 s r k) = m ((c : Thread nD τ).loc main_arg2) (ix3 b i ⟨s.val * 128 + k.val, by omega⟩) := by
  have h : iblk m c 2 t (ix4 0 s r k) = V m c main_v7 (ix4 b s i k) := by
    blk_ext [iblk, idx t]
  rw [h]
  entry_read
  pointwise

/-- The two slabs of the block are the branch's row of 256 lanes. -/
theorem blk2 (c : Dev nD) (t : Fin grid0.N) (r : Fin 1056) (b : Fin 4) (i : Fin 4224) (hb : b.val = t.val / 4)
    (hi : i.val = 1056 * (t.val % 4) + r.val) (inb) (inb') :
    slabs (View.ld (iblk m c 2 t) (Rect.unit ![0, 0, 0, 0] ![1, 1, 1056, 128] inb))
        (View.ld (iblk m c 2 t) (Rect.unit ![0, 1, 0, 0] ![1, 1, 1056, 128] inb')) r
      = fun k => m ((c : Thread nD τ).loc main_arg2) (ix3 b i k) := by
  funext k
  unfold slabs
  split
  · rename_i h
    refine Eq.trans ?_ ((blk2' m c t 0 r ⟨k.val, h⟩ b i hb hi).trans ?_)
    · pointwise []
    congr 2; apply Fin.ext; simp
  · rename_i h
    refine Eq.trans ?_ ((blk2' m c t 1 r ⟨k.val - 128, by omega⟩ b i hb hi).trans ?_)
    · pointwise []
    congr 2; apply Fin.ext; simp; omega

/-- The windowed-attention branch's block: batch `b`, row `i`. -/
theorem blk3 (c : Dev nD) (t : Fin grid0.N) (r : Fin 1056) (k : Fin 512) (b : Fin 4) (i : Fin 4224) (hb : b.val = t.val / 4)
    (hi : i.val = 1056 * (t.val % 4) + r.val) :
    iblk m c 3 t (ix3 0 r k) = m ((c : Thread nD τ).loc main_arg3) (ix3 b i k) := by
  blk_ext [iblk, V, idx t]

/-- The latent-attention branch's block: batch `b`, row `i`. -/
theorem blk4 (c : Dev nD) (t : Fin grid0.N) (r : Fin 1056) (k : Fin 256) (b : Fin 4) (i : Fin 4224) (hb : b.val = t.val / 4)
    (hi : i.val = 1056 * (t.val % 4) + r.val) :
    iblk m c 4 t (ix3 0 r k) = m ((c : Thread nD τ).loc main_arg4) (ix3 b i k) := by
  blk_ext [iblk, V, idx t]

/-- Argument 6's row of the first layer. -/
theorem blk6 (c : Dev nD) (t : Fin grid0.N) (k : Fin 256) :
    iblk m c 6 t (ix2 0 k) = m ((c : Thread nD τ).loc main_arg6) (ix2 0 k) := by
  have h : iblk m c 6 t (ix2 0 k) = V m c main_v10 (ix2 0 k) := by
    blk_ext [iblk, idx t]
  rw [h]
  entry_read
  pointwise

/-- Argument 7's row of the first layer. -/
theorem blk7 (c : Dev nD) (t : Fin grid0.N) (k : Fin 1024) :
    iblk m c 7 t (ix2 0 k) = m ((c : Thread nD τ).loc main_arg7) (ix2 0 k) := by
  have h : iblk m c 7 t (ix2 0 k) = V m c main_v13 (ix2 0 k) := by
    blk_ext [iblk, idx t]
  rw [h]
  entry_read
  pointwise

/-- Argument 9's row of the first layer. -/
theorem blk9 (c : Dev nD) (t : Fin grid0.N) (k : Fin 1024) :
    iblk m c 9 t (ix2 0 k) = m ((c : Thread nD τ).loc main_arg9) (ix2 0 k) := by
  have h : iblk m c 9 t (ix2 0 k) = V m c main_v16 (ix2 0 k) := by
    blk_ext [iblk, idx t]
  rw [h]
  entry_read
  pointwise

/-- Argument 10's row of the first layer. -/
theorem blk10 (c : Dev nD) (t : Fin grid0.N) (k : Fin 1024) :
    iblk m c 10 t (ix2 0 k) = m ((c : Thread nD τ).loc main_arg10) (ix2 0 k) := by
  have h : iblk m c 10 t (ix2 0 k) = V m c main_v19 (ix2 0 k) := by
    blk_ext [iblk, idx t]
  rw [h]
  entry_read
  pointwise

/-- Argument 13's row of the first layer. -/
theorem blk13 (c : Dev nD) (t : Fin grid0.N) (k : Fin 1024) :
    iblk m c 13 t (ix2 0 k) = m ((c : Thread nD τ).loc main_arg13) (ix2 0 k) := by
  have h : iblk m c 13 t (ix2 0 k) = V m c main_v22 (ix2 0 k) := by
    blk_ext [iblk, idx t]
  rw [h]
  entry_read
  pointwise

/-- Argument 5's matrix of the first layer. -/
theorem blk5 (c : Dev nD) (t : Fin grid0.N) (r : Fin 256) (k : Fin 256) :
    iblk m c 5 t (ix3 0 r k) = m ((c : Thread nD τ).loc main_arg5) (ix3 0 r k) := by
  blk_ext [iblk, V, idx t]

/-- Argument 8's matrix of the first layer. -/
theorem blk8 (c : Dev nD) (t : Fin grid0.N) (r : Fin 1024) (k : Fin 1024) :
    iblk m c 8 t (ix3 0 r k) = m ((c : Thread nD τ).loc main_arg8) (ix3 0 r k) := by
  blk_ext [iblk, V, idx t]

/-- Argument 11's matrix of the first layer. -/
theorem blk11 (c : Dev nD) (t : Fin grid0.N) (r : Fin 1024) (k : Fin 4096) :
    iblk m c 11 t (ix3 0 r k) = m ((c : Thread nD τ).loc main_arg11) (ix3 0 r k) := by
  blk_ext [iblk, V, idx t]

/-- Argument 12's matrix of the first layer. -/
theorem blk12 (c : Dev nD) (t : Fin grid0.N) (r : Fin 4096) (k : Fin 1024) :
    iblk m c 12 t (ix3 0 r k) = m ((c : Thread nD τ).loc main_arg12) (ix3 0 r k) := by
  blk_ext [iblk, V, idx t]

/-- The result, as a function of the arguments: each row of it from the same row of the inputs. -/
def result (c : Dev nD) (b : Fin 4) (i : Fin 4224) (k : Fin 1024) : EReal :=
  RowModel.out
    (stream (fun p q => m ((c : Thread nD τ).loc main_arg1) (ix2 p q)) (fun p q => m ((c : Thread nD τ).loc main_arg0) (ix3 b p q)) i)
    (fun j => m ((c : Thread nD τ).loc main_arg2) (ix3 b i j))
    (fun j => m ((c : Thread nD τ).loc main_arg3) (ix3 b i j))
    (fun j => m ((c : Thread nD τ).loc main_arg4) (ix3 b i j))
    (fun j q => m ((c : Thread nD τ).loc main_arg5) (ix3 0 j q)) (fun q => m ((c : Thread nD τ).loc main_arg6) (ix2 0 q))
    (fun j => m ((c : Thread nD τ).loc main_arg7) (ix2 0 j)) (fun j q => m ((c : Thread nD τ).loc main_arg8) (ix3 0 j q))
    (fun j => m ((c : Thread nD τ).loc main_arg9) (ix2 0 j)) (fun j => m ((c : Thread nD τ).loc main_arg10) (ix2 0 j))
    (fun j q => m ((c : Thread nD τ).loc main_arg11) (ix3 0 j q)) (fun j q => m ((c : Thread nD τ).loc main_arg12) (ix3 0 j q))
    (fun j => m ((c : Thread nD τ).loc main_arg13) (ix2 0 j)) k

/-- Where an element of the output's block lies in the result array. -/
theorem emb14 (t : Fin grid0.N) (r : Fin 1056) (k : Fin 1024) (b : Fin 4) (i : Fin 4224) (hb : b.val = t.val / 4)
    (hi : i.val = 1056 * (t.val % 4) + r.val) : (win0_14.blk t).view.emb (ix3 0 r k) = ix3 b i k := by
  funext a
  apply Fin.ext
  refine (win0_14.rect_emb_val t (ix3 0 r k) a).trans ?_
  have h := (idx t).2.2.2.2.2.2.2.2.2.2.2.2.2.2
  match a with
  | ⟨0, _⟩ => exact (congrArg (· * 1 + 0) h.1).trans (by simpa using hb.symm)
  | ⟨1, _⟩ => exact (congrArg (· * 1056 + r.val) h.2.1).trans (by simp [ix3]; omega)
  | ⟨2, _⟩ => exact (congrArg (· * 1024 + k.val) h.2.2).trans (by simp [ix3])

/-- THE RESULT ARRAY after the run. -/
theorem final (c : Dev nD) :
    (dats m 0 c).arrAt 14 cfg0.N = fun y : S4x4224x1024.Idx => result m c (y 0) (y 1) (y 2) := by
  refine (dats m 0 c).arrAt_eq_of_covers 14 _ (by decide +kernel) fun t hf y => ?_
  blk_simp
  rw [after0_14]
  unfold outsAt0
  frame_out
  obtain ⟨r, k, rfl⟩ : ∃ (r : Fin 1056) (k : Fin 1024), (y : S1x1056x1024.Idx) = ix3 0 r k :=
    ⟨y 1, y 2, by funext a; match a with | ⟨0, _⟩ => exact Subsingleton.elim (α := Fin 1) _ _ | ⟨1, _⟩ => rfl | ⟨2, _⟩ => rfl⟩
  have ht := t.isLt
  have hN : cfg0.grid.N = 16 := rfl
  have hb : (⟨t.val / 4, by omega⟩ : Fin 4).val = t.val / 4 := rfl
  have hi : (⟨1056 * (t.val % 4) + r.val, by omega⟩ : Fin 4224).val = 1056 * (t.val % 4) + r.val := rfl
  rw [emb14 t r k _ _ hb hi]
  show _ = result m c ⟨t.val / 4, by omega⟩ ⟨1056 * (t.val % 4) + r.val, by omega⟩ k
  refine (out_apply _ _ _ _ _ _ _ _ _ _ _ _ _ _ _ _ _ r k _ rfl).trans ?_
  rw [rows_eq m c t r _ _ hb hi, blk2 m c t r _ _ hb hi]
  simp only [blk3 m c t r _ _ _ hb hi, blk4 m c t r _ _ _ hb hi, blk5, blk6, blk7, blk8, blk9, blk10, blk11, blk12, blk13]
  rfl

end Cert.Kernel2Ideal.Rows
-- ==== Proof.Ref2Rows.lean ====
/- The second reference's result at an index, as the row functions of the argument rows: its operations are read one norm or one
   product at a time. -/
module

public import proofs.«01_k».proof.Proof.Gen.Reference2Ideal.Read
public import proofs.«01_k».proof.Proof.RowModel
public import Idealize.ShloMosaic.Lib.Pointwise

@[expose] public section

set_option maxRecDepth 16384

noncomputable section

namespace Cert.Reference2Ideal.Rows

open Cert.Reference2Ideal Cert.Reference2Ideal.Gen Cert.Reference2Ideal.Read Cert.RowModel Idealize.ShloMosaic

variable (x0 : (⟨S4x4096x1024, .f32⟩ : BufTy).Contents (Elt Ideal))
variable (x1 : (⟨S16x1024, .f32⟩ : BufTy).Contents (Elt Ideal))
variable (x2 : (⟨S4x4224x256, .f32⟩ : BufTy).Contents (Elt Ideal))
variable (x3 : (⟨S4x4224x512, .f32⟩ : BufTy).Contents (Elt Ideal))
variable (x4 : (⟨S4x4224x256, .f32⟩ : BufTy).Contents (Elt Ideal))
variable (x5 : (⟨S2x256x256, .f32⟩ : BufTy).Contents (Elt Ideal))
variable (x6 : (⟨S2x256, .f32⟩ : BufTy).Contents (Elt Ideal))
variable (x7 : (⟨S2x1024, .f32⟩ : BufTy).Contents (Elt Ideal))
variable (x8 : (⟨S2x1024x1024, .f32⟩ : BufTy).Contents (Elt Ideal))
variable (x9 : (⟨S2x1024, .f32⟩ : BufTy).Contents (Elt Ideal))
variable (x10 : (⟨S2x1024, .f32⟩ : BufTy).Contents (Elt Ideal))
variable (x11 : (⟨S2x1024x4096, .f32⟩ : BufTy).Contents (Elt Ideal))
variable (x12 : (⟨S2x4096x1024, .f32⟩ : BufTy).Contents (Elt Ideal))
variable (x13 : (⟨S2x1024, .f32⟩ : BufTy).Contents (Elt Ideal))

/-- The residual stream: the empty rows, the meta tokens and the real tokens joined. -/
theorem stream_apply (b : Fin 4) (i : Fin 4224) (k : Fin 1024) :
    val_main_v3 (F := Ideal) x0 x1 (ix3 b i k) = stream (fun p q => x1 (ix2 p q)) (fun p q => x0 (ix3 b p q)) i k := by
  pointwise [val_main_v3, val_main_v2, val_main_v1, val_main_v0, val_main_cst, stream]
  by_cases h : i.val < 112
  · simp [h]
  by_cases h' : i.val < 128
  · have h'' : i.val - 112 < 16 := by omega
    simp [h, h', h'']
  have h'' : ¬i.val - 112 < 16 := by omega
  simp [h, h', h'', Nat.sub_sub]

/-- GELU of the state-space branch. -/
theorem gelu_apply (b : Fin 4) (i : Fin 4224) (k : Fin 256) : val_main_v16 (F := Ideal) x2 (ix3 b i k) = gelu (x2 (ix3 b i k)) := by
  rw [← gelu_comm]
  pointwise [val_main_v16, val_main_v15, val_main_v14, val_main_v13, val_main_v12, val_main_v11, val_main_v10, val_main_v9, val_main_v8, val_main_v7, val_main_v6, val_main_v5, val_main_v4, val_main_cst_1, val_main_cst_2, val_main_cst_3, val_main_cst_0]

/-- The gated branch. -/
theorem gate_apply (b : Fin 4) (i : Fin 4224) (k : Fin 256) :
    val_main_v31 (F := Ideal) x2 x5 x6 (ix3 b i k)
      = gate (fun j => x2 (ix3 b i j)) (fun j q => x5 (ix3 0 j q)) (fun q => x6 (ix2 0 q)) k := by
  pointwise [val_main_v31, val_main_v30, val_main_v29, val_main_v28, val_main_v27, val_main_v26, val_main_v25, val_main_v24, val_main_v23, val_main_v22, val_main_v21, val_main_v20, val_main_v19, val_main_v18, val_main_v17, val_main_cst_4, val_main_cst_5, gate, gelu_apply]

/-- The norm of the gated branch. -/
theorem norm_ssm_apply (b : Fin 4) (i : Fin 4224) (k : Fin 256) :
    val_main_v47 (F := Ideal) x2 x5 x6 x7 (ix3 b i k)
      = rms inv256 (fun j => val_main_v31 (F := Ideal) x2 x5 x6 (ix3 b i j)) (fun j => x7 (ix2 0 ⟨j.val, by omega⟩)) k := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_cst_6, val_main_cst_7, val_main_cst_8, rms, eps, div_256]

/-- The norm of the windowed-attention branch. -/
theorem norm_swa_apply (b : Fin 4) (i : Fin 4224) (k : Fin 512) :
    val_main_v61 (F := Ideal) x3 x7 (ix3 b i k)
      = rms inv512 (fun j => x3 (ix3 b i j)) (fun j => x7 (ix2 0 ⟨256 + j.val, by omega⟩)) k := by
  pointwise [val_main_v61, val_main_v60, val_main_v59, val_main_v58, val_main_v57, val_main_v56, val_main_v55, val_main_v54, val_main_v53, val_main_v52, val_main_v51, val_main_v50, val_main_v49, val_main_v48, val_main_cst_9, val_main_cst_10, val_main_cst_11, val_main_v33, val_main_v32, rms, eps, div_512]

/-- The norm of the latent-attention branch. -/
theorem norm_mla_apply (b : Fin 4) (i : Fin 4224) (k : Fin 256) :
    val_main_v75 (F := Ideal) x4 x7 (ix3 b i k)
      = rms inv256 (fun j => x4 (ix3 b i j)) (fun j => x7 (ix2 0 ⟨768 + j.val, by omega⟩)) k := by
  pointwise [val_main_v75, val_main_v74, val_main_v73, val_main_v72, val_main_v71, val_main_v70, val_main_v69, val_main_v68, val_main_v67, val_main_v66, val_main_v65, val_main_v64, val_main_v63, val_main_v62, val_main_cst_12, val_main_cst_13, val_main_cst_14, val_main_v33, val_main_v32, rms, eps, div_256]

/-- The three norms side by side. -/
theorem heads_apply (b : Fin 4) (i : Fin 4224) (k : Fin 1024) :
    val_main_v76 (F := Ideal) x2 x3 x4 x5 x6 x7 (ix3 b i k)
      = heads (fun j => val_main_v31 (F := Ideal) x2 x5 x6 (ix3 b i j)) (fun j => x3 (ix3 b i j)) (fun j => x4 (ix3 b i j))
          (fun j => x7 (ix2 0 j)) k := by
  pointwise [val_main_v76, heads, norm_ssm_apply, norm_swa_apply, norm_mla_apply]

/-- The output projection. -/
theorem proj_apply (b : Fin 4) (i : Fin 4224) (k : Fin 1024) :
    val_main_v79 (F := Ideal) x2 x3 x4 x5 x6 x7 x8 (ix3 b i k)
      = lin (fun j => val_main_v76 (F := Ideal) x2 x3 x4 x5 x6 x7 (ix3 b i j)) (fun j q => x8 (ix3 0 j q)) k := by
  pointwise [val_main_v79, val_main_v78, val_main_v77, lin]

/-- The first residual step. -/
theorem step_apply (b : Fin 4) (i : Fin 4224) (k : Fin 1024) :
    val_main_v95 (F := Ideal) x0 x1 x2 x3 x4 x5 x6 x7 x8 x9 (ix3 b i k)
      = step (fun j => val_main_v3 (F := Ideal) x0 x1 (ix3 b i j)) (fun j => val_main_v79 (F := Ideal) x2 x3 x4 x5 x6 x7 x8 (ix3 b i j)) (fun j => x9 (ix2 0 j)) k := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_cst_15, val_main_cst_16, val_main_cst_17, step, rms, eps, div_1024]

/-- The feed-forward's operand. -/
theorem pre_apply (b : Fin 4) (i : Fin 4224) (k : Fin 1024) :
    val_main_v110 (F := Ideal) x0 x1 x2 x3 x4 x5 x6 x7 x8 x9 x10 (ix3 b i k)
      = rms inv1024 (fun j => val_main_v95 (F := Ideal) x0 x1 x2 x3 x4 x5 x6 x7 x8 x9 (ix3 b i j)) (fun j => x10 (ix2 0 j)) k := by
  pointwise [val_main_v110, val_main_v109, val_main_v108, val_main_v107, val_main_v106, val_main_v105, val_main_v104, val_main_v103, val_main_v102, val_main_v101, val_main_v100, val_main_v99, val_main_v98, val_main_v97, val_main_v96, val_main_cst_18, val_main_cst_19, val_main_cst_20, rms, eps, div_1024]

/-- The feed-forward. -/
theorem mlp_apply (b : Fin 4) (i : Fin 4224) (k : Fin 1024) :
    val_main_v118 (F := Ideal) x0 x1 x2 x3 x4 x5 x6 x7 x8 x9 x10 x11 x12 (ix3 b i k)
      = mlp (fun j => val_main_v110 (F := Ideal) x0 x1 x2 x3 x4 x5 x6 x7 x8 x9 x10 (ix3 b i j)) (fun j q => x11 (ix3 0 j q))
          (fun j q => x12 (ix3 0 j q)) k := by
  pointwise [val_main_v118, val_main_v117, val_main_v116, val_main_v115, val_main_v114, val_main_v113, val_main_v112, val_main_v111, mlp, lin, relu2, val_main_call0_v0, val_main_call0_cst]

/-- The second residual step. -/
theorem last_apply (b : Fin 4) (i : Fin 4224) (k : Fin 1024) :
    val_main_v134 (F := Ideal) x0 x1 x2 x3 x4 x5 x6 x7 x8 x9 x10 x11 x12 x13 (ix3 b i k)
      = step (fun j => val_main_v95 (F := Ideal) x0 x1 x2 x3 x4 x5 x6 x7 x8 x9 (ix3 b i j))
          (fun j => val_main_v118 (F := Ideal) x0 x1 x2 x3 x4 x5 x6 x7 x8 x9 x10 x11 x12 (ix3 b i j)) (fun j => x13 (ix2 0 j)) k := by
  pointwise [val_main_v134, val_main_v133, val_main_v132, val_main_v131, val_main_v130, val_main_v129, val_main_v128, val_main_v127, val_main_v126, val_main_v125, val_main_v124, val_main_v123, val_main_v122, val_main_v121, val_main_v120, val_main_v119, val_main_cst_21, val_main_cst_22, val_main_cst_23, step, rms, eps, div_1024]

/-- THE RESULT of the reference at batch `b`, row `i`, lane `k`. -/
theorem out_apply (b : Fin 4) (i : Fin 4224) (k : Fin 1024) :
    val_main_v134 (F := Ideal) x0 x1 x2 x3 x4 x5 x6 x7 x8 x9 x10 x11 x12 x13 (ix3 b i k)
      = RowModel.out (stream (fun p q => x1 (ix2 p q)) (fun p q => x0 (ix3 b p q)) i) (fun j => x2 (ix3 b i j))
          (fun j => x3 (ix3 b i j)) (fun j => x4 (ix3 b i j))
          (fun j q => x5 (ix3 0 j q)) (fun q => x6 (ix2 0 q)) (fun j => x7 (ix2 0 j)) (fun j q => x8 (ix3 0 j q))
          (fun j => x9 (ix2 0 j)) (fun j => x10 (ix2 0 j)) (fun j q => x11 (ix3 0 j q)) (fun j q => x12 (ix3 0 j q))
          (fun j => x13 (ix2 0 j)) k := by
  unfold RowModel.out
  simp only [last_apply, mlp_apply, pre_apply, step_apply, proj_apply, heads_apply, gate_apply, stream_apply]

end Cert.Reference2Ideal.Rows
-- ==== Proof.MixRow.lean ====
/- The layer's opening arithmetic on one row of the residual stream, over the extended reals: the normed row's projections, the
   scaled windowed-attention queries, the key and value lanes with their unit columns, the latent queries of four heads with
   their rotary lanes, and the latent keys. Each is written twice, over the plain projections and over the kernel's padded and
   rearranged ones, and the two are shown equal. -/
module

public import proofs.«01_k».proof.Proof.RowModel
public import Idealize.ShloMosaic.Lib.Pointwise

@[expose] public section

set_option maxRecDepth 16384

noncomputable section

namespace Cert.MixRow

open Idealize.ShloMosaic Cert.RowModel

/-- One over 192, the number itself, and one over 128 as a word spells it. -/
def inv192 : EReal := ((1 / 192 : ℝ) : EReal)
def inv128 : EReal := Ideal.ofBits .f32 0x3C000000#32
/-- The two attention scales. -/
def swaScale : EReal := Ideal.ofBits .f32 0x3E38AA3B#32
def mlaScale : EReal := Ideal.ofBits .f32 0x3E16C740#32

/-- A unit column: one in lane 0, zero elsewhere. -/
def unit (k : ℕ) : EReal := if k = 0 then 1 else 0

/-- The state-space lanes: the padding rows are zeroed. -/
def ssm (p : Fin 1376 → EReal) (i : ℕ) (s : Fin 2) (k : Fin 128) : EReal :=
  if 112 ≤ i then p ⟨s.val * 128 + k.val, by omega⟩ else 0

/-- The windowed-attention queries. -/
def query (p : Fin 1376 → EReal) (k : Fin 512) : EReal := p ⟨256 + k.val, by omega⟩ * swaScale

/-- The windowed-attention keys, then each head's values beside a unit column. -/
def keyval (p : Fin 1376 → EReal) (k : Fin 384) : EReal :=
  if h : k.val < 128 then p ⟨768 + k.val, by omega⟩
  else if h : k.val - 128 < 64 then p ⟨896 + (k.val - 128), by omega⟩
  else if k.val - 128 - 64 < 64 then unit (k.val - 128 - 64)
  else if h : k.val - 128 - 64 - 64 < 64 then p ⟨960 + (k.val - 128 - 64 - 64), by omega⟩
  else unit (k.val - 128 - 64 - 64 - 64)

/-- Rotary position lanes: the two halves turned by the angle's cosine and sine. -/
def rope (x : Fin 32 → EReal) (cs sn : Fin 16 → EReal) (r : Fin 32) : EReal :=
  if h : r.val < 16 then x ⟨r.val, by omega⟩ * cs ⟨r.val, h⟩ - x ⟨16 + r.val, by omega⟩ * sn ⟨r.val, h⟩
  else x ⟨r.val - 16, by omega⟩ * sn ⟨r.val - 16, by omega⟩ + x ⟨16 + (r.val - 16), by omega⟩ * cs ⟨r.val - 16, by omega⟩

/-- The normed query latents times their second matrix. -/
def latents (p : Fin 1376 → EReal) (gq : Fin 192 → EReal) (wq : Fin 192 → Fin 384 → EReal) (c : Fin 384) : EReal :=
  lin (rms inv192 (fun j : Fin 192 => p ⟨1024 + j.val, by omega⟩) gq) wq c

/-- One head's latent query: the absorbed lanes, the table's lanes, the rotary lanes. -/
def headQuery (q : Fin 384 → EReal) (wk : Fin 128 → Fin 256 → EReal) (cs sn : Fin 16 → EReal) (qx : Fin 48 → EReal)
    (h : Fin 4) (k : Fin 208) : EReal :=
  if hk : k.val < 128 then
    (∑ d : Fin 64, q ⟨h.val * 96 + d.val, by omega⟩ * wk ⟨k.val, hk⟩ ⟨h.val * 64 + d.val, by omega⟩) * mlaScale
  else if hk : k.val - 128 < 48 then qx ⟨k.val - 128, hk⟩
  else rope (fun r => q ⟨h.val * 96 + (64 + r.val), by omega⟩) cs sn ⟨k.val - 128 - 48, by omega⟩ * mlaScale

/-- The latent key: the normed latents, the table's lanes, the rotary lanes. -/
def latentKey (p : Fin 1376 → EReal) (gk : Fin 128 → EReal) (cs sn : Fin 16 → EReal) (kx : Fin 48 → EReal) (k : Fin 208) : EReal :=
  if hk : k.val < 128 then rms inv128 (fun j : Fin 128 => p ⟨1216 + j.val, by omega⟩) gk ⟨k.val, hk⟩
  else if hk : k.val - 128 < 48 then kx ⟨k.val - 128, hk⟩
  else rope (fun r => p ⟨1344 + r.val, by omega⟩) cs sn ⟨k.val - 128 - 48, by omega⟩

/-! ## The kernel's padded and rearranged columns -/

/-- The first matrix as the kernel stacks it: the query latents padded to 256 columns, then the key latents, the rotary key
    columns, the same columns turned by a quarter, and zeros. -/
def stack1 (w : Fin 1376 → EReal) (c : Fin 1536) : EReal :=
  if h : c.val < 1216 then w ⟨c.val, by omega⟩
  else if c.val - 1216 < 64 then 0
  else if h : c.val - 1216 - 64 < 128 then w ⟨1216 + (c.val - 1216 - 64), by omega⟩
  else if h : c.val - 1216 - 64 - 128 < 32 then w ⟨1344 + (c.val - 1216 - 64 - 128), by omega⟩
  else if h : c.val - 1216 - 64 - 128 - 32 < 16 then -w ⟨1344 + (16 + (c.val - 1216 - 64 - 128 - 32)), by omega⟩
  else if h : c.val - 1216 - 64 - 128 - 32 < 32 then w ⟨1344 + (c.val - 1216 - 64 - 128 - 32 - 16), by omega⟩
  else 0

/-- The second matrix's columns as the kernel stacks them: the plain lanes of the four heads, their rotary lanes, and those
    turned by a quarter. -/
def stack2 (w : Fin 384 → EReal) (c : Fin 512) : EReal :=
  if h : c.val < 256 then w ⟨c.val / 64 * 96 + c.val % 64, by omega⟩
  else if h : c.val - 256 < 128 then w ⟨(c.val - 256) / 32 * 96 + (64 + (c.val - 256) % 32), by omega⟩
  else if h : (c.val - 256 - 128) % 32 < 16 then
    -w ⟨(c.val - 256 - 128) / 32 * 96 + (64 + (16 + (c.val - 256 - 128) % 32)), by omega⟩
  else w ⟨(c.val - 256 - 128) / 32 * 96 + (64 + ((c.val - 256 - 128) % 32 - 16)), by omega⟩

/-- The absorbed matrix as the kernel lays it out: one block per head on the diagonal, zeros elsewhere. -/
def diag (w : Fin 128 → Fin 256 → EReal) (j : Fin 256) (c : Fin 512) : EReal :=
  if j.val / 64 = c.val / 128 then w ⟨c.val % 128, by omega⟩ j else 0

/-- The kernel's key and value lanes over its stacked projections. -/
def keyval' (v : Fin 1536 → EReal) (k : Fin 384) : EReal :=
  if h : k.val < 128 then v ⟨768 + k.val, by omega⟩
  else if h : k.val - 128 < 64 then v ⟨896 + (k.val - 128), by omega⟩
  else if k.val - 128 - 64 < 64 then unit (k.val - 128 - 64)
  else if h : k.val - 128 - 64 - 64 < 64 then v ⟨960 + (k.val - 128 - 64 - 64), by omega⟩
  else unit (k.val - 128 - 64 - 64 - 64)

/-- The kernel's latents over its stacked and padded operands. -/
def latents' (v : Fin 1536 → EReal) (gq : Fin 256 → EReal) (wq : Fin 256 → Fin 512 → EReal) (c : Fin 512) : EReal :=
  lin (rms inv192 (fun j : Fin 256 => v ⟨1024 + j.val, by omega⟩) gq) wq c

/-- The kernel's latent query of one head. -/
def headQuery' (q : Fin 512 → EReal) (wk : Fin 256 → Fin 512 → EReal) (cs sn : Fin 128 → EReal) (qx : Fin 48 → EReal)
    (h : Fin 4) (k : Fin 208) : EReal :=
  if hk : k.val < 128 then
    (∑ j : Fin 256, q ⟨j.val, by omega⟩ * wk j ⟨h.val * 128 + k.val, by omega⟩) * mlaScale
  else if hk : k.val - 128 < 48 then qx ⟨k.val - 128, hk⟩
  else (q ⟨256 + (h.val * 32 + (k.val - 128 - 48)), by omega⟩ * cs ⟨h.val * 32 + (k.val - 128 - 48), by omega⟩
    + q ⟨384 + (h.val * 32 + (k.val - 128 - 48)), by omega⟩ * sn ⟨h.val * 32 + (k.val - 128 - 48), by omega⟩) * mlaScale

/-- The kernel's latent key. -/
def latentKey' (v : Fin 1536 → EReal) (gk cs sn : Fin 128 → EReal) (kx : Fin 48 → EReal) (k : Fin 208) : EReal :=
  if hk : k.val < 128 then rms inv128 (fun j : Fin 128 => v ⟨1280 + j.val, by omega⟩) gk ⟨k.val, hk⟩
  else if hk : k.val - 128 < 48 then kx ⟨k.val - 128, hk⟩
  else v ⟨1408 + (k.val - 128 - 48), by omega⟩ * cs ⟨k.val - 128 - 48, by omega⟩
    + v ⟨1440 + (k.val - 128 - 48), by omega⟩ * sn ⟨k.val - 128 - 48, by omega⟩

/-! ## Real values -/

/-- Neither infinity. -/
def IsReal (x : EReal) : Prop := ∃ r : ℝ, x = (r : EReal)

/-- What is below infinity in size is real. -/
theorem isReal_of_lt (x : Ideal .f32)
    (h : FloatOps.cmpf .olt (FloatOps.hostAbsf x) (FloatOps.ofBits (F := Ideal) .f32 0x7F800000#32) = 1#1) : IsReal x := by
  have ht : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [ht] at h'
  have hx : max (x : EReal) (-(x : EReal)) < ⊤ := by
    by_contra hc
    simp [Ideal.cmp, hc] at h'
  change IsReal (x : EReal)
  generalize (x : EReal) = y at hx
  induction y using EReal.rec with
  | bot => simp at hx
  | top => simp at hx
  | coe r => exact ⟨r, rfl⟩

/-- The inclusion of the reals goes through finite sums. -/
theorem coe_sum {n : ℕ} (f : Fin n → ℝ) : ((∑ j, f j : ℝ) : EReal) = ∑ j, (f j : EReal) :=
  map_sum (AddMonoidHom.mk ⟨fun r : ℝ => (r : EReal), EReal.coe_zero⟩ EReal.coe_add) f Finset.univ

/-- A product of reals is real. -/
theorem IsReal.mul {x y : EReal} (hx : IsReal x) (hy : IsReal y) : IsReal (x * y) := by
  obtain ⟨a, rfl⟩ := hx; obtain ⟨b, rfl⟩ := hy
  exact ⟨a * b, by push_cast; rfl⟩

/-- A finite sum of reals is real. -/
theorem IsReal.sum {n : ℕ} {f : Fin n → EReal} (hf : ∀ j, IsReal (f j)) : IsReal (∑ j, f j) := by
  choose g hg using hf
  refine ⟨∑ j, g j, ?_⟩
  rw [coe_sum]
  exact Finset.sum_congr rfl fun j _ => hg j

/-- The additive constant is a positive real. -/
theorem eps_pos : ∃ e : ℝ, 0 < e ∧ eps = (e : EReal) := by
  refine ⟨_, ?_, by simp [eps, Ideal.ofBits, Ideal.ieee, -EReal.coe_mul]; rfl⟩
  norm_num

/-- A norm of a real row with real gains is real, its reciprocal length being a nonnegative real. -/
theorem rms_isReal {n : ℕ} {inv : EReal} (hi : ∃ r : ℝ, 0 ≤ r ∧ inv = (r : EReal)) {x g : Fin n → EReal} (hx : ∀ j, IsReal (x j))
    (hg : ∀ j, IsReal (g j)) (k : Fin n) : IsReal (rms inv x g k) := by
  refine ((hx k).mul ?_).mul (hg k)
  obtain ⟨r, hr, rfl⟩ := hi
  obtain ⟨e, he, he'⟩ := eps_pos
  choose a ha using hx
  have hs : (∑ j, x j * x j) * (r : EReal) + eps = ((((∑ j, a j * a j) * r + e : ℝ)) : EReal) := by
    rw [he']
    simp only [ha]
    push_cast
    rw [coe_sum]
    push_cast
    rfl
  have hp : 0 < (∑ j, a j * a j) * r + e :=
    add_pos_of_nonneg_of_pos (mul_nonneg (Finset.sum_nonneg fun j _ => mul_self_nonneg _) hr) he
  rw [hs, Ideal.rsqrt_coe, if_neg (not_lt.2 hp.le), if_neg hp.ne']
  exact ⟨_, rfl⟩

/-- A real row times a real matrix is real. -/
theorem lin_isReal {n p : ℕ} {x : Fin n → EReal} {w : Fin n → Fin p → EReal} (hx : ∀ j, IsReal (x j))
    (hw : ∀ j k, IsReal (w j k)) (k : Fin p) : IsReal (lin x w k) := IsReal.sum fun j => (hx j).mul (hw j k)

/-- Over the reals a negated column gives a negated product. -/
theorem sum_neg {n : ℕ} {x w : Fin n → EReal} (hx : ∀ j, IsReal (x j)) (hw : ∀ j, IsReal (w j)) :
    ∑ j, x j * -w j = -∑ j, x j * w j := by
  choose a ha using hx
  choose b hb using hw
  simp only [ha, hb]
  have : ∀ j, (a j : EReal) * -(b j : EReal) = ((-(a j * b j) : ℝ) : EReal) := fun j => by push_cast; rw [mul_neg]
  simp only [this, ← EReal.coe_mul, ← coe_sum, ← EReal.coe_neg, mul_neg, Finset.sum_neg_distrib]

/-- One over 192 is a nonnegative real. -/
theorem inv192_nonneg : ∃ r : ℝ, 0 ≤ r ∧ inv192 = (r : EReal) := ⟨1 / 192, by norm_num, rfl⟩

/-- So is one over 1024. -/
theorem inv1024_nonneg : ∃ r : ℝ, 0 ≤ r ∧ inv1024 = (r : EReal) :=
  ⟨1 / 1024, by norm_num, by simp [inv1024, Ideal.ofBits, Ideal.ieee, -EReal.coe_mul]; norm_num⟩

/-- Dividing by 192 is multiplying by one over 192. -/
theorem div_192 (x : EReal) : Ideal.div x (Ideal.ofBits .f32 0x43400000#32) = x * inv192 := by
  have e : Ideal.ofBits .f32 0x43400000#32 = ((192 : ℝ) : EReal) := by simp [Ideal.ofBits, Ideal.ieee, -EReal.coe_mul]; norm_num
  rw [e, inv192, Ideal.div_coe (by norm_num)]

/-- Dividing by 128 is multiplying by its reciprocal, both being exact. -/
theorem div_128 (x : EReal) : Ideal.div x (Ideal.ofBits .f32 0x43000000#32) = x * inv128 := by
  have e : Ideal.ofBits .f32 0x43000000#32 = ((128 : ℝ) : EReal) := by simp [Ideal.ofBits, Ideal.ieee, -EReal.coe_mul]; norm_num
  have e' : inv128 = ((1 / 128 : ℝ) : EReal) := by simp [inv128, Ideal.ofBits, Ideal.ieee, -EReal.coe_mul]; norm_num
  rw [e, e', Ideal.div_coe (by norm_num)]

/-! ## The padded sums -/

/-- A sum of 256 terms whose last 64 are zero is the sum of the first 192. -/
theorem sum_pad (f : Fin 256 → EReal) (hf : ∀ j : Fin 256, 192 ≤ j.val → f j = 0) :
    ∑ j, f j = ∑ j : Fin 192, f ⟨j.val, by omega⟩ := by
  have e : ∑ j : Fin (192 + 64), f j = _ := Fin.sum_univ_add (a := 192) (b := 64) f
  have z : ∑ j : Fin 64, f (Fin.natAdd 192 j) = 0 := Finset.sum_eq_zero fun j _ => hf _ (by simp)
  exact e.trans (by rw [z, add_zero]; rfl)

/-- A sum of 256 terms that vanishes off head `h`'s 64 is the sum of those. -/
theorem sum_head (f : Fin 256 → EReal) (h : Fin 4) (hf : ∀ j : Fin 256, j.val / 64 ≠ h.val → f j = 0) :
    ∑ j, f j = ∑ d : Fin 64, f ⟨h.val * 64 + d.val, by omega⟩ := by
  have e : ∑ j : Fin (4 * 64), f j = ∑ x : Fin 4 × Fin 64, f (finProdFinEquiv x) :=
    (Equiv.sum_comp finProdFinEquiv (fun j : Fin (4 * 64) => f j)).symm
  refine e.trans ?_
  rw [Fintype.sum_prod_type]
  refine (Finset.sum_eq_single h (fun b _ hb => ?_) (fun hn => absurd (Finset.mem_univ h) hn)).trans ?_
  · refine Finset.sum_eq_zero fun d _ => hf _ fun hd => hb (Fin.ext ?_)
    simp only [finProdFinEquiv_apply_val] at hd
    omega
  · refine Finset.sum_congr rfl fun d _ => congrArg f (Fin.ext ?_)
    simp only [finProdFinEquiv_apply_val]
    omega

/-- The stacked columns' projections: the plain ones rearranged, the turned ones negated. -/
theorem lin_stack1 {x : Fin 1024 → EReal} {w : Fin 1024 → Fin 1376 → EReal} (hx : ∀ j, IsReal (x j))
    (hw : ∀ j k, IsReal (w j k)) (c : Fin 1536) : lin x (fun j => stack1 (w j)) c = stack1 (lin x w) c := by
  unfold lin stack1
  by_cases h1 : c.val < 1216
  · simp only [dif_pos h1]
  by_cases h2 : c.val - 1216 < 64
  · simp only [dif_neg h1, if_pos h2, mul_zero, Finset.sum_const_zero]
  by_cases h3 : c.val - 1216 - 64 < 128
  · simp only [dif_neg h1, if_neg h2, dif_pos h3]
  by_cases h4 : c.val - 1216 - 64 - 128 < 32
  · simp only [dif_neg h1, if_neg h2, dif_neg h3, dif_pos h4]
  by_cases h5 : c.val - 1216 - 64 - 128 - 32 < 16
  · simp only [dif_neg h1, if_neg h2, dif_neg h3, dif_neg h4, dif_pos h5]
    exact sum_neg hx fun j => hw j _
  by_cases h6 : c.val - 1216 - 64 - 128 - 32 < 32
  · simp only [dif_neg h1, if_neg h2, dif_neg h3, dif_neg h4, dif_neg h5, dif_pos h6]
  · simp only [dif_neg h1, if_neg h2, dif_neg h3, dif_neg h4, dif_neg h5, dif_neg h6, mul_zero, Finset.sum_const_zero]

/-- The stacked second matrix's products, likewise. -/
theorem lin_stack2 {n : ℕ} {x : Fin n → EReal} {w : Fin n → Fin 384 → EReal} (hx : ∀ j, IsReal (x j))
    (hw : ∀ j k, IsReal (w j k)) (c : Fin 512) : lin x (fun j => stack2 (w j)) c = stack2 (lin x w) c := by
  unfold lin stack2
  by_cases h1 : c.val < 256
  · simp only [dif_pos h1]
  by_cases h2 : c.val - 256 < 128
  · simp only [dif_neg h1, dif_pos h2]
  by_cases h3 : (c.val - 256 - 128) % 32 < 16
  · simp only [dif_neg h1, dif_neg h2, dif_pos h3]
    exact sum_neg hx fun j => hw j _
  · simp only [dif_neg h1, dif_neg h2, dif_neg h3]

/-! ## The two forms agree -/

/-- The first 1216 stacked columns are the plain ones. -/
theorem stack1_low (p : Fin 1376 → EReal) (c : ℕ) (h : c < 1216) : stack1 p ⟨c, by omega⟩ = p ⟨c, by omega⟩ := by
  unfold stack1; exact dif_pos h

/-- Key and value lanes agree. -/
theorem keyval_eq (p : Fin 1376 → EReal) (k : Fin 384) : keyval' (stack1 p) k = keyval p k := by
  unfold keyval' keyval
  split_ifs <;> first | rfl | exact stack1_low p _ (by omega)

/-- The padded latents are the plain ones, with the second matrix's columns stacked. -/
theorem latents_eq {p : Fin 1376 → EReal} {gq : Fin 192 → EReal} {wq : Fin 192 → Fin 384 → EReal}
    (hp : ∀ k, IsReal (p k)) (hg : ∀ j, IsReal (gq j)) (hw : ∀ j k, IsReal (wq j k))
    (gq' : Fin 256 → EReal) (wq' : Fin 256 → Fin 512 → EReal) (hgq : ∀ j : Fin 192, gq' ⟨j.val, by omega⟩ = gq j)
    (hwq : ∀ j : Fin 192, ∀ c, wq' ⟨j.val, by omega⟩ c = stack2 (wq j) c)
    (hz : ∀ j : Fin 256, 192 ≤ j.val → ∀ c, wq' j c = 0) (c : Fin 512) :
    latents' (stack1 p) gq' wq' c = stack2 (latents p gq wq) c := by
  have hv : ∀ j : Fin 192, stack1 p ⟨1024 + j.val, by omega⟩ = p ⟨1024 + j.val, by omega⟩ :=
    fun j => stack1_low p _ (by omega)
  have hv0 : ∀ j : Fin 256, 192 ≤ j.val → stack1 p ⟨1024 + j.val, by omega⟩ = 0 := fun j hj => by
    unfold stack1
    rw [dif_neg (show ¬ 1024 + j.val < 1216 by omega), if_pos (show 1024 + j.val - 1216 < 64 by omega)]
  have hs : ∑ j : Fin 256, stack1 p ⟨1024 + j.val, by omega⟩ * stack1 p ⟨1024 + j.val, by omega⟩
      = ∑ j : Fin 192, p ⟨1024 + j.val, by omega⟩ * p ⟨1024 + j.val, by omega⟩ := by
    rw [sum_pad _ fun j hj => by rw [hv0 j hj, zero_mul]]
    exact Finset.sum_congr rfl fun j _ => by rw [hv j]
  refine Eq.trans ?_ (lin_stack2 (fun j => rms_isReal inv192_nonneg (fun j => hp _) hg j) hw c)
  unfold latents' lin
  rw [sum_pad _ fun j hj => by rw [hz j hj, mul_zero]]
  refine Finset.sum_congr rfl fun j _ => ?_
  rw [hwq]
  unfold rms
  rw [hs]
  dsimp only
  rw [hv j, hgq]

/-- One head's latent query agrees. -/
theorem headQuery_eq (q : Fin 384 → EReal) (wk : Fin 128 → Fin 256 → EReal) (cs sn : Fin 16 → EReal) (qx : Fin 48 → EReal)
    (h : Fin 4) (k : Fin 208) :
    headQuery' (stack2 q) (diag wk) (fun l => cs ⟨l.val % 16, by omega⟩) (fun l => sn ⟨l.val % 16, by omega⟩) qx h k
      = headQuery q wk cs sn qx h k := by
  unfold headQuery' headQuery
  by_cases hk : k.val < 128
  · rw [dif_pos hk, dif_pos hk]
    congr 1
    rw [sum_head _ h fun j hj => ?_]
    · refine Finset.sum_congr rfl fun d _ => ?_
      unfold stack2 diag
      rw [dif_pos (show h.val * 64 + d.val < 256 by omega),
        if_pos (show (h.val * 64 + d.val) / 64 = (h.val * 128 + k.val) / 128 by omega)]
      congr 3 <;> · simp only [Fin.mk.injEq]; omega
    · unfold diag
      rw [if_neg (show ¬ j.val / 64 = (h.val * 128 + k.val) / 128 by omega), mul_zero]
  rw [dif_neg hk, dif_neg hk]
  by_cases hk2 : k.val - 128 < 48
  · rw [dif_pos hk2, dif_pos hk2]
  rw [dif_neg hk2, dif_neg hk2]
  congr 1
  have e1 : stack2 q ⟨256 + (h.val * 32 + (k.val - 128 - 48)), by omega⟩ = q ⟨h.val * 96 + (64 + (k.val - 128 - 48)), by omega⟩ := by
    unfold stack2
    rw [dif_neg (by show ¬ 256 + (h.val * 32 + (k.val - 128 - 48)) < 256; omega),
      dif_pos (by show 256 + (h.val * 32 + (k.val - 128 - 48)) - 256 < 128; omega)]
    congr 1; simp only [Fin.mk.injEq]; omega
  unfold rope
  by_cases hr : k.val - 128 - 48 < 16
  · have e2 : stack2 q ⟨384 + (h.val * 32 + (k.val - 128 - 48)), by omega⟩
        = -q ⟨h.val * 96 + (64 + (16 + (k.val - 128 - 48))), by omega⟩ := by
      unfold stack2
      rw [dif_neg (by show ¬ 384 + (h.val * 32 + (k.val - 128 - 48)) < 256; omega),
        dif_neg (by show ¬ 384 + (h.val * 32 + (k.val - 128 - 48)) - 256 < 128; omega),
        dif_pos (by show (384 + (h.val * 32 + (k.val - 128 - 48)) - 256 - 128) % 32 < 16; omega)]
      congr 2; simp only [Fin.mk.injEq]; omega
    rw [dif_pos (show k.val - 128 - 48 < 16 from hr), e1, e2, neg_mul, sub_eq_add_neg]
    have hm : (h.val * 32 + (k.val - 128 - 48)) % 16 = k.val - 128 - 48 := by omega
    simp only [hm]
  · have e2 : stack2 q ⟨384 + (h.val * 32 + (k.val - 128 - 48)), by omega⟩
        = q ⟨h.val * 96 + (64 + (k.val - 128 - 48 - 16)), by omega⟩ := by
      unfold stack2
      rw [dif_neg (by show ¬ 384 + (h.val * 32 + (k.val - 128 - 48)) < 256; omega),
        dif_neg (by show ¬ 384 + (h.val * 32 + (k.val - 128 - 48)) - 256 < 128; omega),
        dif_neg (by show ¬ (384 + (h.val * 32 + (k.val - 128 - 48)) - 256 - 128) % 32 < 16; omega)]
      congr 1; simp only [Fin.mk.injEq]; omega
    rw [dif_neg (show ¬ k.val - 128 - 48 < 16 from hr), e1, e2, add_comm]
    have hm : (h.val * 32 + (k.val - 128 - 48)) % 16 = k.val - 128 - 48 - 16 := by omega
    have hn : 64 + (16 + (k.val - 128 - 48 - 16)) = 64 + (k.val - 128 - 48) := by omega
    simp only [hm, hn]

/-- The stacked columns of the key latents. -/
theorem stack1_lat (p : Fin 1376 → EReal) (c : Fin 1536) (h : 1280 ≤ c.val) (h' : c.val < 1408) :
    stack1 p c = p ⟨c.val - 64, by omega⟩ := by
  unfold stack1
  rw [dif_neg (by omega), if_neg (by omega), dif_pos (by omega)]
  congr 1; apply Fin.ext; dsimp only; omega

/-- The stacked columns of the rotary keys. -/
theorem stack1_rope (p : Fin 1376 → EReal) (c : Fin 1536) (h : 1408 ≤ c.val) (h' : c.val < 1440) :
    stack1 p c = p ⟨c.val - 64, by omega⟩ := by
  unfold stack1
  rw [dif_neg (by omega), if_neg (by omega), dif_neg (by omega), dif_pos (by omega)]
  congr 1; apply Fin.ext; dsimp only; omega

/-- The turned columns' first half, negated. -/
theorem stack1_neg (p : Fin 1376 → EReal) (c : Fin 1536) (h : 1440 ≤ c.val) (h' : c.val < 1456) :
    stack1 p c = -p ⟨c.val - 80, by omega⟩ := by
  unfold stack1
  rw [dif_neg (by omega), if_neg (by omega), dif_neg (by omega), dif_neg (by omega), dif_pos (by omega)]
  congr 2; apply Fin.ext; dsimp only; omega

/-- The turned columns' second half. -/
theorem stack1_turn (p : Fin 1376 → EReal) (c : Fin 1536) (h : 1456 ≤ c.val) (h' : c.val < 1472) :
    stack1 p c = p ⟨c.val - 112, by omega⟩ := by
  unfold stack1
  rw [dif_neg (by omega), if_neg (by omega), dif_neg (by omega), dif_neg (by omega), dif_neg (by omega), dif_pos (by omega)]
  congr 1; apply Fin.ext; dsimp only; omega

/-- The rotary lane of the latent key. -/
theorem rope_key (p : Fin 1376 → EReal) (cs sn : Fin 16 → EReal) (r : Fin 32) :
    stack1 p ⟨1408 + r.val, by omega⟩ * cs ⟨r.val % 16, by omega⟩ + stack1 p ⟨1440 + r.val, by omega⟩ * sn ⟨r.val % 16, by omega⟩
      = rope (fun r => p ⟨1344 + r.val, by omega⟩) cs sn r := by
  have hr := r.isLt
  rw [stack1_rope p _ (by dsimp only; omega) (by dsimp only; omega)]
  unfold rope
  by_cases h : r.val < 16
  · rw [dif_pos h, stack1_neg p _ (by dsimp only; omega) (by dsimp only; omega), neg_mul, sub_eq_add_neg]
    congr 3 <;> first | (congr 1; apply Fin.ext; dsimp only; omega) | (apply Fin.ext; dsimp only; omega)
  · rw [dif_neg h, stack1_turn p _ (by dsimp only; omega) (by dsimp only; omega), add_comm]
    congr 3 <;> first | (congr 1; apply Fin.ext; dsimp only; omega) | (apply Fin.ext; dsimp only; omega)

/-- The latent key agrees. -/
theorem latentKey_eq (p : Fin 1376 → EReal) (gk : Fin 128 → EReal) (cs sn : Fin 16 → EReal) (kx : Fin 48 → EReal)
    (k : Fin 208) :
    latentKey' (stack1 p) gk (fun l => cs ⟨l.val % 16, by omega⟩) (fun l => sn ⟨l.val % 16, by omega⟩) kx k
      = latentKey p gk cs sn kx k := by
  unfold latentKey' latentKey
  by_cases hk : k.val < 128
  · rw [dif_pos hk, dif_pos hk]
    congr 1
    funext j
    rw [stack1_lat p _ (by dsimp only; omega) (by dsimp only; omega)]
    congr 1; apply Fin.ext; dsimp only; omega
  rw [dif_neg hk, dif_neg hk]
  by_cases hk2 : k.val - 128 < 48
  · rw [dif_pos hk2, dif_pos hk2]
  rw [dif_neg hk2, dif_neg hk2]
  exact rope_key p cs sn ⟨k.val - 128 - 48, by omega⟩

/-! ## Words -/

/-- A choice by a lane number's being zero. -/
theorem select_zero (k : ℕ) (hk : k < 64) :
    Scalar.select (IntOp.cmpi CmpIPredicate.eq (BitVec.ofNat 32 k) 0#32) (1 : EReal) 0 = unit k := by
  interval_cases k <;> rfl

/-- The place of a row as a word: no wrap below two tiles. -/
theorem word_row (j : Fin 2) (o r : ℕ) :
    IntOp.addi (Scalar.addi (Scalar.muli (BitVec.ofNat 32 j.val) 2112#32) (BitVec.ofNat 32 o)) (BitVec.ofNat 32 r)
      = BitVec.ofNat 32 (2112 * j.val + (o + r)) := by
  simp only [Scalar.addi, Scalar.muli, IntOp.addi, IntOp.muli]
  rw [mul_comm 2112, ← add_assoc]
  simp only [BitVec.ofNat_add, BitVec.ofNat_mul]

/-- A choice by a row's number being at least 112. -/
theorem select_row (i : ℕ) (hi : i < 4224) (a b : EReal) :
    Scalar.select (IntOp.cmpi CmpIPredicate.sge (BitVec.ofNat 32 i) 112#32) a b = if 112 ≤ i then a else b := by
  have e : (BitVec.ofNat 32 i).toInt = i := by
    have n : (BitVec.ofNat 32 i).toNat = i := by rw [BitVec.toNat_ofNat]; exact Nat.mod_eq_of_lt (by omega)
    rw [BitVec.toInt_eq_toNat_of_lt (by omega), n]
  by_cases h : 112 ≤ i
  · have : (112#32).sle (BitVec.ofNat 32 i) = true := by rw [BitVec.sle_iff_toInt_le, e]; simpa using h
    simp [Scalar.select, IntOp.cmpi, this, h]
  · have : (112#32).sle (BitVec.ofNat 32 i) = false := by
      rw [Bool.eq_false_iff, Ne, BitVec.sle_iff_toInt_le, e]; simpa using h
    simp [Scalar.select, IntOp.cmpi, this, h]

/-- The unit matrix's entry as the program makes it: the equality of two small words, as a number. -/
theorem eq_word (a b : ℕ) (ha : a < 4) (hb : b < 4) :
    FloatOps.uitofp (F := Ideal) FTy.bf16
        (IntOp.cmpi CmpIPredicate.eq (IntOp.addi (BitVec.ofNat 32 a) 0#32) (BitVec.ofNat 32 b))
      = if a = b then (1 : EReal) else 0 := by
  have e : IntOp.cmpi CmpIPredicate.eq (IntOp.addi (BitVec.ofNat 32 a) 0#32) (BitVec.ofNat 32 b) = if a = b then 1#1 else 0#1 := by
    interval_cases a <;> interval_cases b <;> rfl
  rw [e]
  split <;> simp [FloatOps.uitofp]

end Cert.MixRow
-- ==== Proof.Mix3Block.lean ====
/- The first layer's opening kernel: the pieces it stores of its five results, each read at a row and a lane, as the row
   functions of the blocks it loads. -/
module

public import proofs.«01_k».proof.Proof.Gen.Kernel3Ideal.Frame
public import proofs.«01_k».proof.Proof.Kernel2Block
public import proofs.«01_k».proof.Proof.MixRow
public import Idealize.ShloMosaic.Lib.Pointwise
public import Idealize.ShloMosaic.Lib.Pipeline.ValueKit

@[expose] public section

set_option maxRecDepth 16384

noncomputable section

namespace Cert.Kernel3Ideal.Block

open Cert.Kernel3Ideal Cert.Kernel3Ideal.Gen Cert.RowModel Cert.MixRow Idealize.ShloMosaic
open Cert.Kernel2Ideal.Block (select_eq)

/-- The named constant is one over 192. -/
theorem named_eq : Named.named (F := Ideal) κ "inv_192" (φ := .f32) 0x3BAAAAAB#32 = inv192 :=
  IdealRules.named_const.ideal_named_scalar _ _ _ _ rfl

/-- The normed rows times the stacked first matrix. -/
theorem proj_apply (x : Vec Ideal S1x528x1024 .f32) (g : Vec Ideal S1x1024 .f32) (w : Vec Ideal S1x1024x1536 .bf16) (r : Fin 528)
    (c : Fin 1536) :
    k0_pay83 (F := Ideal) x g w (ix2 r c)
      = lin (rms inv1024 (fun j => x (ix3 0 r j)) (fun j => g (ix2 0 j))) (fun i j => w (ix3 0 i j)) c := by
  pointwise [k0_pay83, lin, rms, eps, inv1024]

/-- The first 528 rows a tile works on: 128 from the head or the block's top, the rest from the block. -/
def rows0 (a : BitVec 32) (hd : Vec Ideal S128x1024 .f32) (top : Vec Ideal S1x128x1024 .f32) (x : Vec Ideal S1x400x1024 .f32)
    (r : Fin 528) (k : Fin 1024) : EReal :=
  if h : r.val < 128 then (if a = 0#32 then hd (ix2 ⟨r.val, h⟩ k) else top (ix3 0 ⟨r.val, h⟩ k)) else x (ix3 0 ⟨r.val - 128, by omega⟩ k)

/-- The first rows normed, times the stacked first matrix. -/
theorem proj0_apply (i : grid0.Coords) (hd : Vec Ideal S128x1024 .f32) (top : Vec Ideal S1x128x1024 .f32)
    (x : Vec Ideal S1x400x1024 .f32) (g : Vec Ideal S1x1024 .f32) (w : Vec Ideal S1x1024x1536 .bf16) (r : Fin 528) (c : Fin 1536) :
    k0_pay4 (F := Ideal) i hd top x g w (ix2 r c)
      = lin (rms inv1024 (rows0 (BitVec.ofNat 32 (i 1).val) hd top x r) (fun j => g (ix2 0 j))) (fun i j => w (ix3 0 i j)) c := by
  unfold rows0
  pointwise [k0_pay4, lin, rms, eps, inv1024]
  simp only [select_eq]

/-- The windowed-attention queries. -/
theorem query_apply (v : FVec Ideal S528x1536 .f32) (r : Fin 528) (k : Fin 512) :
    k0_pay88 (F := Ideal) v (ix3 0 r k) = v (ix2 r ⟨256 + k.val, by omega⟩) * swaScale := by
  pointwise [k0_pay88, swaScale]

/-- The windowed-attention keys. -/
theorem key_apply (v : FVec Ideal S528x1536 .f32) (r : Fin 528) (k : Fin 128) :
    k0_pay89 (F := Ideal) v (ix3 0 r k) = v (ix2 r ⟨768 + k.val, by omega⟩) := by
  pointwise [k0_pay89]

/-- The first head's values. -/
theorem val0_apply (v : FVec Ideal S528x1536 .f32) (r : Fin 528) (k : Fin 64) :
    k0_pay91 (F := Ideal) v (ix3 0 r k) = v (ix2 r ⟨896 + k.val, by omega⟩) := by
  pointwise [k0_pay91]

/-- The second head's values. -/
theorem val1_apply (v : FVec Ideal S528x1536 .f32) (r : Fin 528) (k : Fin 64) :
    k0_pay93 (F := Ideal) v (ix3 0 r k) = v (ix2 r ⟨960 + k.val, by omega⟩) := by
  pointwise [k0_pay93]

/-- The normed query latents times the stacked second matrix. -/
theorem latents_apply (v : FVec Ideal S528x1536 .f32) (g : Vec Ideal S1x256 .f32) (w : Vec Ideal S1x256x512 .bf16) (r : Fin 528)
    (c : Fin 512) :
    k0_pay95 (F := Ideal) v g w (ix2 r c)
      = latents' (fun j => v (ix2 r j)) (fun j => g (ix2 0 j)) (fun i j => w (ix3 0 i j)) c := by
  unfold latents'
  pointwise [k0_pay95, lin, rms, eps]
  simp only [named_eq]

/-- The unit column beside the first head's values. -/
theorem unit0_apply (r : Fin 528) (k : Fin 64) : k0_pay92 (F := Ideal) (ix3 0 r k) = unit k.val := by
  pointwise [k0_pay92, k0_pay90]
  exact select_zero _ k.isLt

/-- The unit column beside the second head's values. -/
theorem unit1_apply (r : Fin 528) (k : Fin 64) : k0_pay94 (F := Ideal) k0_pay90 (ix3 0 r k) = unit k.val := by
  pointwise [k0_pay94, k0_pay90]
  exact select_zero _ k.isLt

section Lanes

variable (v : FVec Ideal S528x1536 .f32) (gq : Vec Ideal S1x256 .f32) (wq wk : Vec Ideal S1x256x512 .bf16)
  (cos sin : Vec Ideal S528x128 .f32) (gk : Vec Ideal S1x128 .f32)

/-- The table's lanes of a latent query. -/
theorem tableq_apply (x : Vec Ideal S528x48 .bf16) (q : Fin 512 → EReal) (w : Fin 256 → Fin 512 → EReal) (cs sn : Fin 128 → EReal)
    (h : Fin 4) (r : Fin 528) (k : Fin 48) :
    k0_pay102 (F := Ideal) x (ix4 0 0 r k) = headQuery' q w cs sn (fun j => x (ix2 r j)) h ⟨128 + k.val, by omega⟩ := by
  have hk := k.isLt
  unfold headQuery'
  rw [dif_neg (by dsimp only; omega), dif_pos (by dsimp only; omega)]
  pointwise [k0_pay102]

/-- The table's lanes of the latent key. -/
theorem tablek_apply (x : Vec Ideal S528x48 .bf16) (p : Fin 1536 → EReal) (g cs sn : Fin 128 → EReal) (r : Fin 528) (k : Fin 48) :
    k0_pay114 (F := Ideal) x (ix3 0 r k) = latentKey' p g cs sn (fun j => x (ix2 r j)) ⟨128 + k.val, by omega⟩ := by
  have hk := k.isLt
  unfold latentKey'
  rw [dif_neg (by dsimp only; omega), dif_pos (by dsimp only; omega)]
  pointwise [k0_pay114]

/-- The normed key latents. -/
theorem latk_apply (cs sn : Fin 128 → EReal) (kx : Fin 48 → EReal) (r : Fin 528) (k : Fin 128) :
    k0_pay113 (F := Ideal) (k0_pay99 v gk) (ix3 0 r k)
      = latentKey' (fun j => v (ix2 r j)) (fun j => gk (ix2 0 j)) cs sn kx ⟨k.val, by omega⟩ := by
  unfold latentKey'
  rw [dif_pos k.isLt]
  pointwise [k0_pay113, k0_pay99, rms, eps, inv128]

/-- The rotary lanes of the latent key. -/
theorem ropek_apply (g : Fin 128 → EReal) (kx : Fin 48 → EReal) (r : Fin 528) (k : Fin 32) :
    k0_pay115 (F := Ideal) (k0_pay100 v cos sin) (ix3 0 r k)
      = latentKey' (fun j => v (ix2 r j)) g (fun l => cos (ix2 r l)) (fun l => sin (ix2 r l)) kx ⟨176 + k.val, by omega⟩ := by
  have hk := k.isLt
  have e : 176 + k.val - 128 - 48 = k.val := by omega
  unfold latentKey'
  rw [dif_neg (by dsimp only; omega), dif_neg (by dsimp only; omega)]
  have e' : 1440 + k.val = 1408 + (32 + k.val) := by omega
  simp only [e, e']
  pointwise [k0_pay115, k0_pay100]

/-- Head 0's absorbed lanes. -/
theorem latq0_apply (cs sn : Fin 128 → EReal) (qx : Fin 48 → EReal) (r : Fin 528) (k : Fin 128) :
    k0_pay101 (F := Ideal) (k0_pay97 v gq wq) wk (ix4 0 0 r k)
      = headQuery' (latents' (fun j => v (ix2 r j)) (fun j => gq (ix2 0 j)) (fun i j => wq (ix3 0 i j))) (fun i j => wk (ix3 0 i j))
          cs sn qx 0 ⟨k.val, by omega⟩ := by
  unfold headQuery'
  rw [dif_pos k.isLt]
  simp only [← latents_apply]
  pointwise [k0_pay101, k0_pay98, k0_pay97, mlaScale]

/-- Head 0's rotary lanes. -/
theorem ropeq0_apply (w : Fin 256 → Fin 512 → EReal) (qx : Fin 48 → EReal) (r : Fin 528) (k : Fin 32) :
    k0_pay103 (F := Ideal) (k0_pay96 v cos sin gq wq) (ix4 0 0 r k)
      = headQuery' (latents' (fun j => v (ix2 r j)) (fun j => gq (ix2 0 j)) (fun i j => wq (ix3 0 i j))) w
          (fun l => cos (ix2 r l)) (fun l => sin (ix2 r l)) qx 0 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay103, k0_pay96, mlaScale]

/-- Head 1's absorbed lanes. -/
theorem latq1_apply (cs sn : Fin 128 → EReal) (qx : Fin 48 → EReal) (r : Fin 528) (k : Fin 128) :
    k0_pay104 (F := Ideal) (k0_pay98 (k0_pay97 v gq wq) wk) (ix4 0 0 r k)
      = headQuery' (latents' (fun j => v (ix2 r j)) (fun j => gq (ix2 0 j)) (fun i j => wq (ix3 0 i j))) (fun i j => wk (ix3 0 i j))
          cs sn qx 1 ⟨k.val, by omega⟩ := by
  unfold headQuery'
  rw [dif_pos k.isLt]
  simp only [← latents_apply]
  pointwise [k0_pay104, k0_pay98, k0_pay97, mlaScale]

/-- Head 1's rotary lanes. -/
theorem ropeq1_apply (w : Fin 256 → Fin 512 → EReal) (qx : Fin 48 → EReal) (r : Fin 528) (k : Fin 32) :
    k0_pay106 (F := Ideal) (k0_pay96 v cos sin gq wq) (ix4 0 0 r k)
      = headQuery' (latents' (fun j => v (ix2 r j)) (fun j => gq (ix2 0 j)) (fun i j => wq (ix3 0 i j))) w
          (fun l => cos (ix2 r l)) (fun l => sin (ix2 r l)) qx 1 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay106, k0_pay96, mlaScale]

/-- Head 2's absorbed lanes. -/
theorem latq2_apply (cs sn : Fin 128 → EReal) (qx : Fin 48 → EReal) (r : Fin 528) (k : Fin 128) :
    k0_pay107 (F := Ideal) (k0_pay98 (k0_pay97 v gq wq) wk) (ix4 0 0 r k)
      = headQuery' (latents' (fun j => v (ix2 r j)) (fun j => gq (ix2 0 j)) (fun i j => wq (ix3 0 i j))) (fun i j => wk (ix3 0 i j))
          cs sn qx 2 ⟨k.val, by omega⟩ := by
  unfold headQuery'
  rw [dif_pos k.isLt]
  simp only [← latents_apply]
  pointwise [k0_pay107, k0_pay98, k0_pay97, mlaScale]

/-- Head 2's rotary lanes. -/
theorem ropeq2_apply (w : Fin 256 → Fin 512 → EReal) (qx : Fin 48 → EReal) (r : Fin 528) (k : Fin 32) :
    k0_pay109 (F := Ideal) (k0_pay96 v cos sin gq wq) (ix4 0 0 r k)
      = headQuery' (latents' (fun j => v (ix2 r j)) (fun j => gq (ix2 0 j)) (fun i j => wq (ix3 0 i j))) w
          (fun l => cos (ix2 r l)) (fun l => sin (ix2 r l)) qx 2 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay109, k0_pay96, mlaScale]

/-- Head 3's absorbed lanes. -/
theorem latq3_apply (cs sn : Fin 128 → EReal) (qx : Fin 48 → EReal) (r : Fin 528) (k : Fin 128) :
    k0_pay110 (F := Ideal) (k0_pay98 (k0_pay97 v gq wq) wk) (ix4 0 0 r k)
      = headQuery' (latents' (fun j => v (ix2 r j)) (fun j => gq (ix2 0 j)) (fun i j => wq (ix3 0 i j))) (fun i j => wk (ix3 0 i j))
          cs sn qx 3 ⟨k.val, by omega⟩ := by
  unfold headQuery'
  rw [dif_pos k.isLt]
  simp only [← latents_apply]
  pointwise [k0_pay110, k0_pay98, k0_pay97, mlaScale]

/-- Head 3's rotary lanes. -/
theorem ropeq3_apply (w : Fin 256 → Fin 512 → EReal) (qx : Fin 48 → EReal) (r : Fin 528) (k : Fin 32) :
    k0_pay112 (F := Ideal) (k0_pay96 v cos sin gq wq) (ix4 0 0 r k)
      = headQuery' (latents' (fun j => v (ix2 r j)) (fun j => gq (ix2 0 j)) (fun i j => wq (ix3 0 i j))) w
          (fun l => cos (ix2 r l)) (fun l => sin (ix2 r l)) qx 3 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay112, k0_pay96, mlaScale]

end Lanes

/-- Slab 0 of the state-space lanes, rows from 0 on. -/
theorem ssm00_apply (i : grid0.Coords) (v : FVec Ideal S528x1536 .f32)
    (r : Fin 528) (k : Fin 128) :
    k0_pay6 (F := Ideal) v (Scalar.muli (BitVec.ofNat 32 (i 1).val) 2112#32) 0#32 (ix4 0 0 r k)
      = if 112 ≤ 2112 * (i 1).val + (0 + r.val) then v (ix2 r ⟨0 + k.val, by omega⟩) else 0 := by
  have hr := r.isLt
  have hj : (i 1).val < 2 := (i 1).isLt
  rw [← select_row _ (by omega), ← word_row ⟨(i 1).val, hj⟩]
  pointwise [k0_pay6, k0_pay5] <;> rfl

/-- Slab 1 of the state-space lanes, rows from 0 on. -/
theorem ssm01_apply (i : grid0.Coords) (v : FVec Ideal S528x1536 .f32)
    (r : Fin 528) (k : Fin 128) :
    k0_pay7 (F := Ideal) v (Scalar.muli (BitVec.ofNat 32 (i 1).val) 2112#32) 0#32 (ix4 0 0 r k)
      = if 112 ≤ 2112 * (i 1).val + (0 + r.val) then v (ix2 r ⟨128 + k.val, by omega⟩) else 0 := by
  have hr := r.isLt
  have hj : (i 1).val < 2 := (i 1).isLt
  rw [← select_row _ (by omega), ← word_row ⟨(i 1).val, hj⟩]
  pointwise [k0_pay7, k0_pay5] <;> rfl

/-- Slab 0 of the state-space lanes, rows from 528 on. -/
theorem ssm10_apply (i : grid0.Coords) (x : FVec Ideal S528x1024 .f32) (g : FVec Ideal S1x1024 .f32) (s : FVec Ideal S528x1 .f32) (e : Ideal .f32) (w : Vec Ideal S1x1024x1536 .bf16)
    (r : Fin 528) (k : Fin 128) :
    k0_pay48 (F := Ideal) (BitVec.ofNat 32 (i 1).val) x g s e w (ix4 0 0 r k)
      = if 112 ≤ 2112 * (i 1).val + (528 + r.val) then k0_pay46 (F := Ideal) x g s e w (ix2 r ⟨0 + k.val, by omega⟩) else 0 := by
  have hr := r.isLt
  have hj : (i 1).val < 2 := (i 1).isLt
  rw [← select_row _ (by omega), ← word_row ⟨(i 1).val, hj⟩]
  pointwise [k0_pay48, k0_pay47] <;> rfl

/-- Slab 1 of the state-space lanes, rows from 528 on. -/
theorem ssm11_apply (i : grid0.Coords) (x : FVec Ideal S528x1024 .f32) (g : FVec Ideal S1x1024 .f32) (s : FVec Ideal S528x1 .f32) (e : Ideal .f32) (w : Vec Ideal S1x1024x1536 .bf16)
    (r : Fin 528) (k : Fin 128) :
    k0_pay49 (F := Ideal) (BitVec.ofNat 32 (i 1).val) x g s e w (ix4 0 0 r k)
      = if 112 ≤ 2112 * (i 1).val + (528 + r.val) then k0_pay46 (F := Ideal) x g s e w (ix2 r ⟨128 + k.val, by omega⟩) else 0 := by
  have hr := r.isLt
  have hj : (i 1).val < 2 := (i 1).isLt
  rw [← select_row _ (by omega), ← word_row ⟨(i 1).val, hj⟩]
  pointwise [k0_pay49, k0_pay47] <;> rfl

/-- Slab 0 of the state-space lanes, rows from 1056 on. -/
theorem ssm20_apply (i : grid0.Coords) (x : Vec Ideal S1x528x1024 .f32) (g : Vec Ideal S1x1024 .f32) (w : Vec Ideal S1x1024x1536 .bf16)
    (r : Fin 528) (k : Fin 128) :
    k0_pay85 (F := Ideal) (BitVec.ofNat 32 (i 1).val) x g w (ix4 0 0 r k)
      = if 112 ≤ 2112 * (i 1).val + (1056 + r.val) then k0_pay83 (F := Ideal) x g w (ix2 r ⟨0 + k.val, by omega⟩) else 0 := by
  have hr := r.isLt
  have hj : (i 1).val < 2 := (i 1).isLt
  rw [← select_row _ (by omega), ← word_row ⟨(i 1).val, hj⟩]
  pointwise [k0_pay85, k0_pay84] <;> rfl

/-- Slab 1 of the state-space lanes, rows from 1056 on. -/
theorem ssm21_apply (i : grid0.Coords) (v : FVec Ideal S528x1536 .f32)
    (r : Fin 528) (k : Fin 128) :
    k0_pay87 (F := Ideal) v (k0_pay86 (BitVec.ofNat 32 (i 1).val)) (ix4 0 0 r k)
      = if 112 ≤ 2112 * (i 1).val + (1056 + r.val) then v (ix2 r ⟨128 + k.val, by omega⟩) else 0 := by
  have hr := r.isLt
  have hj : (i 1).val < 2 := (i 1).isLt
  rw [← select_row _ (by omega), ← word_row ⟨(i 1).val, hj⟩]
  pointwise [k0_pay87, k0_pay86, k0_pay84] <;> rfl

/-- Slab 0 of the state-space lanes, rows from 1584 on. -/
theorem ssm30_apply (i : grid0.Coords) (v : FVec Ideal S528x1536 .f32)
    (r : Fin 528) (k : Fin 128) :
    k0_pay119 (F := Ideal) v (k0_pay117 (BitVec.ofNat 32 (i 1).val)) k0_pay118 (ix4 0 0 r k)
      = if 112 ≤ 2112 * (i 1).val + (1584 + r.val) then v (ix2 r ⟨0 + k.val, by omega⟩) else 0 := by
  have hr := r.isLt
  have hj : (i 1).val < 2 := (i 1).isLt
  rw [← select_row _ (by omega), ← word_row ⟨(i 1).val, hj⟩]
  pointwise [k0_pay119, k0_pay117, k0_pay118] <;> rfl

/-- Slab 1 of the state-space lanes, rows from 1584 on. -/
theorem ssm31_apply (i : grid0.Coords) (v : FVec Ideal S528x1536 .f32)
    (r : Fin 528) (k : Fin 128) :
    k0_pay120 (F := Ideal) v (k0_pay117 (BitVec.ofNat 32 (i 1).val)) (ix4 0 0 r k)
      = if 112 ≤ 2112 * (i 1).val + (1584 + r.val) then v (ix2 r ⟨128 + k.val, by omega⟩) else 0 := by
  have hr := r.isLt
  have hj : (i 1).val < 2 := (i 1).isLt
  rw [← select_row _ (by omega), ← word_row ⟨(i 1).val, hj⟩]
  pointwise [k0_pay120, k0_pay117] <;> rfl

end Cert.Kernel3Ideal.Block
-- ==== Proof.Mix3Win.lean ====
/- The first layer's opening kernel, each block window read off the argument arrays. -/
module

public import proofs.«01_k».proof.Proof.Gen.Kernel3Ideal.Value
public import proofs.«01_k».proof.Proof.Mix3Block
public import Idealize.ShloMosaic.Lib.Pointwise
public import Idealize.ShloMosaic.Lib.StableHlo.RunRead
public import Idealize.ShloMosaic.Lib.Pipeline.ValueKit

@[expose] public section

set_option maxRecDepth 16384

noncomputable section

namespace Cert.Kernel3Ideal.Win

open Idealize.ShloMosaic.StableHlo (TRef)
open Cert.Kernel3Ideal Cert.Kernel3Ideal.Gen Cert.Kernel3Ideal.Block Cert.RowModel Cert.MixRow Idealize.ShloMosaic
  Idealize.ShloMosaic.TcCoe Idealize.SL.Sem

variable (m : (ℓ : Loc nD τ sig) → Buf (Elt Ideal) ℓ)

/-- The places of the windows: batch `t / 2` and tile `t mod 2` of the results, the tile of the tables, the tokens from 128 rows
    before the tile or from their first row,
    the first layer of the weights. -/
theorem idx : ∀ t : Fin grid0.N,
    (win0_0.index t 0 = t.val / 2 ∧ win0_0.index t 1 = 2112 * (t.val % 2) - 128 ∧ win0_0.index t 2 = 0)
    ∧ (win0_1.index t 0 = 0 ∧ win0_1.index t 1 = 0)
    ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = t.val % 2 ∧ win0_8.index t 1 = 0) ∧ (win0_9.index t 0 = t.val % 2 ∧ win0_9.index t 1 = 0)
    ∧ (win0_10.index t 0 = t.val % 2 ∧ win0_10.index t 1 = 0) ∧ (win0_11.index t 0 = t.val % 2 ∧ win0_11.index t 1 = 0)
    ∧ (win0_12.index t 0 = t.val / 2 ∧ win0_12.index t 1 = 0 ∧ win0_12.index t 2 = t.val % 2 ∧ win0_12.index t 3 = 0)
    ∧ (win0_13.index t 0 = t.val / 2 ∧ win0_13.index t 1 = t.val % 2 ∧ win0_13.index t 2 = 0)
    ∧ (win0_14.index t 0 = t.val / 2 ∧ win0_14.index t 1 = t.val % 2 ∧ win0_14.index t 2 = 0)
    ∧ (win0_15.index t 0 = t.val / 2 ∧ win0_15.index t 1 = 0 ∧ win0_15.index t 2 = t.val % 2 ∧ win0_15.index t 3 = 0)
    ∧ (win0_16.index t 0 = t.val / 2 ∧ win0_16.index t 1 = t.val % 2 ∧ win0_16.index t 2 = 0) := by
  decide +kernel

/-- The body's tile number. -/
theorem tile : ∀ t : Fin grid0.N, (grid0.coords t 1).val = t.val % 2 := by
  decide +kernel

/-- Two lines of host operations one after the other. -/
theorem after_append (a b : List (HloOp τ sig (Elt Ideal))) (σ : Valuation τ sig (Elt Ideal)) :
    StableHlo.after (a ++ b) σ = StableHlo.after b (StableHlo.after a σ) := by
  induction a generalizing σ with
  | nil => rfl
  | cons op a ih => exact ih _

/-- The buffers at the region's entry, line by line. -/
theorem V_eq (c : Dev nD) (b : Ref sig .tc) :
    V m c b = StableHlo.after hostOps0_2 (StableHlo.after hostOps0_1 (StableHlo.after hostOps0 fun b => m (c, b))) b := by
  unfold V
  rw [List.flatten_cons, after_append, List.flatten_cons, after_append, List.flatten_cons, after_append]
  rfl

/-- At a batch's first tile the body takes the head and reads the block from its first row on. -/
theorem first : ∀ t : Fin grid0.N, t.val % 2 = 0 →
    BitVec.ofNat 32 (grid0.coords t 1).val = 0#32 ∧ k0_off1 (grid0.coords t) = ![0, 0, 0]
      ∧ k0_off2 (grid0.coords t) 528#32 = ![0, 400, 0] ∧ k0_off2 (grid0.coords t) 1056#32 = ![0, 928, 0]
      ∧ k0_off2 (grid0.coords t) 1584#32 = ![0, 1456, 0] := by
  decide +kernel

/-- At the other it reads the block throughout. -/
theorem later : ∀ t : Fin grid0.N, t.val % 2 ≠ 0 →
    BitVec.ofNat 32 (grid0.coords t 1).val ≠ 0#32 ∧ k0_off1 (grid0.coords t) = ![0, 128, 0]
      ∧ k0_off2 (grid0.coords t) 528#32 = ![0, 528, 0] ∧ k0_off2 (grid0.coords t) 1056#32 = ![0, 1056, 0]
      ∧ k0_off2 (grid0.coords t) 1584#32 = ![0, 1584, 0] := by
  decide +kernel

/-- Where an element of the tokens' block lies in their array. -/
theorem emb0 (t : Fin grid0.N) (r : Fin 2112) (k : Fin 1024) (b : Fin 4) (i : Fin 4096) (hb : b.val = t.val / 2)
    (hi : i.val = 2112 * (t.val % 2) - 128 + r.val) : (win0_0.blk t).view.emb (ix3 0 r k) = ix3 b i k := by
  funext a
  apply Fin.ext
  refine (win0_0.rect_emb_val_off t (ix3 0 r k) a).trans ?_
  have h := (idx t).1
  match a with
  | ⟨0, _⟩ => exact (congrArg (· + 0) h.1).trans (by simpa using hb.symm)
  | ⟨1, _⟩ => exact (congrArg (· + r.val) h.2.1).trans (by simpa using hi.symm)
  | ⟨2, _⟩ => exact (congrArg (· + k.val) h.2.2).trans (by simp [ix3])

/-- The tokens' block: batch `b`, row `i`. -/
theorem blk0 (c : Dev nD) (t : Fin grid0.N) (r : Fin 2112) (k : Fin 1024) (b : Fin 4) (i : Fin 4096) (hb : b.val = t.val / 2)
    (hi : i.val = 2112 * (t.val % 2) - 128 + r.val) :
    iblk m c 0 t (ix3 0 r k) = m ((c : Thread nD τ).loc main_arg0) (ix3 b i k) := by
  rw [← V_main_arg0 m c, ← emb0 t r k b i hb hi]
  rfl

/-- The head: 112 empty rows and the meta tokens. -/
theorem blk1 (c : Dev nD) (t : Fin grid0.N) (r : Fin 128) (k : Fin 1024) :
    iblk m c 1 t (ix2 r k)
      = if h : r.val < 112 then (0 : EReal) else (m ((c : Thread nD τ).loc main_arg1) (ix2 ⟨r.val - 112, by omega⟩ k) : EReal) := by
  have h : iblk m c 1 t (ix2 r k) = V m c main_v1 (ix2 r k) := by
    blk_ext [iblk, idx t]
  rw [h]
  rw [V_eq]
  entry_read
  pointwise

/-- The first norm's gains. -/
theorem blk2 (c : Dev nD) (t : Fin grid0.N) (k : Fin 1024) :
    iblk m c 2 t (ix2 0 k) = m ((c : Thread nD τ).loc main_arg2) (ix2 0 k) := by
  have h : iblk m c 2 t (ix2 0 k) = V m c main_v55 (ix2 0 k) := by
    blk_ext [iblk, idx t]
  rw [h]
  rw [V_eq]
  entry_read
  pointwise

/-- The stacking line's result, each operand at its own buffer. -/
theorem stack1_read (W : Valuation τ sig (Elt Ideal)) (h1 h2) :
    (StableHlo.nary ![main_v12, main_v13, main_v14, main_v11, main_v18, main_v19] main_v20 (fun u => (concatenate S2x1024x1536 2 [⟨S2x1024x1216, (u 0 : (⟨S2x1024x1216, .bf16⟩ : BufTy).Contents (Elt Ideal))⟩, ⟨S2x1024x64, (u 1 : (⟨S2x1024x64, .bf16⟩ : BufTy).Contents (Elt Ideal))⟩, ⟨S2x1024x128, (u 2 : (⟨S2x1024x128, .bf16⟩ : BufTy).Contents (Elt Ideal))⟩, ⟨S2x1024x32, (u 3 : (⟨S2x1024x32, .bf16⟩ : BufTy).Contents (Elt Ideal))⟩, ⟨S2x1024x32, (u 4 : (⟨S2x1024x32, .bf16⟩ : BufTy).Contents (Elt Ideal))⟩, ⟨S2x1024x64, (u 5 : (⟨S2x1024x64, .bf16⟩ : BufTy).Contents (Elt Ideal))⟩] concatenates_S2x1024x1216_S2x1024x64_S2x1024x128_S2x1024x32_S2x1024x32_S2x1024x64_S2x1024x1536_d2 : (⟨S2x1024x1536, .bf16⟩ : BufTy).Contents (Elt Ideal))) h1 h2).result W
        (no_index (Proc.devRef .tc main_v20))
      = concatenate S2x1024x1536 2 [⟨S2x1024x1216, W (Proc.devRef .tc main_v12)⟩, ⟨S2x1024x64, W (Proc.devRef .tc main_v13)⟩, ⟨S2x1024x128, W (Proc.devRef .tc main_v14)⟩, ⟨S2x1024x32, W (Proc.devRef .tc main_v11)⟩, ⟨S2x1024x32, W (Proc.devRef .tc main_v18)⟩, ⟨S2x1024x64, W (Proc.devRef .tc main_v19)⟩] concatenates_S2x1024x1216_S2x1024x64_S2x1024x128_S2x1024x32_S2x1024x32_S2x1024x64_S2x1024x1536_d2 :=
  StableHlo.nary_result _ _ _ h1 h2 W

/-- The stacking line's result, each operand at its own buffer. -/
theorem stack2_read (W : Valuation τ sig (Elt Ideal)) (h1 h2) :
    (StableHlo.nary ![main_v24, main_v25, main_v30] main_v31 (fun u => (concatenate S2x192x512 2 [⟨S2x192x256, (u 0 : (⟨S2x192x256, .bf16⟩ : BufTy).Contents (Elt Ideal))⟩, ⟨S2x192x128, (u 1 : (⟨S2x192x128, .bf16⟩ : BufTy).Contents (Elt Ideal))⟩, ⟨S2x192x128, (u 2 : (⟨S2x192x128, .bf16⟩ : BufTy).Contents (Elt Ideal))⟩] concatenates_S2x192x256_S2x192x128_S2x192x128_S2x192x512_d2 : (⟨S2x192x512, .bf16⟩ : BufTy).Contents (Elt Ideal))) h1 h2).result W
        (no_index (Proc.devRef .tc main_v31))
      = concatenate S2x192x512 2 [⟨S2x192x256, W (Proc.devRef .tc main_v24)⟩, ⟨S2x192x128, W (Proc.devRef .tc main_v25)⟩, ⟨S2x192x128, W (Proc.devRef .tc main_v30)⟩] concatenates_S2x192x256_S2x192x128_S2x192x128_S2x192x512_d2 :=
  StableHlo.nary_result _ _ _ h1 h2 W

/-- A buffer's contents under the type it is given: its own. -/
theorem pad_to (h1 h2 h3) (v : (⟨S2x256x512, .bf16⟩ : BufTy).Contents (Elt Ideal)) :
    (TRef.of main_v32 h1 h2 h3 : TRef sig ⟨S2x256x512, .bf16⟩).toBuf v = v := rfl

/-- A buffer's contents under the type it is given: its own. -/
theorem pad_of (h1 h2 h3) (v : (main_v31 : Ref sig .tc).ty.Contents (Elt Ideal)) :
    (TRef.of main_v31 h1 h2 h3 : TRef sig ⟨S2x192x512, .bf16⟩).ofBuf v = v := rfl

/-- A buffer's contents under the type it is given: its own. -/
theorem zero_of (h1 h2 h3) (v : (main_call0_v0 : Ref sig .tc).ty.Contents (Elt Ideal)) :
    (TRef.of main_call0_v0 h1 h2 h3 : TRef sig ⟨S_, .bf16⟩).ofBuf v = v := rfl

/-- A buffer's contents under the type it is given: its own. -/
theorem zero_of' (h1 h2 h3) (v : (main_c : Ref sig .tc).ty.Contents (Elt Ideal)) :
    (TRef.of main_c h1 h2 h3 : TRef sig ⟨S_, .i32⟩).ofBuf v = v := rfl

/-- The stacked row as the host's slices make it. -/
theorem stack1_entry (w : Fin 1376 → EReal) (k : Fin 1536) :
    (if h : k.val < 1216 then w ⟨k.val, by omega⟩
      else if h : k.val - 1216 < 64 then (0 : EReal)
      else if h : k.val - 1216 - 64 < 128 then w ⟨1216 + (k.val - 1216 - 64), by omega⟩
      else if h : k.val - 1216 - 64 - 128 < 32 then w ⟨1344 + (k.val - 1216 - 64 - 128), by omega⟩
      else if h : k.val - 1216 - 64 - 128 - 32 < 32 then
        if h' : k.val - 1216 - 64 - 128 - 32 < 16 then - w ⟨1344 + (16 + (k.val - 1216 - 64 - 128 - 32)), by omega⟩
        else w ⟨1344 + (k.val - 1216 - 64 - 128 - 32 - 16), by omega⟩
      else 0) = stack1 w k := by
  unfold stack1
  split_ifs <;> first | rfl | (exfalso; omega) | (congr 1; apply Fin.ext; dsimp only; omega) | (congr 2; apply Fin.ext; dsimp only; omega)

/-- The second stacked matrix's row as the host's slices make it. -/
theorem stack2_entry (w : Fin 192 → Fin 384 → EReal) (z : EReal) (hz : z = 0) (i : Fin 256) (k : Fin 512) :
    (if h : i.val < 192 then
        if h1 : k.val < 256 then w ⟨i.val, h⟩ ⟨k.val / 64 * 96 + k.val % 64, by omega⟩
        else if h2 : k.val - 256 < 128 then w ⟨i.val, h⟩ ⟨(k.val - 256) / 32 * 96 + (64 + (k.val - 256) % 32), by omega⟩
        else if h3 : (k.val - 256 - 128) % 32 < 16 then
          - w ⟨i.val, h⟩ ⟨(k.val - 256 - 128) / 32 * 96 + (64 + (16 + (k.val - 256 - 128) % 32)), by omega⟩
        else w ⟨i.val, h⟩ ⟨(k.val - 256 - 128) / 32 * 96 + (64 + ((k.val - 256 - 128) % 32 - 16)), by omega⟩
      else z) = if h : i.val < 192 then stack2 (w ⟨i.val, h⟩) k else 0 := by
  rw [hz]
  unfold stack2
  split_ifs <;> first | rfl | (exfalso; omega) | (congr 1; apply Fin.ext; dsimp only; omega) | (congr 2; apply Fin.ext; dsimp only; omega)

/-- The whole number zero as a number. -/
theorem sitofp_zero : FloatOps.sitofp (F := Ideal) FTy.bf16 0#32 = (0 : EReal) := by
  simp [FloatOps.sitofp]

/-- The first matrix, stacked. -/
theorem blk3 (c : Dev nD) (t : Fin grid0.N) (i : Fin 1024) (k : Fin 1536) :
    iblk m c 3 t (ix3 0 i k) = stack1 (fun k => m ((c : Thread nD τ).loc main_arg3) (ix3 0 i k)) k := by
  have h : iblk m c 3 t (ix3 0 i k) = V m c main_v20 (ix3 0 i k) := by
    blk_ext [iblk, idx t]
  rw [h]
  unfold V
  after_reads_simp [↓stack1_read]
  pointwise
  after_reads_simp
  pointwise
  exact stack1_entry (fun k => m (c, Proc.tc.devRef main_arg3) (ix3 0 i k)) k

/-- The second matrix, stacked and padded. -/
theorem blk6 (c : Dev nD) (t : Fin grid0.N) (i : Fin 256) (k : Fin 512) :
    iblk m c 6 t (ix3 0 i k)
      = if h : i.val < 192 then stack2 (fun k => m ((c : Thread nD τ).loc main_arg6) (ix3 0 ⟨i.val, h⟩ k)) k else 0 := by
  have h : iblk m c 6 t (ix3 0 i k) = V m c main_v32 (ix3 0 i k) := by
    blk_ext [iblk, idx t]
  rw [h]
  unfold V
  after_reads_simp [↓stack2_read, pad_to, pad_of, zero_of, TRef.ofBuf_toBuf, zero_of']
  pointwise
  after_reads_simp
  pointwise
  after_reads_simp
  pointwise
  exact stack2_entry (fun i k => m (c, Proc.tc.devRef main_arg6) (ix3 0 i k)) _ sitofp_zero i k

/-- The query norm's gains, padded. -/
theorem blk4 (c : Dev nD) (t : Fin grid0.N) (k : Fin 256) :
    (iblk m c 4 t (ix2 0 k) : EReal) = if h : k.val < 192 then (m ((c : Thread nD τ).loc main_arg4) (ix2 0 ⟨k.val, h⟩) : EReal) else (0 : EReal) := by
  have h : iblk m c 4 t (ix2 0 k) = V m c main_v52 (ix2 0 k) := by
    blk_ext [iblk, idx t]
  rw [h]
  rw [V_eq]
  entry_read
  pointwise

/-- The key norm's gains. -/
theorem blk5 (c : Dev nD) (t : Fin grid0.N) (k : Fin 128) :
    iblk m c 5 t (ix2 0 k) = m ((c : Thread nD τ).loc main_arg5) (ix2 0 k) := by
  have h : iblk m c 5 t (ix2 0 k) = V m c main_v58 (ix2 0 k) := by
    blk_ext [iblk, idx t]
  rw [h]
  rw [V_eq]
  entry_read
  pointwise

/-- The absorbed matrix's entry, from the matrix and the unit matrix. -/
theorem diag_entry (w : Vec Ideal S2x128x256 .f32) (i : Fin 256) (k : Fin 512) (i' : Fin 128) (j' : Fin 256)
    (hi : i'.val = k.val % 128) (hj : j'.val = i.val / 64 * 64 + i.val % 64) :
    (w (ix3 0 i' j') : EReal) * FloatOps.uitofp (F := Ideal) FTy.bf16
        (IntOp.cmpi CmpIPredicate.eq (IntOp.addi (BitVec.ofNat 32 (i.val / 64)) 0#32) (BitVec.ofNat 32 (k.val / 128)))
      = diag (fun a b => w (ix3 0 a b)) i k := by
  rw [show i' = ⟨k.val % 128, by omega⟩ from Fin.ext hi, show j' = i from Fin.ext (by omega)]
  rw [eq_word (i.val / 64) (k.val / 128) (by omega) (by omega)]
  unfold diag
  by_cases h : i.val / 64 = k.val / 128
  · rw [if_pos h, if_pos h, mul_one]
  · rw [if_neg h, if_neg h, mul_zero]

/-- The absorbed matrix, block by block. -/
theorem blk7 (c : Dev nD) (t : Fin grid0.N) (i : Fin 256) (k : Fin 512) :
    iblk m c 7 t (ix3 0 i k) = diag (fun a b => m ((c : Thread nD τ).loc main_arg7) (ix3 0 a b)) i k := by
  have h : iblk m c 7 t (ix3 0 i k) = V m c main_v47 (ix3 0 i k) := by
    blk_ext [iblk, idx t]
  rw [h]
  unfold V
  after_reads_simp
  generalize m (c, Proc.tc.devRef main_arg7) = w
  pointwise
  exact diag_entry w i k _ _ rfl rfl

/-- The cosines, repeated. -/
theorem blk8 (c : Dev nD) (t : Fin grid0.N) (r : Fin 2112) (k : Fin 128) (i : Fin 4224)
    (hi : i.val = 2112 * (t.val % 2) + r.val) :
    iblk m c 8 t (ix2 r k) = m ((c : Thread nD τ).loc main_arg8) (ix2 i ⟨k.val % 16, by omega⟩) := by
  have h : iblk m c 8 t (ix2 r k) = V m c main_v4 (ix2 i k) := by
    blk_ext [iblk, idx t]
  rw [h]
  rw [V_eq]
  entry_read
  pointwise

/-- The sines, repeated. -/
theorem blk9 (c : Dev nD) (t : Fin grid0.N) (r : Fin 2112) (k : Fin 128) (i : Fin 4224)
    (hi : i.val = 2112 * (t.val % 2) + r.val) :
    iblk m c 9 t (ix2 r k) = m ((c : Thread nD τ).loc main_arg9) (ix2 i ⟨k.val % 16, by omega⟩) := by
  have h : iblk m c 9 t (ix2 r k) = V m c main_v7 (ix2 i k) := by
    blk_ext [iblk, idx t]
  rw [h]
  rw [V_eq]
  entry_read
  pointwise

/-- The queries' table. -/
theorem blk10 (c : Dev nD) (t : Fin grid0.N) (r : Fin 2112) (k : Fin 48) (i : Fin 4224)
    (hi : i.val = 2112 * (t.val % 2) + r.val) :
    iblk m c 10 t (ix2 r ⟨k.val, by omega⟩) = m ((c : Thread nD τ).loc main_arg10) (ix2 i ⟨k.val, by omega⟩) := by
  blk_ext [iblk, V, idx t]

/-- The keys' table. -/
theorem blk11 (c : Dev nD) (t : Fin grid0.N) (r : Fin 2112) (k : Fin 48) (i : Fin 4224)
    (hi : i.val = 2112 * (t.val % 2) + r.val) :
    iblk m c 11 t (ix2 r ⟨k.val, by omega⟩) = m ((c : Thread nD τ).loc main_arg11) (ix2 i ⟨k.val, by omega⟩) := by
  blk_ext [iblk, V, idx t]

end Cert.Kernel3Ideal.Win
-- ==== Proof.Mix3Rows.lean ====
/- The first layer's opening kernel, its whole results: the stored pieces over the argument arrays, and the blocks written
   back put together. -/
module

public import proofs.«01_k».proof.Proof.Mix3Win

@[expose] public section

set_option maxRecDepth 16384

noncomputable section

namespace Cert.Kernel3Ideal.Rows

open Cert.Kernel3Ideal Cert.Kernel3Ideal.Gen Cert.Kernel3Ideal.Block Cert.Kernel3Ideal.Win Cert.RowModel Cert.MixRow Idealize.ShloMosaic
  Idealize.ShloMosaic.TcCoe Idealize.SL.Sem

variable (m : (ℓ : Loc nD τ sig) → Buf (Elt Ideal) ℓ)

/-- The rows, the gains and the matrices that the first two products contract are real. -/
structure Reals (c : Dev nD) : Prop where
  x : ∀ b i k, IsReal (m ((c : Thread nD τ).loc main_arg0) (ix3 b i k))
  mt : ∀ i k, IsReal (m ((c : Thread nD τ).loc main_arg1) (ix2 i k))
  g : ∀ l k, IsReal (m ((c : Thread nD τ).loc main_arg2) (ix2 l k))
  w : ∀ l j k, IsReal (m ((c : Thread nD τ).loc main_arg3) (ix3 l j k))
  gq : ∀ l j, IsReal (m ((c : Thread nD τ).loc main_arg4) (ix2 l j))
  wq : ∀ l j k, IsReal (m ((c : Thread nD τ).loc main_arg6) (ix3 l j k))

/-- A row of the residual stream. -/
def row (c : Dev nD) (b : Fin 4) (i : Fin 4224) : Fin 1024 → EReal :=
  stream (fun p q => m ((c : Thread nD τ).loc main_arg1) (ix2 p q)) (fun p q => m ((c : Thread nD τ).loc main_arg0) (ix3 b p q)) i

/-- A row's projections. -/
def proj (c : Dev nD) (b : Fin 4) (i : Fin 4224) : Fin 1376 → EReal :=
  lin (rms inv1024 (row m c b i) (fun k => m ((c : Thread nD τ).loc main_arg2) (ix2 0 k)))
    (fun j k => m ((c : Thread nD τ).loc main_arg3) (ix3 0 j k))

/-- A row's query latents times the second matrix. -/
def lats (c : Dev nD) (b : Fin 4) (i : Fin 4224) : Fin 384 → EReal :=
  latents (proj m c b i) (fun j => m ((c : Thread nD τ).loc main_arg4) (ix2 0 j)) (fun j k => m ((c : Thread nD τ).loc main_arg6) (ix3 0 j k))

/-- The state-space lanes of the result. -/
def outU (c : Dev nD) (b : Fin 4) (s : Fin 2) (i : Fin 4224) (k : Fin 128) : EReal := ssm (proj m c b i) i.val s k

/-- The windowed-attention queries of the result. -/
def outQ (c : Dev nD) (b : Fin 4) (i : Fin 4224) (k : Fin 512) : EReal := query (proj m c b i) k

/-- The windowed-attention keys and values of the result. -/
def outKV (c : Dev nD) (b : Fin 4) (i : Fin 4224) (k : Fin 384) : EReal := keyval (proj m c b i) k

/-- The latent queries of the result. -/
def outQM (c : Dev nD) (b : Fin 4) (h : Fin 4) (i : Fin 4224) (k : Fin 208) : EReal :=
  headQuery (lats m c b i) (fun a j => m ((c : Thread nD τ).loc main_arg7) (ix3 0 a j))
    (fun l => m ((c : Thread nD τ).loc main_arg8) (ix2 i l)) (fun l => m ((c : Thread nD τ).loc main_arg9) (ix2 i l))
    (fun l => m ((c : Thread nD τ).loc main_arg10) (ix2 i ⟨l.val, by omega⟩)) h k

/-- The latent keys of the result. -/
def outKC (c : Dev nD) (b : Fin 4) (i : Fin 4224) (k : Fin 208) : EReal :=
  latentKey (proj m c b i) (fun j => m ((c : Thread nD τ).loc main_arg5) (ix2 0 j))
    (fun l => m ((c : Thread nD τ).loc main_arg8) (ix2 i l)) (fun l => m ((c : Thread nD τ).loc main_arg9) (ix2 i l))
    (fun l => m ((c : Thread nD τ).loc main_arg11) (ix2 i ⟨l.val, by omega⟩)) k

/-- A load of 528 rows from row `d` on. -/
theorem ld_rows (x : Vec Ideal S1x2112x1024 .f32) (off : Fin 3 → Nat) (d : Nat) (e : off = ![0, d, 0]) (hd : d + 528 ≤ 2112) (inb)
    (r : Fin 528) (k : Fin 1024) :
    View.ld x (Rect.unit off ![1, 528, 1024] inb) (ix3 0 r k) = x (ix3 0 ⟨d + r.val, by omega⟩ k) := by
  subst e
  show x _ = x _
  congr 1
  funext a
  apply Fin.ext
  match a with
  | ⟨0, _⟩ => simp [ix3]
  | ⟨1, _⟩ => simp [ix3]
  | ⟨2, _⟩ => simp [ix3]

/-- A load of 400 rows from row `d` on. -/
theorem ld_rest (x : Vec Ideal S1x2112x1024 .f32) (off : Fin 3 → Nat) (d : Nat) (e : off = ![0, d, 0]) (hd : d + 400 ≤ 2112) (inb)
    (r : Fin 400) (k : Fin 1024) :
    View.ld x (Rect.unit off ![1, 400, 1024] inb) (ix3 0 r k) = x (ix3 0 ⟨d + r.val, by omega⟩ k) := by
  subst e
  show x _ = x _
  congr 1
  funext a
  apply Fin.ext
  match a with
  | ⟨0, _⟩ => simp [ix3]
  | ⟨1, _⟩ => simp [ix3]
  | ⟨2, _⟩ => simp [ix3]

/-- A load of the first 128 rows. -/
theorem ld_top (x : Vec Ideal S1x2112x1024 .f32) (inb) (r : Fin 128) (k : Fin 1024) :
    View.ld x (Rect.unit ![0, 0, 0] ![1, 128, 1024] inb) (ix3 0 r k) = x (ix3 0 ⟨r.val, by omega⟩ k) := by
  show x _ = x _
  congr 1
  funext a
  apply Fin.ext
  match a with
  | ⟨0, _⟩ => simp [ix3]
  | ⟨1, _⟩ => simp [ix3]
  | ⟨2, _⟩ => simp [ix3]

/-- A load of 528 rows of an angle table from row `d` on. -/
theorem ld_angles (x : Vec Ideal S2112x128 .f32) (d : Nat) (hd : d + 528 ≤ 2112) (inb) (r : Fin 528) (k : Fin 128) :
    View.ld x (Rect.unit ![d, 0] ![528, 128] inb) (ix2 r k) = x (ix2 ⟨d + r.val, by omega⟩ k) := by
  show x _ = x _
  congr 1
  funext a
  apply Fin.ext
  match a with
  | ⟨0, _⟩ => simp [ix2]
  | ⟨1, _⟩ => simp [ix2]

/-- A load of 528 rows of a lane table from row `d` on, 48 lanes of it. -/
theorem ld_lanes (x : Vec Ideal S2112x128 .bf16) (d : Nat) (hd : d + 528 ≤ 2112) (inb) (r : Fin 528) (k : Fin 48) :
    View.ld x (Rect.unit ![d, 0] ![528, 48] inb) (ix2 r k) = x (ix2 ⟨d + r.val, by omega⟩ ⟨k.val, by omega⟩) := by
  show x _ = x _
  congr 1
  funext a
  apply Fin.ext
  match a with
  | ⟨0, _⟩ => simp [ix2]
  | ⟨1, _⟩ => simp [ix2]

/-- A row of the residual stream is real. -/
theorem row_isReal {c : Dev nD} (hF : Reals m c) (b : Fin 4) (i : Fin 4224) (k : Fin 1024) : IsReal (row m c b i k) := by
  unfold row stream
  split_ifs
  · exact ⟨0, EReal.coe_zero.symm⟩
  · exact hF.mt _ _
  · exact hF.x _ _ _

/-- A row's projections are real. -/
theorem proj_isReal {c : Dev nD} (hF : Reals m c) (b : Fin 4) (i : Fin 4224) (k : Fin 1376) : IsReal (proj m c b i k) :=
  lin_isReal (rms_isReal inv1024_nonneg (row_isReal m hF b i) (hF.g 0)) (hF.w 0) k

/-- The first 528 rows of the tile, projected. -/
abbrev v0 (c : Dev nD) (t : Fin grid0.N) : FVec Ideal S528x1536 .f32 :=
  k0_pay4 (F := Ideal) (grid0.coords t) (iblk m c 1 t)
    (View.ld (iblk m c 0 t) (Rect.unit ![0, 0, 0] ![1, 128, 1024] inb_S1x2112x1024_S1x128x1024_0_0_0))
    (View.ld (iblk m c 0 t) (Rect.unit (k0_off1 (grid0.coords t)) ![1, 400, 1024] (k0_off1_inb (grid0.coords t)))) (iblk m c 2 t) (iblk m c 3 t)

/-- The second 528 rows of the tile, projected. -/
abbrev v1 (c : Dev nD) (t : Fin grid0.N) : FVec Ideal S528x1536 .f32 :=
  k0_pay46 (F := Ideal) (k0_pay43 (View.ld (iblk m c 0 t) (Rect.unit (k0_off2 (grid0.coords t) 528#32) ![1, 528, 1024] (k0_off2_inb (grid0.coords t) 0))))
    (k0_pay44 (iblk m c 2 t)) (k0_pay45 (View.ld (iblk m c 0 t) (Rect.unit (k0_off2 (grid0.coords t) 528#32) ![1, 528, 1024] (k0_off2_inb (grid0.coords t) 0))))
    (FloatOps.ofBits FTy.f32 897988541#32) (iblk m c 3 t)

/-- The third 528 rows of the tile, projected. -/
abbrev v2 (c : Dev nD) (t : Fin grid0.N) : FVec Ideal S528x1536 .f32 :=
  k0_pay83 (F := Ideal) (View.ld (iblk m c 0 t) (Rect.unit (k0_off2 (grid0.coords t) 1056#32) ![1, 528, 1024] (k0_off2_inb (grid0.coords t) 1))) (iblk m c 2 t) (iblk m c 3 t)

/-- The fourth 528 rows of the tile, projected. -/
abbrev v3 (c : Dev nD) (t : Fin grid0.N) : FVec Ideal S528x1536 .f32 :=
  k0_pay116 (F := Ideal) (View.ld (iblk m c 0 t) (Rect.unit (k0_off2 (grid0.coords t) 1584#32) ![1, 528, 1024] (k0_off2_inb (grid0.coords t) 2))) (iblk m c 2 t) (iblk m c 3 t)

/-- An index of one plane, by its row and lane. -/
theorem ix3_form {n p : ℕ} (x : (⟨3, ![1, n, p]⟩ : Shape).Idx) : ∃ (r : Fin n) (l : Fin p), x = ix3 0 r l :=
  ⟨x 1, x 2, by funext a; match a with | ⟨0, _⟩ => exact Subsingleton.elim (α := Fin 1) _ _ | ⟨1, _⟩ => rfl | ⟨2, _⟩ => rfl⟩

/-- An index of one plane of one slab, by its row and lane. -/
theorem ix4_form {n p : ℕ} (x : (⟨4, ![1, 1, n, p]⟩ : Shape).Idx) : ∃ (r : Fin n) (l : Fin p), x = ix4 0 0 r l :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- The kernel's latent queries over the array row are the plain ones. -/
theorem outQM_eq (c : Dev nD) (b : Fin 4) (i : Fin 4224) (h : Fin 4) (k : Fin 208) :
    headQuery' (stack2 (lats m c b i)) (diag (fun a j => m ((c : Thread nD τ).loc main_arg7) (ix3 0 a j)))
        (fun l : Fin 128 => m ((c : Thread nD τ).loc main_arg8) (ix2 i ⟨l.val % 16, by omega⟩))
        (fun l : Fin 128 => m ((c : Thread nD τ).loc main_arg9) (ix2 i ⟨l.val % 16, by omega⟩))
        (fun l : Fin 48 => m ((c : Thread nD τ).loc main_arg10) (ix2 i ⟨l.val, by omega⟩)) h k
      = outQM m c b h i k := by
  rw [headQuery_eq (lats m c b i) (fun a j => m ((c : Thread nD τ).loc main_arg7) (ix3 0 a j))
    (fun l : Fin 16 => m ((c : Thread nD τ).loc main_arg8) (ix2 i l)) (fun l : Fin 16 => m ((c : Thread nD τ).loc main_arg9) (ix2 i l))]
  rfl

/-- The kernel's latent keys over the array row are the plain ones. -/
theorem outKC_eq (c : Dev nD) (b : Fin 4) (i : Fin 4224) (k : Fin 208) :
    latentKey' (stack1 (proj m c b i)) (fun j => m ((c : Thread nD τ).loc main_arg5) (ix2 0 j))
        (fun l : Fin 128 => m ((c : Thread nD τ).loc main_arg8) (ix2 i ⟨l.val % 16, by omega⟩))
        (fun l : Fin 128 => m ((c : Thread nD τ).loc main_arg9) (ix2 i ⟨l.val % 16, by omega⟩))
        (fun l : Fin 48 => m ((c : Thread nD τ).loc main_arg11) (ix2 i ⟨l.val, by omega⟩)) k
      = outKC m c b i k := by
  rw [latentKey_eq (proj m c b i) (fun j => m ((c : Thread nD τ).loc main_arg5) (ix2 0 j))
    (fun l : Fin 16 => m ((c : Thread nD τ).loc main_arg8) (ix2 i l)) (fun l : Fin 16 => m ((c : Thread nD τ).loc main_arg9) (ix2 i l))]
  rfl

section Pieces

variable {c : Dev nD} (hF : Reals m c) (t : Fin grid0.N) (d : ℕ) (hd : d + 528 ≤ 2112) (b : Fin 4) (i : Fin 4224) (hb : b.val = t.val / 2)
  (v : FVec Ideal S528x1536 .f32)
  (hv : ∀ r : Fin 528, i.val = 2112 * (t.val % 2) + (d + r.val) → (fun j => v (ix2 r j)) = stack1 (proj m c b i))

include hv in
/-- One lane of the projected row. -/
theorem vrow_at (r : Fin 528) (hi : i.val = 2112 * (t.val % 2) + (d + r.val)) (j : ℕ) (hj : j < 1216) :
    v (ix2 r ⟨j, by omega⟩) = proj m c b i ⟨j, by omega⟩ :=
  (congrFun (hv r hi) ⟨j, by omega⟩).trans (stack1_low _ j hj)

include hF hb in
/-- The latents over the projected row are the array row's, stacked. -/
theorem lat_eq :
    latents' (stack1 (proj m c b i)) (fun j => iblk m c 4 t (ix2 0 j)) (fun k j => iblk m c 6 t (ix3 0 k j)) = stack2 (lats m c b i) := by
  funext k
  refine latents_eq (proj_isReal m hF b i) (hF.gq 0) (hF.wq 0) _ _ (fun j => ?_) (fun j k => ?_) (fun j hj k => ?_) k
  · exact (blk4 m c t _).trans (dif_pos j.isLt)
  · exact (blk6 m c t _ k).trans (dif_pos j.isLt)
  · exact (blk6 m c t _ k).trans (dif_neg (by omega))

/-- The absorbed matrix's block. -/
theorem diag_eq : (fun a j => iblk m c 7 t (ix3 0 a j)) = diag (fun a j => m ((c : Thread nD τ).loc main_arg7) (ix3 0 a j)) :=
  funext fun a => funext fun j => blk7 m c t a j

include hd in
/-- The cosines' rows. -/
theorem cos_eq (inb) (r : Fin 528) (hi : i.val = 2112 * (t.val % 2) + (d + r.val)) :
    (fun l => View.ld (iblk m c 8 t) (Rect.unit ![d, 0] ![528, 128] inb) (ix2 r l))
      = fun l : Fin 128 => m ((c : Thread nD τ).loc main_arg8) (ix2 i ⟨l.val % 16, by omega⟩) :=
  funext fun l => (ld_angles (iblk m c 8 t) d hd inb r l).trans (blk8 m c t _ l i (by dsimp only; omega))

include hd in
/-- The sines' rows. -/
theorem sin_eq (inb) (r : Fin 528) (hi : i.val = 2112 * (t.val % 2) + (d + r.val)) :
    (fun l => View.ld (iblk m c 9 t) (Rect.unit ![d, 0] ![528, 128] inb) (ix2 r l))
      = fun l : Fin 128 => m ((c : Thread nD τ).loc main_arg9) (ix2 i ⟨l.val % 16, by omega⟩) :=
  funext fun l => (ld_angles (iblk m c 9 t) d hd inb r l).trans (blk9 m c t _ l i (by dsimp only; omega))

include hd in
/-- The queries' lanes. -/
theorem qx_eq (inb) (r : Fin 528) (hi : i.val = 2112 * (t.val % 2) + (d + r.val)) :
    (fun l => View.ld (iblk m c 10 t) (Rect.unit ![d, 0] ![528, 48] inb) (ix2 r l))
      = fun l : Fin 48 => m ((c : Thread nD τ).loc main_arg10) (ix2 i ⟨l.val, by omega⟩) :=
  funext fun l => (ld_lanes (iblk m c 10 t) d hd inb r l).trans (blk10 m c t _ l i (by dsimp only; omega))

include hd in
/-- The keys' lanes. -/
theorem kx_eq (inb) (r : Fin 528) (hi : i.val = 2112 * (t.val % 2) + (d + r.val)) :
    (fun l => View.ld (iblk m c 11 t) (Rect.unit ![d, 0] ![528, 48] inb) (ix2 r l))
      = fun l : Fin 48 => m ((c : Thread nD τ).loc main_arg11) (ix2 i ⟨l.val, by omega⟩) :=
  funext fun l => (ld_lanes (iblk m c 11 t) d hd inb r l).trans (blk11 m c t _ l i (by dsimp only; omega))

include hv in
/-- The windowed-attention queries, piece by piece. -/
theorem piece_q (x : S1x528x512.Idx) (hi : i.val = 2112 * (t.val % 2) + (d + (x 1).val)) (k : Fin 512) (hk : k.val = (x 2).val) :
    k0_pay88 (F := Ideal) v x = outQ m c b i k := by
  obtain ⟨r, l, rfl⟩ : ∃ (r : Fin 528) (l : Fin 512), x = ix3 0 r l := ix3_form x
  obtain rfl : k = l := Fin.ext hk
  rw [query_apply, vrow_at m t d b i v hv r hi _ (by omega)]
  rfl

include hv in
/-- The windowed-attention keys, piece by piece. -/
theorem piece_key (x : S1x528x128.Idx) (hi : i.val = 2112 * (t.val % 2) + (d + (x 1).val)) (k : Fin 384)
    (hk : k.val = 0 + (x 2).val) :
    k0_pay89 (F := Ideal) v x = outKV m c b i k := by
  obtain ⟨r, l, rfl⟩ : ∃ (r : Fin 528) (l : Fin 128), x = ix3 0 r l := ix3_form x
  have hk' : k.val = 0 + l.val := hk
  refine (key_apply _ r l).trans ((vrow_at m t d b i v hv r hi _ (by omega)).trans ?_)
  unfold outKV keyval
  rw [dif_pos (by omega)]
  congr 1
  apply Fin.ext
  dsimp only
  omega

include hv in
/-- The first head's values, piece by piece. -/
theorem piece_val0 (x : S1x528x64.Idx) (hi : i.val = 2112 * (t.val % 2) + (d + (x 1).val)) (k : Fin 384)
    (hk : k.val = 128 + (x 2).val) :
    k0_pay91 (F := Ideal) v x = outKV m c b i k := by
  obtain ⟨r, l, rfl⟩ : ∃ (r : Fin 528) (l : Fin 64), x = ix3 0 r l := ix3_form x
  have hk' : k.val = 128 + l.val := hk
  refine (val0_apply _ r l).trans ((vrow_at m t d b i v hv r hi _ (by omega)).trans ?_)
  unfold outKV keyval
  rw [dif_neg (by omega), dif_pos (by omega)]
  congr 1
  apply Fin.ext
  dsimp only
  omega

/-- The first head's unit column, piece by piece. -/
theorem piece_unit0 (x : S1x528x64.Idx) (k : Fin 384) (hk : k.val = 192 + (x 2).val) :
    k0_pay92 (F := Ideal) x = outKV m c b i k := by
  obtain ⟨r, l, rfl⟩ : ∃ (r : Fin 528) (l : Fin 64), x = ix3 0 r l := ix3_form x
  have hk' : k.val = 192 + l.val := hk
  refine (unit0_apply r l).trans ?_
  unfold outKV keyval
  rw [dif_neg (by omega), dif_neg (by omega), if_pos (by omega)]
  congr 1
  omega

include hv in
/-- The second head's values, piece by piece. -/
theorem piece_val1 (x : S1x528x64.Idx) (hi : i.val = 2112 * (t.val % 2) + (d + (x 1).val)) (k : Fin 384)
    (hk : k.val = 256 + (x 2).val) :
    k0_pay93 (F := Ideal) v x = outKV m c b i k := by
  obtain ⟨r, l, rfl⟩ : ∃ (r : Fin 528) (l : Fin 64), x = ix3 0 r l := ix3_form x
  have hk' : k.val = 256 + l.val := hk
  refine (val1_apply _ r l).trans ((vrow_at m t d b i v hv r hi _ (by omega)).trans ?_)
  unfold outKV keyval
  rw [dif_neg (by omega), dif_neg (by omega), if_neg (by omega), dif_pos (by omega)]
  congr 1
  apply Fin.ext
  dsimp only
  omega

/-- The second head's unit column, piece by piece. -/
theorem piece_unit1 (x : S1x528x64.Idx) (k : Fin 384) (hk : k.val = 320 + (x 2).val) :
    k0_pay94 (F := Ideal) k0_pay90 x = outKV m c b i k := by
  obtain ⟨r, l, rfl⟩ : ∃ (r : Fin 528) (l : Fin 64), x = ix3 0 r l := ix3_form x
  have hk' : k.val = 320 + l.val := hk
  refine (unit1_apply r l).trans ?_
  unfold outKV keyval
  rw [dif_neg (by omega), dif_neg (by omega), if_neg (by omega), dif_neg (by omega)]
  congr 1
  omega

include hF hb hv in
/-- The first head's absorbed lanes, piece by piece. -/
theorem piece_lat0 (x : S1x1x528x128.Idx) (hi : i.val = 2112 * (t.val % 2) + (d + (x 2).val)) (h : Fin 4) (hh : h.val = 0)
    (k : Fin 208) (hk : k.val = (x 3).val) :
    k0_pay101 (F := Ideal) (k0_pay97 v (iblk m c 4 t) (iblk m c 6 t)) (iblk m c 7 t) x = outQM m c b h i k := by
  obtain ⟨r, l, rfl⟩ : ∃ (r : Fin 528) (l : Fin 128), x = ix4 0 0 r l := ix4_form x
  obtain rfl : h = 0 := Fin.ext hh
  rw [show k = ⟨l.val, by omega⟩ from Fin.ext hk]
  refine (latq0_apply v (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [hv r hi, lat_eq m hF t b i hb, diag_eq m t]
  exact outQM_eq m c b i _ _

include hF hd hb hv in
/-- The first head's rotary lanes, piece by piece. -/
theorem piece_rope0 (inc) (ins) (x : S1x1x528x32.Idx) (hi : i.val = 2112 * (t.val % 2) + (d + (x 2).val)) (h : Fin 4)
    (hh : h.val = 0) (k : Fin 208) (hk : k.val = 176 + (x 3).val) :
    k0_pay103 (F := Ideal) (k0_pay96 v (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 0 := Fin.ext hh
  rw [show k = ⟨176 + l.val, by omega⟩ from Fin.ext hk]
  refine (ropeq0_apply v (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 0 a j))) (fun l : Fin 48 => m ((c : Thread nD τ).loc main_arg10) (ix2 i ⟨l.val, by omega⟩)) r l).trans ?_
  rw [hv r hi, lat_eq m hF t b i hb, cos_eq m t d hd b i inc r hi, sin_eq m t d hd b i ins r hi]
  exact outQM_eq m c b i _ _

include hF hb hv in
/-- The second head's absorbed lanes, piece by piece. -/
theorem piece_lat1 (x : S1x1x528x128.Idx) (hi : i.val = 2112 * (t.val % 2) + (d + (x 2).val)) (h : Fin 4) (hh : h.val = 1)
    (k : Fin 208) (hk : k.val = (x 3).val) :
    k0_pay104 (F := Ideal) (k0_pay98 (k0_pay97 v (iblk m c 4 t) (iblk m c 6 t)) (iblk m c 7 t)) x = outQM m c b h i k := by
  obtain ⟨r, l, rfl⟩ : ∃ (r : Fin 528) (l : Fin 128), x = ix4 0 0 r l := ix4_form x
  obtain rfl : h = 1 := Fin.ext hh
  rw [show k = ⟨l.val, by omega⟩ from Fin.ext hk]
  refine (latq1_apply v (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [hv r hi, lat_eq m hF t b i hb, diag_eq m t]
  exact outQM_eq m c b i _ _

include hF hd hb hv in
/-- The second head's rotary lanes, piece by piece. -/
theorem piece_rope1 (inc) (ins) (x : S1x1x528x32.Idx) (hi : i.val = 2112 * (t.val % 2) + (d + (x 2).val)) (h : Fin 4)
    (hh : h.val = 1) (k : Fin 208) (hk : k.val = 176 + (x 3).val) :
    k0_pay106 (F := Ideal) (k0_pay96 v (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 1 := Fin.ext hh
  rw [show k = ⟨176 + l.val, by omega⟩ from Fin.ext hk]
  refine (ropeq1_apply v (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 0 a j))) (fun l : Fin 48 => m ((c : Thread nD τ).loc main_arg10) (ix2 i ⟨l.val, by omega⟩)) r l).trans ?_
  rw [hv r hi, lat_eq m hF t b i hb, cos_eq m t d hd b i inc r hi, sin_eq m t d hd b i ins r hi]
  exact outQM_eq m c b i _ _

include hF hb hv in
/-- The third head's absorbed lanes, piece by piece. -/
theorem piece_lat2 (x : S1x1x528x128.Idx) (hi : i.val = 2112 * (t.val % 2) + (d + (x 2).val)) (h : Fin 4) (hh : h.val = 2)
    (k : Fin 208) (hk : k.val = (x 3).val) :
    k0_pay107 (F := Ideal) (k0_pay98 (k0_pay97 v (iblk m c 4 t) (iblk m c 6 t)) (iblk m c 7 t)) x = outQM m c b h i k := by
  obtain ⟨r, l, rfl⟩ : ∃ (r : Fin 528) (l : Fin 128), x = ix4 0 0 r l := ix4_form x
  obtain rfl : h = 2 := Fin.ext hh
  rw [show k = ⟨l.val, by omega⟩ from Fin.ext hk]
  refine (latq2_apply v (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [hv r hi, lat_eq m hF t b i hb, diag_eq m t]
  exact outQM_eq m c b i _ _

include hF hd hb hv in
/-- The third head's rotary lanes, piece by piece. -/
theorem piece_rope2 (inc) (ins) (x : S1x1x528x32.Idx) (hi : i.val = 2112 * (t.val % 2) + (d + (x 2).val)) (h : Fin 4)
    (hh : h.val = 2) (k : Fin 208) (hk : k.val = 176 + (x 3).val) :
    k0_pay109 (F := Ideal) (k0_pay96 v (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 2 := Fin.ext hh
  rw [show k = ⟨176 + l.val, by omega⟩ from Fin.ext hk]
  refine (ropeq2_apply v (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 0 a j))) (fun l : Fin 48 => m ((c : Thread nD τ).loc main_arg10) (ix2 i ⟨l.val, by omega⟩)) r l).trans ?_
  rw [hv r hi, lat_eq m hF t b i hb, cos_eq m t d hd b i inc r hi, sin_eq m t d hd b i ins r hi]
  exact outQM_eq m c b i _ _

include hF hb hv in
/-- The fourth head's absorbed lanes, piece by piece. -/
theorem piece_lat3 (x : S1x1x528x128.Idx) (hi : i.val = 2112 * (t.val % 2) + (d + (x 2).val)) (h : Fin 4) (hh : h.val = 3)
    (k : Fin 208) (hk : k.val = (x 3).val) :
    k0_pay110 (F := Ideal) (k0_pay98 (k0_pay97 v (iblk m c 4 t) (iblk m c 6 t)) (iblk m c 7 t)) x = outQM m c b h i k := by
  obtain ⟨r, l, rfl⟩ : ∃ (r : Fin 528) (l : Fin 128), x = ix4 0 0 r l := ix4_form x
  obtain rfl : h = 3 := Fin.ext hh
  rw [show k = ⟨l.val, by omega⟩ from Fin.ext hk]
  refine (latq3_apply v (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [hv r hi, lat_eq m hF t b i hb, diag_eq m t]
  exact outQM_eq m c b i _ _

include hF hd hb hv in
/-- The fourth head's rotary lanes, piece by piece. -/
theorem piece_rope3 (inc) (ins) (x : S1x1x528x32.Idx) (hi : i.val = 2112 * (t.val % 2) + (d + (x 2).val)) (h : Fin 4)
    (hh : h.val = 3) (k : Fin 208) (hk : k.val = 176 + (x 3).val) :
    k0_pay112 (F := Ideal) (k0_pay96 v (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 3 := Fin.ext hh
  rw [show k = ⟨176 + l.val, by omega⟩ from Fin.ext hk]
  refine (ropeq3_apply v (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 0 a j))) (fun l : Fin 48 => m ((c : Thread nD τ).loc main_arg10) (ix2 i ⟨l.val, by omega⟩)) r l).trans ?_
  rw [hv r hi, lat_eq m hF t b i hb, cos_eq m t d hd b i inc r hi, sin_eq m t d hd b i ins r hi]
  exact outQM_eq m c b i _ _

include hd in
/-- The queries' table lanes, piece by piece. -/
theorem piece_tab (ind) (x : S1x1x528x48.Idx) (hi : i.val = 2112 * (t.val % 2) + (d + (x 2).val)) (h : Fin 4) (k : Fin 208)
    (hk : k.val = 128 + (x 3).val) :
    k0_pay102 (F := Ideal) (View.ld (iblk m c 10 t) (Rect.unit ![d, 0] ![528, 48] ind)) x = outQM m c b h i k := by
  obtain ⟨r, l, rfl⟩ : ∃ (r : Fin 528) (l : Fin 48), x = ix4 0 0 r l := ix4_form x
  rw [show k = ⟨128 + l.val, by omega⟩ from Fin.ext hk]
  refine (tableq_apply (View.ld (iblk m c 10 t) (Rect.unit ![d, 0] ![528, 48] ind)) (stack2 (lats m c b i)) (diag (fun a j => m ((c : Thread nD τ).loc main_arg7) (ix3 0 a j)))
    (fun l : Fin 128 => m ((c : Thread nD τ).loc main_arg8) (ix2 i ⟨l.val % 16, by omega⟩))
    (fun l : Fin 128 => m ((c : Thread nD τ).loc main_arg9) (ix2 i ⟨l.val % 16, by omega⟩)) h r l).trans ?_
  rw [qx_eq m t d hd b i ind r hi]
  exact outQM_eq m c b i _ _

/-- The key norm's gains, as a row. -/
theorem gk_eq : (fun j => iblk m c 5 t (ix2 0 j)) = fun j : Fin 128 => m ((c : Thread nD τ).loc main_arg5) (ix2 0 j) :=
  funext fun j => blk5 m c t j

include hv in
/-- The keys' normed latents, piece by piece. -/
theorem piece_klat (x : S1x528x128.Idx) (hi : i.val = 2112 * (t.val % 2) + (d + (x 1).val)) (k : Fin 208) (hk : k.val = (x 2).val) :
    k0_pay113 (F := Ideal) (k0_pay99 v (iblk m c 5 t)) x = outKC m c b i k := by
  obtain ⟨r, l, rfl⟩ : ∃ (r : Fin 528) (l : Fin 128), x = ix3 0 r l := ix3_form x
  rw [show k = ⟨l.val, by omega⟩ from Fin.ext hk]
  refine (latk_apply v (iblk m c 5 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg11) (ix2 i ⟨l.val, by omega⟩)) r l).trans ?_
  rw [hv r hi, gk_eq m t]
  exact outKC_eq m c b i _

include hd hv in
/-- The keys' rotary lanes, piece by piece. -/
theorem piece_krope (inc) (ins) (x : S1x528x32.Idx) (hi : i.val = 2112 * (t.val % 2) + (d + (x 1).val)) (k : Fin 208) (hk : k.val = 176 + (x 2).val) :
    k0_pay115 (F := Ideal) (k0_pay100 v (View.ld (iblk m c 8 t) (Rect.unit ![d, 0] ![528, 128] inc))
      (View.ld (iblk m c 9 t) (Rect.unit ![d, 0] ![528, 128] ins))) x = outKC m c b i k := by
  obtain ⟨r, l, rfl⟩ : ∃ (r : Fin 528) (l : Fin 32), x = ix3 0 r l := ix3_form x
  rw [show k = ⟨176 + l.val, by omega⟩ from Fin.ext hk]
  refine (ropek_apply v (View.ld (iblk m c 8 t) (Rect.unit ![d, 0] ![528, 128] inc))
    (View.ld (iblk m c 9 t) (Rect.unit ![d, 0] ![528, 128] ins)) (fun j => m ((c : Thread nD τ).loc main_arg5) (ix2 0 j)) (fun l : Fin 48 => m ((c : Thread nD τ).loc main_arg11) (ix2 i ⟨l.val, by omega⟩)) r l).trans ?_
  rw [hv r hi, cos_eq m t d hd b i inc r hi, sin_eq m t d hd b i ins r hi]
  exact outKC_eq m c b i _

include hd in
/-- The keys' table lanes, piece by piece. -/
theorem piece_ktab (ind) (x : S1x528x48.Idx) (hi : i.val = 2112 * (t.val % 2) + (d + (x 1).val)) (k : Fin 208) (hk : k.val = 128 + (x 2).val) :
    k0_pay114 (F := Ideal) (View.ld (iblk m c 11 t) (Rect.unit ![d, 0] ![528, 48] ind)) x = outKC m c b i k := by
  obtain ⟨r, l, rfl⟩ : ∃ (r : Fin 528) (l : Fin 48), x = ix3 0 r l := ix3_form x
  rw [show k = ⟨128 + l.val, by omega⟩ from Fin.ext hk]
  refine (tablek_apply (View.ld (iblk m c 11 t) (Rect.unit ![d, 0] ![528, 48] ind)) (stack1 (proj m c b i))
    (fun j => m ((c : Thread nD τ).loc main_arg5) (ix2 0 j)) (fun l : Fin 128 => m ((c : Thread nD τ).loc main_arg8) (ix2 i ⟨l.val % 16, by omega⟩))
    (fun l : Fin 128 => m ((c : Thread nD τ).loc main_arg9) (ix2 i ⟨l.val % 16, by omega⟩)) r l).trans ?_
  rw [kx_eq m t d hd b i ind r hi]
  exact outKC_eq m c b i _

/-- The state-space lanes of the first rows, first slab. -/
theorem piece_u00 {c : Dev nD} (t : Fin grid0.N) (b : Fin 4) (i : Fin 4224) (v : FVec Ideal S528x1536 .f32)
    (hv : ∀ r : Fin 528, i.val = 2112 * (t.val % 2) + (0 + r.val) → (fun j => v (ix2 r j)) = stack1 (proj m c b i))
    (x : S1x1x528x128.Idx) (hi : i.val = 2112 * (t.val % 2) + (0 + (x 2).val)) (s : Fin 2) (hs : s.val = 0) (k : Fin 128) (hk : k.val = (x 3).val) :
    k0_pay6 (F := Ideal) v (Scalar.muli (BitVec.ofNat 32 (grid0.coords t 1).val) 2112#32) 0#32 x = outU m c b s i k := by
  obtain ⟨r, l, rfl⟩ : ∃ (r : Fin 528) (l : Fin 128), x = ix4 0 0 r l := ix4_form x
  obtain rfl : k = l := Fin.ext hk
  have hi' : i.val = 2112 * (t.val % 2) + (0 + r.val) := hi
  refine (ssm00_apply (grid0.coords t) _ r k).trans ?_
  unfold outU ssm
  by_cases h : 112 ≤ i.val
  · rw [if_pos (by rw [tile]; omega), if_pos h]
    exact (vrow_at m t 0 b i _ hv r hi' _ (by omega)).trans (congrArg _ (Fin.ext (by dsimp only; omega)))
  · rw [if_neg (by rw [tile]; omega), if_neg h]

/-- The state-space lanes of the first rows, second slab. -/
theorem piece_u01 {c : Dev nD} (t : Fin grid0.N) (b : Fin 4) (i : Fin 4224) (v : FVec Ideal S528x1536 .f32)
    (hv : ∀ r : Fin 528, i.val = 2112 * (t.val % 2) + (0 + r.val) → (fun j => v (ix2 r j)) = stack1 (proj m c b i))
    (x : S1x1x528x128.Idx) (hi : i.val = 2112 * (t.val % 2) + (0 + (x 2).val)) (s : Fin 2) (hs : s.val = 1) (k : Fin 128) (hk : k.val = (x 3).val) :
    k0_pay7 (F := Ideal) v (Scalar.muli (BitVec.ofNat 32 (grid0.coords t 1).val) 2112#32) 0#32 x = outU m c b s i k := by
  obtain ⟨r, l, rfl⟩ : ∃ (r : Fin 528) (l : Fin 128), x = ix4 0 0 r l := ix4_form x
  obtain rfl : k = l := Fin.ext hk
  have hi' : i.val = 2112 * (t.val % 2) + (0 + r.val) := hi
  refine (ssm01_apply (grid0.coords t) _ r k).trans ?_
  unfold outU ssm
  by_cases h : 112 ≤ i.val
  · rw [if_pos (by rw [tile]; omega), if_pos h]
    exact (vrow_at m t 0 b i _ hv r hi' _ (by omega)).trans (congrArg _ (Fin.ext (by dsimp only; omega)))
  · rw [if_neg (by rw [tile]; omega), if_neg h]

/-- The state-space lanes of the second rows, first slab. -/
theorem piece_u10 {c : Dev nD} (t : Fin grid0.N) (b : Fin 4) (i : Fin 4224) (a : FVec Ideal S528x1024 .f32) (g : FVec Ideal S1x1024 .f32) (q : FVec Ideal S528x1 .f32) (e : Ideal .f32) (w : Vec Ideal S1x1024x1536 .bf16)
    (hv : ∀ r : Fin 528, i.val = 2112 * (t.val % 2) + (528 + r.val) → (fun j => k0_pay46 (F := Ideal) a g q e w (ix2 r j)) = stack1 (proj m c b i))
    (x : S1x1x528x128.Idx) (hi : i.val = 2112 * (t.val % 2) + (528 + (x 2).val)) (s : Fin 2) (hs : s.val = 0) (k : Fin 128) (hk : k.val = (x 3).val) :
    k0_pay48 (F := Ideal) (BitVec.ofNat 32 (grid0.coords t 1).val) a g q e w x = outU m c b s i k := by
  obtain ⟨r, l, rfl⟩ : ∃ (r : Fin 528) (l : Fin 128), x = ix4 0 0 r l := ix4_form x
  obtain rfl : k = l := Fin.ext hk
  have hi' : i.val = 2112 * (t.val % 2) + (528 + r.val) := hi
  refine (ssm10_apply (grid0.coords t) _ _ _ _ _ r k).trans ?_
  unfold outU ssm
  by_cases h : 112 ≤ i.val
  · rw [if_pos (by rw [tile]; omega), if_pos h]
    exact (vrow_at m t 528 b i _ hv r hi' _ (by omega)).trans (congrArg _ (Fin.ext (by dsimp only; omega)))
  · rw [if_neg (by rw [tile]; omega), if_neg h]

/-- The state-space lanes of the second rows, second slab. -/
theorem piece_u11 {c : Dev nD} (t : Fin grid0.N) (b : Fin 4) (i : Fin 4224) (a : FVec Ideal S528x1024 .f32) (g : FVec Ideal S1x1024 .f32) (q : FVec Ideal S528x1 .f32) (e : Ideal .f32) (w : Vec Ideal S1x1024x1536 .bf16)
    (hv : ∀ r : Fin 528, i.val = 2112 * (t.val % 2) + (528 + r.val) → (fun j => k0_pay46 (F := Ideal) a g q e w (ix2 r j)) = stack1 (proj m c b i))
    (x : S1x1x528x128.Idx) (hi : i.val = 2112 * (t.val % 2) + (528 + (x 2).val)) (s : Fin 2) (hs : s.val = 1) (k : Fin 128) (hk : k.val = (x 3).val) :
    k0_pay49 (F := Ideal) (BitVec.ofNat 32 (grid0.coords t 1).val) a g q e w x = outU m c b s i k := by
  obtain ⟨r, l, rfl⟩ : ∃ (r : Fin 528) (l : Fin 128), x = ix4 0 0 r l := ix4_form x
  obtain rfl : k = l := Fin.ext hk
  have hi' : i.val = 2112 * (t.val % 2) + (528 + r.val) := hi
  refine (ssm11_apply (grid0.coords t) _ _ _ _ _ r k).trans ?_
  unfold outU ssm
  by_cases h : 112 ≤ i.val
  · rw [if_pos (by rw [tile]; omega), if_pos h]
    exact (vrow_at m t 528 b i _ hv r hi' _ (by omega)).trans (congrArg _ (Fin.ext (by dsimp only; omega)))
  · rw [if_neg (by rw [tile]; omega), if_neg h]

/-- The state-space lanes of the third rows, first slab. -/
theorem piece_u20 {c : Dev nD} (t : Fin grid0.N) (b : Fin 4) (i : Fin 4224) (a : Vec Ideal S1x528x1024 .f32) (g : Vec Ideal S1x1024 .f32) (w : Vec Ideal S1x1024x1536 .bf16)
    (hv : ∀ r : Fin 528, i.val = 2112 * (t.val % 2) + (1056 + r.val) → (fun j => k0_pay83 (F := Ideal) a g w (ix2 r j)) = stack1 (proj m c b i))
    (x : S1x1x528x128.Idx) (hi : i.val = 2112 * (t.val % 2) + (1056 + (x 2).val)) (s : Fin 2) (hs : s.val = 0) (k : Fin 128) (hk : k.val = (x 3).val) :
    k0_pay85 (F := Ideal) (BitVec.ofNat 32 (grid0.coords t 1).val) a g w x = outU m c b s i k := by
  obtain ⟨r, l, rfl⟩ : ∃ (r : Fin 528) (l : Fin 128), x = ix4 0 0 r l := ix4_form x
  obtain rfl : k = l := Fin.ext hk
  have hi' : i.val = 2112 * (t.val % 2) + (1056 + r.val) := hi
  refine (ssm20_apply (grid0.coords t) _ _ _ r k).trans ?_
  unfold outU ssm
  by_cases h : 112 ≤ i.val
  · rw [if_pos (by rw [tile]; omega), if_pos h]
    exact (vrow_at m t 1056 b i _ hv r hi' _ (by omega)).trans (congrArg _ (Fin.ext (by dsimp only; omega)))
  · rw [if_neg (by rw [tile]; omega), if_neg h]

/-- The state-space lanes of the third rows, second slab. -/
theorem piece_u21 {c : Dev nD} (t : Fin grid0.N) (b : Fin 4) (i : Fin 4224) (v : FVec Ideal S528x1536 .f32)
    (hv : ∀ r : Fin 528, i.val = 2112 * (t.val % 2) + (1056 + r.val) → (fun j => v (ix2 r j)) = stack1 (proj m c b i))
    (x : S1x1x528x128.Idx) (hi : i.val = 2112 * (t.val % 2) + (1056 + (x 2).val)) (s : Fin 2) (hs : s.val = 1) (k : Fin 128) (hk : k.val = (x 3).val) :
    k0_pay87 (F := Ideal) v (k0_pay86 (BitVec.ofNat 32 (grid0.coords t 1).val)) x = outU m c b s i k := by
  obtain ⟨r, l, rfl⟩ : ∃ (r : Fin 528) (l : Fin 128), x = ix4 0 0 r l := ix4_form x
  obtain rfl : k = l := Fin.ext hk
  have hi' : i.val = 2112 * (t.val % 2) + (1056 + r.val) := hi
  refine (ssm21_apply (grid0.coords t) _ r k).trans ?_
  unfold outU ssm
  by_cases h : 112 ≤ i.val
  · rw [if_pos (by rw [tile]; omega), if_pos h]
    exact (vrow_at m t 1056 b i _ hv r hi' _ (by omega)).trans (congrArg _ (Fin.ext (by dsimp only; omega)))
  · rw [if_neg (by rw [tile]; omega), if_neg h]

/-- The state-space lanes of the fourth rows, first slab. -/
theorem piece_u30 {c : Dev nD} (t : Fin grid0.N) (b : Fin 4) (i : Fin 4224) (v : FVec Ideal S528x1536 .f32)
    (hv : ∀ r : Fin 528, i.val = 2112 * (t.val % 2) + (1584 + r.val) → (fun j => v (ix2 r j)) = stack1 (proj m c b i))
    (x : S1x1x528x128.Idx) (hi : i.val = 2112 * (t.val % 2) + (1584 + (x 2).val)) (s : Fin 2) (hs : s.val = 0) (k : Fin 128) (hk : k.val = (x 3).val) :
    k0_pay119 (F := Ideal) v (k0_pay117 (BitVec.ofNat 32 (grid0.coords t 1).val)) k0_pay118 x = outU m c b s i k := by
  obtain ⟨r, l, rfl⟩ : ∃ (r : Fin 528) (l : Fin 128), x = ix4 0 0 r l := ix4_form x
  obtain rfl : k = l := Fin.ext hk
  have hi' : i.val = 2112 * (t.val % 2) + (1584 + r.val) := hi
  refine (ssm30_apply (grid0.coords t) _ r k).trans ?_
  unfold outU ssm
  by_cases h : 112 ≤ i.val
  · rw [if_pos (by rw [tile]; omega), if_pos h]
    exact (vrow_at m t 1584 b i _ hv r hi' _ (by omega)).trans (congrArg _ (Fin.ext (by dsimp only; omega)))
  · rw [if_neg (by rw [tile]; omega), if_neg h]

/-- The state-space lanes of the fourth rows, second slab. -/
theorem piece_u31 {c : Dev nD} (t : Fin grid0.N) (b : Fin 4) (i : Fin 4224) (v : FVec Ideal S528x1536 .f32)
    (hv : ∀ r : Fin 528, i.val = 2112 * (t.val % 2) + (1584 + r.val) → (fun j => v (ix2 r j)) = stack1 (proj m c b i))
    (x : S1x1x528x128.Idx) (hi : i.val = 2112 * (t.val % 2) + (1584 + (x 2).val)) (s : Fin 2) (hs : s.val = 1) (k : Fin 128) (hk : k.val = (x 3).val) :
    k0_pay120 (F := Ideal) v (k0_pay117 (BitVec.ofNat 32 (grid0.coords t 1).val)) x = outU m c b s i k := by
  obtain ⟨r, l, rfl⟩ : ∃ (r : Fin 528) (l : Fin 128), x = ix4 0 0 r l := ix4_form x
  obtain rfl : k = l := Fin.ext hk
  have hi' : i.val = 2112 * (t.val % 2) + (1584 + r.val) := hi
  refine (ssm31_apply (grid0.coords t) _ r k).trans ?_
  unfold outU ssm
  by_cases h : 112 ≤ i.val
  · rw [if_pos (by rw [tile]; omega), if_pos h]
    exact (vrow_at m t 1584 b i _ hv r hi' _ (by omega)).trans (congrArg _ (Fin.ext (by dsimp only; omega)))
  · rw [if_neg (by rw [tile]; omega), if_neg h]

end Pieces

/-- What the body puts together at the start of a tile is the residual stream's row. -/
theorem rows0_eq (c : Dev nD) (t : Fin grid0.N) (r : Fin 528) (b : Fin 4) (i : Fin 4224) (hb : b.val = t.val / 2)
    (hi : i.val = 2112 * (t.val % 2) + r.val) (inb) (inb') :
    rows0 (BitVec.ofNat 32 (grid0.coords t 1).val) (iblk m c 1 t)
        (View.ld (iblk m c 0 t) (Rect.unit ![0, 0, 0] ![1, 128, 1024] inb))
        (View.ld (iblk m c 0 t) (Rect.unit (k0_off1 (grid0.coords t)) ![1, 400, 1024] inb')) r
      = row m c b i := by
  funext k
  have hr := r.isLt
  unfold rows0 row stream
  by_cases h0 : t.val % 2 = 0
  · obtain ⟨e, o, -⟩ := first t h0
    have hi' : i.val = r.val := by omega
    by_cases h : r.val < 128
    · rw [dif_pos h, if_pos e, blk1]
      by_cases h' : r.val < 112
      · rw [dif_pos h', if_pos (by omega)]
      · rw [dif_neg h', if_neg (by omega), dif_pos (by omega)]
        simp only [hi']
    · rw [dif_neg h, ld_rest _ _ 0 o (by omega), if_neg (by omega), dif_neg (by omega)]
      exact blk0 m c t _ k b _ hb (by simp; omega)
  · obtain ⟨e, o, -⟩ := later t h0
    rw [if_neg (show ¬i.val < 112 by omega), dif_neg (show ¬i.val < 128 by omega)]
    by_cases h : r.val < 128
    · rw [dif_pos h, if_neg e, ld_top]
      exact blk0 m c t _ k b _ hb (by simp; omega)
    · rw [dif_neg h, ld_rest _ _ 128 o (by omega)]
      exact blk0 m c t _ k b _ hb (by simp; omega)

/-- What the body loads further down a tile is the residual stream's row. -/
theorem rows_eq (c : Dev nD) (t : Fin grid0.N) (r : Fin 528) (b : Fin 4) (i : Fin 4224) (hb : b.val = t.val / 2) (d : ℕ) (hd : 128 ≤ d)
    (hi : i.val = 2112 * (t.val % 2) + (d + r.val)) (off : Fin 3 → ℕ) (e : ℕ) (ho : off = ![0, e, 0]) (he : e + 528 ≤ 2112)
    (hed : 2112 * (t.val % 2) - 128 + e + 128 = 2112 * (t.val % 2) + d) (inb) :
    (fun k => View.ld (iblk m c 0 t) (Rect.unit off ![1, 528, 1024] inb) (ix3 0 r k)) = row m c b i := by
  funext k
  have hr := r.isLt
  unfold row stream
  rw [ld_rows _ off e ho he, if_neg (by omega), dif_neg (by omega)]
  exact blk0 m c t _ k b _ hb (by simp; omega)

section Projected

variable {c : Dev nD} (hF : Reals m c) (t : Fin grid0.N) (b : Fin 4) (i : Fin 4224)
include hF

/-- A real row normed and multiplied by the block of the first matrix is the row's projections, stacked. -/
theorem stacked (p : Fin 1024 → EReal) (hp : p = row m c b i) :
    lin (rms inv1024 p (fun j => iblk m c 2 t (ix2 0 j))) (fun k j => iblk m c 3 t (ix3 0 k j)) = stack1 (proj m c b i) := by
  funext j
  have e2 : (fun k => iblk m c 2 t (ix2 0 k)) = fun k => m ((c : Thread nD τ).loc main_arg2) (ix2 0 k) := funext fun k => blk2 m c t k
  have e3 : (fun k j => iblk m c 3 t (ix3 0 k j)) = fun k => stack1 fun j => m ((c : Thread nD τ).loc main_arg3) (ix3 0 k j) :=
    funext fun k => funext fun j => blk3 m c t k j
  refine Eq.trans (b := lin (rms inv1024 (row m c b i)
    (fun k => m ((c : Thread nD τ).loc main_arg2) (ix2 0 k))) (fun k => stack1 fun j => m ((c : Thread nD τ).loc main_arg3) (ix3 0 k j)) j) ?_ ?_
  · rw [hp, ← e2, ← e3]
  · exact lin_stack1 (rms_isReal inv1024_nonneg (row_isReal m hF b i) (hF.g 0)) (hF.w 0) j

variable (hb : b.val = t.val / 2)
include hb

/-- The first rows, projected. -/
theorem row0 (r : Fin 528) (hi : i.val = 2112 * (t.val % 2) + (0 + r.val)) : (fun j => v0 m c t (ix2 r j)) = stack1 (proj m c b i) :=
  (funext fun j => proj0_apply (grid0.coords t) _ _ _ _ _ r j).trans
    (stacked m hF t b i _ (rows0_eq m c t r b i hb (by omega) _ _))

/-- The second rows, projected. -/
theorem row1 (r : Fin 528) (hi : i.val = 2112 * (t.val % 2) + (528 + r.val)) : (fun j => v1 m c t (ix2 r j)) = stack1 (proj m c b i) := by
  refine (funext fun j => proj_apply (View.ld (iblk m c 0 t) (Rect.unit (k0_off2 (grid0.coords t) 528#32) ![1, 528, 1024] (k0_off2_inb (grid0.coords t) 0))) (iblk m c 2 t) (iblk m c 3 t) r j).trans
    (stacked m hF t b i _ ?_)
  by_cases h0 : t.val % 2 = 0
  · exact rows_eq m c t r b i hb 528 (by omega) hi _ 400 (first t h0).2.2.1 (by omega) (by omega) _
  · exact rows_eq m c t r b i hb 528 (by omega) hi _ 528 (later t h0).2.2.1 (by omega) (by omega) _

/-- The third rows, projected. -/
theorem row2 (r : Fin 528) (hi : i.val = 2112 * (t.val % 2) + (1056 + r.val)) : (fun j => v2 m c t (ix2 r j)) = stack1 (proj m c b i) := by
  refine (funext fun j => proj_apply (View.ld (iblk m c 0 t) (Rect.unit (k0_off2 (grid0.coords t) 1056#32) ![1, 528, 1024] (k0_off2_inb (grid0.coords t) 1))) (iblk m c 2 t) (iblk m c 3 t) r j).trans
    (stacked m hF t b i _ ?_)
  by_cases h0 : t.val % 2 = 0
  · exact rows_eq m c t r b i hb 1056 (by omega) hi _ 928 (first t h0).2.2.2.1 (by omega) (by omega) _
  · exact rows_eq m c t r b i hb 1056 (by omega) hi _ 1056 (later t h0).2.2.2.1 (by omega) (by omega) _

/-- The fourth rows, projected. -/
theorem row3 (r : Fin 528) (hi : i.val = 2112 * (t.val % 2) + (1584 + r.val)) : (fun j => v3 m c t (ix2 r j)) = stack1 (proj m c b i) := by
  refine (funext fun j => proj_apply (View.ld (iblk m c 0 t) (Rect.unit (k0_off2 (grid0.coords t) 1584#32) ![1, 528, 1024] (k0_off2_inb (grid0.coords t) 2))) (iblk m c 2 t) (iblk m c 3 t) r j).trans
    (stacked m hF t b i _ ?_)
  by_cases h0 : t.val % 2 = 0
  · exact rows_eq m c t r b i hb 1584 (by omega) hi _ 1456 (first t h0).2.2.2.2 (by omega) (by omega) _
  · exact rows_eq m c t r b i hb 1584 (by omega) hi _ 1584 (later t h0).2.2.2.2 (by omega) (by omega) _

end Projected

/-- The state-space lanes, over a block. -/
theorem out12 {c : Dev nD} (hF : Reals m c) (t : Fin grid0.N) (y : S1x2x2112x128.Idx) (b : Fin 4) (i : Fin 4224) (hb : b.val = t.val / 2)
    (hi : i.val = 2112 * (t.val % 2) + (y 2).val) : (outsAt0 m c t).1 y = outU m c b (y 1) i (y 3) := by
  unfold outsAt0
  frame_out
  canon_tiles x h using View.cover_of_tiledBy _ ![1, 1, 528, 128] (by sl_kernel_rfl) y
  case piece0 => exact piece_u31 m t b i (v3 m c t) (row3 m hF t b i hb) x (by omega) (y 1) (by omega) (y 3) (by omega)
  case piece1 => exact piece_u30 m t b i (v3 m c t) (row3 m hF t b i hb) x (by omega) (y 1) (by omega) (y 3) (by omega)
  case piece2 => exact piece_u21 m t b i (v2 m c t) (row2 m hF t b i hb) x (by omega) (y 1) (by omega) (y 3) (by omega)
  case piece3 => exact piece_u20 m t b i (View.ld (iblk m c 0 t) (Rect.unit (k0_off2 (grid0.coords t) 1056#32) ![1, 528, 1024] (k0_off2_inb (grid0.coords t) 1))) (iblk m c 2 t) (iblk m c 3 t) (row2 m hF t b i hb) x (by omega) (y 1) (by omega) (y 3) (by omega)
  case piece4 => exact piece_u11 m t b i (k0_pay43 (View.ld (iblk m c 0 t) (Rect.unit (k0_off2 (grid0.coords t) 528#32) ![1, 528, 1024] (k0_off2_inb (grid0.coords t) 0)))) (k0_pay44 (iblk m c 2 t)) (k0_pay45 (View.ld (iblk m c 0 t) (Rect.unit (k0_off2 (grid0.coords t) 528#32) ![1, 528, 1024] (k0_off2_inb (grid0.coords t) 0)))) (FloatOps.ofBits FTy.f32 897988541#32) (iblk m c 3 t) (row1 m hF t b i hb) x (by omega) (y 1) (by omega) (y 3) (by omega)
  case piece5 => exact piece_u10 m t b i (k0_pay43 (View.ld (iblk m c 0 t) (Rect.unit (k0_off2 (grid0.coords t) 528#32) ![1, 528, 1024] (k0_off2_inb (grid0.coords t) 0)))) (k0_pay44 (iblk m c 2 t)) (k0_pay45 (View.ld (iblk m c 0 t) (Rect.unit (k0_off2 (grid0.coords t) 528#32) ![1, 528, 1024] (k0_off2_inb (grid0.coords t) 0)))) (FloatOps.ofBits FTy.f32 897988541#32) (iblk m c 3 t) (row1 m hF t b i hb) x (by omega) (y 1) (by omega) (y 3) (by omega)
  case piece6 => exact piece_u01 m t b i (v0 m c t) (row0 m hF t b i hb) x (by omega) (y 1) (by omega) (y 3) (by omega)
  case piece7 => exact piece_u00 m t b i (v0 m c t) (row0 m hF t b i hb) x (by omega) (y 1) (by omega) (y 3) (by omega)

/-- The windowed-attention queries, over a block. -/
theorem out13 {c : Dev nD} (hF : Reals m c) (t : Fin grid0.N) (y : S1x2112x512.Idx) (b : Fin 4) (i : Fin 4224) (hb : b.val = t.val / 2)
    (hi : i.val = 2112 * (t.val % 2) + (y 1).val) : (outsAt0 m c t).2.1 y = outQ m c b i (y 2) := by
  unfold outsAt0
  frame_out
  canon_tiles x h using View.cover_of_tiledBy _ ![1, 528, 512] (by sl_kernel_rfl) y
  case piece0 => exact piece_q m t 1584 b i (v3 m c t) (row3 m hF t b i hb) x (by omega) (y 2) (by omega)
  case piece1 => exact piece_q m t 1056 b i (v2 m c t) (row2 m hF t b i hb) x (by omega) (y 2) (by omega)
  case piece2 => exact piece_q m t 528 b i (v1 m c t) (row1 m hF t b i hb) x (by omega) (y 2) (by omega)
  case piece3 => exact piece_q m t 0 b i (v0 m c t) (row0 m hF t b i hb) x (by omega) (y 2) (by omega)

/-- The windowed-attention keys and values, over a block. -/
theorem out14 {c : Dev nD} (hF : Reals m c) (t : Fin grid0.N) (y : S1x2112x384.Idx) (b : Fin 4) (i : Fin 4224) (hb : b.val = t.val / 2)
    (hi : i.val = 2112 * (t.val % 2) + (y 1).val) : (outsAt0 m c t).2.2.1 y = outKV m c b i (y 2) := by
  unfold outsAt0
  frame_out
  canon_tiles x h using View.cover_of_tiledBy _ ![1, 528, 64] (by sl_kernel_rfl) y
  case piece0 => exact piece_unit1 m b i x (y 2) (by omega)
  case piece1 => exact piece_val1 m t 1584 b i (v3 m c t) (row3 m hF t b i hb) x (by omega) (y 2) (by omega)
  case piece2 => exact piece_unit0 m b i x (y 2) (by omega)
  case piece3 => exact piece_val0 m t 1584 b i (v3 m c t) (row3 m hF t b i hb) x (by omega) (y 2) (by omega)
  case piece4 => exact piece_key m t 1584 b i (v3 m c t) (row3 m hF t b i hb) x (by omega) (y 2) (by omega)
  case piece5 => exact piece_unit1 m b i x (y 2) (by omega)
  case piece6 => exact piece_val1 m t 1056 b i (v2 m c t) (row2 m hF t b i hb) x (by omega) (y 2) (by omega)
  case piece7 => exact piece_unit0 m b i x (y 2) (by omega)
  case piece8 => exact piece_val0 m t 1056 b i (v2 m c t) (row2 m hF t b i hb) x (by omega) (y 2) (by omega)
  case piece9 => exact piece_key m t 1056 b i (v2 m c t) (row2 m hF t b i hb) x (by omega) (y 2) (by omega)
  case piece10 => exact piece_unit1 m b i x (y 2) (by omega)
  case piece11 => exact piece_val1 m t 528 b i (v1 m c t) (row1 m hF t b i hb) x (by omega) (y 2) (by omega)
  case piece12 => exact piece_unit0 m b i x (y 2) (by omega)
  case piece13 => exact piece_val0 m t 528 b i (v1 m c t) (row1 m hF t b i hb) x (by omega) (y 2) (by omega)
  case piece14 => exact piece_key m t 528 b i (v1 m c t) (row1 m hF t b i hb) x (by omega) (y 2) (by omega)
  case piece15 => exact piece_unit1 m b i x (y 2) (by omega)
  case piece16 => exact piece_val1 m t 0 b i (v0 m c t) (row0 m hF t b i hb) x (by omega) (y 2) (by omega)
  case piece17 => exact piece_unit0 m b i x (y 2) (by omega)
  case piece18 => exact piece_val0 m t 0 b i (v0 m c t) (row0 m hF t b i hb) x (by omega) (y 2) (by omega)
  case piece19 => exact piece_key m t 0 b i (v0 m c t) (row0 m hF t b i hb) x (by omega) (y 2) (by omega)

/-- The latent queries, over a block. -/
theorem out15 {c : Dev nD} (hF : Reals m c) (t : Fin grid0.N) (y : S1x4x2112x208.Idx) (b : Fin 4) (i : Fin 4224) (hb : b.val = t.val / 2)
    (hi : i.val = 2112 * (t.val % 2) + (y 2).val) : (outsAt0 m c t).2.2.2.1 y = outQM m c b (y 1) i (y 3) := by
  unfold outsAt0
  frame_out
  canon_tiles x h using View.cover_of_tiledBy _ ![1, 1, 528, 16] (by sl_kernel_rfl) y
  case piece0 => exact piece_rope3 m hF t 1584 (by omega) b i hb (v3 m c t) (row3 m hF t b i hb) inb_S2112x128_S528x128_1584_0 inb_S2112x128_S528x128_1584_0 x (by omega) (y 1) (by omega) (y 3) (by omega)
  case piece1 => exact piece_tab m t 1584 (by omega) b i inb_S2112x128_S528x48_1584_0 x (by omega) (y 1) (y 3) (by omega)
  case piece2 => exact piece_lat3 m hF t 1584 b i hb (v3 m c t) (row3 m hF t b i hb) x (by omega) (y 1) (by omega) (y 3) (by omega)
  case piece3 => exact piece_rope2 m hF t 1584 (by omega) b i hb (v3 m c t) (row3 m hF t b i hb) inb_S2112x128_S528x128_1584_0 inb_S2112x128_S528x128_1584_0 x (by omega) (y 1) (by omega) (y 3) (by omega)
  case piece4 => exact piece_tab m t 1584 (by omega) b i inb_S2112x128_S528x48_1584_0 x (by omega) (y 1) (y 3) (by omega)
  case piece5 => exact piece_lat2 m hF t 1584 b i hb (v3 m c t) (row3 m hF t b i hb) x (by omega) (y 1) (by omega) (y 3) (by omega)
  case piece6 => exact piece_rope1 m hF t 1584 (by omega) b i hb (v3 m c t) (row3 m hF t b i hb) inb_S2112x128_S528x128_1584_0 inb_S2112x128_S528x128_1584_0 x (by omega) (y 1) (by omega) (y 3) (by omega)
  case piece7 => exact piece_tab m t 1584 (by omega) b i inb_S2112x128_S528x48_1584_0 x (by omega) (y 1) (y 3) (by omega)
  case piece8 => exact piece_lat1 m hF t 1584 b i hb (v3 m c t) (row3 m hF t b i hb) x (by omega) (y 1) (by omega) (y 3) (by omega)
  case piece9 => exact piece_rope0 m hF t 1584 (by omega) b i hb (v3 m c t) (row3 m hF t b i hb) inb_S2112x128_S528x128_1584_0 inb_S2112x128_S528x128_1584_0 x (by omega) (y 1) (by omega) (y 3) (by omega)
  case piece10 => exact piece_tab m t 1584 (by omega) b i inb_S2112x128_S528x48_1584_0 x (by omega) (y 1) (y 3) (by omega)
  case piece11 => exact piece_lat0 m hF t 1584 b i hb (v3 m c t) (row3 m hF t b i hb) x (by omega) (y 1) (by omega) (y 3) (by omega)
  case piece12 => exact piece_rope3 m hF t 1056 (by omega) b i hb (v2 m c t) (row2 m hF t b i hb) inb_S2112x128_S528x128_1056_0 inb_S2112x128_S528x128_1056_0 x (by omega) (y 1) (by omega) (y 3) (by omega)
  case piece13 => exact piece_tab m t 1056 (by omega) b i inb_S2112x128_S528x48_1056_0 x (by omega) (y 1) (y 3) (by omega)
  case piece14 => exact piece_lat3 m hF t 1056 b i hb (v2 m c t) (row2 m hF t b i hb) x (by omega) (y 1) (by omega) (y 3) (by omega)
  case piece15 => exact piece_rope2 m hF t 1056 (by omega) b i hb (v2 m c t) (row2 m hF t b i hb) inb_S2112x128_S528x128_1056_0 inb_S2112x128_S528x128_1056_0 x (by omega) (y 1) (by omega) (y 3) (by omega)
  case piece16 => exact piece_tab m t 1056 (by omega) b i inb_S2112x128_S528x48_1056_0 x (by omega) (y 1) (y 3) (by omega)
  case piece17 => exact piece_lat2 m hF t 1056 b i hb (v2 m c t) (row2 m hF t b i hb) x (by omega) (y 1) (by omega) (y 3) (by omega)
  case piece18 => exact piece_rope1 m hF t 1056 (by omega) b i hb (v2 m c t) (row2 m hF t b i hb) inb_S2112x128_S528x128_1056_0 inb_S2112x128_S528x128_1056_0 x (by omega) (y 1) (by omega) (y 3) (by omega)
  case piece19 => exact piece_tab m t 1056 (by omega) b i inb_S2112x128_S528x48_1056_0 x (by omega) (y 1) (y 3) (by omega)
  case piece20 => exact piece_lat1 m hF t 1056 b i hb (v2 m c t) (row2 m hF t b i hb) x (by omega) (y 1) (by omega) (y 3) (by omega)
  case piece21 => exact piece_rope0 m hF t 1056 (by omega) b i hb (v2 m c t) (row2 m hF t b i hb) inb_S2112x128_S528x128_1056_0 inb_S2112x128_S528x128_1056_0 x (by omega) (y 1) (by omega) (y 3) (by omega)
  case piece22 => exact piece_tab m t 1056 (by omega) b i inb_S2112x128_S528x48_1056_0 x (by omega) (y 1) (y 3) (by omega)
  case piece23 => exact piece_lat0 m hF t 1056 b i hb (v2 m c t) (row2 m hF t b i hb) x (by omega) (y 1) (by omega) (y 3) (by omega)
  case piece24 => exact piece_rope3 m hF t 528 (by omega) b i hb (v1 m c t) (row1 m hF t b i hb) inb_S2112x128_S528x128_528_0 inb_S2112x128_S528x128_528_0 x (by omega) (y 1) (by omega) (y 3) (by omega)
  case piece25 => exact piece_tab m t 528 (by omega) b i inb_S2112x128_S528x48_528_0 x (by omega) (y 1) (y 3) (by omega)
  case piece26 => exact piece_lat3 m hF t 528 b i hb (v1 m c t) (row1 m hF t b i hb) x (by omega) (y 1) (by omega) (y 3) (by omega)
  case piece27 => exact piece_rope2 m hF t 528 (by omega) b i hb (v1 m c t) (row1 m hF t b i hb) inb_S2112x128_S528x128_528_0 inb_S2112x128_S528x128_528_0 x (by omega) (y 1) (by omega) (y 3) (by omega)
  case piece28 => exact piece_tab m t 528 (by omega) b i inb_S2112x128_S528x48_528_0 x (by omega) (y 1) (y 3) (by omega)
  case piece29 => exact piece_lat2 m hF t 528 b i hb (v1 m c t) (row1 m hF t b i hb) x (by omega) (y 1) (by omega) (y 3) (by omega)
  case piece30 => exact piece_rope1 m hF t 528 (by omega) b i hb (v1 m c t) (row1 m hF t b i hb) inb_S2112x128_S528x128_528_0 inb_S2112x128_S528x128_528_0 x (by omega) (y 1) (by omega) (y 3) (by omega)
  case piece31 => exact piece_tab m t 528 (by omega) b i inb_S2112x128_S528x48_528_0 x (by omega) (y 1) (y 3) (by omega)
  case piece32 => exact piece_lat1 m hF t 528 b i hb (v1 m c t) (row1 m hF t b i hb) x (by omega) (y 1) (by omega) (y 3) (by omega)
  case piece33 => exact piece_rope0 m hF t 528 (by omega) b i hb (v1 m c t) (row1 m hF t b i hb) inb_S2112x128_S528x128_528_0 inb_S2112x128_S528x128_528_0 x (by omega) (y 1) (by omega) (y 3) (by omega)
  case piece34 => exact piece_tab m t 528 (by omega) b i inb_S2112x128_S528x48_528_0 x (by omega) (y 1) (y 3) (by omega)
  case piece35 => exact piece_lat0 m hF t 528 b i hb (v1 m c t) (row1 m hF t b i hb) x (by omega) (y 1) (by omega) (y 3) (by omega)
  case piece36 => exact piece_rope3 m hF t 0 (by omega) b i hb (v0 m c t) (row0 m hF t b i hb) inb_S2112x128_S528x128_0_0 inb_S2112x128_S528x128_0_0 x (by omega) (y 1) (by omega) (y 3) (by omega)
  case piece37 => exact piece_tab m t 0 (by omega) b i inb_S2112x128_S528x48_0_0 x (by omega) (y 1) (y 3) (by omega)
  case piece38 => exact piece_lat3 m hF t 0 b i hb (v0 m c t) (row0 m hF t b i hb) x (by omega) (y 1) (by omega) (y 3) (by omega)
  case piece39 => exact piece_rope2 m hF t 0 (by omega) b i hb (v0 m c t) (row0 m hF t b i hb) inb_S2112x128_S528x128_0_0 inb_S2112x128_S528x128_0_0 x (by omega) (y 1) (by omega) (y 3) (by omega)
  case piece40 => exact piece_tab m t 0 (by omega) b i inb_S2112x128_S528x48_0_0 x (by omega) (y 1) (y 3) (by omega)
  case piece41 => exact piece_lat2 m hF t 0 b i hb (v0 m c t) (row0 m hF t b i hb) x (by omega) (y 1) (by omega) (y 3) (by omega)
  case piece42 => exact piece_rope1 m hF t 0 (by omega) b i hb (v0 m c t) (row0 m hF t b i hb) inb_S2112x128_S528x128_0_0 inb_S2112x128_S528x128_0_0 x (by omega) (y 1) (by omega) (y 3) (by omega)
  case piece43 => exact piece_tab m t 0 (by omega) b i inb_S2112x128_S528x48_0_0 x (by omega) (y 1) (y 3) (by omega)
  case piece44 => exact piece_lat1 m hF t 0 b i hb (v0 m c t) (row0 m hF t b i hb) x (by omega) (y 1) (by omega) (y 3) (by omega)
  case piece45 => exact piece_rope0 m hF t 0 (by omega) b i hb (v0 m c t) (row0 m hF t b i hb) inb_S2112x128_S528x128_0_0 inb_S2112x128_S528x128_0_0 x (by omega) (y 1) (by omega) (y 3) (by omega)
  case piece46 => exact piece_tab m t 0 (by omega) b i inb_S2112x128_S528x48_0_0 x (by omega) (y 1) (y 3) (by omega)
  case piece47 => exact piece_lat0 m hF t 0 b i hb (v0 m c t) (row0 m hF t b i hb) x (by omega) (y 1) (by omega) (y 3) (by omega)

/-- The latent keys, over a block. -/
theorem out16 {c : Dev nD} (hF : Reals m c) (t : Fin grid0.N) (y : S1x2112x208.Idx) (b : Fin 4) (i : Fin 4224) (hb : b.val = t.val / 2)
    (hi : i.val = 2112 * (t.val % 2) + (y 1).val) : (outsAt0 m c t).2.2.2.2 y = outKC m c b i (y 2) := by
  unfold outsAt0
  frame_out
  canon_tiles x h using View.cover_of_tiledBy _ ![1, 528, 16] (by sl_kernel_rfl) y
  case piece0 => exact piece_krope m t 1584 (by omega) b i (v3 m c t) (row3 m hF t b i hb) inb_S2112x128_S528x128_1584_0 inb_S2112x128_S528x128_1584_0 x (by omega) (y 2) (by omega)
  case piece1 => exact piece_ktab m t 1584 (by omega) b i inb_S2112x128_S528x48_1584_0 x (by omega) (y 2) (by omega)
  case piece2 => exact piece_klat m t 1584 b i (v3 m c t) (row3 m hF t b i hb) x (by omega) (y 2) (by omega)
  case piece3 => exact piece_krope m t 1056 (by omega) b i (v2 m c t) (row2 m hF t b i hb) inb_S2112x128_S528x128_1056_0 inb_S2112x128_S528x128_1056_0 x (by omega) (y 2) (by omega)
  case piece4 => exact piece_ktab m t 1056 (by omega) b i inb_S2112x128_S528x48_1056_0 x (by omega) (y 2) (by omega)
  case piece5 => exact piece_klat m t 1056 b i (v2 m c t) (row2 m hF t b i hb) x (by omega) (y 2) (by omega)
  case piece6 => exact piece_krope m t 528 (by omega) b i (v1 m c t) (row1 m hF t b i hb) inb_S2112x128_S528x128_528_0 inb_S2112x128_S528x128_528_0 x (by omega) (y 2) (by omega)
  case piece7 => exact piece_ktab m t 528 (by omega) b i inb_S2112x128_S528x48_528_0 x (by omega) (y 2) (by omega)
  case piece8 => exact piece_klat m t 528 b i (v1 m c t) (row1 m hF t b i hb) x (by omega) (y 2) (by omega)
  case piece9 => exact piece_krope m t 0 (by omega) b i (v0 m c t) (row0 m hF t b i hb) inb_S2112x128_S528x128_0_0 inb_S2112x128_S528x128_0_0 x (by omega) (y 2) (by omega)
  case piece10 => exact piece_ktab m t 0 (by omega) b i inb_S2112x128_S528x48_0_0 x (by omega) (y 2) (by omega)
  case piece11 => exact piece_klat m t 0 b i (v0 m c t) (row0 m hF t b i hb) x (by omega) (y 2) (by omega)

/-- Where an element of the block of the state-space lanes lies in their array. -/
theorem emb12 (t : Fin grid0.N) (s : Fin 2) (r : Fin 2112) (k : Fin 128) (b : Fin 4) (i : Fin 4224) (hb : b.val = t.val / 2)
    (hi : i.val = 2112 * (t.val % 2) + r.val) : (win0_12.blk t).view.emb (ix4 0 s r k) = ix4 b s i k := by
  funext a
  apply Fin.ext
  refine (win0_12.rect_emb_val t (ix4 0 s r k) a).trans ?_
  have h := (idx t).2.2.2.2.2.2.2.2.2.2.2.2.1
  match a with
  | ⟨0, _⟩ => exact (congrArg (· * 1 + 0) h.1).trans (by simpa using hb.symm)
  | ⟨1, _⟩ => exact (congrArg (· * 2 + s.val) h.2.1).trans (by simp [ix4])
  | ⟨2, _⟩ => exact (congrArg (· * 2112 + r.val) h.2.2.1).trans (by simp [ix4]; omega)
  | ⟨3, _⟩ => exact (congrArg (· * 128 + k.val) h.2.2.2).trans (by simp [ix4])

/-- The array of the state-space lanes after the run. -/
theorem final12 {c : Dev nD} (hF : Reals m c) :
    (dats m 0 c).arrAt 12 cfg0.N = fun y : S4x2x4224x128.Idx => outU m c (y 0) (y 1) (y 2) (y 3) := by
  refine (dats m 0 c).arrAt_eq_of_covers 12 _ (by decide +kernel) fun t hf y => ?_
  blk_simp
  rw [after0_12]
  obtain ⟨s, r, k, rfl⟩ : ∃ (s : Fin 2) (r : Fin 2112) (k : Fin 128), (y : S1x2x2112x128.Idx) = ix4 0 s r k :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb12 t s r k _ _ hb hi]
  exact out12 m hF t (ix4 0 s r k) _ _ hb hi

/-- Where an element of the block of the windowed-attention queries lies in their array. -/
theorem emb13 (t : Fin grid0.N) (r : Fin 2112) (k : Fin 512) (b : Fin 4) (i : Fin 4224) (hb : b.val = t.val / 2)
    (hi : i.val = 2112 * (t.val % 2) + r.val) : (win0_13.blk t).view.emb (ix3 0 r k) = ix3 b i k := by
  funext a
  apply Fin.ext
  refine (win0_13.rect_emb_val t (ix3 0 r k) a).trans ?_
  have h := (idx t).2.2.2.2.2.2.2.2.2.2.2.2.2.1
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 512 + k.val) h.2.2).trans (by simp [ix3])

/-- The array of the windowed-attention queries after the run. -/
theorem final13 {c : Dev nD} (hF : Reals m c) :
    (dats m 0 c).arrAt 13 cfg0.N = fun y : S4x4224x512.Idx => outQ m c (y 0) (y 1) (y 2) := by
  refine (dats m 0 c).arrAt_eq_of_covers 13 _ (by decide +kernel) fun t hf y => ?_
  blk_simp
  rw [after0_13]
  obtain ⟨r, k, rfl⟩ : ∃ (r : Fin 2112) (k : Fin 512), (y : S1x2112x512.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb13 t r k _ _ hb hi]
  exact out13 m hF t (ix3 0 r k) _ _ hb hi

/-- Where an element of the block of the windowed-attention keys and values lies in their array. -/
theorem emb14 (t : Fin grid0.N) (r : Fin 2112) (k : Fin 384) (b : Fin 4) (i : Fin 4224) (hb : b.val = t.val / 2)
    (hi : i.val = 2112 * (t.val % 2) + r.val) : (win0_14.blk t).view.emb (ix3 0 r k) = ix3 b i k := by
  funext a
  apply Fin.ext
  refine (win0_14.rect_emb_val t (ix3 0 r k) a).trans ?_
  have h := (idx t).2.2.2.2.2.2.2.2.2.2.2.2.2.2.1
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 384 + k.val) h.2.2).trans (by simp [ix3])

/-- The array of the windowed-attention keys and values after the run. -/
theorem final14 {c : Dev nD} (hF : Reals m c) :
    (dats m 0 c).arrAt 14 cfg0.N = fun y : S4x4224x384.Idx => outKV m c (y 0) (y 1) (y 2) := by
  refine (dats m 0 c).arrAt_eq_of_covers 14 _ (by decide +kernel) fun t hf y => ?_
  blk_simp
  rw [after0_14]
  obtain ⟨r, k, rfl⟩ : ∃ (r : Fin 2112) (k : Fin 384), (y : S1x2112x384.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb14 t r k _ _ hb hi]
  exact out14 m hF t (ix3 0 r k) _ _ hb hi

/-- Where an element of the block of the latent queries lies in their array. -/
theorem emb15 (t : Fin grid0.N) (s : Fin 4) (r : Fin 2112) (k : Fin 208) (b : Fin 4) (i : Fin 4224) (hb : b.val = t.val / 2)
    (hi : i.val = 2112 * (t.val % 2) + r.val) : (win0_15.blk t).view.emb (ix4 0 s r k) = ix4 b s i k := by
  funext a
  apply Fin.ext
  refine (win0_15.rect_emb_val t (ix4 0 s r k) a).trans ?_
  have h := (idx t).2.2.2.2.2.2.2.2.2.2.2.2.2.2.2.1
  match a with
  | ⟨0, _⟩ => exact (congrArg (· * 1 + 0) h.1).trans (by simpa using hb.symm)
  | ⟨1, _⟩ => exact (congrArg (· * 4 + s.val) h.2.1).trans (by simp [ix4])
  | ⟨2, _⟩ => exact (congrArg (· * 2112 + r.val) h.2.2.1).trans (by simp [ix4]; omega)
  | ⟨3, _⟩ => exact (congrArg (· * 208 + k.val) h.2.2.2).trans (by simp [ix4])

/-- The array of the latent queries after the run. -/
theorem final15 {c : Dev nD} (hF : Reals m c) :
    (dats m 0 c).arrAt 15 cfg0.N = fun y : S4x4x4224x208.Idx => outQM m c (y 0) (y 1) (y 2) (y 3) := by
  refine (dats m 0 c).arrAt_eq_of_covers 15 _ (by decide +kernel) fun t hf y => ?_
  blk_simp
  rw [after0_15]
  obtain ⟨s, r, k, rfl⟩ : ∃ (s : Fin 4) (r : Fin 2112) (k : Fin 208), (y : S1x4x2112x208.Idx) = ix4 0 s r k :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb15 t s r k _ _ hb hi]
  exact out15 m hF t (ix4 0 s r k) _ _ hb hi

/-- Where an element of the block of the latent keys lies in their array. -/
theorem emb16 (t : Fin grid0.N) (r : Fin 2112) (k : Fin 208) (b : Fin 4) (i : Fin 4224) (hb : b.val = t.val / 2)
    (hi : i.val = 2112 * (t.val % 2) + r.val) : (win0_16.blk t).view.emb (ix3 0 r k) = ix3 b i k := by
  funext a
  apply Fin.ext
  refine (win0_16.rect_emb_val t (ix3 0 r k) a).trans ?_
  have h := (idx t).2.2.2.2.2.2.2.2.2.2.2.2.2.2.2.2
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 208 + k.val) h.2.2).trans (by simp [ix3])

/-- The array of the latent keys after the run. -/
theorem final16 {c : Dev nD} (hF : Reals m c) :
    (dats m 0 c).arrAt 16 cfg0.N = fun y : S4x4224x208.Idx => outKC m c (y 0) (y 1) (y 2) := by
  refine (dats m 0 c).arrAt_eq_of_covers 16 _ (by decide +kernel) fun t hf y => ?_
  blk_simp
  rw [after0_16]
  obtain ⟨r, k, rfl⟩ : ∃ (r : Fin 2112) (k : Fin 208), (y : S1x2112x208.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb16 t r k _ _ hb hi]
  exact out16 m hF t (ix3 0 r k) _ _ hb hi

end Cert.Kernel3Ideal.Rows
-- ==== Proof.Mix3Real.lean ====
/- The first layer's opening kernel: what its precondition says of the argument arrays, entry by entry. -/
module

public import proofs.«01_k».proof.Defs
public import proofs.«01_k».proof.Proof.Gen.Pre_finite3
public import proofs.«01_k».proof.Proof.Mix3Rows
public import Idealize.ShloMosaic.Lib.ReduceAll

@[expose] public section

set_option maxRecDepth 16384

noncomputable section

namespace Cert.Kernel3Ideal.Rows

open Cert.MixRow Idealize.ShloMosaic Idealize.ShloMosaic.TcCoe Idealize.SL.Sem

/-- A conjunction of two bits is one exactly when both are. -/
theorem both_of_and {a b : BitVec 1} (h : IntOp.andi a b = 1#1) : a = 1#1 ∧ b = 1#1 := by
  revert h
  revert a b
  decide

/-- A whole array whose test reduces to one has only reals. -/
theorem real_of_all {s : Shape} {axes : List (Fin s.rank)} (x : FVec Ideal s .f32) (hb : Cert.Pre_finite3.S_.BroadcastsInDim s (![] : Fin 0 → Fin s.rank))
    (hr : s.ReducesTo axes Cert.Pre_finite3.S_) (hu : 0 < Cert.Pre_finite3.S_.numel) (j : Cert.Pre_finite3.S_.Idx)
    (e : Host.reduce IntOp.andi (cmpf .olt (Host.absf x) (broadcastInDim s ![] hb (constant Cert.Pre_finite3.S_ .f32 0x7F800000#32)))
      (constantI Cert.Pre_finite3.S_ 1 1#1) hr hu j = 1#1) (i : s.Idx) : IsReal (x i) := by
  have : Subsingleton Cert.Pre_finite3.S_.Idx := ⟨fun a b => by funext k; exact k.elim0⟩
  have h := Host.reduce_andi_all _ _ hr hu j e i
  exact isReal_of_lt (x i) h

/-- The precondition says the contracted arrays are real. -/
theorem reals (m : (ℓ : Loc Cert.Kernel3Ideal.nD Cert.Kernel3Ideal.τ Cert.Kernel3Ideal.sig) → Buf (Elt Ideal) ℓ)
    (h : Cert.Pre_Kernel3Ideal_finite3 (hPre_finite3 := Cert.Pre_finite3.Gen.facts) m) (c : Dev Cert.Kernel3Ideal.nD) : Reals m c := by
  have e := congrFun (h c) (fun k => k.elim0)
  have : Cert.Pre_finite3.Facts := Cert.Pre_finite3.Gen.facts
  dsimp only [Cert.Pre_finite3.fn, Cert.Pre_finite3.fn_part1, andi] at e
  obtain ⟨e, h5⟩ := both_of_and e
  obtain ⟨e, h4⟩ := both_of_and e
  obtain ⟨e, h3⟩ := both_of_and e
  obtain ⟨e, h2⟩ := both_of_and e
  obtain ⟨e, h1⟩ := both_of_and e
  exact ⟨fun b i k => real_of_all _ _ _ _ _ e (ix3 b i k),
    fun i k => real_of_all _ _ _ _ _ h1 (ix2 i k),
    fun l k => real_of_all _ _ _ _ _ h2 (ix2 l k),
    fun l j k => real_of_all _ _ _ _ _ h3 (ix3 l j k),
    fun l j => real_of_all _ _ _ _ _ h4 (ix2 l j),
    fun l j k => real_of_all _ _ _ _ _ h5 (ix3 l j k)⟩

end Cert.Kernel3Ideal.Rows
-- ==== Proof.Ref3Rows.lean ====
/- The first layer's opening reference, its results at an index as the row functions of the argument rows: its operations are
   read one norm, one product or one joint at a time. -/
module

public import proofs.«01_k».proof.Proof.Gen.Reference3Ideal.Read
public import proofs.«01_k».proof.Proof.MixRow
public import Idealize.ShloMosaic.Lib.Pointwise

@[expose] public section

set_option maxRecDepth 16384

noncomputable section

namespace Cert.Reference3Ideal.Rows

open Cert.Reference3Ideal Cert.Reference3Ideal.Gen Cert.Reference3Ideal.Read Cert.RowModel Cert.MixRow Idealize.ShloMosaic

variable (x0 : (⟨S4x4096x1024, .f32⟩ : BufTy).Contents (Elt Ideal))
variable (x1 : (⟨S16x1024, .f32⟩ : BufTy).Contents (Elt Ideal))
variable (x2 : (⟨S2x1024, .f32⟩ : BufTy).Contents (Elt Ideal))
variable (x3 : (⟨S2x1024x1376, .f32⟩ : BufTy).Contents (Elt Ideal))
variable (x4 : (⟨S2x192, .f32⟩ : BufTy).Contents (Elt Ideal))
variable (x5 : (⟨S2x128, .f32⟩ : BufTy).Contents (Elt Ideal))
variable (x6 : (⟨S2x192x384, .f32⟩ : BufTy).Contents (Elt Ideal))
variable (x7 : (⟨S2x128x256, .f32⟩ : BufTy).Contents (Elt Ideal))
variable (x8 : (⟨S4224x16, .f32⟩ : BufTy).Contents (Elt Ideal))
variable (x9 : (⟨S4224x16, .f32⟩ : BufTy).Contents (Elt Ideal))
variable (x10 : (⟨S4224x128, .bf16⟩ : BufTy).Contents (Elt Ideal))
variable (x11 : (⟨S4224x128, .bf16⟩ : BufTy).Contents (Elt Ideal))

/-- The residual stream: the empty rows, the meta tokens and the real tokens joined. -/
theorem stream_apply (b : Fin 4) (i : Fin 4224) (k : Fin 1024) :
    val_main_v3 (F := Ideal) x0 x1 (ix3 b i k) = stream (fun p q => x1 (ix2 p q)) (fun p q => x0 (ix3 b p q)) i k := by
  pointwise [val_main_v3, val_main_v2, val_main_v1, val_main_v0, val_main_cst, stream]
  by_cases h : i.val < 112
  · simp [h]
  by_cases h' : i.val < 128
  · have h'' : i.val - 112 < 16 := by omega
    simp [h, h', h'']
  have h'' : ¬i.val - 112 < 16 := by omega
  simp [h, h', h'', Nat.sub_sub]

/-- The row's norm. -/
theorem norm_apply (b : Fin 4) (i : Fin 4224) (k : Fin 1024) :
    val_main_v31 (F := Ideal) x0 x1 x2 (ix3 b i k) = rms inv1024 (fun j => val_main_v3 (F := Ideal) x0 x1 (ix3 b i j)) (fun j => x2 (ix2 0 j)) k := by
  pointwise [val_main_v31, val_main_v30, val_main_v29, val_main_v28, val_main_v27, val_main_v26, val_main_v25, val_main_v24, val_main_v23, val_main_v22, val_main_v21, val_main_v20, val_main_v19, val_main_v5, val_main_v4, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, rms, eps, div_1024]

/-- The first projection. -/
theorem proj_apply (b : Fin 4) (i : Fin 4224) (k : Fin 1376) :
    val_main_v32 (F := Ideal) x0 x1 x2 x3 (ix3 b i k)
      = lin (fun j => val_main_v31 (F := Ideal) x0 x1 x2 (ix3 b i j)) (fun j q => x3 (ix3 0 j q)) k := by
  pointwise [val_main_v32, val_main_v7, val_main_v6, lin]

/-- The state-space lanes. -/
theorem ssm_apply (b : Fin 4) (s : Fin 2) (i : Fin 4224) (k : Fin 128) :
    val_main_v43 (F := Ideal) x0 x1 x2 x3 (ix4 b s i k) = ssm (fun q => val_main_v32 (F := Ideal) x0 x1 x2 x3 (ix3 b i q)) i.val s k := by
  pointwise [val_main_v43, val_main_v42, val_main_v41, val_main_v40, val_main_v33, val_main_v18, val_main_v17, val_main_v16, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, ssm]
  rw [select_row _ i.isLt]
  simp [FloatOps.sitofp]

/-- The windowed-attention queries. -/
theorem query_apply (b : Fin 4) (i : Fin 4224) (k : Fin 512) :
    val_main_v133 (F := Ideal) x0 x1 x2 x3 (ix3 b i k) = query (fun q => val_main_v32 (F := Ideal) x0 x1 x2 x3 (ix3 b i q)) k := by
  pointwise [val_main_v133, val_main_v45, val_main_v44, val_main_v34, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, query, swaScale]

/-- The unit column. -/
theorem unit_apply (b : Fin 4) (i : Fin 4224) (k : Fin 64) : val_main_v51 (F := Ideal) (ix3 b i k) = unit k.val := by
  pointwise [val_main_v51]
  show val_main_v49 (F := Ideal) (ix1 k) = _
  pointwise [val_main_v49, val_main_v48, val_main_v47, val_main_v46, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15]
  exact select_zero _ k.isLt

/-- The windowed-attention keys and values. -/
theorem keyval_apply (b : Fin 4) (i : Fin 4224) (k : Fin 384) :
    val_main_v134 (F := Ideal) x0 x1 x2 x3 (ix3 b i k) = keyval (fun q => val_main_v32 (F := Ideal) x0 x1 x2 x3 (ix3 b i q)) k := by
  pointwise [val_main_v134, val_main_v54, val_main_v53, val_main_v52, val_main_v36, val_main_v35, unit_apply, keyval]
  split_ifs <;> first | rfl | (congr 3; omega)

/-- The query latents' norm. -/
theorem norm_q_apply (b : Fin 4) (i : Fin 4224) (k : Fin 192) :
    val_main_v67 (F := Ideal) x0 x1 x2 x3 x4 (ix3 b i k)
      = rms inv192 (fun j : Fin 192 => val_main_v32 (F := Ideal) x0 x1 x2 x3 (ix3 b i ⟨1024 + j.val, by omega⟩)) (fun j => x4 (ix2 0 j)) k := by
  pointwise [val_main_v67, val_main_v66, val_main_v65, val_main_v64, val_main_v63, val_main_v62, val_main_v61, val_main_v60, val_main_v59, val_main_v58, val_main_v57, val_main_v56, val_main_v55, val_main_v37, val_main_v9, val_main_v8, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, rms, eps, div_192]

/-- The query latents times the second matrix. -/
theorem latents_apply (b : Fin 4) (i : Fin 4224) (k : Fin 384) :
    val_main_v68 (F := Ideal) x0 x1 x2 x3 x4 x6 (ix3 b i k)
      = latents (fun q => val_main_v32 (F := Ideal) x0 x1 x2 x3 (ix3 b i q)) (fun j => x4 (ix2 0 j)) (fun j q => x6 (ix3 0 j q)) k := by
  pointwise [val_main_v68, val_main_v13, val_main_v12, norm_q_apply, latents, lin]

/-- A head's rotary lanes before they are turned. -/
theorem pre_rope_q_apply (b : Fin 4) (i : Fin 4224) (h : Fin 4) (r : Fin 32) :
    val_main_v71 (F := Ideal) x0 x1 x2 x3 x4 x6 (ix4 b i h r)
      = val_main_v68 (F := Ideal) x0 x1 x2 x3 x4 x6 (ix3 b i ⟨h.val * 96 + (64 + r.val), by omega⟩) := by
  pointwise [val_main_v71, val_main_v69]

/-- The first 16 lanes. -/
theorem low_q_apply (b : Fin 4) (i : Fin 4224) (h : Fin 4) (r : Fin 16) :
    val_main_v74 (F := Ideal) x0 x1 x2 x3 x4 x6 (ix4 b i h r) = val_main_v71 (F := Ideal) x0 x1 x2 x3 x4 x6 (ix4 b i h ⟨r.val, by omega⟩) := by
  pointwise [val_main_v74]

/-- The last 16 lanes. -/
theorem high_q_apply (b : Fin 4) (i : Fin 4224) (h : Fin 4) (r : Fin 16) :
    val_main_v75 (F := Ideal) x0 x1 x2 x3 x4 x6 (ix4 b i h r) = val_main_v71 (F := Ideal) x0 x1 x2 x3 x4 x6 (ix4 b i h ⟨16 + r.val, by omega⟩) := by
  pointwise [val_main_v75]

/-- The angles' cosines over the heads. -/
theorem cos_q_apply (b : Fin 4) (i : Fin 4224) (h : Fin 4) (r : Fin 16) : val_main_v76 (F := Ideal) x8 (ix4 b i h r) = x8 (ix2 i r) := by
  pointwise [val_main_v76, val_main_v72]

/-- Likewise the sines. -/
theorem sin_q_apply (b : Fin 4) (i : Fin 4224) (h : Fin 4) (r : Fin 16) : val_main_v78 (F := Ideal) x9 (ix4 b i h r) = x9 (ix2 i r) := by
  pointwise [val_main_v78, val_main_v73]

/-- The first half of a head's turned lanes. -/
theorem rope_q_low (b : Fin 4) (i : Fin 4224) (h : Fin 4) (r : Fin 16) :
    val_main_v80 (F := Ideal) x0 x1 x2 x3 x4 x6 x8 x9 (ix4 b i h r)
      = val_main_v71 (F := Ideal) x0 x1 x2 x3 x4 x6 (ix4 b i h ⟨r.val, by omega⟩) * x8 (ix2 i r)
        - val_main_v71 (F := Ideal) x0 x1 x2 x3 x4 x6 (ix4 b i h ⟨16 + r.val, by omega⟩) * x9 (ix2 i r) := by
  rw [val_main_v80_apply, val_main_v77_apply, val_main_v79_apply, low_q_apply, high_q_apply, cos_q_apply, sin_q_apply]
  generalize val_main_v71 (F := Ideal) x0 x1 x2 x3 x4 x6 = y
  rfl

/-- The second half of a head's turned lanes. -/
theorem rope_q_high (b : Fin 4) (i : Fin 4224) (h : Fin 4) (r : Fin 16) :
    val_main_v85 (F := Ideal) x0 x1 x2 x3 x4 x6 x8 x9 (ix4 b i h r)
      = val_main_v71 (F := Ideal) x0 x1 x2 x3 x4 x6 (ix4 b i h ⟨r.val, by omega⟩) * x9 (ix2 i r)
        + val_main_v71 (F := Ideal) x0 x1 x2 x3 x4 x6 (ix4 b i h ⟨16 + r.val, by omega⟩) * x8 (ix2 i r) := by
  rw [val_main_v85_apply, val_main_v82_apply, val_main_v84_apply, low_q_apply, high_q_apply,
    show val_main_v81 (F := Ideal) x9 = val_main_v78 (F := Ideal) x9 from rfl, show val_main_v83 (F := Ideal) x8 = val_main_v76 (F := Ideal) x8 from rfl,
    cos_q_apply, sin_q_apply]
  generalize val_main_v71 (F := Ideal) x0 x1 x2 x3 x4 x6 = y
  rfl

/-- The rotary lanes of a head's queries. -/
theorem rope_q_apply (b : Fin 4) (i : Fin 4224) (h : Fin 4) (r : Fin 32) :
    val_main_v86 (F := Ideal) x0 x1 x2 x3 x4 x6 x8 x9 (ix4 b i h r)
      = rope (fun r : Fin 32 => val_main_v68 (F := Ideal) x0 x1 x2 x3 x4 x6 (ix3 b i ⟨h.val * 96 + (64 + r.val), by omega⟩)) (fun a => x8 (ix2 i a)) (fun a => x9 (ix2 i a)) r := by
  pointwise [val_main_v86, rope_q_low, rope_q_high, pre_rope_q_apply, rope]

/-- The absorbed lanes of a head's queries. -/
theorem absorbed_apply (b : Fin 4) (h : Fin 4) (i : Fin 4224) (k : Fin 128) :
    val_main_v89 (F := Ideal) x0 x1 x2 x3 x4 x6 x7 (ix4 b h i k)
      = ∑ d : Fin 64, val_main_v68 (F := Ideal) x0 x1 x2 x3 x4 x6 (ix3 b i ⟨h.val * 96 + d.val, by omega⟩)
          * x7 (ix3 0 k ⟨h.val * 64 + d.val, by omega⟩) := by
  pointwise [val_main_v89, val_main_v88, val_main_v87, val_main_v70, val_main_v69, val_main_v15, val_main_v14]
  exact Finset.sum_congr rfl fun d _ => mul_comm _ _

/-- The latent queries. -/
theorem headQuery_apply (b : Fin 4) (h : Fin 4) (i : Fin 4224) (k : Fin 208) :
    val_main_v135 (F := Ideal) x0 x1 x2 x3 x4 x6 x7 x8 x9 x10 (ix4 b h i k)
      = headQuery (fun q => val_main_v68 (F := Ideal) x0 x1 x2 x3 x4 x6 (ix3 b i q)) (fun a j => x7 (ix3 0 a j)) (fun a => x8 (ix2 i a)) (fun a => x9 (ix2 i a)) (fun a : Fin 48 => x10 (ix2 i ⟨a.val, by omega⟩)) h k := by
  pointwise [val_main_v135, val_main_v98, val_main_v97, val_main_v96, val_main_v95, val_main_v94, val_main_v93, val_main_v92, val_main_v91, val_main_v90, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, rope_q_apply, absorbed_apply, headQuery, mlaScale]

/-- The rotary lanes of the keys. -/
theorem rope_k_apply (b : Fin 4) (i : Fin 4224) (r : Fin 32) :
    val_main_v115 (F := Ideal) x0 x1 x2 x3 x8 x9 (ix3 b i r)
      = rope (fun r : Fin 32 => val_main_v32 (F := Ideal) x0 x1 x2 x3 (ix3 b i ⟨1344 + r.val, by omega⟩)) (fun a => x8 (ix2 i a)) (fun a => x9 (ix2 i a)) r := by
  pointwise [val_main_v115, val_main_v114, val_main_v113, val_main_v112, val_main_v111, val_main_v110, val_main_v109, val_main_v108, val_main_v107, val_main_v106, val_main_v105, val_main_v104, val_main_v103, val_main_v102, val_main_v101, val_main_v100, val_main_v99, val_main_v39, rope]

/-- The key latents' norm. -/
theorem norm_k_apply (b : Fin 4) (i : Fin 4224) (k : Fin 128) :
    val_main_v128 (F := Ideal) x0 x1 x2 x3 x5 (ix3 b i k)
      = rms inv128 (fun j : Fin 128 => val_main_v32 (F := Ideal) x0 x1 x2 x3 (ix3 b i ⟨1216 + j.val, by omega⟩)) (fun j => x5 (ix2 0 j)) k := by
  pointwise [val_main_v128, val_main_v127, val_main_v126, val_main_v125, val_main_v124, val_main_v123, val_main_v122, val_main_v121, val_main_v120, val_main_v119, val_main_v118, val_main_v117, val_main_v116, val_main_v38, val_main_v11, val_main_v10, val_main_cst, val_main_c, val_main_cst_0, val_main_cst_1, val_main_cst_2, val_main_c_3, val_main_call0_v0, val_main_call0_v1, val_main_call0_v2, val_main_cst_4, val_main_c_5, val_main_cst_6, val_main_cst_7, val_main_call1_v0, val_main_call1_v1, val_main_cst_8, val_main_cst_9, val_main_cst_10, val_main_cst_11, val_main_cst_12, val_main_cst_13, val_main_cst_14, val_main_cst_15, rms, eps, div_128]

/-- The latent keys. -/
theorem latentKey_apply (b : Fin 4) (i : Fin 4224) (k : Fin 208) :
    val_main_v136 (F := Ideal) x0 x1 x2 x3 x5 x8 x9 x11 (ix3 b i k)
      = latentKey (fun q => val_main_v32 (F := Ideal) x0 x1 x2 x3 (ix3 b i q)) (fun j => x5 (ix2 0 j)) (fun a => x8 (ix2 i a)) (fun a => x9 (ix2 i a)) (fun a : Fin 48 => x11 (ix2 i ⟨a.val, by omega⟩)) k := by
  pointwise [val_main_v136, val_main_v132, val_main_v131, val_main_v130, val_main_v129, norm_k_apply, rope_k_apply, latentKey]

end Cert.Reference3Ideal.Rows
-- ==== Proof.Mix3Join.lean ====
/- The first layer's opening kernel and its reference end with the same arrays: each result of the reference is the row
   function the kernel's array was shown to be, of arguments that agree. -/
module

public import proofs.«01_k».proof.Proof.Mix3Real
public import proofs.«01_k».proof.Proof.Ref3Rows
public import proofs.«01_k».proof.Proof.Gen.Kernel3Ideal.Value
public import Idealize.ShloMosaic.Lib.Claim
public import Idealize.ShloMosaic.Adequacy
public import Idealize.ShloMosaic.Init

@[expose] public section

set_option maxRecDepth 16384

noncomputable section

namespace Cert.Mix3

open Cert.Kernel3Ideal.Rows Cert.RowModel Cert.MixRow Idealize.ShloMosaic Idealize.SL.Sem

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)

/-- The two memories hold the same arguments on device `c`. -/
abbrev Agree (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
    ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
    ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
    ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
    ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
    ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
    ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
    ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
    ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
    ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
    ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
    ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)

/-- The reference's projections are the kernel's. -/
theorem proj_ref {c : Dev Cert.Kernel3Ideal.nD} (h : Agree m m' c) (b : Fin 4) (i : Fin 4224) :
    (fun q => Cert.Reference3Ideal.Read.val_main_v32 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (ix3 b i q)) = proj m c b i := by
  funext q
  refine (Cert.Reference3Ideal.Rows.proj_apply _ _ _ _ b i q).trans ?_
  obtain ⟨h0, h1, h2, h3, h4, h5, h6, h7, h8, h9, h10, h11⟩ := h
  simp only [Cert.Reference3Ideal.Rows.norm_apply, Cert.Reference3Ideal.Rows.stream_apply]
  unfold proj row
  rw [← h0, ← h1, ← h2, ← h3]

/-- Its query latents times the second matrix too. -/
theorem lats_ref {c : Dev Cert.Kernel3Ideal.nD} (h : Agree m m' c) (b : Fin 4) (i : Fin 4224) :
    (fun q => Cert.Reference3Ideal.Read.val_main_v68 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (ix3 b i q)) = lats m c b i := by
  funext q
  refine (Cert.Reference3Ideal.Rows.latents_apply _ _ _ _ _ _ b i q).trans ?_
  rw [proj_ref m m' h b i]
  obtain ⟨h0, h1, h2, h3, h4, h5, h6, h7, h8, h9, h10, h11⟩ := h
  unfold lats
  rw [← h4, ← h6]

/-- The reference's array of the state-space lanes. -/
theorem outU_ref {c : Dev Cert.Kernel3Ideal.nD} (h : Agree m m' c) :
    Cert.Reference3Ideal.Read.val_main_v43 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      = fun y : Cert.Kernel3Ideal.S4x2x4224x128.Idx => outU m c (y 0) (y 1) (y 2) (y 3) := by
  funext y
  obtain ⟨b, s, i, k, rfl⟩ : ∃ (b : Fin 4) (s : Fin 2) (i : Fin 4224) (k : Fin 128), (y : Cert.Reference3Ideal.S4x2x4224x128.Idx) = ix4 b s i k :=
    ⟨y 0, y 1, y 2, y 3, by funext a; match a with | ⟨0, _⟩ => rfl | ⟨1, _⟩ => rfl | ⟨2, _⟩ => rfl | ⟨3, _⟩ => rfl⟩
  refine (Cert.Reference3Ideal.Rows.ssm_apply _ _ _ _ b s i k).trans ?_
  rw [proj_ref m m' h b i]
  show _ = outU m c b s i k
  rfl

/-- The reference's array of the windowed-attention queries. -/
theorem outQ_ref {c : Dev Cert.Kernel3Ideal.nD} (h : Agree m m' c) :
    Cert.Reference3Ideal.Read.val_main_v133 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      = fun y : Cert.Kernel3Ideal.S4x4224x512.Idx => outQ m c (y 0) (y 1) (y 2) := by
  funext y
  obtain ⟨b, i, k, rfl⟩ : ∃ (b : Fin 4) (i : Fin 4224) (k : Fin 512), (y : Cert.Reference3Ideal.S4x4224x512.Idx) = ix3 b i k :=
    ⟨y 0, y 1, y 2, by funext a; match a with | ⟨0, _⟩ => rfl | ⟨1, _⟩ => rfl | ⟨2, _⟩ => rfl⟩
  refine (Cert.Reference3Ideal.Rows.query_apply _ _ _ _ b i k).trans ?_
  rw [proj_ref m m' h b i]
  show _ = outQ m c b i k
  rfl

/-- The reference's array of the windowed-attention keys and values. -/
theorem outKV_ref {c : Dev Cert.Kernel3Ideal.nD} (h : Agree m m' c) :
    Cert.Reference3Ideal.Read.val_main_v134 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      = fun y : Cert.Kernel3Ideal.S4x4224x384.Idx => outKV m c (y 0) (y 1) (y 2) := by
  funext y
  obtain ⟨b, i, k, rfl⟩ : ∃ (b : Fin 4) (i : Fin 4224) (k : Fin 384), (y : Cert.Reference3Ideal.S4x4224x384.Idx) = ix3 b i k :=
    ⟨y 0, y 1, y 2, by funext a; match a with | ⟨0, _⟩ => rfl | ⟨1, _⟩ => rfl | ⟨2, _⟩ => rfl⟩
  refine (Cert.Reference3Ideal.Rows.keyval_apply _ _ _ _ b i k).trans ?_
  rw [proj_ref m m' h b i]
  show _ = outKV m c b i k
  rfl

/-- The reference's array of the latent queries. -/
theorem outQM_ref {c : Dev Cert.Kernel3Ideal.nD} (h : Agree m m' c) :
    Cert.Reference3Ideal.Read.val_main_v135 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10))
      = fun y : Cert.Kernel3Ideal.S4x4x4224x208.Idx => outQM m c (y 0) (y 1) (y 2) (y 3) := by
  funext y
  obtain ⟨b, h', i, k, rfl⟩ : ∃ (b : Fin 4) (h' : Fin 4) (i : Fin 4224) (k : Fin 208), (y : Cert.Reference3Ideal.S4x4x4224x208.Idx) = ix4 b h' i k :=
    ⟨y 0, y 1, y 2, y 3, by funext a; match a with | ⟨0, _⟩ => rfl | ⟨1, _⟩ => rfl | ⟨2, _⟩ => rfl | ⟨3, _⟩ => rfl⟩
  refine (Cert.Reference3Ideal.Rows.headQuery_apply _ _ _ _ _ _ _ _ _ _ b h' i k).trans ?_
  rw [lats_ref m m' h b i]
  show _ = outQM m c b h' i k
  obtain ⟨h0, h1, h2, h3, h4, h5, h6, h7, h8, h9, h10, h11⟩ := h
  unfold outQM
  rw [← h7, ← h8, ← h9, ← h10]

/-- The reference's array of the latent keys. -/
theorem outKC_ref {c : Dev Cert.Kernel3Ideal.nD} (h : Agree m m' c) :
    Cert.Reference3Ideal.Read.val_main_v136 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg11))
      = fun y : Cert.Kernel3Ideal.S4x4224x208.Idx => outKC m c (y 0) (y 1) (y 2) := by
  funext y
  obtain ⟨b, i, k, rfl⟩ : ∃ (b : Fin 4) (i : Fin 4224) (k : Fin 208), (y : Cert.Reference3Ideal.S4x4224x208.Idx) = ix3 b i k :=
    ⟨y 0, y 1, y 2, by funext a; match a with | ⟨0, _⟩ => rfl | ⟨1, _⟩ => rfl | ⟨2, _⟩ => rfl⟩
  refine (Cert.Reference3Ideal.Rows.latentKey_apply _ _ _ _ _ _ _ _ b i k).trans ?_
  rw [proj_ref m m' h b i]
  show _ = outKC m c b i k
  obtain ⟨h0, h1, h2, h3, h4, h5, h6, h7, h8, h9, h10, h11⟩ := h
  unfold outKC
  rw [← h5, ← h8, ← h9, ← h11]

/-- At the ideal instance the kernel and the reference end with the same five arrays. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hpre hagree
  have hF : ∀ c, Reals m c := reals m hpre
  refine ⟨fun c => fun y : Cert.Kernel3Ideal.S4x2x4224x128.Idx => outU m c (y 0) (y 1) (y 2) (y 3), fun c => fun y : Cert.Kernel3Ideal.S4x4224x512.Idx => outQ m c (y 0) (y 1) (y 2), fun c => fun y : Cert.Kernel3Ideal.S4x4224x384.Idx => outKV m c (y 0) (y 1) (y 2), fun c => fun y : Cert.Kernel3Ideal.S4x4x4224x208.Idx => outQM m c (y 0) (y 1) (y 2) (y 3), fun c => fun y : Cert.Kernel3Ideal.S4x4224x208.Idx => outKC m c (y 0) (y 1) (y 2), ?_, ?_⟩
  · exact (θ_run Cert.Kernel3Ideal.defs _ _).mono
      (fun _ h c => ⟨(h c).1.trans (final12 m (hF c)),
        (h c).2.1.trans (final13 m (hF c)),
        (h c).2.2.1.trans (final14 m (hF c)),
        (h c).2.2.2.1.trans (final15 m (hF c)),
        (h c).2.2.2.2.1.trans (final16 m (hF c)), (h c).2.2.2.2.2⟩) (Cert.Kernel3Ideal.Value.run_blocks m ρ)
  exact (θ_run Cert.Reference3Ideal.defs _ _).mono (fun _ h c => ⟨((h c).1.trans (Cert.Reference3Ideal.Read.val_main_v43_eq _ _ _ _)).trans (outU_ref m m' (hagree c)),
      ((h c).2.1.trans (Cert.Reference3Ideal.Read.val_main_v133_eq _ _ _ _)).trans (outQ_ref m m' (hagree c)),
      ((h c).2.2.1.trans (Cert.Reference3Ideal.Read.val_main_v134_eq m' c)).trans (outKV_ref m m' (hagree c)),
      ((h c).2.2.2.1.trans (Cert.Reference3Ideal.Read.val_main_v135_eq m' c)).trans (outQM_ref m m' (hagree c)),
      ((h c).2.2.2.2.1.trans (Cert.Reference3Ideal.Read.val_main_v136_eq m' c)).trans (outKC_ref m m' (hagree c)), (h c).2.2.2.2.2⟩)
    (Cert.Reference3Ideal.Value.run m' ρ')

end Cert.Mix3
-- ==== Proof.Mix4Block.lean ====
/- The second layer's opening kernel: the pieces it stores of its five results, each read at a row and a lane, as the row
   functions of the blocks it loads. -/
module

public import proofs.«01_k».proof.Proof.Gen.Kernel4Ideal.Frame
public import proofs.«01_k».proof.Proof.MixRow
public import Idealize.ShloMosaic.Lib.Pointwise
public import Idealize.ShloMosaic.Lib.Pipeline.ValueKit

@[expose] public section

set_option maxRecDepth 16384

noncomputable section

namespace Cert.Kernel4Ideal.Block

open Cert.Kernel4Ideal Cert.Kernel4Ideal.Gen Cert.RowModel Cert.MixRow Idealize.ShloMosaic

/-- The named constant is one over 192. -/
theorem named_eq : Named.named (F := Ideal) κ "inv_192" (φ := .f32) 0x3BAAAAAB#32 = inv192 :=
  IdealRules.named_const.ideal_named_scalar _ _ _ _ rfl

/-- The normed rows times the stacked first matrix. -/
theorem proj_apply (x : Vec Ideal S1x528x1024 .f32) (g : Vec Ideal S1x1024 .f32) (w : Vec Ideal S1x1024x1536 .bf16) (r : Fin 528)
    (c : Fin 1536) :
    k0_pay5 (F := Ideal) x g w (ix2 r c)
      = lin (rms inv1024 (fun j => x (ix3 0 r j)) (fun j => g (ix2 0 j))) (fun i j => w (ix3 0 i j)) c := by
  pointwise [k0_pay5, lin, rms, eps, inv1024]

/-- The windowed-attention queries. -/
theorem query_apply (v : FVec Ideal S528x1536 .f32) (r : Fin 528) (k : Fin 512) :
    k0_pay10 (F := Ideal) v (ix3 0 r k) = v (ix2 r ⟨256 + k.val, by omega⟩) * swaScale := by
  pointwise [k0_pay10, swaScale]

/-- The windowed-attention keys. -/
theorem key_apply (v : FVec Ideal S528x1536 .f32) (r : Fin 528) (k : Fin 128) :
    k0_pay11 (F := Ideal) v (ix3 0 r k) = v (ix2 r ⟨768 + k.val, by omega⟩) := by
  pointwise [k0_pay11]

/-- The first head's values. -/
theorem val0_apply (v : FVec Ideal S528x1536 .f32) (r : Fin 528) (k : Fin 64) :
    k0_pay13 (F := Ideal) v (ix3 0 r k) = v (ix2 r ⟨896 + k.val, by omega⟩) := by
  pointwise [k0_pay13]

/-- The second head's values. -/
theorem val1_apply (v : FVec Ideal S528x1536 .f32) (r : Fin 528) (k : Fin 64) :
    k0_pay15 (F := Ideal) v (ix3 0 r k) = v (ix2 r ⟨960 + k.val, by omega⟩) := by
  pointwise [k0_pay15]

/-- The normed query latents times the stacked second matrix. -/
theorem latents_apply (v : FVec Ideal S528x1536 .f32) (g : Vec Ideal S1x256 .f32) (w : Vec Ideal S1x256x512 .bf16) (r : Fin 528)
    (c : Fin 512) :
    k0_pay17 (F := Ideal) v g w (ix2 r c)
      = latents' (fun j => v (ix2 r j)) (fun j => g (ix2 0 j)) (fun i j => w (ix3 0 i j)) c := by
  unfold latents'
  pointwise [k0_pay17, lin, rms, eps]
  simp only [named_eq]

/-- The unit column beside the first head's values. -/
theorem unit0_apply (r : Fin 528) (k : Fin 64) : k0_pay14 (F := Ideal) k0_pay12 (ix3 0 r k) = unit k.val := by
  pointwise [k0_pay14, k0_pay12]
  exact select_zero _ k.isLt

/-- The unit column beside the second head's values. -/
theorem unit1_apply (r : Fin 528) (k : Fin 64) : k0_pay16 (F := Ideal) k0_pay12 (ix3 0 r k) = unit k.val := by
  pointwise [k0_pay16, k0_pay12]
  exact select_zero _ k.isLt

variable (v : FVec Ideal S528x1536 .f32) (gq : Vec Ideal S1x256 .f32) (wq wk : Vec Ideal S1x256x512 .bf16)
  (cos sin : Vec Ideal S528x128 .f32) (gk : Vec Ideal S1x128 .f32)

/-- The table's lanes of a latent query. -/
theorem tableq_apply (x : Vec Ideal S528x48 .bf16) (q : Fin 512 → EReal) (w : Fin 256 → Fin 512 → EReal) (cs sn : Fin 128 → EReal)
    (h : Fin 4) (r : Fin 528) (k : Fin 48) :
    k0_pay23 (F := Ideal) x (ix4 0 0 r k) = headQuery' q w cs sn (fun j => x (ix2 r j)) h ⟨128 + k.val, by omega⟩ := by
  have hk := k.isLt
  unfold headQuery'
  rw [dif_neg (by dsimp only; omega), dif_pos (by dsimp only; omega)]
  pointwise [k0_pay23]

/-- The table's lanes of the latent key. -/
theorem tablek_apply (x : Vec Ideal S528x48 .bf16) (p : Fin 1536 → EReal) (g cs sn : Fin 128 → EReal) (r : Fin 528) (k : Fin 48) :
    k0_pay35 (F := Ideal) x (ix3 0 r k) = latentKey' p g cs sn (fun j => x (ix2 r j)) ⟨128 + k.val, by omega⟩ := by
  have hk := k.isLt
  unfold latentKey'
  rw [dif_neg (by dsimp only; omega), dif_pos (by dsimp only; omega)]
  pointwise [k0_pay35]

/-- The normed key latents. -/
theorem latk_apply (cs sn : Fin 128 → EReal) (kx : Fin 48 → EReal) (r : Fin 528) (k : Fin 128) :
    k0_pay34 (F := Ideal) (k0_pay20 v gk) (ix3 0 r k)
      = latentKey' (fun j => v (ix2 r j)) (fun j => gk (ix2 0 j)) cs sn kx ⟨k.val, by omega⟩ := by
  unfold latentKey'
  rw [dif_pos k.isLt]
  pointwise [k0_pay34, k0_pay20, rms, eps, inv128]

/-- The rotary lanes of the latent key. -/
theorem ropek_apply (g : Fin 128 → EReal) (kx : Fin 48 → EReal) (r : Fin 528) (k : Fin 32) :
    k0_pay36 (F := Ideal) (k0_pay21 v cos sin) (ix3 0 r k)
      = latentKey' (fun j => v (ix2 r j)) g (fun l => cos (ix2 r l)) (fun l => sin (ix2 r l)) kx ⟨176 + k.val, by omega⟩ := by
  have hk := k.isLt
  have e : 176 + k.val - 128 - 48 = k.val := by omega
  unfold latentKey'
  rw [dif_neg (by dsimp only; omega), dif_neg (by dsimp only; omega)]
  have e' : 1440 + k.val = 1408 + (32 + k.val) := by omega
  simp only [e, e']
  pointwise [k0_pay36, k0_pay21]

/-- Head 0's absorbed lanes. -/
theorem latq0_apply (cs sn : Fin 128 → EReal) (qx : Fin 48 → EReal) (r : Fin 528) (k : Fin 128) :
    k0_pay22 (F := Ideal) (k0_pay17 v gq wq) wk (ix4 0 0 r k)
      = headQuery' (latents' (fun j => v (ix2 r j)) (fun j => gq (ix2 0 j)) (fun i j => wq (ix3 0 i j))) (fun i j => wk (ix3 0 i j))
          cs sn qx 0 ⟨k.val, by omega⟩ := by
  unfold headQuery'
  rw [dif_pos k.isLt]
  simp only [← latents_apply]
  pointwise [k0_pay22, k0_pay19, mlaScale]

/-- Head 0's rotary lanes. -/
theorem ropeq0_apply (w : Fin 256 → Fin 512 → EReal) (qx : Fin 48 → EReal) (r : Fin 528) (k : Fin 32) :
    k0_pay24 (F := Ideal) (k0_pay18 v cos sin gq wq) (ix4 0 0 r k)
      = headQuery' (latents' (fun j => v (ix2 r j)) (fun j => gq (ix2 0 j)) (fun i j => wq (ix3 0 i j))) w
          (fun l => cos (ix2 r l)) (fun l => sin (ix2 r l)) qx 0 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay24, k0_pay18, mlaScale]

/-- Head 1's absorbed lanes. -/
theorem latq1_apply (cs sn : Fin 128 → EReal) (qx : Fin 48 → EReal) (r : Fin 528) (k : Fin 128) :
    k0_pay25 (F := Ideal) (k0_pay19 (k0_pay17 v gq wq) wk) (ix4 0 0 r k)
      = headQuery' (latents' (fun j => v (ix2 r j)) (fun j => gq (ix2 0 j)) (fun i j => wq (ix3 0 i j))) (fun i j => wk (ix3 0 i j))
          cs sn qx 1 ⟨k.val, by omega⟩ := by
  unfold headQuery'
  rw [dif_pos k.isLt]
  simp only [← latents_apply]
  pointwise [k0_pay25, k0_pay19, mlaScale]

/-- Head 1's rotary lanes. -/
theorem ropeq1_apply (w : Fin 256 → Fin 512 → EReal) (qx : Fin 48 → EReal) (r : Fin 528) (k : Fin 32) :
    k0_pay27 (F := Ideal) (k0_pay18 v cos sin gq wq) (ix4 0 0 r k)
      = headQuery' (latents' (fun j => v (ix2 r j)) (fun j => gq (ix2 0 j)) (fun i j => wq (ix3 0 i j))) w
          (fun l => cos (ix2 r l)) (fun l => sin (ix2 r l)) qx 1 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay27, k0_pay18, mlaScale]

/-- Head 2's absorbed lanes. -/
theorem latq2_apply (cs sn : Fin 128 → EReal) (qx : Fin 48 → EReal) (r : Fin 528) (k : Fin 128) :
    k0_pay28 (F := Ideal) (k0_pay19 (k0_pay17 v gq wq) wk) (ix4 0 0 r k)
      = headQuery' (latents' (fun j => v (ix2 r j)) (fun j => gq (ix2 0 j)) (fun i j => wq (ix3 0 i j))) (fun i j => wk (ix3 0 i j))
          cs sn qx 2 ⟨k.val, by omega⟩ := by
  unfold headQuery'
  rw [dif_pos k.isLt]
  simp only [← latents_apply]
  pointwise [k0_pay28, k0_pay19, mlaScale]

/-- Head 2's rotary lanes. -/
theorem ropeq2_apply (w : Fin 256 → Fin 512 → EReal) (qx : Fin 48 → EReal) (r : Fin 528) (k : Fin 32) :
    k0_pay30 (F := Ideal) (k0_pay18 v cos sin gq wq) (ix4 0 0 r k)
      = headQuery' (latents' (fun j => v (ix2 r j)) (fun j => gq (ix2 0 j)) (fun i j => wq (ix3 0 i j))) w
          (fun l => cos (ix2 r l)) (fun l => sin (ix2 r l)) qx 2 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay30, k0_pay18, mlaScale]

/-- Head 3's absorbed lanes. -/
theorem latq3_apply (cs sn : Fin 128 → EReal) (qx : Fin 48 → EReal) (r : Fin 528) (k : Fin 128) :
    k0_pay31 (F := Ideal) (k0_pay19 (k0_pay17 v gq wq) wk) (ix4 0 0 r k)
      = headQuery' (latents' (fun j => v (ix2 r j)) (fun j => gq (ix2 0 j)) (fun i j => wq (ix3 0 i j))) (fun i j => wk (ix3 0 i j))
          cs sn qx 3 ⟨k.val, by omega⟩ := by
  unfold headQuery'
  rw [dif_pos k.isLt]
  simp only [← latents_apply]
  pointwise [k0_pay31, k0_pay19, mlaScale]

/-- Head 3's rotary lanes. -/
theorem ropeq3_apply (w : Fin 256 → Fin 512 → EReal) (qx : Fin 48 → EReal) (r : Fin 528) (k : Fin 32) :
    k0_pay33 (F := Ideal) (k0_pay18 v cos sin gq wq) (ix4 0 0 r k)
      = headQuery' (latents' (fun j => v (ix2 r j)) (fun j => gq (ix2 0 j)) (fun i j => wq (ix3 0 i j))) w
          (fun l => cos (ix2 r l)) (fun l => sin (ix2 r l)) qx 3 ⟨176 + k.val, by omega⟩ := by
  have hk := k.isLt
  have e : 176 + k.val - 128 - 48 = k.val := by omega
  unfold headQuery'
  rw [dif_neg (by dsimp only; omega), dif_neg (by dsimp only; omega)]
  simp only [e, ← latents_apply]
  pointwise [k0_pay33, k0_pay18, mlaScale]

/-- Slab 0 of the state-space lanes, rows from 0 on. -/
theorem ssm00_apply (i : grid0.Coords) (x : Vec Ideal S1x528x1024 .f32) (g : Vec Ideal S1x1024 .f32) (w : Vec Ideal S1x1024x1536 .bf16)
    (r : Fin 528) (k : Fin 128) :
    k0_pay7 (F := Ideal) i x g w (ix4 0 0 r k)
      = if 112 ≤ 2112 * (i 1).val + (0 + r.val) then k0_pay5 (F := Ideal) x g w (ix2 r ⟨0 + k.val, by omega⟩) else 0 := by
  have hr := r.isLt
  have hj : (i 1).val < 2 := (i 1).isLt
  rw [← select_row _ (by omega), ← word_row ⟨(i 1).val, hj⟩]
  pointwise [k0_pay7, k0_pay6] <;> rfl

/-- Slab 1 of the state-space lanes, rows from 0 on. -/
theorem ssm01_apply (i : grid0.Coords) (x : Vec Ideal S1x528x1024 .f32) (g : Vec Ideal S1x1024 .f32) (w : Vec Ideal S1x1024x1536 .bf16)
    (r : Fin 528) (k : Fin 128) :
    k0_pay9 (F := Ideal) (k0_pay5 x g w) (k0_pay6 i) k0_pay8 (ix4 0 0 r k)
      = if 112 ≤ 2112 * (i 1).val + (0 + r.val) then k0_pay5 (F := Ideal) x g w (ix2 r ⟨128 + k.val, by omega⟩) else 0 := by
  have hr := r.isLt
  have hj : (i 1).val < 2 := (i 1).isLt
  rw [← select_row _ (by omega), ← word_row ⟨(i 1).val, hj⟩]
  pointwise [k0_pay9, k0_pay6, k0_pay8] <;> rfl

/-- Slab 0 of the state-space lanes, rows from 528 on. -/
theorem ssm10_apply (i : grid0.Coords) (x : Vec Ideal S1x528x1024 .f32) (g : Vec Ideal S1x1024 .f32) (w : Vec Ideal S1x1024x1536 .bf16)
    (r : Fin 528) (k : Fin 128) :
    k0_pay40 (F := Ideal) (k0_pay39 (BitVec.ofNat 32 (i 1).val) x g w) (ix4 0 0 r k)
      = if 112 ≤ 2112 * (i 1).val + (528 + r.val) then k0_pay5 (F := Ideal) x g w (ix2 r ⟨0 + k.val, by omega⟩) else 0 := by
  have hr := r.isLt
  have hj : (i 1).val < 2 := (i 1).isLt
  rw [← select_row _ (by omega), ← word_row ⟨(i 1).val, hj⟩]
  pointwise [k0_pay40, k0_pay39, k0_pay38] <;> rfl

/-- Slab 1 of the state-space lanes, rows from 528 on. -/
theorem ssm11_apply (i : grid0.Coords) (x : Vec Ideal S1x528x1024 .f32) (g : Vec Ideal S1x1024 .f32) (w : Vec Ideal S1x1024x1536 .bf16)
    (r : Fin 528) (k : Fin 128) :
    k0_pay41 (F := Ideal) (k0_pay5 x g w) (k0_pay38 (BitVec.ofNat 32 (i 1).val)) (ix4 0 0 r k)
      = if 112 ≤ 2112 * (i 1).val + (528 + r.val) then k0_pay5 (F := Ideal) x g w (ix2 r ⟨128 + k.val, by omega⟩) else 0 := by
  have hr := r.isLt
  have hj : (i 1).val < 2 := (i 1).isLt
  rw [← select_row _ (by omega), ← word_row ⟨(i 1).val, hj⟩]
  pointwise [k0_pay41, k0_pay38] <;> rfl

/-- Slab 0 of the state-space lanes, rows from 1056 on. -/
theorem ssm20_apply (i : grid0.Coords) (x : Vec Ideal S1x528x1024 .f32) (g : Vec Ideal S1x1024 .f32) (w : Vec Ideal S1x1024x1536 .bf16)
    (r : Fin 528) (k : Fin 128) :
    k0_pay73 (F := Ideal) (k0_pay5 x g w) (k0_pay72 (BitVec.ofNat 32 (i 1).val)) (ix4 0 0 r k)
      = if 112 ≤ 2112 * (i 1).val + (1056 + r.val) then k0_pay5 (F := Ideal) x g w (ix2 r ⟨0 + k.val, by omega⟩) else 0 := by
  have hr := r.isLt
  have hj : (i 1).val < 2 := (i 1).isLt
  rw [← select_row _ (by omega), ← word_row ⟨(i 1).val, hj⟩]
  pointwise [k0_pay73, k0_pay72, k0_pay71] <;> rfl

/-- Slab 1 of the state-space lanes, rows from 1056 on. -/
theorem ssm21_apply (i : grid0.Coords) (x : Vec Ideal S1x528x1024 .f32) (g : Vec Ideal S1x1024 .f32) (w : Vec Ideal S1x1024x1536 .bf16)
    (r : Fin 528) (k : Fin 128) :
    k0_pay74 (F := Ideal) (k0_pay5 x g w) (k0_pay71 (BitVec.ofNat 32 (i 1).val)) (ix4 0 0 r k)
      = if 112 ≤ 2112 * (i 1).val + (1056 + r.val) then k0_pay5 (F := Ideal) x g w (ix2 r ⟨128 + k.val, by omega⟩) else 0 := by
  have hr := r.isLt
  have hj : (i 1).val < 2 := (i 1).isLt
  rw [← select_row _ (by omega), ← word_row ⟨(i 1).val, hj⟩]
  pointwise [k0_pay74, k0_pay71] <;> rfl

/-- Slab 0 of the state-space lanes, rows from 1584 on. -/
theorem ssm30_apply (i : grid0.Coords) (x : Vec Ideal S1x528x1024 .f32) (g : Vec Ideal S1x1024 .f32) (w : Vec Ideal S1x1024x1536 .bf16)
    (r : Fin 528) (k : Fin 128) :
    k0_pay110 (F := Ideal) (k0_pay5 x g w) (Scalar.muli (BitVec.ofNat 32 (i 1).val) 2112#32) (ix4 0 0 r k)
      = if 112 ≤ 2112 * (i 1).val + (1584 + r.val) then k0_pay5 (F := Ideal) x g w (ix2 r ⟨0 + k.val, by omega⟩) else 0 := by
  have hr := r.isLt
  have hj : (i 1).val < 2 := (i 1).isLt
  rw [← select_row _ (by omega), ← word_row ⟨(i 1).val, hj⟩]
  pointwise [k0_pay110, k0_pay109] <;> rfl

/-- Slab 1 of the state-space lanes, rows from 1584 on. -/
theorem ssm31_apply (i : grid0.Coords) (x : Vec Ideal S1x528x1024 .f32) (g : Vec Ideal S1x1024 .f32) (w : Vec Ideal S1x1024x1536 .bf16)
    (r : Fin 528) (k : Fin 128) :
    k0_pay111 (F := Ideal) (k0_pay5 x g w) (Scalar.muli (BitVec.ofNat 32 (i 1).val) 2112#32) (ix4 0 0 r k)
      = if 112 ≤ 2112 * (i 1).val + (1584 + r.val) then k0_pay5 (F := Ideal) x g w (ix2 r ⟨128 + k.val, by omega⟩) else 0 := by
  have hr := r.isLt
  have hj : (i 1).val < 2 := (i 1).isLt
  rw [← select_row _ (by omega), ← word_row ⟨(i 1).val, hj⟩]
  pointwise [k0_pay111, k0_pay109] <;> rfl

end Cert.Kernel4Ideal.Block
-- ==== Proof.Mix4Win.lean ====
/- The second layer's opening kernel, each block window read off the argument arrays. -/
module

public import proofs.«01_k».proof.Proof.Gen.Kernel4Ideal.Value
public import proofs.«01_k».proof.Proof.Mix4Block
public import Idealize.ShloMosaic.Lib.Pointwise
public import Idealize.ShloMosaic.Lib.StableHlo.RunRead
public import Idealize.ShloMosaic.Lib.Pipeline.ValueKit

@[expose] public section

set_option maxRecDepth 16384

noncomputable section

namespace Cert.Kernel4Ideal.Win

open Idealize.ShloMosaic.StableHlo (TRef)
open Cert.Kernel4Ideal Cert.Kernel4Ideal.Gen Cert.Kernel4Ideal.Block Cert.RowModel Cert.MixRow Idealize.ShloMosaic
  Idealize.ShloMosaic.TcCoe Idealize.SL.Sem

variable (m : (ℓ : Loc nD τ sig) → Buf (Elt Ideal) ℓ)

/-- The places of the windows: batch `t / 2` and tile `t mod 2` of the residual stream and the results, the tile of the tables,
    the second layer of the weights. -/
theorem idx : ∀ t : Fin grid0.N,
    (win0_0.index t 0 = t.val / 2 ∧ win0_0.index t 1 = t.val % 2 ∧ win0_0.index t 2 = 0)
    ∧ (win0_2.index t 0 = 0 ∧ win0_2.index t 1 = 0)
    ∧ (win0_3.index t 0 = 1 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 1 ∧ win0_6.index t 1 = 0 ∧ win0_6.index t 2 = 0)
    ∧ (win0_7.index t 0 = 1 ∧ win0_7.index t 1 = 0 ∧ win0_7.index t 2 = 0)
    ∧ (win0_8.index t 0 = t.val % 2 ∧ win0_8.index t 1 = 0) ∧ (win0_9.index t 0 = t.val % 2 ∧ win0_9.index t 1 = 0)
    ∧ (win0_10.index t 0 = t.val % 2 ∧ win0_10.index t 1 = 0) ∧ (win0_11.index t 0 = t.val % 2 ∧ win0_11.index t 1 = 0)
    ∧ (win0_12.index t 0 = t.val / 2 ∧ win0_12.index t 1 = 0 ∧ win0_12.index t 2 = t.val % 2 ∧ win0_12.index t 3 = 0)
    ∧ (win0_13.index t 0 = t.val / 2 ∧ win0_13.index t 1 = t.val % 2 ∧ win0_13.index t 2 = 0)
    ∧ (win0_14.index t 0 = t.val / 2 ∧ win0_14.index t 1 = t.val % 2 ∧ win0_14.index t 2 = 0)
    ∧ (win0_15.index t 0 = t.val / 2 ∧ win0_15.index t 1 = 0 ∧ win0_15.index t 2 = t.val % 2 ∧ win0_15.index t 3 = 0)
    ∧ (win0_16.index t 0 = t.val / 2 ∧ win0_16.index t 1 = t.val % 2 ∧ win0_16.index t 2 = 0) := by
  decide +kernel

/-- The body's tile number. -/
theorem tile : ∀ t : Fin grid0.N, (grid0.coords t 1).val = t.val % 2 := by
  decide +kernel

/-- Two lines of host operations one after the other. -/
theorem after_append (a b : List (HloOp τ sig (Elt Ideal))) (σ : Valuation τ sig (Elt Ideal)) :
    StableHlo.after (a ++ b) σ = StableHlo.after b (StableHlo.after a σ) := by
  induction a generalizing σ with
  | nil => rfl
  | cons op a ih => exact ih _

/-- The buffers at the region's entry, line by line. -/
theorem V_eq (c : Dev nD) (b : Ref sig .tc) :
    V m c b = StableHlo.after hostOps0_2 (StableHlo.after hostOps0_1 (StableHlo.after hostOps0 fun b => m (c, b))) b := by
  unfold V
  rw [List.flatten_cons, after_append, List.flatten_cons, after_append, List.flatten_cons, after_append]
  rfl

/-- The residual stream's block: batch `b`, row `i`. -/
theorem blk0 (c : Dev nD) (t : Fin grid0.N) (r : Fin 2112) (k : Fin 1024) (b : Fin 4) (i : Fin 4224) (hb : b.val = t.val / 2)
    (hi : i.val = 2112 * (t.val % 2) + r.val) :
    iblk m c 0 t (ix3 0 r k) = m ((c : Thread nD τ).loc main_arg0) (ix3 b i k) := by
  blk_ext [iblk, V, idx t]

/-- The first norm's gains. -/
theorem blk2 (c : Dev nD) (t : Fin grid0.N) (k : Fin 1024) :
    iblk m c 2 t (ix2 0 k) = m ((c : Thread nD τ).loc main_arg2) (ix2 1 k) := by
  have h : iblk m c 2 t (ix2 0 k) = V m c main_v55 (ix2 0 k) := by
    blk_ext [iblk, idx t]
  rw [h]
  rw [V_eq]
  entry_read
  pointwise

/-- The stacking line's result, each operand at its own buffer. -/
theorem stack1_read (W : Valuation τ sig (Elt Ideal)) (h1 h2) :
    (StableHlo.nary ![main_v12, main_v13, main_v14, main_v11, main_v18, main_v19] main_v20 (fun u => (concatenate S2x1024x1536 2 [⟨S2x1024x1216, (u 0 : (⟨S2x1024x1216, .bf16⟩ : BufTy).Contents (Elt Ideal))⟩, ⟨S2x1024x64, (u 1 : (⟨S2x1024x64, .bf16⟩ : BufTy).Contents (Elt Ideal))⟩, ⟨S2x1024x128, (u 2 : (⟨S2x1024x128, .bf16⟩ : BufTy).Contents (Elt Ideal))⟩, ⟨S2x1024x32, (u 3 : (⟨S2x1024x32, .bf16⟩ : BufTy).Contents (Elt Ideal))⟩, ⟨S2x1024x32, (u 4 : (⟨S2x1024x32, .bf16⟩ : BufTy).Contents (Elt Ideal))⟩, ⟨S2x1024x64, (u 5 : (⟨S2x1024x64, .bf16⟩ : BufTy).Contents (Elt Ideal))⟩] concatenates_S2x1024x1216_S2x1024x64_S2x1024x128_S2x1024x32_S2x1024x32_S2x1024x64_S2x1024x1536_d2 : (⟨S2x1024x1536, .bf16⟩ : BufTy).Contents (Elt Ideal))) h1 h2).result W
        (no_index (Proc.devRef .tc main_v20))
      = concatenate S2x1024x1536 2 [⟨S2x1024x1216, W (Proc.devRef .tc main_v12)⟩, ⟨S2x1024x64, W (Proc.devRef .tc main_v13)⟩, ⟨S2x1024x128, W (Proc.devRef .tc main_v14)⟩, ⟨S2x1024x32, W (Proc.devRef .tc main_v11)⟩, ⟨S2x1024x32, W (Proc.devRef .tc main_v18)⟩, ⟨S2x1024x64, W (Proc.devRef .tc main_v19)⟩] concatenates_S2x1024x1216_S2x1024x64_S2x1024x128_S2x1024x32_S2x1024x32_S2x1024x64_S2x1024x1536_d2 :=
  StableHlo.nary_result _ _ _ h1 h2 W

/-- The stacking line's result, each operand at its own buffer. -/
theorem stack2_read (W : Valuation τ sig (Elt Ideal)) (h1 h2) :
    (StableHlo.nary ![main_v24, main_v25, main_v30] main_v31 (fun u => (concatenate S2x192x512 2 [⟨S2x192x256, (u 0 : (⟨S2x192x256, .bf16⟩ : BufTy).Contents (Elt Ideal))⟩, ⟨S2x192x128, (u 1 : (⟨S2x192x128, .bf16⟩ : BufTy).Contents (Elt Ideal))⟩, ⟨S2x192x128, (u 2 : (⟨S2x192x128, .bf16⟩ : BufTy).Contents (Elt Ideal))⟩] concatenates_S2x192x256_S2x192x128_S2x192x128_S2x192x512_d2 : (⟨S2x192x512, .bf16⟩ : BufTy).Contents (Elt Ideal))) h1 h2).result W
        (no_index (Proc.devRef .tc main_v31))
      = concatenate S2x192x512 2 [⟨S2x192x256, W (Proc.devRef .tc main_v24)⟩, ⟨S2x192x128, W (Proc.devRef .tc main_v25)⟩, ⟨S2x192x128, W (Proc.devRef .tc main_v30)⟩] concatenates_S2x192x256_S2x192x128_S2x192x128_S2x192x512_d2 :=
  StableHlo.nary_result _ _ _ h1 h2 W

/-- A buffer's contents under the type it is given: its own. -/
theorem pad_to (h1 h2 h3) (v : (⟨S2x256x512, .bf16⟩ : BufTy).Contents (Elt Ideal)) :
    (TRef.of main_v32 h1 h2 h3 : TRef sig ⟨S2x256x512, .bf16⟩).toBuf v = v := rfl

/-- A buffer's contents under the type it is given: its own. -/
theorem pad_of (h1 h2 h3) (v : (main_v31 : Ref sig .tc).ty.Contents (Elt Ideal)) :
    (TRef.of main_v31 h1 h2 h3 : TRef sig ⟨S2x192x512, .bf16⟩).ofBuf v = v := rfl

/-- A buffer's contents under the type it is given: its own. -/
theorem zero_of (h1 h2 h3) (v : (main_call0_v0 : Ref sig .tc).ty.Contents (Elt Ideal)) :
    (TRef.of main_call0_v0 h1 h2 h3 : TRef sig ⟨S_, .bf16⟩).ofBuf v = v := rfl

/-- A buffer's contents under the type it is given: its own. -/
theorem zero_of' (h1 h2 h3) (v : (main_c : Ref sig .tc).ty.Contents (Elt Ideal)) :
    (TRef.of main_c h1 h2 h3 : TRef sig ⟨S_, .i32⟩).ofBuf v = v := rfl

/-- The stacked row as the host's slices make it. -/
theorem stack1_entry (w : Fin 1376 → EReal) (k : Fin 1536) :
    (if h : k.val < 1216 then w ⟨k.val, by omega⟩
      else if h : k.val - 1216 < 64 then (0 : EReal)
      else if h : k.val - 1216 - 64 < 128 then w ⟨1216 + (k.val - 1216 - 64), by omega⟩
      else if h : k.val - 1216 - 64 - 128 < 32 then w ⟨1344 + (k.val - 1216 - 64 - 128), by omega⟩
      else if h : k.val - 1216 - 64 - 128 - 32 < 32 then
        if h' : k.val - 1216 - 64 - 128 - 32 < 16 then - w ⟨1344 + (16 + (k.val - 1216 - 64 - 128 - 32)), by omega⟩
        else w ⟨1344 + (k.val - 1216 - 64 - 128 - 32 - 16), by omega⟩
      else 0) = stack1 w k := by
  unfold stack1
  split_ifs <;> first | rfl | (exfalso; omega) | (congr 1; apply Fin.ext; dsimp only; omega) | (congr 2; apply Fin.ext; dsimp only; omega)

/-- The second stacked matrix's row as the host's slices make it. -/
theorem stack2_entry (w : Fin 192 → Fin 384 → EReal) (z : EReal) (hz : z = 0) (i : Fin 256) (k : Fin 512) :
    (if h : i.val < 192 then
        if h1 : k.val < 256 then w ⟨i.val, h⟩ ⟨k.val / 64 * 96 + k.val % 64, by omega⟩
        else if h2 : k.val - 256 < 128 then w ⟨i.val, h⟩ ⟨(k.val - 256) / 32 * 96 + (64 + (k.val - 256) % 32), by omega⟩
        else if h3 : (k.val - 256 - 128) % 32 < 16 then
          - w ⟨i.val, h⟩ ⟨(k.val - 256 - 128) / 32 * 96 + (64 + (16 + (k.val - 256 - 128) % 32)), by omega⟩
        else w ⟨i.val, h⟩ ⟨(k.val - 256 - 128) / 32 * 96 + (64 + ((k.val - 256 - 128) % 32 - 16)), by omega⟩
      else z) = if h : i.val < 192 then stack2 (w ⟨i.val, h⟩) k else 0 := by
  rw [hz]
  unfold stack2
  split_ifs <;> first | rfl | (exfalso; omega) | (congr 1; apply Fin.ext; dsimp only; omega) | (congr 2; apply Fin.ext; dsimp only; omega)

/-- The whole number zero as a number. -/
theorem sitofp_zero : FloatOps.sitofp (F := Ideal) FTy.bf16 0#32 = (0 : EReal) := by
  simp [FloatOps.sitofp]

/-- The first matrix, stacked. -/
theorem blk3 (c : Dev nD) (t : Fin grid0.N) (i : Fin 1024) (k : Fin 1536) :
    iblk m c 3 t (ix3 0 i k) = stack1 (fun k => m ((c : Thread nD τ).loc main_arg3) (ix3 1 i k)) k := by
  have h : iblk m c 3 t (ix3 0 i k) = V m c main_v20 (ix3 1 i k) := by
    blk_ext [iblk, idx t]
  rw [h]
  unfold V
  after_reads_simp [↓stack1_read]
  pointwise
  after_reads_simp
  pointwise
  exact stack1_entry (fun k => m (c, Proc.tc.devRef main_arg3) (ix3 1 i k)) k

/-- The second matrix, stacked and padded. -/
theorem blk6 (c : Dev nD) (t : Fin grid0.N) (i : Fin 256) (k : Fin 512) :
    iblk m c 6 t (ix3 0 i k)
      = if h : i.val < 192 then stack2 (fun k => m ((c : Thread nD τ).loc main_arg6) (ix3 1 ⟨i.val, h⟩ k)) k else 0 := by
  have h : iblk m c 6 t (ix3 0 i k) = V m c main_v32 (ix3 1 i k) := by
    blk_ext [iblk, idx t]
  rw [h]
  unfold V
  after_reads_simp [↓stack2_read, pad_to, pad_of, zero_of, TRef.ofBuf_toBuf, zero_of']
  pointwise
  after_reads_simp
  pointwise
  after_reads_simp
  pointwise
  exact stack2_entry (fun i k => m (c, Proc.tc.devRef main_arg6) (ix3 1 i k)) _ sitofp_zero i k

/-- The query norm's gains, padded. -/
theorem blk4 (c : Dev nD) (t : Fin grid0.N) (k : Fin 256) :
    (iblk m c 4 t (ix2 0 k) : EReal) = if h : k.val < 192 then (m ((c : Thread nD τ).loc main_arg4) (ix2 1 ⟨k.val, h⟩) : EReal) else (0 : EReal) := by
  have h : iblk m c 4 t (ix2 0 k) = V m c main_v52 (ix2 0 k) := by
    blk_ext [iblk, idx t]
  rw [h]
  rw [V_eq]
  entry_read
  pointwise

/-- The key norm's gains. -/
theorem blk5 (c : Dev nD) (t : Fin grid0.N) (k : Fin 128) :
    iblk m c 5 t (ix2 0 k) = m ((c : Thread nD τ).loc main_arg5) (ix2 1 k) := by
  have h : iblk m c 5 t (ix2 0 k) = V m c main_v58 (ix2 0 k) := by
    blk_ext [iblk, idx t]
  rw [h]
  rw [V_eq]
  entry_read
  pointwise

/-- The absorbed matrix's entry, from the matrix and the unit matrix. -/
theorem diag_entry (w : Vec Ideal S2x128x256 .f32) (i : Fin 256) (k : Fin 512) (i' : Fin 128) (j' : Fin 256)
    (hi : i'.val = k.val % 128) (hj : j'.val = i.val / 64 * 64 + i.val % 64) :
    (w (ix3 1 i' j') : EReal) * FloatOps.uitofp (F := Ideal) FTy.bf16
        (IntOp.cmpi CmpIPredicate.eq (IntOp.addi (BitVec.ofNat 32 (i.val / 64)) 0#32) (BitVec.ofNat 32 (k.val / 128)))
      = diag (fun a b => w (ix3 1 a b)) i k := by
  rw [show i' = ⟨k.val % 128, by omega⟩ from Fin.ext hi, show j' = i from Fin.ext (by omega)]
  rw [eq_word (i.val / 64) (k.val / 128) (by omega) (by omega)]
  unfold diag
  by_cases h : i.val / 64 = k.val / 128
  · rw [if_pos h, if_pos h, mul_one]
  · rw [if_neg h, if_neg h, mul_zero]

/-- The absorbed matrix, block by block. -/
theorem blk7 (c : Dev nD) (t : Fin grid0.N) (i : Fin 256) (k : Fin 512) :
    iblk m c 7 t (ix3 0 i k) = diag (fun a b => m ((c : Thread nD τ).loc main_arg7) (ix3 1 a b)) i k := by
  have h : iblk m c 7 t (ix3 0 i k) = V m c main_v47 (ix3 1 i k) := by
    blk_ext [iblk, idx t]
  rw [h]
  unfold V
  after_reads_simp
  generalize m (c, Proc.tc.devRef main_arg7) = w
  pointwise
  exact diag_entry w i k _ _ rfl rfl

/-- The cosines, repeated. -/
theorem blk8 (c : Dev nD) (t : Fin grid0.N) (r : Fin 2112) (k : Fin 128) (i : Fin 4224)
    (hi : i.val = 2112 * (t.val % 2) + r.val) :
    iblk m c 8 t (ix2 r k) = m ((c : Thread nD τ).loc main_arg8) (ix2 i ⟨k.val % 16, by omega⟩) := by
  have h : iblk m c 8 t (ix2 r k) = V m c main_v4 (ix2 i k) := by
    blk_ext [iblk, idx t]
  rw [h]
  rw [V_eq]
  entry_read
  pointwise

/-- The sines, repeated. -/
theorem blk9 (c : Dev nD) (t : Fin grid0.N) (r : Fin 2112) (k : Fin 128) (i : Fin 4224)
    (hi : i.val = 2112 * (t.val % 2) + r.val) :
    iblk m c 9 t (ix2 r k) = m ((c : Thread nD τ).loc main_arg9) (ix2 i ⟨k.val % 16, by omega⟩) := by
  have h : iblk m c 9 t (ix2 r k) = V m c main_v7 (ix2 i k) := by
    blk_ext [iblk, idx t]
  rw [h]
  rw [V_eq]
  entry_read
  pointwise

/-- The queries' table. -/
theorem blk10 (c : Dev nD) (t : Fin grid0.N) (r : Fin 2112) (k : Fin 48) (i : Fin 4224)
    (hi : i.val = 2112 * (t.val % 2) + r.val) :
    iblk m c 10 t (ix2 r ⟨k.val, by omega⟩) = m ((c : Thread nD τ).loc main_arg10) (ix2 i ⟨k.val, by omega⟩) := by
  blk_ext [iblk, V, idx t]

/-- The keys' table. -/
theorem blk11 (c : Dev nD) (t : Fin grid0.N) (r : Fin 2112) (k : Fin 48) (i : Fin 4224)
    (hi : i.val = 2112 * (t.val % 2) + r.val) :
    iblk m c 11 t (ix2 r ⟨k.val, by omega⟩) = m ((c : Thread nD τ).loc main_arg11) (ix2 i ⟨k.val, by omega⟩) := by
  blk_ext [iblk, V, idx t]

end Cert.Kernel4Ideal.Win
-- ==== Proof.Mix4Rows.lean ====
/- The second layer's opening kernel, its whole results: the stored pieces over the argument arrays, and the blocks written
   back put together. -/
module

public import proofs.«01_k».proof.Proof.Mix4Win

@[expose] public section

set_option maxRecDepth 16384

noncomputable section

namespace Cert.Kernel4Ideal.Rows

open Cert.Kernel4Ideal Cert.Kernel4Ideal.Gen Cert.Kernel4Ideal.Block Cert.Kernel4Ideal.Win Cert.RowModel Cert.MixRow Idealize.ShloMosaic
  Idealize.ShloMosaic.TcCoe Idealize.SL.Sem

variable (m : (ℓ : Loc nD τ sig) → Buf (Elt Ideal) ℓ)

/-- The rows, the gains and the matrices that the first two products contract are real. -/
structure Reals (c : Dev nD) : Prop where
  x : ∀ b i k, IsReal (m ((c : Thread nD τ).loc main_arg0) (ix3 b i k))
  g : ∀ l k, IsReal (m ((c : Thread nD τ).loc main_arg2) (ix2 l k))
  w : ∀ l j k, IsReal (m ((c : Thread nD τ).loc main_arg3) (ix3 l j k))
  gq : ∀ l j, IsReal (m ((c : Thread nD τ).loc main_arg4) (ix2 l j))
  wq : ∀ l j k, IsReal (m ((c : Thread nD τ).loc main_arg6) (ix3 l j k))

/-- A row's projections. -/
def proj (c : Dev nD) (b : Fin 4) (i : Fin 4224) : Fin 1376 → EReal :=
  lin (rms inv1024 (fun k => m ((c : Thread nD τ).loc main_arg0) (ix3 b i k)) (fun k => m ((c : Thread nD τ).loc main_arg2) (ix2 1 k)))
    (fun j k => m ((c : Thread nD τ).loc main_arg3) (ix3 1 j k))

/-- A row's query latents times the second matrix. -/
def lats (c : Dev nD) (b : Fin 4) (i : Fin 4224) : Fin 384 → EReal :=
  latents (proj m c b i) (fun j => m ((c : Thread nD τ).loc main_arg4) (ix2 1 j)) (fun j k => m ((c : Thread nD τ).loc main_arg6) (ix3 1 j k))

/-- The state-space lanes of the result. -/
def outU (c : Dev nD) (b : Fin 4) (s : Fin 2) (i : Fin 4224) (k : Fin 128) : EReal := ssm (proj m c b i) i.val s k

/-- The windowed-attention queries of the result. -/
def outQ (c : Dev nD) (b : Fin 4) (i : Fin 4224) (k : Fin 512) : EReal := query (proj m c b i) k

/-- The windowed-attention keys and values of the result. -/
def outKV (c : Dev nD) (b : Fin 4) (i : Fin 4224) (k : Fin 384) : EReal := keyval (proj m c b i) k

/-- The latent queries of the result. -/
def outQM (c : Dev nD) (b : Fin 4) (h : Fin 4) (i : Fin 4224) (k : Fin 208) : EReal :=
  headQuery (lats m c b i) (fun a j => m ((c : Thread nD τ).loc main_arg7) (ix3 1 a j))
    (fun l => m ((c : Thread nD τ).loc main_arg8) (ix2 i l)) (fun l => m ((c : Thread nD τ).loc main_arg9) (ix2 i l))
    (fun l => m ((c : Thread nD τ).loc main_arg10) (ix2 i ⟨l.val, by omega⟩)) h k

/-- The latent keys of the result. -/
def outKC (c : Dev nD) (b : Fin 4) (i : Fin 4224) (k : Fin 208) : EReal :=
  latentKey (proj m c b i) (fun j => m ((c : Thread nD τ).loc main_arg5) (ix2 1 j))
    (fun l => m ((c : Thread nD τ).loc main_arg8) (ix2 i l)) (fun l => m ((c : Thread nD τ).loc main_arg9) (ix2 i l))
    (fun l => m ((c : Thread nD τ).loc main_arg11) (ix2 i ⟨l.val, by omega⟩)) k

/-- A load of 528 rows from row `d` on. -/
theorem ld_rows (x : Vec Ideal S1x2112x1024 .f32) (d : Nat) (hd : d + 528 ≤ 2112) (inb) (r : Fin 528) (k : Fin 1024) :
    View.ld x (Rect.unit ![0, d, 0] ![1, 528, 1024] inb) (ix3 0 r k) = x (ix3 0 ⟨d + r.val, by omega⟩ k) := by
  show x _ = x _
  congr 1
  funext a
  apply Fin.ext
  match a with
  | ⟨0, _⟩ => simp [ix3]
  | ⟨1, _⟩ => simp [ix3]
  | ⟨2, _⟩ => simp [ix3]

/-- A load of 528 rows of an angle table from row `d` on. -/
theorem ld_angles (x : Vec Ideal S2112x128 .f32) (d : Nat) (hd : d + 528 ≤ 2112) (inb) (r : Fin 528) (k : Fin 128) :
    View.ld x (Rect.unit ![d, 0] ![528, 128] inb) (ix2 r k) = x (ix2 ⟨d + r.val, by omega⟩ k) := by
  show x _ = x _
  congr 1
  funext a
  apply Fin.ext
  match a with
  | ⟨0, _⟩ => simp [ix2]
  | ⟨1, _⟩ => simp [ix2]

/-- A load of 528 rows of a lane table from row `d` on, 48 lanes of it. -/
theorem ld_lanes (x : Vec Ideal S2112x128 .bf16) (d : Nat) (hd : d + 528 ≤ 2112) (inb) (r : Fin 528) (k : Fin 48) :
    View.ld x (Rect.unit ![d, 0] ![528, 48] inb) (ix2 r k) = x (ix2 ⟨d + r.val, by omega⟩ ⟨k.val, by omega⟩) := by
  show x _ = x _
  congr 1
  funext a
  apply Fin.ext
  match a with
  | ⟨0, _⟩ => simp [ix2]
  | ⟨1, _⟩ => simp [ix2]

/-- A row's projections are real. -/
theorem proj_isReal {c : Dev nD} (hF : Reals m c) (b : Fin 4) (i : Fin 4224) (k : Fin 1376) : IsReal (proj m c b i k) :=
  lin_isReal (rms_isReal inv1024_nonneg (hF.x b i) (hF.g 1)) (hF.w 1) k

/-- The 528 rows from row `d` of the block on, projected. -/
abbrev vrow (c : Dev nD) (t : Fin grid0.N) (d : ℕ) (inb : ∀ a : Fin 3, ![0, d, 0] a + ![1, 528, 1024] a ≤ S1x2112x1024.size a) : FVec Ideal S528x1536 .f32 :=
  k0_pay5 (F := Ideal) (View.ld (iblk m c 0 t) (Rect.unit ![0, d, 0] ![1, 528, 1024] inb)) (iblk m c 2 t) (iblk m c 3 t)

/-- An index of one plane, by its row and lane. -/
theorem ix3_form {n p : ℕ} (x : (⟨3, ![1, n, p]⟩ : Shape).Idx) : ∃ (r : Fin n) (l : Fin p), x = ix3 0 r l :=
  ⟨x 1, x 2, by funext a; match a with | ⟨0, _⟩ => exact Subsingleton.elim (α := Fin 1) _ _ | ⟨1, _⟩ => rfl | ⟨2, _⟩ => rfl⟩

/-- An index of one plane of one slab, by its row and lane. -/
theorem ix4_form {n p : ℕ} (x : (⟨4, ![1, 1, n, p]⟩ : Shape).Idx) : ∃ (r : Fin n) (l : Fin p), x = ix4 0 0 r l :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- The kernel's latent queries over the array row are the plain ones. -/
theorem outQM_eq (c : Dev nD) (b : Fin 4) (i : Fin 4224) (h : Fin 4) (k : Fin 208) :
    headQuery' (stack2 (lats m c b i)) (diag (fun a j => m ((c : Thread nD τ).loc main_arg7) (ix3 1 a j)))
        (fun l : Fin 128 => m ((c : Thread nD τ).loc main_arg8) (ix2 i ⟨l.val % 16, by omega⟩))
        (fun l : Fin 128 => m ((c : Thread nD τ).loc main_arg9) (ix2 i ⟨l.val % 16, by omega⟩))
        (fun l : Fin 48 => m ((c : Thread nD τ).loc main_arg10) (ix2 i ⟨l.val, by omega⟩)) h k
      = outQM m c b h i k := by
  rw [headQuery_eq (lats m c b i) (fun a j => m ((c : Thread nD τ).loc main_arg7) (ix3 1 a j))
    (fun l : Fin 16 => m ((c : Thread nD τ).loc main_arg8) (ix2 i l)) (fun l : Fin 16 => m ((c : Thread nD τ).loc main_arg9) (ix2 i l))]
  rfl

/-- The kernel's latent keys over the array row are the plain ones. -/
theorem outKC_eq (c : Dev nD) (b : Fin 4) (i : Fin 4224) (k : Fin 208) :
    latentKey' (stack1 (proj m c b i)) (fun j => m ((c : Thread nD τ).loc main_arg5) (ix2 1 j))
        (fun l : Fin 128 => m ((c : Thread nD τ).loc main_arg8) (ix2 i ⟨l.val % 16, by omega⟩))
        (fun l : Fin 128 => m ((c : Thread nD τ).loc main_arg9) (ix2 i ⟨l.val % 16, by omega⟩))
        (fun l : Fin 48 => m ((c : Thread nD τ).loc main_arg11) (ix2 i ⟨l.val, by omega⟩)) k
      = outKC m c b i k := by
  rw [latentKey_eq (proj m c b i) (fun j => m ((c : Thread nD τ).loc main_arg5) (ix2 1 j))
    (fun l : Fin 16 => m ((c : Thread nD τ).loc main_arg8) (ix2 i l)) (fun l : Fin 16 => m ((c : Thread nD τ).loc main_arg9) (ix2 i l))]
  rfl

section Pieces

variable {c : Dev nD} (hF : Reals m c) (t : Fin grid0.N) (d : ℕ) (hd : d + 528 ≤ 2112) (b : Fin 4) (i : Fin 4224) (hb : b.val = t.val / 2)
include hF hd hb

/-- The projected row is the array row's projections, stacked. -/
theorem vrow_eq (inb) (r : Fin 528) (hi : i.val = 2112 * (t.val % 2) + (d + r.val)) :
    (fun j => vrow m c t d inb (ix2 r j)) = stack1 (proj m c b i) := by
  funext j
  refine (proj_apply _ _ _ r j).trans ?_
  have e0 : (fun k => View.ld (iblk m c 0 t) (Rect.unit ![0, d, 0] ![1, 528, 1024] inb) (ix3 0 r k))
      = fun k => m ((c : Thread nD τ).loc main_arg0) (ix3 b i k) :=
    funext fun k => (ld_rows (iblk m c 0 t) d hd inb r k).trans (blk0 m c t _ k b i hb (by dsimp only; omega))
  have e2 : (fun k => iblk m c 2 t (ix2 0 k)) = fun k => m ((c : Thread nD τ).loc main_arg2) (ix2 1 k) := funext fun k => blk2 m c t k
  have e3 : (fun k j => iblk m c 3 t (ix3 0 k j)) = fun k => stack1 fun j => m ((c : Thread nD τ).loc main_arg3) (ix3 1 k j) :=
    funext fun k => funext fun j => blk3 m c t k j
  refine Eq.trans (b := lin (rms inv1024 (fun k => m ((c : Thread nD τ).loc main_arg0) (ix3 b i k))
    (fun k => m ((c : Thread nD τ).loc main_arg2) (ix2 1 k))) (fun k => stack1 fun j => m ((c : Thread nD τ).loc main_arg3) (ix3 1 k j)) j) ?_ ?_
  · rw [← e0, ← e2, ← e3]
  · exact lin_stack1 (rms_isReal inv1024_nonneg (hF.x b i) (hF.g 1)) (hF.w 1) j

/-- One lane of the projected row. -/
theorem vrow_at (inb) (r : Fin 528) (hi : i.val = 2112 * (t.val % 2) + (d + r.val)) (j : ℕ) (hj : j < 1216) :
    vrow m c t d inb (ix2 r ⟨j, by omega⟩) = proj m c b i ⟨j, by omega⟩ :=
  (congrFun (vrow_eq m hF t d hd b i hb inb r hi) ⟨j, by omega⟩).trans (stack1_low _ j hj)

omit hd in
/-- The latents over the projected row are the array row's, stacked. -/
theorem lat_eq :
    latents' (stack1 (proj m c b i)) (fun j => iblk m c 4 t (ix2 0 j)) (fun k j => iblk m c 6 t (ix3 0 k j)) = stack2 (lats m c b i) := by
  funext k
  refine latents_eq (proj_isReal m hF b i) (hF.gq 1) (hF.wq 1) _ _ (fun j => ?_) (fun j k => ?_) (fun j hj k => ?_) k
  · exact (blk4 m c t _).trans (dif_pos j.isLt)
  · exact (blk6 m c t _ k).trans (dif_pos j.isLt)
  · exact (blk6 m c t _ k).trans (dif_neg (by omega))

omit hF hd hb in
/-- The absorbed matrix's block. -/
theorem diag_eq : (fun a j => iblk m c 7 t (ix3 0 a j)) = diag (fun a j => m ((c : Thread nD τ).loc main_arg7) (ix3 1 a j)) :=
  funext fun a => funext fun j => blk7 m c t a j

omit hF hb in
/-- The cosines' rows. -/
theorem cos_eq (inb) (r : Fin 528) (hi : i.val = 2112 * (t.val % 2) + (d + r.val)) :
    (fun l => View.ld (iblk m c 8 t) (Rect.unit ![d, 0] ![528, 128] inb) (ix2 r l))
      = fun l : Fin 128 => m ((c : Thread nD τ).loc main_arg8) (ix2 i ⟨l.val % 16, by omega⟩) :=
  funext fun l => (ld_angles (iblk m c 8 t) d hd inb r l).trans (blk8 m c t _ l i (by dsimp only; omega))

omit hF hb in
/-- The sines' rows. -/
theorem sin_eq (inb) (r : Fin 528) (hi : i.val = 2112 * (t.val % 2) + (d + r.val)) :
    (fun l => View.ld (iblk m c 9 t) (Rect.unit ![d, 0] ![528, 128] inb) (ix2 r l))
      = fun l : Fin 128 => m ((c : Thread nD τ).loc main_arg9) (ix2 i ⟨l.val % 16, by omega⟩) :=
  funext fun l => (ld_angles (iblk m c 9 t) d hd inb r l).trans (blk9 m c t _ l i (by dsimp only; omega))

omit hF hb in
/-- The queries' lanes. -/
theorem qx_eq (inb) (r : Fin 528) (hi : i.val = 2112 * (t.val % 2) + (d + r.val)) :
    (fun l => View.ld (iblk m c 10 t) (Rect.unit ![d, 0] ![528, 48] inb) (ix2 r l))
      = fun l : Fin 48 => m ((c : Thread nD τ).loc main_arg10) (ix2 i ⟨l.val, by omega⟩) :=
  funext fun l => (ld_lanes (iblk m c 10 t) d hd inb r l).trans (blk10 m c t _ l i (by dsimp only; omega))

omit hF hb in
/-- The keys' lanes. -/
theorem kx_eq (inb) (r : Fin 528) (hi : i.val = 2112 * (t.val % 2) + (d + r.val)) :
    (fun l => View.ld (iblk m c 11 t) (Rect.unit ![d, 0] ![528, 48] inb) (ix2 r l))
      = fun l : Fin 48 => m ((c : Thread nD τ).loc main_arg11) (ix2 i ⟨l.val, by omega⟩) :=
  funext fun l => (ld_lanes (iblk m c 11 t) d hd inb r l).trans (blk11 m c t _ l i (by dsimp only; omega))

/-- The windowed-attention queries, piece by piece. -/
theorem piece_q (inb) (x : S1x528x512.Idx) (hi : i.val = 2112 * (t.val % 2) + (d + (x 1).val)) (k : Fin 512) (hk : k.val = (x 2).val) :
    k0_pay10 (F := Ideal) (vrow m c t d inb) x = outQ m c b i k := by
  obtain ⟨r, l, rfl⟩ : ∃ (r : Fin 528) (l : Fin 512), x = ix3 0 r l := ix3_form x
  obtain rfl : k = l := Fin.ext hk
  rw [query_apply, vrow_at m hF t d hd b i hb inb r hi _ (by omega)]
  rfl

omit hd in
/-- The state-space lanes of the first rows, first slab. -/
theorem piece_u00 (inb : ∀ a : Fin 3, ![0, 0, 0] a + ![1, 528, 1024] a ≤ S1x2112x1024.size a) (x : S1x1x528x128.Idx)
    (hi : i.val = 2112 * (t.val % 2) + (0 + (x 2).val)) (s : Fin 2) (hs : s.val = 0) (k : Fin 128) (hk : k.val = (x 3).val) :
    k0_pay7 (F := Ideal) (grid0.coords t) (View.ld (iblk m c 0 t) (Rect.unit ![0, 0, 0] ![1, 528, 1024] inb)) (iblk m c 2 t) (iblk m c 3 t) x
      = outU m c b s i k := by
  obtain ⟨r, l, rfl⟩ : ∃ (r : Fin 528) (l : Fin 128), x = ix4 0 0 r l := ix4_form x
  obtain rfl : k = l := Fin.ext hk
  have hi' : i.val = 2112 * (t.val % 2) + (0 + r.val) := hi
  refine (ssm00_apply (grid0.coords t) _ _ _ r k).trans ?_
  unfold outU ssm
  by_cases h : 112 ≤ i.val
  · rw [if_pos (by rw [tile]; omega), if_pos h]
    exact (vrow_at m hF t 0 (by omega) b i hb inb r hi' _ (by omega)).trans (congrArg _ (Fin.ext (by dsimp only; omega)))
  · rw [if_neg (by rw [tile]; omega), if_neg h]

omit hd in
/-- The state-space lanes of the first rows, second slab. -/
theorem piece_u01 (inb : ∀ a : Fin 3, ![0, 0, 0] a + ![1, 528, 1024] a ≤ S1x2112x1024.size a) (x : S1x1x528x128.Idx)
    (hi : i.val = 2112 * (t.val % 2) + (0 + (x 2).val)) (s : Fin 2) (hs : s.val = 1) (k : Fin 128) (hk : k.val = (x 3).val) :
    k0_pay9 (F := Ideal) (vrow m c t 0 inb) (k0_pay6 (grid0.coords t)) k0_pay8 x
      = outU m c b s i k := by
  obtain ⟨r, l, rfl⟩ : ∃ (r : Fin 528) (l : Fin 128), x = ix4 0 0 r l := ix4_form x
  obtain rfl : k = l := Fin.ext hk
  have hi' : i.val = 2112 * (t.val % 2) + (0 + r.val) := hi
  refine (ssm01_apply (grid0.coords t) _ _ _ r k).trans ?_
  unfold outU ssm
  by_cases h : 112 ≤ i.val
  · rw [if_pos (by rw [tile]; omega), if_pos h]
    exact (vrow_at m hF t 0 (by omega) b i hb inb r hi' _ (by omega)).trans (congrArg _ (Fin.ext (by dsimp only; omega)))
  · rw [if_neg (by rw [tile]; omega), if_neg h]

omit hd in
/-- The state-space lanes of the second rows, first slab. -/
theorem piece_u10 (inb : ∀ a : Fin 3, ![0, 528, 0] a + ![1, 528, 1024] a ≤ S1x2112x1024.size a) (x : S1x1x528x128.Idx)
    (hi : i.val = 2112 * (t.val % 2) + (528 + (x 2).val)) (s : Fin 2) (hs : s.val = 0) (k : Fin 128) (hk : k.val = (x 3).val) :
    k0_pay40 (F := Ideal) (k0_pay39 (BitVec.ofNat 32 (grid0.coords t 1).val) (View.ld (iblk m c 0 t) (Rect.unit ![0, 528, 0] ![1, 528, 1024] inb)) (iblk m c 2 t) (iblk m c 3 t)) x
      = outU m c b s i k := by
  obtain ⟨r, l, rfl⟩ : ∃ (r : Fin 528) (l : Fin 128), x = ix4 0 0 r l := ix4_form x
  obtain rfl : k = l := Fin.ext hk
  have hi' : i.val = 2112 * (t.val % 2) + (528 + r.val) := hi
  refine (ssm10_apply (grid0.coords t) _ _ _ r k).trans ?_
  unfold outU ssm
  by_cases h : 112 ≤ i.val
  · rw [if_pos (by rw [tile]; omega), if_pos h]
    exact (vrow_at m hF t 528 (by omega) b i hb inb r hi' _ (by omega)).trans (congrArg _ (Fin.ext (by dsimp only; omega)))
  · rw [if_neg (by rw [tile]; omega), if_neg h]

omit hd in
/-- The state-space lanes of the second rows, second slab. -/
theorem piece_u11 (inb : ∀ a : Fin 3, ![0, 528, 0] a + ![1, 528, 1024] a ≤ S1x2112x1024.size a) (x : S1x1x528x128.Idx)
    (hi : i.val = 2112 * (t.val % 2) + (528 + (x 2).val)) (s : Fin 2) (hs : s.val = 1) (k : Fin 128) (hk : k.val = (x 3).val) :
    k0_pay41 (F := Ideal) (vrow m c t 528 inb) (k0_pay38 (BitVec.ofNat 32 (grid0.coords t 1).val)) x
      = outU m c b s i k := by
  obtain ⟨r, l, rfl⟩ : ∃ (r : Fin 528) (l : Fin 128), x = ix4 0 0 r l := ix4_form x
  obtain rfl : k = l := Fin.ext hk
  have hi' : i.val = 2112 * (t.val % 2) + (528 + r.val) := hi
  refine (ssm11_apply (grid0.coords t) _ _ _ r k).trans ?_
  unfold outU ssm
  by_cases h : 112 ≤ i.val
  · rw [if_pos (by rw [tile]; omega), if_pos h]
    exact (vrow_at m hF t 528 (by omega) b i hb inb r hi' _ (by omega)).trans (congrArg _ (Fin.ext (by dsimp only; omega)))
  · rw [if_neg (by rw [tile]; omega), if_neg h]

omit hd in
/-- The state-space lanes of the third rows, first slab. -/
theorem piece_u20 (inb : ∀ a : Fin 3, ![0, 1056, 0] a + ![1, 528, 1024] a ≤ S1x2112x1024.size a) (x : S1x1x528x128.Idx)
    (hi : i.val = 2112 * (t.val % 2) + (1056 + (x 2).val)) (s : Fin 2) (hs : s.val = 0) (k : Fin 128) (hk : k.val = (x 3).val) :
    k0_pay73 (F := Ideal) (vrow m c t 1056 inb) (k0_pay72 (BitVec.ofNat 32 (grid0.coords t 1).val)) x
      = outU m c b s i k := by
  obtain ⟨r, l, rfl⟩ : ∃ (r : Fin 528) (l : Fin 128), x = ix4 0 0 r l := ix4_form x
  obtain rfl : k = l := Fin.ext hk
  have hi' : i.val = 2112 * (t.val % 2) + (1056 + r.val) := hi
  refine (ssm20_apply (grid0.coords t) _ _ _ r k).trans ?_
  unfold outU ssm
  by_cases h : 112 ≤ i.val
  · rw [if_pos (by rw [tile]; omega), if_pos h]
    exact (vrow_at m hF t 1056 (by omega) b i hb inb r hi' _ (by omega)).trans (congrArg _ (Fin.ext (by dsimp only; omega)))
  · rw [if_neg (by rw [tile]; omega), if_neg h]

omit hd in
/-- The state-space lanes of the third rows, second slab. -/
theorem piece_u21 (inb : ∀ a : Fin 3, ![0, 1056, 0] a + ![1, 528, 1024] a ≤ S1x2112x1024.size a) (x : S1x1x528x128.Idx)
    (hi : i.val = 2112 * (t.val % 2) + (1056 + (x 2).val)) (s : Fin 2) (hs : s.val = 1) (k : Fin 128) (hk : k.val = (x 3).val) :
    k0_pay74 (F := Ideal) (vrow m c t 1056 inb) (k0_pay71 (BitVec.ofNat 32 (grid0.coords t 1).val)) x
      = outU m c b s i k := by
  obtain ⟨r, l, rfl⟩ : ∃ (r : Fin 528) (l : Fin 128), x = ix4 0 0 r l := ix4_form x
  obtain rfl : k = l := Fin.ext hk
  have hi' : i.val = 2112 * (t.val % 2) + (1056 + r.val) := hi
  refine (ssm21_apply (grid0.coords t) _ _ _ r k).trans ?_
  unfold outU ssm
  by_cases h : 112 ≤ i.val
  · rw [if_pos (by rw [tile]; omega), if_pos h]
    exact (vrow_at m hF t 1056 (by omega) b i hb inb r hi' _ (by omega)).trans (congrArg _ (Fin.ext (by dsimp only; omega)))
  · rw [if_neg (by rw [tile]; omega), if_neg h]

omit hd in
/-- The state-space lanes of the fourth rows, first slab. -/
theorem piece_u30 (inb : ∀ a : Fin 3, ![0, 1584, 0] a + ![1, 528, 1024] a ≤ S1x2112x1024.size a) (x : S1x1x528x128.Idx)
    (hi : i.val = 2112 * (t.val % 2) + (1584 + (x 2).val)) (s : Fin 2) (hs : s.val = 0) (k : Fin 128) (hk : k.val = (x 3).val) :
    k0_pay110 (F := Ideal) (vrow m c t 1584 inb) (Scalar.muli (BitVec.ofNat 32 (grid0.coords t 1).val) 2112#32) x
      = outU m c b s i k := by
  obtain ⟨r, l, rfl⟩ : ∃ (r : Fin 528) (l : Fin 128), x = ix4 0 0 r l := ix4_form x
  obtain rfl : k = l := Fin.ext hk
  have hi' : i.val = 2112 * (t.val % 2) + (1584 + r.val) := hi
  refine (ssm30_apply (grid0.coords t) _ _ _ r k).trans ?_
  unfold outU ssm
  by_cases h : 112 ≤ i.val
  · rw [if_pos (by rw [tile]; omega), if_pos h]
    exact (vrow_at m hF t 1584 (by omega) b i hb inb r hi' _ (by omega)).trans (congrArg _ (Fin.ext (by dsimp only; omega)))
  · rw [if_neg (by rw [tile]; omega), if_neg h]

omit hd in
/-- The state-space lanes of the fourth rows, second slab. -/
theorem piece_u31 (inb : ∀ a : Fin 3, ![0, 1584, 0] a + ![1, 528, 1024] a ≤ S1x2112x1024.size a) (x : S1x1x528x128.Idx)
    (hi : i.val = 2112 * (t.val % 2) + (1584 + (x 2).val)) (s : Fin 2) (hs : s.val = 1) (k : Fin 128) (hk : k.val = (x 3).val) :
    k0_pay111 (F := Ideal) (vrow m c t 1584 inb) (Scalar.muli (BitVec.ofNat 32 (grid0.coords t 1).val) 2112#32) x
      = outU m c b s i k := by
  obtain ⟨r, l, rfl⟩ : ∃ (r : Fin 528) (l : Fin 128), x = ix4 0 0 r l := ix4_form x
  obtain rfl : k = l := Fin.ext hk
  have hi' : i.val = 2112 * (t.val % 2) + (1584 + r.val) := hi
  refine (ssm31_apply (grid0.coords t) _ _ _ r k).trans ?_
  unfold outU ssm
  by_cases h : 112 ≤ i.val
  · rw [if_pos (by rw [tile]; omega), if_pos h]
    exact (vrow_at m hF t 1584 (by omega) b i hb inb r hi' _ (by omega)).trans (congrArg _ (Fin.ext (by dsimp only; omega)))
  · rw [if_neg (by rw [tile]; omega), if_neg h]

/-- The windowed-attention keys, piece by piece. -/
theorem piece_key (inb) (x : S1x528x128.Idx) (hi : i.val = 2112 * (t.val % 2) + (d + (x 1).val)) (k : Fin 384)
    (hk : k.val = 0 + (x 2).val) :
    k0_pay11 (F := Ideal) (vrow m c t d inb) x = outKV m c b i k := by
  obtain ⟨r, l, rfl⟩ : ∃ (r : Fin 528) (l : Fin 128), x = ix3 0 r l := ix3_form x
  have hk' : k.val = 0 + l.val := hk
  refine (key_apply _ r l).trans ((vrow_at m hF t d hd b i hb inb r hi _ (by omega)).trans ?_)
  unfold outKV keyval
  rw [dif_pos (by omega)]
  congr 1
  apply Fin.ext
  dsimp only
  omega

/-- The first head's values, piece by piece. -/
theorem piece_val0 (inb) (x : S1x528x64.Idx) (hi : i.val = 2112 * (t.val % 2) + (d + (x 1).val)) (k : Fin 384)
    (hk : k.val = 128 + (x 2).val) :
    k0_pay13 (F := Ideal) (vrow m c t d inb) x = outKV m c b i k := by
  obtain ⟨r, l, rfl⟩ : ∃ (r : Fin 528) (l : Fin 64), x = ix3 0 r l := ix3_form x
  have hk' : k.val = 128 + l.val := hk
  refine (val0_apply _ r l).trans ((vrow_at m hF t d hd b i hb inb r hi _ (by omega)).trans ?_)
  unfold outKV keyval
  rw [dif_neg (by omega), dif_pos (by omega)]
  congr 1
  apply Fin.ext
  dsimp only
  omega

omit hF hd hb in
/-- The first head's unit column, piece by piece. -/
theorem piece_unit0 (x : S1x528x64.Idx) (k : Fin 384) (hk : k.val = 192 + (x 2).val) :
    k0_pay14 (F := Ideal) k0_pay12 x = outKV m c b i k := by
  obtain ⟨r, l, rfl⟩ : ∃ (r : Fin 528) (l : Fin 64), x = ix3 0 r l := ix3_form x
  have hk' : k.val = 192 + l.val := hk
  refine (unit0_apply r l).trans ?_
  unfold outKV keyval
  rw [dif_neg (by omega), dif_neg (by omega), if_pos (by omega)]
  congr 1
  omega

/-- The second head's values, piece by piece. -/
theorem piece_val1 (inb) (x : S1x528x64.Idx) (hi : i.val = 2112 * (t.val % 2) + (d + (x 1).val)) (k : Fin 384)
    (hk : k.val = 256 + (x 2).val) :
    k0_pay15 (F := Ideal) (vrow m c t d inb) x = outKV m c b i k := by
  obtain ⟨r, l, rfl⟩ : ∃ (r : Fin 528) (l : Fin 64), x = ix3 0 r l := ix3_form x
  have hk' : k.val = 256 + l.val := hk
  refine (val1_apply _ r l).trans ((vrow_at m hF t d hd b i hb inb r hi _ (by omega)).trans ?_)
  unfold outKV keyval
  rw [dif_neg (by omega), dif_neg (by omega), if_neg (by omega), dif_pos (by omega)]
  congr 1
  apply Fin.ext
  dsimp only
  omega

omit hF hd hb in
/-- The second head's unit column, piece by piece. -/
theorem piece_unit1 (x : S1x528x64.Idx) (k : Fin 384) (hk : k.val = 320 + (x 2).val) :
    k0_pay16 (F := Ideal) k0_pay12 x = outKV m c b i k := by
  obtain ⟨r, l, rfl⟩ : ∃ (r : Fin 528) (l : Fin 64), x = ix3 0 r l := ix3_form x
  have hk' : k.val = 320 + l.val := hk
  refine (unit1_apply r l).trans ?_
  unfold outKV keyval
  rw [dif_neg (by omega), dif_neg (by omega), if_neg (by omega), dif_neg (by omega)]
  congr 1
  omega

/-- The first head's absorbed lanes, piece by piece. -/
theorem piece_lat0 (inb) (x : S1x1x528x128.Idx) (hi : i.val = 2112 * (t.val % 2) + (d + (x 2).val)) (h : Fin 4) (hh : h.val = 0)
    (k : Fin 208) (hk : k.val = (x 3).val) :
    k0_pay22 (F := Ideal) (k0_pay17 (vrow m c t d inb) (iblk m c 4 t) (iblk m c 6 t)) (iblk m c 7 t) x = outQM m c b h i k := by
  obtain ⟨r, l, rfl⟩ : ∃ (r : Fin 528) (l : Fin 128), x = ix4 0 0 r l := ix4_form x
  obtain rfl : h = 0 := Fin.ext hh
  rw [show k = ⟨l.val, by omega⟩ from Fin.ext hk]
  refine (latq0_apply (vrow m c t d inb) (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [vrow_eq m hF t d hd b i hb inb r hi, lat_eq m hF t b i hb, diag_eq m t]
  exact outQM_eq m c b i _ _

/-- The first head's rotary lanes, piece by piece. -/
theorem piece_rope0 (inb) (inc) (ins) (x : S1x1x528x32.Idx) (hi : i.val = 2112 * (t.val % 2) + (d + (x 2).val)) (h : Fin 4)
    (hh : h.val = 0) (k : Fin 208) (hk : k.val = 176 + (x 3).val) :
    k0_pay24 (F := Ideal) (k0_pay18 (vrow m c t d inb) (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 0 := Fin.ext hh
  rw [show k = ⟨176 + l.val, by omega⟩ from Fin.ext hk]
  refine (ropeq0_apply (vrow m c t d inb) (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 1 a j))) (fun l : Fin 48 => m ((c : Thread nD τ).loc main_arg10) (ix2 i ⟨l.val, by omega⟩)) r l).trans ?_
  rw [vrow_eq m hF t d hd b i hb inb r hi, lat_eq m hF t b i hb, cos_eq m t d hd b i inc r hi, sin_eq m t d hd b i ins r hi]
  exact outQM_eq m c b i _ _

/-- The second head's absorbed lanes, piece by piece. -/
theorem piece_lat1 (inb) (x : S1x1x528x128.Idx) (hi : i.val = 2112 * (t.val % 2) + (d + (x 2).val)) (h : Fin 4) (hh : h.val = 1)
    (k : Fin 208) (hk : k.val = (x 3).val) :
    k0_pay25 (F := Ideal) (k0_pay19 (k0_pay17 (vrow m c t d inb) (iblk m c 4 t) (iblk m c 6 t)) (iblk m c 7 t)) x = outQM m c b h i k := by
  obtain ⟨r, l, rfl⟩ : ∃ (r : Fin 528) (l : Fin 128), x = ix4 0 0 r l := ix4_form x
  obtain rfl : h = 1 := Fin.ext hh
  rw [show k = ⟨l.val, by omega⟩ from Fin.ext hk]
  refine (latq1_apply (vrow m c t d inb) (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [vrow_eq m hF t d hd b i hb inb r hi, lat_eq m hF t b i hb, diag_eq m t]
  exact outQM_eq m c b i _ _

/-- The second head's rotary lanes, piece by piece. -/
theorem piece_rope1 (inb) (inc) (ins) (x : S1x1x528x32.Idx) (hi : i.val = 2112 * (t.val % 2) + (d + (x 2).val)) (h : Fin 4)
    (hh : h.val = 1) (k : Fin 208) (hk : k.val = 176 + (x 3).val) :
    k0_pay27 (F := Ideal) (k0_pay18 (vrow m c t d inb) (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 1 := Fin.ext hh
  rw [show k = ⟨176 + l.val, by omega⟩ from Fin.ext hk]
  refine (ropeq1_apply (vrow m c t d inb) (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 1 a j))) (fun l : Fin 48 => m ((c : Thread nD τ).loc main_arg10) (ix2 i ⟨l.val, by omega⟩)) r l).trans ?_
  rw [vrow_eq m hF t d hd b i hb inb r hi, lat_eq m hF t b i hb, cos_eq m t d hd b i inc r hi, sin_eq m t d hd b i ins r hi]
  exact outQM_eq m c b i _ _

/-- The third head's absorbed lanes, piece by piece. -/
theorem piece_lat2 (inb) (x : S1x1x528x128.Idx) (hi : i.val = 2112 * (t.val % 2) + (d + (x 2).val)) (h : Fin 4) (hh : h.val = 2)
    (k : Fin 208) (hk : k.val = (x 3).val) :
    k0_pay28 (F := Ideal) (k0_pay19 (k0_pay17 (vrow m c t d inb) (iblk m c 4 t) (iblk m c 6 t)) (iblk m c 7 t)) x = outQM m c b h i k := by
  obtain ⟨r, l, rfl⟩ : ∃ (r : Fin 528) (l : Fin 128), x = ix4 0 0 r l := ix4_form x
  obtain rfl : h = 2 := Fin.ext hh
  rw [show k = ⟨l.val, by omega⟩ from Fin.ext hk]
  refine (latq2_apply (vrow m c t d inb) (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [vrow_eq m hF t d hd b i hb inb r hi, lat_eq m hF t b i hb, diag_eq m t]
  exact outQM_eq m c b i _ _

/-- The third head's rotary lanes, piece by piece. -/
theorem piece_rope2 (inb) (inc) (ins) (x : S1x1x528x32.Idx) (hi : i.val = 2112 * (t.val % 2) + (d + (x 2).val)) (h : Fin 4)
    (hh : h.val = 2) (k : Fin 208) (hk : k.val = 176 + (x 3).val) :
    k0_pay30 (F := Ideal) (k0_pay18 (vrow m c t d inb) (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 2 := Fin.ext hh
  rw [show k = ⟨176 + l.val, by omega⟩ from Fin.ext hk]
  refine (ropeq2_apply (vrow m c t d inb) (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 1 a j))) (fun l : Fin 48 => m ((c : Thread nD τ).loc main_arg10) (ix2 i ⟨l.val, by omega⟩)) r l).trans ?_
  rw [vrow_eq m hF t d hd b i hb inb r hi, lat_eq m hF t b i hb, cos_eq m t d hd b i inc r hi, sin_eq m t d hd b i ins r hi]
  exact outQM_eq m c b i _ _

/-- The fourth head's absorbed lanes, piece by piece. -/
theorem piece_lat3 (inb) (x : S1x1x528x128.Idx) (hi : i.val = 2112 * (t.val % 2) + (d + (x 2).val)) (h : Fin 4) (hh : h.val = 3)
    (k : Fin 208) (hk : k.val = (x 3).val) :
    k0_pay31 (F := Ideal) (k0_pay19 (k0_pay17 (vrow m c t d inb) (iblk m c 4 t) (iblk m c 6 t)) (iblk m c 7 t)) x = outQM m c b h i k := by
  obtain ⟨r, l, rfl⟩ : ∃ (r : Fin 528) (l : Fin 128), x = ix4 0 0 r l := ix4_form x
  obtain rfl : h = 3 := Fin.ext hh
  rw [show k = ⟨l.val, by omega⟩ from Fin.ext hk]
  refine (latq3_apply (vrow m c t d inb) (iblk m c 4 t) (iblk m c 6 t) (iblk m c 7 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg10) (ix2 i ⟨l.val, by omega⟩)) r l).trans ?_
  rw [vrow_eq m hF t d hd b i hb inb r hi, lat_eq m hF t b i hb, diag_eq m t]
  exact outQM_eq m c b i _ _

/-- The fourth head's rotary lanes, piece by piece. -/
theorem piece_rope3 (inb) (inc) (ins) (x : S1x1x528x32.Idx) (hi : i.val = 2112 * (t.val % 2) + (d + (x 2).val)) (h : Fin 4)
    (hh : h.val = 3) (k : Fin 208) (hk : k.val = 176 + (x 3).val) :
    k0_pay33 (F := Ideal) (k0_pay18 (vrow m c t d inb) (View.ld (iblk m c 8 t) (Rect.unit ![d, 0] ![528, 128] inc))
      (View.ld (iblk m c 9 t) (Rect.unit ![d, 0] ![528, 128] ins)) (iblk m c 4 t) (iblk m c 6 t)) x = outQM m c b h i k := by
  obtain ⟨r, l, rfl⟩ : ∃ (r : Fin 528) (l : Fin 32), x = ix4 0 0 r l := ix4_form x
  obtain rfl : h = 3 := Fin.ext hh
  rw [show k = ⟨176 + l.val, by omega⟩ from Fin.ext hk]
  refine (ropeq3_apply (vrow m c t d inb) (iblk m c 4 t) (iblk m c 6 t) (View.ld (iblk m c 8 t) (Rect.unit ![d, 0] ![528, 128] inc))
    (View.ld (iblk m c 9 t) (Rect.unit ![d, 0] ![528, 128] ins)) (diag (fun a j => m ((c : Thread nD τ).loc main_arg7) (ix3 1 a j))) (fun l : Fin 48 => m ((c : Thread nD τ).loc main_arg10) (ix2 i ⟨l.val, by omega⟩)) r l).trans ?_
  rw [vrow_eq m hF t d hd b i hb inb r hi, lat_eq m hF t b i hb, cos_eq m t d hd b i inc r hi, sin_eq m t d hd b i ins r hi]
  exact outQM_eq m c b i _ _

omit hF hb in
/-- The queries' table lanes, piece by piece. -/
theorem piece_tab (ind) (x : S1x1x528x48.Idx) (hi : i.val = 2112 * (t.val % 2) + (d + (x 2).val)) (h : Fin 4) (k : Fin 208)
    (hk : k.val = 128 + (x 3).val) :
    k0_pay23 (F := Ideal) (View.ld (iblk m c 10 t) (Rect.unit ![d, 0] ![528, 48] ind)) x = outQM m c b h i k := by
  obtain ⟨r, l, rfl⟩ : ∃ (r : Fin 528) (l : Fin 48), x = ix4 0 0 r l := ix4_form x
  rw [show k = ⟨128 + l.val, by omega⟩ from Fin.ext hk]
  refine (tableq_apply (View.ld (iblk m c 10 t) (Rect.unit ![d, 0] ![528, 48] ind)) (stack2 (lats m c b i)) (diag (fun a j => m ((c : Thread nD τ).loc main_arg7) (ix3 1 a j)))
    (fun l : Fin 128 => m ((c : Thread nD τ).loc main_arg8) (ix2 i ⟨l.val % 16, by omega⟩))
    (fun l : Fin 128 => m ((c : Thread nD τ).loc main_arg9) (ix2 i ⟨l.val % 16, by omega⟩)) h r l).trans ?_
  rw [qx_eq m t d hd b i ind r hi]
  exact outQM_eq m c b i _ _

omit hF hd hb in
/-- The key norm's gains, as a row. -/
theorem gk_eq : (fun j => iblk m c 5 t (ix2 0 j)) = fun j : Fin 128 => m ((c : Thread nD τ).loc main_arg5) (ix2 1 j) :=
  funext fun j => blk5 m c t j

/-- The keys' normed latents, piece by piece. -/
theorem piece_klat (inb) (x : S1x528x128.Idx) (hi : i.val = 2112 * (t.val % 2) + (d + (x 1).val)) (k : Fin 208) (hk : k.val = (x 2).val) :
    k0_pay34 (F := Ideal) (k0_pay20 (vrow m c t d inb) (iblk m c 5 t)) x = outKC m c b i k := by
  obtain ⟨r, l, rfl⟩ : ∃ (r : Fin 528) (l : Fin 128), x = ix3 0 r l := ix3_form x
  rw [show k = ⟨l.val, by omega⟩ from Fin.ext hk]
  refine (latk_apply (vrow m c t d inb) (iblk m c 5 t) (fun l : Fin 128 => m ((c : Thread nD τ).loc main_arg8) (ix2 i ⟨l.val % 16, by omega⟩))
    (fun l : Fin 128 => m ((c : Thread nD τ).loc main_arg9) (ix2 i ⟨l.val % 16, by omega⟩)) (fun l : Fin 48 => m ((c : Thread nD τ).loc main_arg11) (ix2 i ⟨l.val, by omega⟩)) r l).trans ?_
  rw [vrow_eq m hF t d hd b i hb inb r hi, gk_eq m t]
  exact outKC_eq m c b i _

/-- The keys' rotary lanes, piece by piece. -/
theorem piece_krope (inb) (inc) (ins) (x : S1x528x32.Idx) (hi : i.val = 2112 * (t.val % 2) + (d + (x 1).val)) (k : Fin 208) (hk : k.val = 176 + (x 2).val) :
    k0_pay36 (F := Ideal) (k0_pay21 (vrow m c t d inb) (View.ld (iblk m c 8 t) (Rect.unit ![d, 0] ![528, 128] inc))
      (View.ld (iblk m c 9 t) (Rect.unit ![d, 0] ![528, 128] ins))) x = outKC m c b i k := by
  obtain ⟨r, l, rfl⟩ : ∃ (r : Fin 528) (l : Fin 32), x = ix3 0 r l := ix3_form x
  rw [show k = ⟨176 + l.val, by omega⟩ from Fin.ext hk]
  refine (ropek_apply (vrow m c t d inb) (View.ld (iblk m c 8 t) (Rect.unit ![d, 0] ![528, 128] inc))
    (View.ld (iblk m c 9 t) (Rect.unit ![d, 0] ![528, 128] ins)) (fun j => m ((c : Thread nD τ).loc main_arg5) (ix2 1 j)) (fun l : Fin 48 => m ((c : Thread nD τ).loc main_arg11) (ix2 i ⟨l.val, by omega⟩)) r l).trans ?_
  rw [vrow_eq m hF t d hd b i hb inb r hi, cos_eq m t d hd b i inc r hi, sin_eq m t d hd b i ins r hi]
  exact outKC_eq m c b i _

omit hF hb in
/-- The keys' table lanes, piece by piece. -/
theorem piece_ktab (ind) (x : S1x528x48.Idx) (hi : i.val = 2112 * (t.val % 2) + (d + (x 1).val)) (k : Fin 208) (hk : k.val = 128 + (x 2).val) :
    k0_pay35 (F := Ideal) (View.ld (iblk m c 11 t) (Rect.unit ![d, 0] ![528, 48] ind)) x = outKC m c b i k := by
  obtain ⟨r, l, rfl⟩ : ∃ (r : Fin 528) (l : Fin 48), x = ix3 0 r l := ix3_form x
  rw [show k = ⟨128 + l.val, by omega⟩ from Fin.ext hk]
  refine (tablek_apply (View.ld (iblk m c 11 t) (Rect.unit ![d, 0] ![528, 48] ind)) (stack1 (proj m c b i))
    (fun j => m ((c : Thread nD τ).loc main_arg5) (ix2 1 j)) (fun l : Fin 128 => m ((c : Thread nD τ).loc main_arg8) (ix2 i ⟨l.val % 16, by omega⟩))
    (fun l : Fin 128 => m ((c : Thread nD τ).loc main_arg9) (ix2 i ⟨l.val % 16, by omega⟩)) r l).trans ?_
  rw [kx_eq m t d hd b i ind r hi]
  exact outKC_eq m c b i _

end Pieces

/-- The state-space lanes, over a block. -/
theorem out12 {c : Dev nD} (hF : Reals m c) (t : Fin grid0.N) (y : S1x2x2112x128.Idx) (b : Fin 4) (i : Fin 4224) (hb : b.val = t.val / 2)
    (hi : i.val = 2112 * (t.val % 2) + (y 2).val) : (outsAt0 m c t).1 y = outU m c b (y 1) i (y 3) := by
  unfold outsAt0
  frame_out
  canon_tiles x h using View.cover_of_tiledBy _ ![1, 1, 528, 128] (by sl_kernel_rfl) y
  case piece0 => exact piece_u31 m hF t b i hb inb_S1x2112x1024_S1x528x1024_0_1584_0 x (by omega) (y 1) (by omega) (y 3) (by omega)
  case piece1 => exact piece_u30 m hF t b i hb inb_S1x2112x1024_S1x528x1024_0_1584_0 x (by omega) (y 1) (by omega) (y 3) (by omega)
  case piece2 => exact piece_u21 m hF t b i hb inb_S1x2112x1024_S1x528x1024_0_1056_0 x (by omega) (y 1) (by omega) (y 3) (by omega)
  case piece3 => exact piece_u20 m hF t b i hb inb_S1x2112x1024_S1x528x1024_0_1056_0 x (by omega) (y 1) (by omega) (y 3) (by omega)
  case piece4 => exact piece_u11 m hF t b i hb inb_S1x2112x1024_S1x528x1024_0_528_0 x (by omega) (y 1) (by omega) (y 3) (by omega)
  case piece5 => exact piece_u10 m hF t b i hb inb_S1x2112x1024_S1x528x1024_0_528_0 x (by omega) (y 1) (by omega) (y 3) (by omega)
  case piece6 => exact piece_u01 m hF t b i hb inb_S1x2112x1024_S1x528x1024_0_0_0 x (by omega) (y 1) (by omega) (y 3) (by omega)
  case piece7 => exact piece_u00 m hF t b i hb inb_S1x2112x1024_S1x528x1024_0_0_0 x (by omega) (y 1) (by omega) (y 3) (by omega)

/-- The windowed-attention queries, over a block. -/
theorem out13 {c : Dev nD} (hF : Reals m c) (t : Fin grid0.N) (y : S1x2112x512.Idx) (b : Fin 4) (i : Fin 4224) (hb : b.val = t.val / 2)
    (hi : i.val = 2112 * (t.val % 2) + (y 1).val) : (outsAt0 m c t).2.1 y = outQ m c b i (y 2) := by
  unfold outsAt0
  frame_out
  canon_tiles x h using View.cover_of_tiledBy _ ![1, 528, 512] (by sl_kernel_rfl) y
  case piece0 => exact piece_q m hF t 1584 (by omega) b i hb inb_S1x2112x1024_S1x528x1024_0_1584_0 x (by omega) (y 2) (by omega)
  case piece1 => exact piece_q m hF t 1056 (by omega) b i hb inb_S1x2112x1024_S1x528x1024_0_1056_0 x (by omega) (y 2) (by omega)
  case piece2 => exact piece_q m hF t 528 (by omega) b i hb inb_S1x2112x1024_S1x528x1024_0_528_0 x (by omega) (y 2) (by omega)
  case piece3 => exact piece_q m hF t 0 (by omega) b i hb inb_S1x2112x1024_S1x528x1024_0_0_0 x (by omega) (y 2) (by omega)

/-- The windowed-attention keys and values, over a block. -/
theorem out14 {c : Dev nD} (hF : Reals m c) (t : Fin grid0.N) (y : S1x2112x384.Idx) (b : Fin 4) (i : Fin 4224) (hb : b.val = t.val / 2)
    (hi : i.val = 2112 * (t.val % 2) + (y 1).val) : (outsAt0 m c t).2.2.1 y = outKV m c b i (y 2) := by
  unfold outsAt0
  frame_out
  canon_tiles x h using View.cover_of_tiledBy _ ![1, 528, 64] (by sl_kernel_rfl) y
  case piece0 => exact piece_unit1 m b i x (y 2) (by omega)
  case piece1 => exact piece_val1 m hF t 1584 (by omega) b i hb inb_S1x2112x1024_S1x528x1024_0_1584_0 x (by omega) (y 2) (by omega)
  case piece2 => exact piece_unit0 m b i x (y 2) (by omega)
  case piece3 => exact piece_val0 m hF t 1584 (by omega) b i hb inb_S1x2112x1024_S1x528x1024_0_1584_0 x (by omega) (y 2) (by omega)
  case piece4 => exact piece_key m hF t 1584 (by omega) b i hb inb_S1x2112x1024_S1x528x1024_0_1584_0 x (by omega) (y 2) (by omega)
  case piece5 => exact piece_unit1 m b i x (y 2) (by omega)
  case piece6 => exact piece_val1 m hF t 1056 (by omega) b i hb inb_S1x2112x1024_S1x528x1024_0_1056_0 x (by omega) (y 2) (by omega)
  case piece7 => exact piece_unit0 m b i x (y 2) (by omega)
  case piece8 => exact piece_val0 m hF t 1056 (by omega) b i hb inb_S1x2112x1024_S1x528x1024_0_1056_0 x (by omega) (y 2) (by omega)
  case piece9 => exact piece_key m hF t 1056 (by omega) b i hb inb_S1x2112x1024_S1x528x1024_0_1056_0 x (by omega) (y 2) (by omega)
  case piece10 => exact piece_unit1 m b i x (y 2) (by omega)
  case piece11 => exact piece_val1 m hF t 528 (by omega) b i hb inb_S1x2112x1024_S1x528x1024_0_528_0 x (by omega) (y 2) (by omega)
  case piece12 => exact piece_unit0 m b i x (y 2) (by omega)
  case piece13 => exact piece_val0 m hF t 528 (by omega) b i hb inb_S1x2112x1024_S1x528x1024_0_528_0 x (by omega) (y 2) (by omega)
  case piece14 => exact piece_key m hF t 528 (by omega) b i hb inb_S1x2112x1024_S1x528x1024_0_528_0 x (by omega) (y 2) (by omega)
  case piece15 => exact piece_unit1 m b i x (y 2) (by omega)
  case piece16 => exact piece_val1 m hF t 0 (by omega) b i hb inb_S1x2112x1024_S1x528x1024_0_0_0 x (by omega) (y 2) (by omega)
  case piece17 => exact piece_unit0 m b i x (y 2) (by omega)
  case piece18 => exact piece_val0 m hF t 0 (by omega) b i hb inb_S1x2112x1024_S1x528x1024_0_0_0 x (by omega) (y 2) (by omega)
  case piece19 => exact piece_key m hF t 0 (by omega) b i hb inb_S1x2112x1024_S1x528x1024_0_0_0 x (by omega) (y 2) (by omega)

/-- The latent queries, over a block. -/
theorem out15 {c : Dev nD} (hF : Reals m c) (t : Fin grid0.N) (y : S1x4x2112x208.Idx) (b : Fin 4) (i : Fin 4224) (hb : b.val = t.val / 2)
    (hi : i.val = 2112 * (t.val % 2) + (y 2).val) : (outsAt0 m c t).2.2.2.1 y = outQM m c b (y 1) i (y 3) := by
  unfold outsAt0
  frame_out
  canon_tiles x h using View.cover_of_tiledBy _ ![1, 1, 528, 16] (by sl_kernel_rfl) y
  case piece0 => exact piece_rope3 m hF t 1584 (by omega) b i hb inb_S1x2112x1024_S1x528x1024_0_1584_0 inb_S2112x128_S528x128_1584_0 inb_S2112x128_S528x128_1584_0 x (by omega) (y 1) (by omega) (y 3) (by omega)
  case piece1 => exact piece_tab m t 1584 (by omega) b i inb_S2112x128_S528x48_1584_0 x (by omega) (y 1) (y 3) (by omega)
  case piece2 => exact piece_lat3 m hF t 1584 (by omega) b i hb inb_S1x2112x1024_S1x528x1024_0_1584_0 x (by omega) (y 1) (by omega) (y 3) (by omega)
  case piece3 => exact piece_rope2 m hF t 1584 (by omega) b i hb inb_S1x2112x1024_S1x528x1024_0_1584_0 inb_S2112x128_S528x128_1584_0 inb_S2112x128_S528x128_1584_0 x (by omega) (y 1) (by omega) (y 3) (by omega)
  case piece4 => exact piece_tab m t 1584 (by omega) b i inb_S2112x128_S528x48_1584_0 x (by omega) (y 1) (y 3) (by omega)
  case piece5 => exact piece_lat2 m hF t 1584 (by omega) b i hb inb_S1x2112x1024_S1x528x1024_0_1584_0 x (by omega) (y 1) (by omega) (y 3) (by omega)
  case piece6 => exact piece_rope1 m hF t 1584 (by omega) b i hb inb_S1x2112x1024_S1x528x1024_0_1584_0 inb_S2112x128_S528x128_1584_0 inb_S2112x128_S528x128_1584_0 x (by omega) (y 1) (by omega) (y 3) (by omega)
  case piece7 => exact piece_tab m t 1584 (by omega) b i inb_S2112x128_S528x48_1584_0 x (by omega) (y 1) (y 3) (by omega)
  case piece8 => exact piece_lat1 m hF t 1584 (by omega) b i hb inb_S1x2112x1024_S1x528x1024_0_1584_0 x (by omega) (y 1) (by omega) (y 3) (by omega)
  case piece9 => exact piece_rope0 m hF t 1584 (by omega) b i hb inb_S1x2112x1024_S1x528x1024_0_1584_0 inb_S2112x128_S528x128_1584_0 inb_S2112x128_S528x128_1584_0 x (by omega) (y 1) (by omega) (y 3) (by omega)
  case piece10 => exact piece_tab m t 1584 (by omega) b i inb_S2112x128_S528x48_1584_0 x (by omega) (y 1) (y 3) (by omega)
  case piece11 => exact piece_lat0 m hF t 1584 (by omega) b i hb inb_S1x2112x1024_S1x528x1024_0_1584_0 x (by omega) (y 1) (by omega) (y 3) (by omega)
  case piece12 => exact piece_rope3 m hF t 1056 (by omega) b i hb inb_S1x2112x1024_S1x528x1024_0_1056_0 inb_S2112x128_S528x128_1056_0 inb_S2112x128_S528x128_1056_0 x (by omega) (y 1) (by omega) (y 3) (by omega)
  case piece13 => exact piece_tab m t 1056 (by omega) b i inb_S2112x128_S528x48_1056_0 x (by omega) (y 1) (y 3) (by omega)
  case piece14 => exact piece_lat3 m hF t 1056 (by omega) b i hb inb_S1x2112x1024_S1x528x1024_0_1056_0 x (by omega) (y 1) (by omega) (y 3) (by omega)
  case piece15 => exact piece_rope2 m hF t 1056 (by omega) b i hb inb_S1x2112x1024_S1x528x1024_0_1056_0 inb_S2112x128_S528x128_1056_0 inb_S2112x128_S528x128_1056_0 x (by omega) (y 1) (by omega) (y 3) (by omega)
  case piece16 => exact piece_tab m t 1056 (by omega) b i inb_S2112x128_S528x48_1056_0 x (by omega) (y 1) (y 3) (by omega)
  case piece17 => exact piece_lat2 m hF t 1056 (by omega) b i hb inb_S1x2112x1024_S1x528x1024_0_1056_0 x (by omega) (y 1) (by omega) (y 3) (by omega)
  case piece18 => exact piece_rope1 m hF t 1056 (by omega) b i hb inb_S1x2112x1024_S1x528x1024_0_1056_0 inb_S2112x128_S528x128_1056_0 inb_S2112x128_S528x128_1056_0 x (by omega) (y 1) (by omega) (y 3) (by omega)
  case piece19 => exact piece_tab m t 1056 (by omega) b i inb_S2112x128_S528x48_1056_0 x (by omega) (y 1) (y 3) (by omega)
  case piece20 => exact piece_lat1 m hF t 1056 (by omega) b i hb inb_S1x2112x1024_S1x528x1024_0_1056_0 x (by omega) (y 1) (by omega) (y 3) (by omega)
  case piece21 => exact piece_rope0 m hF t 1056 (by omega) b i hb inb_S1x2112x1024_S1x528x1024_0_1056_0 inb_S2112x128_S528x128_1056_0 inb_S2112x128_S528x128_1056_0 x (by omega) (y 1) (by omega) (y 3) (by omega)
  case piece22 => exact piece_tab m t 1056 (by omega) b i inb_S2112x128_S528x48_1056_0 x (by omega) (y 1) (y 3) (by omega)
  case piece23 => exact piece_lat0 m hF t 1056 (by omega) b i hb inb_S1x2112x1024_S1x528x1024_0_1056_0 x (by omega) (y 1) (by omega) (y 3) (by omega)
  case piece24 => exact piece_rope3 m hF t 528 (by omega) b i hb inb_S1x2112x1024_S1x528x1024_0_528_0 inb_S2112x128_S528x128_528_0 inb_S2112x128_S528x128_528_0 x (by omega) (y 1) (by omega) (y 3) (by omega)
  case piece25 => exact piece_tab m t 528 (by omega) b i inb_S2112x128_S528x48_528_0 x (by omega) (y 1) (y 3) (by omega)
  case piece26 => exact piece_lat3 m hF t 528 (by omega) b i hb inb_S1x2112x1024_S1x528x1024_0_528_0 x (by omega) (y 1) (by omega) (y 3) (by omega)
  case piece27 => exact piece_rope2 m hF t 528 (by omega) b i hb inb_S1x2112x1024_S1x528x1024_0_528_0 inb_S2112x128_S528x128_528_0 inb_S2112x128_S528x128_528_0 x (by omega) (y 1) (by omega) (y 3) (by omega)
  case piece28 => exact piece_tab m t 528 (by omega) b i inb_S2112x128_S528x48_528_0 x (by omega) (y 1) (y 3) (by omega)
  case piece29 => exact piece_lat2 m hF t 528 (by omega) b i hb inb_S1x2112x1024_S1x528x1024_0_528_0 x (by omega) (y 1) (by omega) (y 3) (by omega)
  case piece30 => exact piece_rope1 m hF t 528 (by omega) b i hb inb_S1x2112x1024_S1x528x1024_0_528_0 inb_S2112x128_S528x128_528_0 inb_S2112x128_S528x128_528_0 x (by omega) (y 1) (by omega) (y 3) (by omega)
  case piece31 => exact piece_tab m t 528 (by omega) b i inb_S2112x128_S528x48_528_0 x (by omega) (y 1) (y 3) (by omega)
  case piece32 => exact piece_lat1 m hF t 528 (by omega) b i hb inb_S1x2112x1024_S1x528x1024_0_528_0 x (by omega) (y 1) (by omega) (y 3) (by omega)
  case piece33 => exact piece_rope0 m hF t 528 (by omega) b i hb inb_S1x2112x1024_S1x528x1024_0_528_0 inb_S2112x128_S528x128_528_0 inb_S2112x128_S528x128_528_0 x (by omega) (y 1) (by omega) (y 3) (by omega)
  case piece34 => exact piece_tab m t 528 (by omega) b i inb_S2112x128_S528x48_528_0 x (by omega) (y 1) (y 3) (by omega)
  case piece35 => exact piece_lat0 m hF t 528 (by omega) b i hb inb_S1x2112x1024_S1x528x1024_0_528_0 x (by omega) (y 1) (by omega) (y 3) (by omega)
  case piece36 => exact piece_rope3 m hF t 0 (by omega) b i hb inb_S1x2112x1024_S1x528x1024_0_0_0 inb_S2112x128_S528x128_0_0 inb_S2112x128_S528x128_0_0 x (by omega) (y 1) (by omega) (y 3) (by omega)
  case piece37 => exact piece_tab m t 0 (by omega) b i inb_S2112x128_S528x48_0_0 x (by omega) (y 1) (y 3) (by omega)
  case piece38 => exact piece_lat3 m hF t 0 (by omega) b i hb inb_S1x2112x1024_S1x528x1024_0_0_0 x (by omega) (y 1) (by omega) (y 3) (by omega)
  case piece39 => exact piece_rope2 m hF t 0 (by omega) b i hb inb_S1x2112x1024_S1x528x1024_0_0_0 inb_S2112x128_S528x128_0_0 inb_S2112x128_S528x128_0_0 x (by omega) (y 1) (by omega) (y 3) (by omega)
  case piece40 => exact piece_tab m t 0 (by omega) b i inb_S2112x128_S528x48_0_0 x (by omega) (y 1) (y 3) (by omega)
  case piece41 => exact piece_lat2 m hF t 0 (by omega) b i hb inb_S1x2112x1024_S1x528x1024_0_0_0 x (by omega) (y 1) (by omega) (y 3) (by omega)
  case piece42 => exact piece_rope1 m hF t 0 (by omega) b i hb inb_S1x2112x1024_S1x528x1024_0_0_0 inb_S2112x128_S528x128_0_0 inb_S2112x128_S528x128_0_0 x (by omega) (y 1) (by omega) (y 3) (by omega)
  case piece43 => exact piece_tab m t 0 (by omega) b i inb_S2112x128_S528x48_0_0 x (by omega) (y 1) (y 3) (by omega)
  case piece44 => exact piece_lat1 m hF t 0 (by omega) b i hb inb_S1x2112x1024_S1x528x1024_0_0_0 x (by omega) (y 1) (by omega) (y 3) (by omega)
  case piece45 => exact piece_rope0 m hF t 0 (by omega) b i hb inb_S1x2112x1024_S1x528x1024_0_0_0 inb_S2112x128_S528x128_0_0 inb_S2112x128_S528x128_0_0 x (by omega) (y 1) (by omega) (y 3) (by omega)
  case piece46 => exact piece_tab m t 0 (by omega) b i inb_S2112x128_S528x48_0_0 x (by omega) (y 1) (y 3) (by omega)
  case piece47 => exact piece_lat0 m hF t 0 (by omega) b i hb inb_S1x2112x1024_S1x528x1024_0_0_0 x (by omega) (y 1) (by omega) (y 3) (by omega)

/-- The latent keys, over a block. -/
theorem out16 {c : Dev nD} (hF : Reals m c) (t : Fin grid0.N) (y : S1x2112x208.Idx) (b : Fin 4) (i : Fin 4224) (hb : b.val = t.val / 2)
    (hi : i.val = 2112 * (t.val % 2) + (y 1).val) : (outsAt0 m c t).2.2.2.2 y = outKC m c b i (y 2) := by
  unfold outsAt0
  frame_out
  canon_tiles x h using View.cover_of_tiledBy _ ![1, 528, 16] (by sl_kernel_rfl) y
  case piece0 => exact piece_krope m hF t 1584 (by omega) b i hb inb_S1x2112x1024_S1x528x1024_0_1584_0 inb_S2112x128_S528x128_1584_0 inb_S2112x128_S528x128_1584_0 x (by omega) (y 2) (by omega)
  case piece1 => exact piece_ktab m t 1584 (by omega) b i inb_S2112x128_S528x48_1584_0 x (by omega) (y 2) (by omega)
  case piece2 => exact piece_klat m hF t 1584 (by omega) b i hb inb_S1x2112x1024_S1x528x1024_0_1584_0 x (by omega) (y 2) (by omega)
  case piece3 => exact piece_krope m hF t 1056 (by omega) b i hb inb_S1x2112x1024_S1x528x1024_0_1056_0 inb_S2112x128_S528x128_1056_0 inb_S2112x128_S528x128_1056_0 x (by omega) (y 2) (by omega)
  case piece4 => exact piece_ktab m t 1056 (by omega) b i inb_S2112x128_S528x48_1056_0 x (by omega) (y 2) (by omega)
  case piece5 => exact piece_klat m hF t 1056 (by omega) b i hb inb_S1x2112x1024_S1x528x1024_0_1056_0 x (by omega) (y 2) (by omega)
  case piece6 => exact piece_krope m hF t 528 (by omega) b i hb inb_S1x2112x1024_S1x528x1024_0_528_0 inb_S2112x128_S528x128_528_0 inb_S2112x128_S528x128_528_0 x (by omega) (y 2) (by omega)
  case piece7 => exact piece_ktab m t 528 (by omega) b i inb_S2112x128_S528x48_528_0 x (by omega) (y 2) (by omega)
  case piece8 => exact piece_klat m hF t 528 (by omega) b i hb inb_S1x2112x1024_S1x528x1024_0_528_0 x (by omega) (y 2) (by omega)
  case piece9 => exact piece_krope m hF t 0 (by omega) b i hb inb_S1x2112x1024_S1x528x1024_0_0_0 inb_S2112x128_S528x128_0_0 inb_S2112x128_S528x128_0_0 x (by omega) (y 2) (by omega)
  case piece10 => exact piece_ktab m t 0 (by omega) b i inb_S2112x128_S528x48_0_0 x (by omega) (y 2) (by omega)
  case piece11 => exact piece_klat m hF t 0 (by omega) b i hb inb_S1x2112x1024_S1x528x1024_0_0_0 x (by omega) (y 2) (by omega)

/-- Where an element of the block of the state-space lanes lies in their array. -/
theorem emb12 (t : Fin grid0.N) (s : Fin 2) (r : Fin 2112) (k : Fin 128) (b : Fin 4) (i : Fin 4224) (hb : b.val = t.val / 2)
    (hi : i.val = 2112 * (t.val % 2) + r.val) : (win0_12.blk t).view.emb (ix4 0 s r k) = ix4 b s i k := by
  funext a
  apply Fin.ext
  refine (win0_12.rect_emb_val t (ix4 0 s r k) a).trans ?_
  have h := (idx t).2.2.2.2.2.2.2.2.2.2.2.1
  match a with
  | ⟨0, _⟩ => exact (congrArg (· * 1 + 0) h.1).trans (by simpa using hb.symm)
  | ⟨1, _⟩ => exact (congrArg (· * 2 + s.val) h.2.1).trans (by simp [ix4])
  | ⟨2, _⟩ => exact (congrArg (· * 2112 + r.val) h.2.2.1).trans (by simp [ix4]; omega)
  | ⟨3, _⟩ => exact (congrArg (· * 128 + k.val) h.2.2.2).trans (by simp [ix4])

/-- The array of the state-space lanes after the run. -/
theorem final12 {c : Dev nD} (hF : Reals m c) :
    (dats m 0 c).arrAt 12 cfg0.N = fun y : S4x2x4224x128.Idx => outU m c (y 0) (y 1) (y 2) (y 3) := by
  refine (dats m 0 c).arrAt_eq_of_covers 12 _ (by decide +kernel) fun t hf y => ?_
  blk_simp
  rw [after0_12]
  obtain ⟨s, r, k, rfl⟩ : ∃ (s : Fin 2) (r : Fin 2112) (k : Fin 128), (y : S1x2x2112x128.Idx) = ix4 0 s r k :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb12 t s r k _ _ hb hi]
  exact out12 m hF t (ix4 0 s r k) _ _ hb hi

/-- Where an element of the block of the windowed-attention queries lies in their array. -/
theorem emb13 (t : Fin grid0.N) (r : Fin 2112) (k : Fin 512) (b : Fin 4) (i : Fin 4224) (hb : b.val = t.val / 2)
    (hi : i.val = 2112 * (t.val % 2) + r.val) : (win0_13.blk t).view.emb (ix3 0 r k) = ix3 b i k := by
  funext a
  apply Fin.ext
  refine (win0_13.rect_emb_val t (ix3 0 r k) a).trans ?_
  have h := (idx t).2.2.2.2.2.2.2.2.2.2.2.2.1
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 512 + k.val) h.2.2).trans (by simp [ix3])

/-- The array of the windowed-attention queries after the run. -/
theorem final13 {c : Dev nD} (hF : Reals m c) :
    (dats m 0 c).arrAt 13 cfg0.N = fun y : S4x4224x512.Idx => outQ m c (y 0) (y 1) (y 2) := by
  refine (dats m 0 c).arrAt_eq_of_covers 13 _ (by decide +kernel) fun t hf y => ?_
  blk_simp
  rw [after0_13]
  obtain ⟨r, k, rfl⟩ : ∃ (r : Fin 2112) (k : Fin 512), (y : S1x2112x512.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb13 t r k _ _ hb hi]
  exact out13 m hF t (ix3 0 r k) _ _ hb hi

/-- Where an element of the block of the windowed-attention keys and values lies in their array. -/
theorem emb14 (t : Fin grid0.N) (r : Fin 2112) (k : Fin 384) (b : Fin 4) (i : Fin 4224) (hb : b.val = t.val / 2)
    (hi : i.val = 2112 * (t.val % 2) + r.val) : (win0_14.blk t).view.emb (ix3 0 r k) = ix3 b i k := by
  funext a
  apply Fin.ext
  refine (win0_14.rect_emb_val t (ix3 0 r k) a).trans ?_
  have h := (idx t).2.2.2.2.2.2.2.2.2.2.2.2.2.1
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 384 + k.val) h.2.2).trans (by simp [ix3])

/-- The array of the windowed-attention keys and values after the run. -/
theorem final14 {c : Dev nD} (hF : Reals m c) :
    (dats m 0 c).arrAt 14 cfg0.N = fun y : S4x4224x384.Idx => outKV m c (y 0) (y 1) (y 2) := by
  refine (dats m 0 c).arrAt_eq_of_covers 14 _ (by decide +kernel) fun t hf y => ?_
  blk_simp
  rw [after0_14]
  obtain ⟨r, k, rfl⟩ : ∃ (r : Fin 2112) (k : Fin 384), (y : S1x2112x384.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb14 t r k _ _ hb hi]
  exact out14 m hF t (ix3 0 r k) _ _ hb hi

/-- Where an element of the block of the latent queries lies in their array. -/
theorem emb15 (t : Fin grid0.N) (s : Fin 4) (r : Fin 2112) (k : Fin 208) (b : Fin 4) (i : Fin 4224) (hb : b.val = t.val / 2)
    (hi : i.val = 2112 * (t.val % 2) + r.val) : (win0_15.blk t).view.emb (ix4 0 s r k) = ix4 b s i k := by
  funext a
  apply Fin.ext
  refine (win0_15.rect_emb_val t (ix4 0 s r k) a).trans ?_
  have h := (idx t).2.2.2.2.2.2.2.2.2.2.2.2.2.2.1
  match a with
  | ⟨0, _⟩ => exact (congrArg (· * 1 + 0) h.1).trans (by simpa using hb.symm)
  | ⟨1, _⟩ => exact (congrArg (· * 4 + s.val) h.2.1).trans (by simp [ix4])
  | ⟨2, _⟩ => exact (congrArg (· * 2112 + r.val) h.2.2.1).trans (by simp [ix4]; omega)
  | ⟨3, _⟩ => exact (congrArg (· * 208 + k.val) h.2.2.2).trans (by simp [ix4])

/-- The array of the latent queries after the run. -/
theorem final15 {c : Dev nD} (hF : Reals m c) :
    (dats m 0 c).arrAt 15 cfg0.N = fun y : S4x4x4224x208.Idx => outQM m c (y 0) (y 1) (y 2) (y 3) := by
  refine (dats m 0 c).arrAt_eq_of_covers 15 _ (by decide +kernel) fun t hf y => ?_
  blk_simp
  rw [after0_15]
  obtain ⟨s, r, k, rfl⟩ : ∃ (s : Fin 4) (r : Fin 2112) (k : Fin 208), (y : S1x4x2112x208.Idx) = ix4 0 s r k :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb15 t s r k _ _ hb hi]
  exact out15 m hF t (ix4 0 s r k) _ _ hb hi

/-- Where an element of the block of the latent keys lies in their array. -/
theorem emb16 (t : Fin grid0.N) (r : Fin 2112) (k : Fin 208) (b : Fin 4) (i : Fin 4224) (hb : b.val = t.val / 2)
    (hi : i.val = 2112 * (t.val % 2) + r.val) : (win0_16.blk t).view.emb (ix3 0 r k) = ix3 b i k := by
  funext a
  apply Fin.ext
  refine (win0_16.rect_emb_val t (ix3 0 r k) a).trans ?_
  have h := (idx t).2.2.2.2.2.2.2.2.2.2.2.2.2.2.2
  match a with
  | ⟨0, _⟩ => exact (congrArg (· * 1 + 0) h.1).trans (by simpa using hb.symm)
  | ⟨1, _⟩ => exact (congrArg (· * 2112 + r.val) h.2.1).trans (by simp [ix3]; omega)
  | ⟨2, _⟩ => exact (congrArg (· * 208 + k.val) h.2.2).trans (by simp [ix3])

/-- The array of the latent keys after the run. -/
theorem final16 {c : Dev nD} (hF : Reals m c) :
    (dats m 0 c).arrAt 16 cfg0.N = fun y : S4x4224x208.Idx => outKC m c (y 0) (y 1) (y 2) := by
  refine (dats m 0 c).arrAt_eq_of_covers 16 _ (by decide +kernel) fun t hf y => ?_
  blk_simp
  rw [after0_16]
  obtain ⟨r, k, rfl⟩ : ∃ (r : Fin 2112) (k : Fin 208), (y : S1x2112x208.Idx) = ix3 0 r k := ix3_form y
  have ht := t.isLt
  have hN : cfg0.grid.N = 8 := rfl
  have hb : (⟨t.val / 2, by omega⟩ : Fin 4).val = t.val / 2 := rfl
  have hi : (⟨2112 * (t.val % 2) + r.val, by omega⟩ : Fin 4224).val = 2112 * (t.val % 2) + r.val := rfl
  rw [emb16 t r k _ _ hb hi]
  exact out16 m hF t (ix3 0 r k) _ _ hb hi

end Cert.Kernel4Ideal.Rows
-- ==== Proof.Mix4Real.lean ====
/- The second layer's opening kernel: what its precondition says of the argument arrays, entry by entry. -/
module

public import proofs.«01_k».proof.Defs
public import proofs.«01_k».proof.Proof.Gen.Pre_finite4
public import proofs.«01_k».proof.Proof.Mix4Rows
public import Idealize.ShloMosaic.Lib.ReduceAll

@[expose] public section

set_option maxRecDepth 16384

noncomputable section

namespace Cert.Kernel4Ideal.Rows

open Cert.MixRow Idealize.ShloMosaic Idealize.ShloMosaic.TcCoe Idealize.SL.Sem

/-- A conjunction of two bits is one exactly when both are. -/
theorem both_of_and {a b : BitVec 1} (h : IntOp.andi a b = 1#1) : a = 1#1 ∧ b = 1#1 := by
  revert h
  revert a b
  decide

/-- A whole array whose test reduces to one has only reals. -/
theorem real_of_all {s : Shape} {axes : List (Fin s.rank)} (x : FVec Ideal s .f32) (hb : Cert.Pre_finite4.S_.BroadcastsInDim s (![] : Fin 0 → Fin s.rank))
    (hr : s.ReducesTo axes Cert.Pre_finite4.S_) (hu : 0 < Cert.Pre_finite4.S_.numel) (j : Cert.Pre_finite4.S_.Idx)
    (e : Host.reduce IntOp.andi (cmpf .olt (Host.absf x) (broadcastInDim s ![] hb (constant Cert.Pre_finite4.S_ .f32 0x7F800000#32)))
      (constantI Cert.Pre_finite4.S_ 1 1#1) hr hu j = 1#1) (i : s.Idx) : IsReal (x i) := by
  have : Subsingleton Cert.Pre_finite4.S_.Idx := ⟨fun a b => by funext k; exact k.elim0⟩
  have h := Host.reduce_andi_all _ _ hr hu j e i
  exact isReal_of_lt (x i) h

/-- The precondition says the contracted arrays are real. -/
theorem reals (m : (ℓ : Loc Cert.Kernel4Ideal.nD Cert.Kernel4Ideal.τ Cert.Kernel4Ideal.sig) → Buf (Elt Ideal) ℓ)
    (h : Cert.Pre_Kernel4Ideal_finite4 (hPre_finite4 := Cert.Pre_finite4.Gen.facts) m) (c : Dev Cert.Kernel4Ideal.nD) : Reals m c := by
  have e := congrFun (h c) (fun k => k.elim0)
  have : Cert.Pre_finite4.Facts := Cert.Pre_finite4.Gen.facts
  dsimp only [Cert.Pre_finite4.fn, Cert.Pre_finite4.fn_part1, andi] at e
  obtain ⟨e, h4⟩ := both_of_and e
  obtain ⟨e, h3⟩ := both_of_and e
  obtain ⟨e, h2⟩ := both_of_and e
  obtain ⟨e, h1⟩ := both_of_and e
  exact ⟨fun b i k => real_of_all _ _ _ _ _ e (ix3 b i k),
    fun l k => real_of_all _ _ _ _ _ h1 (ix2 l k),
    fun l j k => real_of_all _ _ _ _ _ h2 (ix3 l j k),
    fun l j => real_of_all _ _ _ _ _ h3 (ix2 l j),
    fun l j k => real_of_all _ _ _ _ _ h4 (ix3 l j k)⟩

end Cert.Kernel4Ideal.Rows
-- ==== Proof.Ref4Rows.lean ====
/- The second layer's opening reference, its results at an index as the row functions of the argument rows: its operations are
   read one norm, one product or one joint at a time. -/
module

public import proofs.«01_k».proof.Proof.Gen.Reference4Ideal.Read
public import proofs.«01_k».proof.Proof.MixRow
public import Idealize.ShloMosaic.Lib.Pointwise

@[expose] public section

set_option maxRecDepth 16384

noncomputable section

namespace Cert.Reference4Ideal.Rows

open Cert.Reference4Ideal Cert.Reference4Ideal.Gen Cert.Reference4Ideal.Read Cert.RowModel Cert.MixRow Idealize.ShloMosaic

variable (x0 : (⟨S4x4224x1024, .f32⟩ : BufTy).Contents (Elt Ideal))
variable (x1 : (⟨S16x1024, .f32⟩ : BufTy).Contents (Elt Ideal))
variable (x2 : (⟨S2x1024, .f32⟩ : BufTy).Contents (Elt Ideal))
variable (x3 : (⟨S2x1024x1376, .f32⟩ : BufTy).Contents (Elt Ideal))
variable (x4 : (⟨S2x192, .f32⟩ : BufTy).Contents (Elt Ideal))
variable (x5 : (⟨S2x128, .f32⟩ : BufTy).Contents (Elt Ideal))
variable (x6 : (⟨S2x192x384, .f32⟩ : BufTy).Contents (Elt Ideal))
variable (x7 : (⟨S2x128x256, .f32⟩ : BufTy).Contents (Elt Ideal))
variable (x8 : (⟨S4224x16, .f32⟩ : BufTy).Contents (Elt Ideal))
variable (x9 : (⟨S4224x16, .f32⟩ : BufTy).Contents (Elt Ideal))
variable (x10 : (⟨S4224x128, .bf16⟩ : BufTy).Contents (Elt Ideal))
variable (x11 : (⟨S4224x128, .bf16⟩ : BufTy).Contents (Elt Ideal))

/-- The row's norm. -/
theorem norm_apply (b : Fin 4) (i : Fin 4224) (k : Fin 1024) :
    val_main_v27 (F := Ideal) x0 x2 (ix3 b i k) = rms inv1024 (fun j => x0 (ix3 b i j)) (fun j => x2 (ix2 1 j)) k := by
  pointwise [val_main_v27, val_main_v26, val_main_v25, val_main_v24, val_main_v23, val_main_v22, val_main_v21, val_main_v20, val_main_v19, val_main_v18, val_main_v17, val_main_v16, val_main_v15, val_main_v1, val_main_v0, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, rms, eps, div_1024]

/-- The first projection. -/
theorem proj_apply (b : Fin 4) (i : Fin 4224) (k : Fin 1376) :
    val_main_v28 (F := Ideal) x0 x2 x3 (ix3 b i k)
      = lin (fun j => val_main_v27 (F := Ideal) x0 x2 (ix3 b i j)) (fun j q => x3 (ix3 1 j q)) k := by
  pointwise [val_main_v28, val_main_v3, val_main_v2, lin]

/-- The state-space lanes. -/
theorem ssm_apply (b : Fin 4) (s : Fin 2) (i : Fin 4224) (k : Fin 128) :
    val_main_v39 (F := Ideal) x0 x2 x3 (ix4 b s i k) = ssm (fun q => val_main_v28 (F := Ideal) x0 x2 x3 (ix3 b i q)) i.val s k := by
  pointwise [val_main_v39, val_main_v38, val_main_v37, val_main_v36, val_main_v29, val_main_v14, val_main_v13, val_main_v12, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, ssm]
  rw [select_row _ i.isLt]
  simp [FloatOps.sitofp]

/-- The windowed-attention queries. -/
theorem query_apply (b : Fin 4) (i : Fin 4224) (k : Fin 512) :
    val_main_v129 (F := Ideal) x0 x2 x3 (ix3 b i k) = query (fun q => val_main_v28 (F := Ideal) x0 x2 x3 (ix3 b i q)) k := by
  pointwise [val_main_v129, val_main_v41, val_main_v40, val_main_v30, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, query, swaScale]

/-- The unit column. -/
theorem unit_apply (b : Fin 4) (i : Fin 4224) (k : Fin 64) : val_main_v47 (F := Ideal) (ix3 b i k) = unit k.val := by
  pointwise [val_main_v47]
  show val_main_v45 (F := Ideal) (ix1 k) = _
  pointwise [val_main_v45, val_main_v44, val_main_v43, val_main_v42, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14]
  exact select_zero _ k.isLt

/-- The windowed-attention keys and values. -/
theorem keyval_apply (b : Fin 4) (i : Fin 4224) (k : Fin 384) :
    val_main_v130 (F := Ideal) x0 x2 x3 (ix3 b i k) = keyval (fun q => val_main_v28 (F := Ideal) x0 x2 x3 (ix3 b i q)) k := by
  pointwise [val_main_v130, val_main_v50, val_main_v49, val_main_v48, val_main_v32, val_main_v31, unit_apply, keyval]
  split_ifs <;> first | rfl | (congr 3; omega)

/-- The query latents' norm. -/
theorem norm_q_apply (b : Fin 4) (i : Fin 4224) (k : Fin 192) :
    val_main_v63 (F := Ideal) x0 x2 x3 x4 (ix3 b i k)
      = rms inv192 (fun j : Fin 192 => val_main_v28 (F := Ideal) x0 x2 x3 (ix3 b i ⟨1024 + j.val, by omega⟩)) (fun j => x4 (ix2 1 j)) k := by
  pointwise [val_main_v63, val_main_v62, val_main_v61, val_main_v60, val_main_v59, val_main_v58, val_main_v57, val_main_v56, val_main_v55, val_main_v54, val_main_v53, val_main_v52, val_main_v51, val_main_v33, val_main_v5, val_main_v4, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, rms, eps, div_192]

/-- The query latents times the second matrix. -/
theorem latents_apply (b : Fin 4) (i : Fin 4224) (k : Fin 384) :
    val_main_v64 (F := Ideal) x0 x2 x3 x4 x6 (ix3 b i k)
      = latents (fun q => val_main_v28 (F := Ideal) x0 x2 x3 (ix3 b i q)) (fun j => x4 (ix2 1 j)) (fun j q => x6 (ix3 1 j q)) k := by
  pointwise [val_main_v64, val_main_v9, val_main_v8, norm_q_apply, latents, lin]

/-- A head's rotary lanes before they are turned. -/
theorem pre_rope_q_apply (b : Fin 4) (i : Fin 4224) (h : Fin 4) (r : Fin 32) :
    val_main_v67 (F := Ideal) x0 x2 x3 x4 x6 (ix4 b i h r)
      = val_main_v64 (F := Ideal) x0 x2 x3 x4 x6 (ix3 b i ⟨h.val * 96 + (64 + r.val), by omega⟩) := by
  pointwise [val_main_v67, val_main_v65]

/-- The first 16 lanes. -/
theorem low_q_apply (b : Fin 4) (i : Fin 4224) (h : Fin 4) (r : Fin 16) :
    val_main_v70 (F := Ideal) x0 x2 x3 x4 x6 (ix4 b i h r) = val_main_v67 (F := Ideal) x0 x2 x3 x4 x6 (ix4 b i h ⟨r.val, by omega⟩) := by
  pointwise [val_main_v70]

/-- The last 16 lanes. -/
theorem high_q_apply (b : Fin 4) (i : Fin 4224) (h : Fin 4) (r : Fin 16) :
    val_main_v71 (F := Ideal) x0 x2 x3 x4 x6 (ix4 b i h r) = val_main_v67 (F := Ideal) x0 x2 x3 x4 x6 (ix4 b i h ⟨16 + r.val, by omega⟩) := by
  pointwise [val_main_v71]

/-- The angles' cosines over the heads. -/
theorem cos_q_apply (b : Fin 4) (i : Fin 4224) (h : Fin 4) (r : Fin 16) : val_main_v72 (F := Ideal) x8 (ix4 b i h r) = x8 (ix2 i r) := by
  pointwise [val_main_v72, val_main_v68]

/-- Likewise the sines. -/
theorem sin_q_apply (b : Fin 4) (i : Fin 4224) (h : Fin 4) (r : Fin 16) : val_main_v74 (F := Ideal) x9 (ix4 b i h r) = x9 (ix2 i r) := by
  pointwise [val_main_v74, val_main_v69]

/-- The first half of a head's turned lanes. -/
theorem rope_q_low (b : Fin 4) (i : Fin 4224) (h : Fin 4) (r : Fin 16) :
    val_main_v76 (F := Ideal) x0 x2 x3 x4 x6 x8 x9 (ix4 b i h r)
      = val_main_v67 (F := Ideal) x0 x2 x3 x4 x6 (ix4 b i h ⟨r.val, by omega⟩) * x8 (ix2 i r)
        - val_main_v67 (F := Ideal) x0 x2 x3 x4 x6 (ix4 b i h ⟨16 + r.val, by omega⟩) * x9 (ix2 i r) := by
  rw [val_main_v76_apply, val_main_v73_apply, val_main_v75_apply, low_q_apply, high_q_apply, cos_q_apply, sin_q_apply]
  generalize val_main_v67 (F := Ideal) x0 x2 x3 x4 x6 = y
  rfl

/-- The second half of a head's turned lanes. -/
theorem rope_q_high (b : Fin 4) (i : Fin 4224) (h : Fin 4) (r : Fin 16) :
    val_main_v81 (F := Ideal) x0 x2 x3 x4 x6 x8 x9 (ix4 b i h r)
      = val_main_v67 (F := Ideal) x0 x2 x3 x4 x6 (ix4 b i h ⟨r.val, by omega⟩) * x9 (ix2 i r)
        + val_main_v67 (F := Ideal) x0 x2 x3 x4 x6 (ix4 b i h ⟨16 + r.val, by omega⟩) * x8 (ix2 i r) := by
  rw [val_main_v81_apply, val_main_v78_apply, val_main_v80_apply, low_q_apply, high_q_apply,
    show val_main_v77 (F := Ideal) x9 = val_main_v74 (F := Ideal) x9 from rfl, show val_main_v79 (F := Ideal) x8 = val_main_v72 (F := Ideal) x8 from rfl,
    cos_q_apply, sin_q_apply]
  generalize val_main_v67 (F := Ideal) x0 x2 x3 x4 x6 = y
  rfl

/-- The rotary lanes of a head's queries. -/
theorem rope_q_apply (b : Fin 4) (i : Fin 4224) (h : Fin 4) (r : Fin 32) :
    val_main_v82 (F := Ideal) x0 x2 x3 x4 x6 x8 x9 (ix4 b i h r)
      = rope (fun r : Fin 32 => val_main_v64 (F := Ideal) x0 x2 x3 x4 x6 (ix3 b i ⟨h.val * 96 + (64 + r.val), by omega⟩)) (fun a => x8 (ix2 i a)) (fun a => x9 (ix2 i a)) r := by
  pointwise [val_main_v82, rope_q_low, rope_q_high, pre_rope_q_apply, rope]

/-- The absorbed lanes of a head's queries. -/
theorem absorbed_apply (b : Fin 4) (h : Fin 4) (i : Fin 4224) (k : Fin 128) :
    val_main_v85 (F := Ideal) x0 x2 x3 x4 x6 x7 (ix4 b h i k)
      = ∑ d : Fin 64, val_main_v64 (F := Ideal) x0 x2 x3 x4 x6 (ix3 b i ⟨h.val * 96 + d.val, by omega⟩)
          * x7 (ix3 1 k ⟨h.val * 64 + d.val, by omega⟩) := by
  pointwise [val_main_v85, val_main_v84, val_main_v83, val_main_v66, val_main_v65, val_main_v11, val_main_v10]
  exact Finset.sum_congr rfl fun d _ => mul_comm _ _

/-- The latent queries. -/
theorem headQuery_apply (b : Fin 4) (h : Fin 4) (i : Fin 4224) (k : Fin 208) :
    val_main_v131 (F := Ideal) x0 x2 x3 x4 x6 x7 x8 x9 x10 (ix4 b h i k)
      = headQuery (fun q => val_main_v64 (F := Ideal) x0 x2 x3 x4 x6 (ix3 b i q)) (fun a j => x7 (ix3 1 a j)) (fun a => x8 (ix2 i a)) (fun a => x9 (ix2 i a)) (fun a : Fin 48 => x10 (ix2 i ⟨a.val, by omega⟩)) h k := by
  pointwise [val_main_v131, val_main_v94, val_main_v93, val_main_v92, val_main_v91, val_main_v90, val_main_v89, val_main_v88, val_main_v87, val_main_v86, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, rope_q_apply, absorbed_apply, headQuery, mlaScale]

/-- The rotary lanes of the keys. -/
theorem rope_k_apply (b : Fin 4) (i : Fin 4224) (r : Fin 32) :
    val_main_v111 (F := Ideal) x0 x2 x3 x8 x9 (ix3 b i r)
      = rope (fun r : Fin 32 => val_main_v28 (F := Ideal) x0 x2 x3 (ix3 b i ⟨1344 + r.val, by omega⟩)) (fun a => x8 (ix2 i a)) (fun a => x9 (ix2 i a)) r := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v35, rope]

/-- The key latents' norm. -/
theorem norm_k_apply (b : Fin 4) (i : Fin 4224) (k : Fin 128) :
    val_main_v124 (F := Ideal) x0 x2 x3 x5 (ix3 b i k)
      = rms inv128 (fun j : Fin 128 => val_main_v28 (F := Ideal) x0 x2 x3 (ix3 b i ⟨1216 + j.val, by omega⟩)) (fun j => x5 (ix2 1 j)) k := by
  pointwise [val_main_v124, val_main_v123, val_main_v122, val_main_v121, val_main_v120, val_main_v119, val_main_v118, val_main_v117, val_main_v116, val_main_v115, val_main_v114, val_main_v113, val_main_v112, val_main_v34, val_main_v7, val_main_v6, val_main_c, val_main_cst, val_main_cst_0, val_main_cst_1, val_main_c_2, val_main_call0_v0, val_main_call0_v1, val_main_call0_v2, val_main_cst_3, val_main_c_4, val_main_cst_5, val_main_cst_6, val_main_call1_v0, val_main_call1_v1, val_main_cst_7, val_main_cst_8, val_main_cst_9, val_main_cst_10, val_main_cst_11, val_main_cst_12, val_main_cst_13, val_main_cst_14, rms, eps, div_128]

/-- The latent keys. -/
theorem latentKey_apply (b : Fin 4) (i : Fin 4224) (k : Fin 208) :
    val_main_v132 (F := Ideal) x0 x2 x3 x5 x8 x9 x11 (ix3 b i k)
      = latentKey (fun q => val_main_v28 (F := Ideal) x0 x2 x3 (ix3 b i q)) (fun j => x5 (ix2 1 j)) (fun a => x8 (ix2 i a)) (fun a => x9 (ix2 i a)) (fun a : Fin 48 => x11 (ix2 i ⟨a.val, by omega⟩)) k := by
  pointwise [val_main_v132, val_main_v128, val_main_v127, val_main_v126, val_main_v125, norm_k_apply, rope_k_apply, latentKey]

end Cert.Reference4Ideal.Rows
-- ==== Proof.Mix4Join.lean ====
/- The second layer's opening kernel and its reference end with the same arrays: each result of the reference is the row
   function the kernel's array was shown to be, of arguments that agree. -/
module

public import proofs.«01_k».proof.Proof.Mix4Real
public import proofs.«01_k».proof.Proof.Ref4Rows
public import proofs.«01_k».proof.Proof.Gen.Kernel4Ideal.Value
public import Idealize.ShloMosaic.Lib.Claim
public import Idealize.ShloMosaic.Adequacy
public import Idealize.ShloMosaic.Init

@[expose] public section

set_option maxRecDepth 16384

noncomputable section

namespace Cert.Mix4

open Cert.Kernel4Ideal.Rows Cert.RowModel Cert.MixRow Idealize.ShloMosaic Idealize.SL.Sem

variable (m : (ℓ : Loc Cert.Kernel4Ideal.nD Cert.Kernel4Ideal.τ Cert.Kernel4Ideal.sig) → Buf (Elt Ideal) ℓ)
variable (m' : (ℓ : Loc Cert.Reference4Ideal.nD Cert.Reference4Ideal.τ Cert.Reference4Ideal.sig) → Buf (Elt Ideal) ℓ)

/-- The two memories hold the same arguments on device `c`. -/
abbrev Agree (c : Dev Cert.Kernel4Ideal.nD) : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
    ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
    ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
    ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
    ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
    ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
    ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
    ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
    ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
    ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
    ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
    ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)

/-- The reference's projections are the kernel's. -/
theorem proj_ref {c : Dev Cert.Kernel4Ideal.nD} (h : Agree m m' c) (b : Fin 4) (i : Fin 4224) :
    (fun q => Cert.Reference4Ideal.Read.val_main_v28 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (ix3 b i q)) = proj m c b i := by
  funext q
  refine (Cert.Reference4Ideal.Rows.proj_apply _ _ _ b i q).trans ?_
  obtain ⟨h0, h1, h2, h3, h4, h5, h6, h7, h8, h9, h10, h11⟩ := h
  simp only [Cert.Reference4Ideal.Rows.norm_apply]
  unfold proj
  rw [← h0, ← h2, ← h3]

/-- Its query latents times the second matrix too. -/
theorem lats_ref {c : Dev Cert.Kernel4Ideal.nD} (h : Agree m m' c) (b : Fin 4) (i : Fin 4224) :
    (fun q => Cert.Reference4Ideal.Read.val_main_v64 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (ix3 b i q)) = lats m c b i := by
  funext q
  refine (Cert.Reference4Ideal.Rows.latents_apply _ _ _ _ _ b i q).trans ?_
  rw [proj_ref m m' h b i]
  obtain ⟨h0, h1, h2, h3, h4, h5, h6, h7, h8, h9, h10, h11⟩ := h
  unfold lats
  rw [← h4, ← h6]

/-- The reference's array of the state-space lanes. -/
theorem outU_ref {c : Dev Cert.Kernel4Ideal.nD} (h : Agree m m' c) :
    Cert.Reference4Ideal.Read.val_main_v39 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      = fun y : Cert.Kernel4Ideal.S4x2x4224x128.Idx => outU m c (y 0) (y 1) (y 2) (y 3) := by
  funext y
  obtain ⟨b, s, i, k, rfl⟩ : ∃ (b : Fin 4) (s : Fin 2) (i : Fin 4224) (k : Fin 128), (y : Cert.Reference4Ideal.S4x2x4224x128.Idx) = ix4 b s i k :=
    ⟨y 0, y 1, y 2, y 3, by funext a; match a with | ⟨0, _⟩ => rfl | ⟨1, _⟩ => rfl | ⟨2, _⟩ => rfl | ⟨3, _⟩ => rfl⟩
  refine (Cert.Reference4Ideal.Rows.ssm_apply _ _ _ b s i k).trans ?_
  rw [proj_ref m m' h b i]
  show _ = outU m c b s i k
  rfl

/-- The reference's array of the windowed-attention queries. -/
theorem outQ_ref {c : Dev Cert.Kernel4Ideal.nD} (h : Agree m m' c) :
    Cert.Reference4Ideal.Read.val_main_v129 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      = fun y : Cert.Kernel4Ideal.S4x4224x512.Idx => outQ m c (y 0) (y 1) (y 2) := by
  funext y
  obtain ⟨b, i, k, rfl⟩ : ∃ (b : Fin 4) (i : Fin 4224) (k : Fin 512), (y : Cert.Reference4Ideal.S4x4224x512.Idx) = ix3 b i k :=
    ⟨y 0, y 1, y 2, by funext a; match a with | ⟨0, _⟩ => rfl | ⟨1, _⟩ => rfl | ⟨2, _⟩ => rfl⟩
  refine (Cert.Reference4Ideal.Rows.query_apply _ _ _ b i k).trans ?_
  rw [proj_ref m m' h b i]
  show _ = outQ m c b i k
  rfl

/-- The reference's array of the windowed-attention keys and values. -/
theorem outKV_ref {c : Dev Cert.Kernel4Ideal.nD} (h : Agree m m' c) :
    Cert.Reference4Ideal.Read.val_main_v130 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      = fun y : Cert.Kernel4Ideal.S4x4224x384.Idx => outKV m c (y 0) (y 1) (y 2) := by
  funext y
  obtain ⟨b, i, k, rfl⟩ : ∃ (b : Fin 4) (i : Fin 4224) (k : Fin 384), (y : Cert.Reference4Ideal.S4x4224x384.Idx) = ix3 b i k :=
    ⟨y 0, y 1, y 2, by funext a; match a with | ⟨0, _⟩ => rfl | ⟨1, _⟩ => rfl | ⟨2, _⟩ => rfl⟩
  refine (Cert.Reference4Ideal.Rows.keyval_apply _ _ _ b i k).trans ?_
  rw [proj_ref m m' h b i]
  show _ = outKV m c b i k
  rfl

/-- The reference's array of the latent queries. -/
theorem outQM_ref {c : Dev Cert.Kernel4Ideal.nD} (h : Agree m m' c) :
    Cert.Reference4Ideal.Read.val_main_v131 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10))
      = fun y : Cert.Kernel4Ideal.S4x4x4224x208.Idx => outQM m c (y 0) (y 1) (y 2) (y 3) := by
  funext y
  obtain ⟨b, h', i, k, rfl⟩ : ∃ (b : Fin 4) (h' : Fin 4) (i : Fin 4224) (k : Fin 208), (y : Cert.Reference4Ideal.S4x4x4224x208.Idx) = ix4 b h' i k :=
    ⟨y 0, y 1, y 2, y 3, by funext a; match a with | ⟨0, _⟩ => rfl | ⟨1, _⟩ => rfl | ⟨2, _⟩ => rfl | ⟨3, _⟩ => rfl⟩
  refine (Cert.Reference4Ideal.Rows.headQuery_apply _ _ _ _ _ _ _ _ _ b h' i k).trans ?_
  rw [lats_ref m m' h b i]
  show _ = outQM m c b h' i k
  obtain ⟨h0, h1, h2, h3, h4, h5, h6, h7, h8, h9, h10, h11⟩ := h
  unfold outQM
  rw [← h7, ← h8, ← h9, ← h10]

/-- The reference's array of the latent keys. -/
theorem outKC_ref {c : Dev Cert.Kernel4Ideal.nD} (h : Agree m m' c) :
    Cert.Reference4Ideal.Read.val_main_v132 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg11))
      = fun y : Cert.Kernel4Ideal.S4x4224x208.Idx => outKC m c (y 0) (y 1) (y 2) := by
  funext y
  obtain ⟨b, i, k, rfl⟩ : ∃ (b : Fin 4) (i : Fin 4224) (k : Fin 208), (y : Cert.Reference4Ideal.S4x4224x208.Idx) = ix3 b i k :=
    ⟨y 0, y 1, y 2, by funext a; match a with | ⟨0, _⟩ => rfl | ⟨1, _⟩ => rfl | ⟨2, _⟩ => rfl⟩
  refine (Cert.Reference4Ideal.Rows.latentKey_apply _ _ _ _ _ _ _ b i k).trans ?_
  rw [proj_ref m m' h b i]
  show _ = outKC m c b i k
  obtain ⟨h0, h1, h2, h3, h4, h5, h6, h7, h8, h9, h10, h11⟩ := h
  unfold outKC
  rw [← h5, ← h8, ← h9, ← h11]

/-- At the ideal instance the kernel and the reference end with the same five arrays. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m ρ m' ρ' hpre hagree
  have hF : ∀ c, Reals m c := reals m hpre
  refine ⟨fun c => fun y : Cert.Kernel4Ideal.S4x2x4224x128.Idx => outU m c (y 0) (y 1) (y 2) (y 3), fun c => fun y : Cert.Kernel4Ideal.S4x4224x512.Idx => outQ m c (y 0) (y 1) (y 2), fun c => fun y : Cert.Kernel4Ideal.S4x4224x384.Idx => outKV m c (y 0) (y 1) (y 2), fun c => fun y : Cert.Kernel4Ideal.S4x4x4224x208.Idx => outQM m c (y 0) (y 1) (y 2) (y 3), fun c => fun y : Cert.Kernel4Ideal.S4x4224x208.Idx => outKC m c (y 0) (y 1) (y 2), ?_, ?_⟩
  · exact (θ_run Cert.Kernel4Ideal.defs _ _).mono
      (fun _ h c => ⟨(h c).1.trans (final12 m (hF c)),
        (h c).2.1.trans (final13 m (hF c)),
        (h c).2.2.1.trans (final14 m (hF c)),
        (h c).2.2.2.1.trans (final15 m (hF c)),
        (h c).2.2.2.2.1.trans (final16 m (hF c)), (h c).2.2.2.2.2⟩) (Cert.Kernel4Ideal.Value.run_blocks m ρ)
  exact (θ_run Cert.Reference4Ideal.defs _ _).mono (fun _ h c => ⟨((h c).1.trans (Cert.Reference4Ideal.Read.val_main_v39_eq _ _ _)).trans (outU_ref m m' (hagree c)),
      ((h c).2.1.trans (Cert.Reference4Ideal.Read.val_main_v129_eq _ _ _)).trans (outQ_ref m m' (hagree c)),
      ((h c).2.2.1.trans (Cert.Reference4Ideal.Read.val_main_v130_eq m' c)).trans (outKV_ref m m' (hagree c)),
      ((h c).2.2.2.1.trans (Cert.Reference4Ideal.Read.val_main_v131_eq m' c)).trans (outQM_ref m m' (hagree c)),
      ((h c).2.2.2.2.1.trans (Cert.Reference4Ideal.Read.val_main_v132_eq m' c)).trans (outKC_ref m m' (hagree c)), (h c).2.2.2.2.2⟩)
    (Cert.Reference4Ideal.Value.run m' ρ')

end Cert.Mix4
-- ==== Proof.SwaRow.lean ====
/- Windowed attention of one query over its window of 256 keys, over the extended reals: the scores, the weights against the
   largest of them and the sink, and the weighted values. It is written twice, with the division after the sum as the kernel
   has it and with the weights divided first, and the two are shown equal for real scores. -/
module

public import proofs.«01_k».proof.Proof.MixRow

@[expose] public section

set_option maxRecDepth 16384

noncomputable section

namespace Cert.SwaRow

open Idealize.ShloMosaic Cert.MixRow

/-- A key's score: its product with the query plus its entry of the table. -/
def score (q k : Fin 64 → EReal) (b : EReal) : EReal := (∑ d, k d * q d) + b

/-- The largest of the scores and the sink. -/
def peak (s : Fin 256 → EReal) (sink : EReal) : EReal :=
  max (Finset.fold max (Ideal.ofBits .f32 0xFF800000#32) s Finset.univ) sink

/-- The weighted values as the kernel has them: the weights' total comes from a column `u` beside the values and divides the sum. -/
def attend' (s : Fin 256 → EReal) (sink : EReal) (v u : Fin 256 → EReal) : EReal :=
  Ideal.div (∑ j, v j * Ideal.exp2 (s j - peak s sink)) ((∑ j, u j * Ideal.exp2 (s j - peak s sink)) + Ideal.exp2 (sink - peak s sink))

/-- The weighted values, each weight divided by their total. -/
def attend (s : Fin 256 → EReal) (sink : EReal) (v : Fin 256 → EReal) : EReal :=
  ∑ j, v j * Ideal.div (Ideal.pow 2 (s j - peak s sink)) ((∑ i, Ideal.pow 2 (s i - peak s sink)) + Ideal.pow 2 (sink - peak s sink))

/-- A score of reals is real. -/
theorem score_isReal {q k : Fin 64 → EReal} {b : EReal} (hq : ∀ d, IsReal (q d)) (hk : ∀ d, IsReal (k d)) (hb : IsReal b) :
    IsReal (score q k b) := by
  obtain ⟨x, hx⟩ := IsReal.sum fun d => (hk d).mul (hq d)
  obtain ⟨y, rfl⟩ := hb
  exact ⟨x + y, by unfold score; rw [hx]; push_cast; rfl⟩

/-- The largest of finitely many reals and one more is real. -/
theorem peak_isReal {s : Fin 256 → EReal} {sink : EReal} (hs : ∀ j, IsReal (s j)) (hk : IsReal sink) : IsReal (peak s sink) := by
  have hbot : Ideal.ofBits .f32 0xFF800000#32 = ⊥ := by simp [Ideal.ofBits, Ideal.ieee]
  unfold peak
  rw [hbot]
  have h : ∀ t : Finset (Fin 256), Finset.fold max ⊥ s t = ⊥ ∨ IsReal (Finset.fold max ⊥ s t) := by
    intro t
    induction t using Finset.induction_on with
    | empty => exact Or.inl Finset.fold_empty
    | insert a t ha ih =>
      rw [Finset.fold_insert ha]
      rcases ih with e | e
      · rw [e, max_eq_left bot_le]; exact Or.inr (hs a)
      · rcases max_choice (s a) (Finset.fold max ⊥ s t) with h | h <;> rw [h]
        · exact Or.inr (hs a)
        · exact Or.inr e
  rcases h Finset.univ with e | e
  · rw [e, max_eq_right bot_le]; exact hk
  · rcases max_choice (Finset.fold max ⊥ s Finset.univ) sink with h | h <;> rw [h]
    · exact e
    · exact hk

/-- A power of two of a real difference, both ways of writing it. -/
theorem two_pow (x y : ℝ) : Ideal.exp2 ((x : EReal) - (y : EReal)) = ((Real.rpow 2 (x - y) : ℝ) : EReal)
    ∧ Ideal.pow 2 ((x : EReal) - (y : EReal)) = ((Real.rpow 2 (x - y) : ℝ) : EReal) := by
  rw [← EReal.coe_sub]
  exact ⟨rfl, rfl⟩

/-- A sum times a nonnegative real, term by term: also with infinities among the terms. -/
theorem sum_mul_real {ι : Type} (t : Finset ι) (f : ι → EReal) {c : ℝ} (hc : 0 ≤ c) : (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- For real scores and a unit column the two are the same. -/
theorem attend_eq {s : Fin 256 → EReal} {sink : EReal} {v u : Fin 256 → EReal} (hs : ∀ j, IsReal (s j)) (hk : IsReal sink)
    (hu : ∀ j, u j = 1) : attend' s sink v u = attend s sink v := by
  obtain ⟨p, hp⟩ := peak_isReal hs hk
  unfold attend' attend
  rw [hp]
  choose a ha using hs
  obtain ⟨z, rfl⟩ := hk
  simp only [ha, hu, one_mul, (two_pow _ _).1, (two_pow _ _).2]
  have hpos : 0 < (∑ j, Real.rpow 2 (a j - p)) + Real.rpow 2 (z - p) :=
    add_pos_of_nonneg_of_pos (Finset.sum_nonneg fun j _ => (Real.rpow_pos_of_pos two_pos _).le) (Real.rpow_pos_of_pos two_pos _)
  have hne : (((∑ j, Real.rpow 2 (a j - p)) + Real.rpow 2 (z - p) : ℝ) : EReal) ≠ 0 := by exact_mod_cast hpos.ne'
  rw [← coe_sum, ← EReal.coe_add]
  unfold Ideal.div
  simp only [if_neg hne]
  rw [← EReal.coe_inv, sum_mul_real _ _ (inv_pos.mpr hpos).le]
  simp only [mul_assoc]
end Cert.SwaRow
-- ==== Proof.Swa5Block.lean ====
/- The windowed-attention kernel's arithmetic on one block of 128 queries, over arbitrary blocks: what it stores, element by
   element, is the row function of the query, the window's keys and values, the table's column and the sink. -/
module

public import proofs.«01_k».proof.Proof.Gen.Kernel5Ideal.Skeleton
public import proofs.«01_k».proof.Proof.SwaRow
public import Idealize.ShloMosaic.Lib.Pointwise
public import Idealize.ShloMosaic.Lib.Pipeline.ValueKit

@[expose] public section

set_option maxRecDepth 16384

noncomputable section

namespace Cert.Kernel5Ideal.Block

open Cert.Kernel5Ideal Cert.Kernel5Ideal.Gen Cert.SwaRow Idealize.ShloMosaic

/-- A row of the window: the previous block's first, then the block's own. -/
def win (kp kc : FVec Ideal S1x128x384 .bf16) (j : Fin 256) (l : Fin 384) : EReal :=
  if h : j.val < 128 then kp (ix3 0 ⟨j.val, h⟩ l) else kc (ix3 0 ⟨j.val - 128, by omega⟩ l)

/-- The first key head's outputs, four query heads side by side. -/
def head0 (q : FVec Ideal S1x128x512 .bf16) (kc kp : FVec Ideal S1x128x384 .bf16) (b : FVec Ideal S1x1x256x512 .f32)
    (s : FVec Ideal S1x1x512 .f32) : FVec Ideal S64x512 .f32 :=
  k0_pay209 (k0_pay4 kc kp) (k0_pay118 (k0_pay5 q kc kp b) s) (k0_pay119 (k0_pay5 q kc kp b) s)

/-- The second key head's outputs. -/
def head1 (q : FVec Ideal S1x128x512 .bf16) (kc kp : FVec Ideal S1x128x384 .bf16) (b : FVec Ideal S1x1x256x512 .f32)
    (s : FVec Ideal S1x1x512 .f32) : FVec Ideal S64x512 .f32 :=
  k0_pay210 (k0_pay11 (k0_pay7 kc) (k0_pay8 kp)) (k0_pay122 (k0_pay12 (k0_pay6 q) (k0_pay9 kp) (k0_pay10 kc) b) s)
    (k0_pay123 (k0_pay12 (k0_pay6 q) (k0_pay9 kp) (k0_pay10 kc) b) s)

/-- What is stored for the block. -/
def piece (q : FVec Ideal S1x128x512 .bf16) (kc kp : FVec Ideal S1x128x384 .bf16) (b0 b1 : FVec Ideal S1x1x256x512 .f32)
    (s0 s1 : FVec Ideal S1x1x512 .f32) : FVec Ideal S1x128x512 .f32 :=
  k0_pay238 (head0 q kc kp b0 s0) (head1 q kc kp b1 s1)

/-- The first key head's scores. -/
theorem score0_apply (q : FVec Ideal S1x128x512 .bf16) (kc kp : FVec Ideal S1x128x384 .bf16) (b : FVec Ideal S1x1x256x512 .f32)
    (j : Fin 256) (g : Fin 4) (r : Fin 128) (c : Fin 512) (hc : c.val = g.val * 128 + r.val) :
    k0_pay5 (F := Ideal) q kc kp b (ix2 j c)
      = score (fun x => q (ix3 0 r ⟨0 + g.val * 64 + x.val, by omega⟩)) (fun x => win kp kc j ⟨x.val, by omega⟩) (b (ix4 0 0 j c)) := by
  pointwise [k0_pay5, k0_pay2, k0_pay3]
  unfold score
  refine congrArg (· + _) (Finset.sum_congr rfl fun x _ => ?_)
  have hr := r.isLt
  have hg := g.isLt
  refine congrArg₂ (· * ·) rfl ?_
  dsimp only
  split_ifs <;> (congr 2 <;> (apply Fin.ext; dsimp only; omega))

/-- The second key head's scores. -/
theorem score1_apply (q : FVec Ideal S1x128x512 .bf16) (kc kp : FVec Ideal S1x128x384 .bf16) (b : FVec Ideal S1x1x256x512 .f32)
    (j : Fin 256) (g : Fin 4) (r : Fin 128) (c : Fin 512) (hc : c.val = g.val * 128 + r.val) :
    k0_pay12 (F := Ideal) (k0_pay6 q) (k0_pay9 kp) (k0_pay10 kc) b (ix2 j c)
      = score (fun x => q (ix3 0 r ⟨256 + g.val * 64 + x.val, by omega⟩)) (fun x => win kp kc j ⟨64 + x.val, by omega⟩) (b (ix4 0 0 j c)) := by
  pointwise [k0_pay12, k0_pay6, k0_pay9, k0_pay10, k0_pay7, k0_pay8]
  unfold score
  refine congrArg (· + _) (Finset.sum_congr rfl fun x _ => ?_)
  have hr := r.isLt
  have hg := g.isLt
  refine congrArg₂ (· * ·) rfl ?_
  dsimp only
  split_ifs <;> (congr 2 <;> (apply Fin.ext; dsimp only; omega))

/-- The first value head's rows. -/
theorem value0_apply (kc kp : FVec Ideal S1x128x384 .bf16) (j : Fin 256) (d : Fin 128) :
    k0_pay4 (F := Ideal) kc kp (ix2 j d) = win kp kc j ⟨128 + d.val, by omega⟩ := by
  pointwise [k0_pay4, k0_pay2, k0_pay3]
  rfl

/-- The second value head's rows. -/
theorem value1_apply (kc kp : FVec Ideal S1x128x384 .bf16) (j : Fin 256) (d : Fin 128) :
    k0_pay11 (F := Ideal) (k0_pay7 kc) (k0_pay8 kp) (ix2 j d) = win kp kc j ⟨256 + d.val, by omega⟩ := by
  pointwise [k0_pay11, k0_pay7, k0_pay8]
  rfl

/-- The largest score and the sink, down a column. -/
theorem peak0_apply (s : FVec Ideal S256x512 .f32) (z : FVec Ideal S1x1x512 .f32) (c : Fin 512) :
    k0_pay117 (F := Ideal) s z (ix2 0 c) = peak (fun j => s (ix2 j c)) (z (ix3 0 0 c)) := by
  pointwise [k0_pay117, k0_pay116]
  rfl

/-- The weights of a column. -/
theorem weight0_apply (s : FVec Ideal S256x512 .f32) (z : FVec Ideal S1x1x512 .f32) (j : Fin 256) (c : Fin 512) :
    k0_pay118 (F := Ideal) s z (ix2 j c)
      = Ideal.exp2 (s (ix2 j c) - peak (fun j => s (ix2 j c)) (z (ix3 0 0 c))) := by
  pointwise [k0_pay118, peak0_apply]
  rfl

/-- The sink's weight of a column. -/
theorem sink0_apply (s : FVec Ideal S256x512 .f32) (z : FVec Ideal S1x1x512 .f32) (c : Fin 512) :
    k0_pay119 (F := Ideal) s z (ix2 0 c) = Ideal.exp2 (z (ix3 0 0 c) - peak (fun j => s (ix2 j c)) (z (ix3 0 0 c))) := by
  pointwise [k0_pay119, k0_pay116, peak0_apply]
  rfl

/-- The weighted values over their total. -/
theorem attend0_apply (v : FVec Ideal S256x128 .bf16) (s : FVec Ideal S256x512 .f32) (z : FVec Ideal S1x1x512 .f32) (d : Fin 64) (c : Fin 512) :
    k0_pay209 (F := Ideal) v (k0_pay118 s z) (k0_pay119 s z) (ix2 d c)
      = attend' (fun j => s (ix2 j c)) (z (ix3 0 0 c)) (fun j => v (ix2 j ⟨d.val, by omega⟩)) (fun j => v (ix2 j 64)) := by
  pointwise [k0_pay209, weight0_apply, sink0_apply]
  rfl

/-- The second key head's lines are the same. -/
theorem attend1_eq (v : FVec Ideal S256x128 .bf16) (s : FVec Ideal S256x512 .f32) (z : FVec Ideal S1x1x512 .f32) :
    k0_pay210 (F := Ideal) v (k0_pay122 s z) (k0_pay123 s z) = k0_pay209 (F := Ideal) v (k0_pay118 s z) (k0_pay119 s z) := rfl

/-- The first key head's outputs, element by element. -/
theorem head0_apply (q : FVec Ideal S1x128x512 .bf16) (kc kp : FVec Ideal S1x128x384 .bf16) (b : FVec Ideal S1x1x256x512 .f32)
    (z : FVec Ideal S1x1x512 .f32) (d : Fin 64) (g : Fin 4) (r : Fin 128) (c : Fin 512) (hc : c.val = g.val * 128 + r.val) :
    head0 q kc kp b z (ix2 d c)
      = attend' (fun j => score (fun x => q (ix3 0 r ⟨0 + g.val * 64 + x.val, by omega⟩)) (fun x => win kp kc j ⟨x.val, by omega⟩) (b (ix4 0 0 j c)))
          (z (ix3 0 0 c)) (fun j => win kp kc j ⟨128 + d.val, by omega⟩) (fun j => win kp kc j 192) := by
  unfold head0
  rw [attend0_apply]
  simp only [score0_apply q kc kp b _ g r c hc, value0_apply]
  rfl

/-- The second key head's outputs, element by element. -/
theorem head1_apply (q : FVec Ideal S1x128x512 .bf16) (kc kp : FVec Ideal S1x128x384 .bf16) (b : FVec Ideal S1x1x256x512 .f32)
    (z : FVec Ideal S1x1x512 .f32) (d : Fin 64) (g : Fin 4) (r : Fin 128) (c : Fin 512) (hc : c.val = g.val * 128 + r.val) :
    head1 q kc kp b z (ix2 d c)
      = attend' (fun j => score (fun x => q (ix3 0 r ⟨256 + g.val * 64 + x.val, by omega⟩)) (fun x => win kp kc j ⟨64 + x.val, by omega⟩) (b (ix4 0 0 j c)))
          (z (ix3 0 0 c)) (fun j => win kp kc j ⟨256 + d.val, by omega⟩) (fun j => win kp kc j 320) := by
  unfold head1
  rw [attend1_eq, attend0_apply]
  simp only [score1_apply q kc kp b _ g r c hc, value1_apply]
  rfl

set_option maxHeartbeats 4000000 in
/-- The stored lanes: the eight query heads' outputs one after the other. -/
theorem stack_apply (v w : FVec Ideal S64x512 .f32) (r : Fin 128) (k : Fin 512) :
    k0_pay238 (F := Ideal) v w (ix3 0 r k)
      = if k.val < 256 then v (ix2 ⟨k.val % 64, by omega⟩ ⟨k.val / 64 % 4 * 128 + r.val, by omega⟩)
        else w (ix2 ⟨k.val % 64, by omega⟩ ⟨k.val / 64 % 4 * 128 + r.val, by omega⟩) := by
  pointwise [k0_pay238]
  have hk := k.isLt
  by_cases hs : k.val < 256
  · rw [if_pos hs]
    split_ifs <;> first | (exfalso; omega) | (congr 2 <;> (apply Fin.ext; dsimp only; omega))
  · rw [if_neg hs]
    split_ifs <;> first | (exfalso; omega) | (congr 2 <;> (apply Fin.ext; dsimp only; omega))

end Cert.Kernel5Ideal.Block
-- ==== Proof.Swa5Win.lean ====
/- The windowed-attention kernel, each block window read off the argument arrays. -/
module

public import proofs.«01_k».proof.Proof.Gen.Kernel5Ideal.Value
public import proofs.«01_k».proof.Proof.Swa5Block
public import Idealize.ShloMosaic.Lib.Pointwise
public import Idealize.ShloMosaic.Lib.StableHlo.RunRead
public import Idealize.ShloMosaic.Lib.Pipeline.ValueKit

@[expose] public section

set_option maxRecDepth 16384

noncomputable section

namespace Cert.Kernel5Ideal.Win

open Idealize.ShloMosaic.StableHlo (TRef)
open Cert.Kernel5Ideal Cert.Kernel5Ideal.Gen Cert.Kernel5Ideal.Block Cert.MixRow Idealize.ShloMosaic
  Idealize.ShloMosaic.TcCoe Idealize.SL.Sem

variable (m : (ℓ : Loc nD τ sig) → Buf (Elt Ideal) ℓ)

/-- The places of the windows: batch `t / 3` and tile `t mod 3` of the queries, the keys and values and the result, the block
    before the tile, and the whole of the table and of the sinks. -/
theorem idx : ∀ t : Fin grid0.N,
    (win0_0.index t 0 = t.val / 3 ∧ win0_0.index t 1 = t.val % 3 ∧ win0_0.index t 2 = 0)
    ∧ (win0_1.index t 0 = t.val / 3 ∧ win0_1.index t 1 = 11 * (t.val % 3) - 1 ∧ win0_1.index t 2 = 0)
    ∧ (win0_2.index t 0 = t.val / 3 ∧ win0_2.index t 1 = t.val % 3 ∧ win0_2.index t 2 = 0)
    ∧ (win0_3.index t 0 = 0 ∧ win0_3.index t 1 = 0 ∧ win0_3.index t 2 = 0 ∧ win0_3.index t 3 = 0)
    ∧ (win0_4.index t 0 = 0 ∧ win0_4.index t 1 = 0 ∧ win0_4.index t 2 = 0)
    ∧ (win0_5.index t 0 = t.val / 3 ∧ win0_5.index t 1 = t.val % 3 ∧ win0_5.index t 2 = 0) := by
  decide +kernel

/-- The table's place for the tile's `s`-th block and the first key head: the block's own number, or 2 from the third block on. -/
theorem off1 : ∀ (t : Fin grid0.N) (s : Fin 11), k0_off1 (grid0.coords t) (BitVec.ofNat 32 s.val)
    = ![min (11 * (t.val % 3) + s.val) 2, 0, 0, 0] := by
  decide +kernel

/-- Likewise for the second key head. -/
theorem off2 : ∀ (t : Fin grid0.N) (s : Fin 11), k0_off2 (grid0.coords t) (BitVec.ofNat 32 s.val)
    = ![min (11 * (t.val % 3) + s.val) 2, 1, 0, 0] := by
  decide +kernel

/-- Two lines of host operations one after the other. -/
theorem after_append (a b : List (HloOp τ sig (Elt Ideal))) (σ : Valuation τ sig (Elt Ideal)) :
    StableHlo.after (a ++ b) σ = StableHlo.after b (StableHlo.after a σ) := by
  induction a generalizing σ with
  | nil => rfl
  | cons op a ih => exact ih _

/-- The buffers at the region's entry, line by line. -/
theorem V_eq (c : Dev nD) (b : Ref sig .tc) :
    V m c b = StableHlo.after hostOps0_2 (StableHlo.after hostOps0_1 (StableHlo.after hostOps0 fun b => m (c, b))) b := by
  unfold V
  rw [List.flatten_cons, after_append, List.flatten_cons, after_append, List.flatten_cons, after_append]
  rfl

/-- The queries' block: batch `b`, row `i`. -/
theorem blk0 (c : Dev nD) (t : Fin grid0.N) (r : Fin 1408) (k : Fin 512) (b : Fin 4) (i : Fin 4224) (hb : b.val = t.val / 3)
    (hi : i.val = 1408 * (t.val % 3) + r.val) :
    iblk m c 0 t (ix3 0 r k) = m ((c : Thread nD τ).loc main_arg0) (ix3 b i k) := by
  blk_ext [iblk, V, idx t]

/-- The table. -/
theorem blk3 (c : Dev nD) (t : Fin grid0.N) (s : Fin 3) (h : Fin 2) (j : Fin 256) (k : Fin 512) :
    iblk m c 3 t (ix4 s h j k) = m ((c : Thread nD τ).loc main_arg3) (ix4 s h j k) := by
  blk_ext [iblk, V, idx t]

/-- The sinks, in base two, one for each query head's 128 columns. -/
theorem blk4 (c : Dev nD) (t : Fin grid0.N) (h : Fin 2) (k : Fin 512) :
    iblk m c 4 t (ix3 h 0 k)
      = (Ideal.ofBits .f32 0x3FB8AA3B#32 * m ((c : Thread nD τ).loc main_arg4) (ix1 ⟨h.val * 4 + k.val / 128, by omega⟩) : EReal) := by
  have e : iblk m c 4 t (ix3 h 0 k) = V m c main_v14 (ix3 h 0 k) := by
    blk_ext [iblk, idx t]
  rw [e, V_eq]
  entry_read
  pointwise

/-- A row of the keys and values: the keys, then each head's values with a unit column after them. -/
def kv (c : Dev nD) (b : Fin 4) (i : Fin 4224) (l : Fin 384) : EReal :=
  if h : l.val < 128 then m ((c : Thread nD τ).loc main_arg1) (ix3 b i ⟨l.val, h⟩)
  else if h : l.val - 128 < 64 then m ((c : Thread nD τ).loc main_arg2) (ix3 b i ⟨l.val - 128, by omega⟩)
  else if _h : l.val - 128 - 64 < 64 then unit (l.val - 128 - 64)
  else if h : l.val - 128 - 64 - 64 < 64 then m ((c : Thread nD τ).loc main_arg2) (ix3 b i ⟨64 + (l.val - 128 - 64 - 64), by omega⟩)
  else unit (l.val - 128 - 64 - 64 - 64)

/-- The joining line's result, each operand at its own buffer. -/
theorem join_read (W : Valuation τ sig (Elt Ideal)) (h1 h2) :
    (StableHlo.nary ![main_arg1, main_v6, main_v5, main_v7, main_v5] main_v8 (fun u => (concatenate S4x4224x384 2 [⟨S4x4224x128, (u 0 : (⟨S4x4224x128, .bf16⟩ : BufTy).Contents (Elt Ideal))⟩, ⟨S4x4224x64, (u 1 : (⟨S4x4224x64, .bf16⟩ : BufTy).Contents (Elt Ideal))⟩, ⟨S4x4224x64, (u 2 : (⟨S4x4224x64, .bf16⟩ : BufTy).Contents (Elt Ideal))⟩, ⟨S4x4224x64, (u 3 : (⟨S4x4224x64, .bf16⟩ : BufTy).Contents (Elt Ideal))⟩, ⟨S4x4224x64, (u 4 : (⟨S4x4224x64, .bf16⟩ : BufTy).Contents (Elt Ideal))⟩] concatenates_S4x4224x128_S4x4224x64_S4x4224x64_S4x4224x64_S4x4224x64_S4x4224x384_d2 : (⟨S4x4224x384, .bf16⟩ : BufTy).Contents (Elt Ideal))) h1 h2).result W
        (no_index (Proc.devRef .tc main_v8))
      = concatenate S4x4224x384 2 [⟨S4x4224x128, W (Proc.devRef .tc main_arg1)⟩, ⟨S4x4224x64, W (Proc.devRef .tc main_v6)⟩, ⟨S4x4224x64, W (Proc.devRef .tc main_v5)⟩, ⟨S4x4224x64, W (Proc.devRef .tc main_v7)⟩, ⟨S4x4224x64, W (Proc.devRef .tc main_v5)⟩] concatenates_S4x4224x128_S4x4224x64_S4x4224x64_S4x4224x64_S4x4224x64_S4x4224x384_d2 :=
  StableHlo.nary_result _ _ _ h1 h2 W

/-- A buffer's contents under the type it is given: its own. -/
theorem where_to (h1 h2 h3) (v : (⟨S64, .f32⟩ : BufTy).Contents (Elt Ideal)) :
    (TRef.of main_v3 h1 h2 h3 : TRef sig ⟨S64, .f32⟩).toBuf v = v := rfl

/-- A buffer's contents under the type it is given: its own. -/
theorem test_of (h1 h2 h3) (v : (main_v2 : Ref sig .tc).ty.Contents (Elt Ideal)) :
    (TRef.of main_v2 h1 h2 h3 : TRef sig ⟨S64, .i1⟩).ofBuf v = v := rfl

/-- A buffer's contents under the type it is given: its own. -/
theorem one_of (h1 h2 h3) (v : (main_cst : Ref sig .tc).ty.Contents (Elt Ideal)) :
    (TRef.of main_cst h1 h2 h3 : TRef sig ⟨S_, .f32⟩).ofBuf v = v := rfl

/-- A buffer's contents under the type it is given: its own. -/
theorem zero_of (h1 h2 h3) (v : (main_cst_0 : Ref sig .tc).ty.Contents (Elt Ideal)) :
    (TRef.of main_cst_0 h1 h2 h3 : TRef sig ⟨S_, .f32⟩).ofBuf v = v := rfl

/-- The joined rows. -/
theorem V_kv (c : Dev nD) (b : Fin 4) (i : Fin 4224) (l : Fin 384) : (V m c main_v8 (ix3 b i l) : EReal) = kv m c b i l := by
  unfold V
  after_reads_simp [↓join_read, where_to, test_of, one_of, zero_of, TRef.ofBuf_toBuf]
  pointwise
  unfold kv
  have hl := l.isLt
  exact dite_congr rfl (fun _ => rfl) fun _ => dite_congr rfl (fun _ => rfl) fun _ =>
    dite_congr rfl (fun h => select_zero _ h) fun _ => dite_congr rfl (fun _ => rfl) fun _ => select_zero _ (by omega)

/-- The keys' and values' block: batch `b`, row `i`. -/
theorem blk2 (c : Dev nD) (t : Fin grid0.N) (r : Fin 1408) (k : Fin 384) (b : Fin 4) (i : Fin 4224) (hb : b.val = t.val / 3)
    (hi : i.val = 1408 * (t.val % 3) + r.val) : (iblk m c 2 t (ix3 0 r k) : EReal) = kv m c b i k := by
  rw [← V_kv]
  blk_ext [iblk, idx t]

/-- The block of keys and values before the tile. -/
theorem blk1 (c : Dev nD) (t : Fin grid0.N) (r : Fin 128) (k : Fin 384) (b : Fin 4) (i : Fin 4224) (hb : b.val = t.val / 3)
    (hi : i.val = 128 * (11 * (t.val % 3) - 1) + r.val) : (iblk m c 1 t (ix3 0 r k) : EReal) = kv m c b i k := by
  rw [← V_kv]
  blk_ext [iblk, idx t]

end Cert.Kernel5Ideal.Win
-- ==== Proof.Swa5Rows.lean ====
/- The windowed-attention kernel, its whole result: the stored pieces over the argument arrays, and the blocks written back put
   together. -/
module

public import proofs.«01_k».proof.Proof.Swa5Win

@[expose] public section

set_option maxRecDepth 16384

noncomputable section

namespace Cert.Kernel5Ideal.Rows

open Cert.Kernel5Ideal Cert.Kernel5Ideal.Gen Cert.Kernel5Ideal.Block Cert.Kernel5Ideal.Win Cert.MixRow Cert.SwaRow Idealize.ShloMosaic
  Idealize.ShloMosaic.TcCoe Idealize.SL.Sem

variable (m : (ℓ : Loc nD τ sig) → Buf (Elt Ideal) ℓ)

/-- The queries, the keys, the table and the sinks are real. -/
structure Reals (c : Dev nD) : Prop where
  q : ∀ b i k, IsReal (m ((c : Thread nD τ).loc main_arg0) (ix3 b i k))
  k : ∀ b i k, IsReal (m ((c : Thread nD τ).loc main_arg1) (ix3 b i k))
  t : ∀ s h j k, IsReal (m ((c : Thread nD τ).loc main_arg3) (ix4 s h j k))
  z : ∀ h, IsReal (m ((c : Thread nD τ).loc main_arg4) (ix1 h))

/-- The row of the `j`-th key of block `n`'s window: the block before, then the block itself; the first block stands before itself. -/
def winRow (n : Fin 33) (j : Fin 256) : Fin 4224 :=
  if h : j.val < 128 then (if _h : n.val < 1 then ⟨n.val * 128 + j.val, by omega⟩ else ⟨(n.val - 1) * 128 + j.val, by omega⟩)
  else ⟨n.val * 128 + (j.val - 128), by omega⟩

/-- The table of block `n`. -/
def tab (n : Fin 33) : Fin 3 := if h : n.val < 2 then ⟨n.val, by omega⟩ else 2

/-- The scores of one query row against its window. -/
def scoreO (c : Dev nD) (b : Fin 4) (n : Fin 33) (h : Fin 2) (g : Fin 4) (r : Fin 128) (j : Fin 256) : EReal :=
  score (fun d => m ((c : Thread nD τ).loc main_arg0) (ix3 b ⟨n.val * 128 + r.val, by omega⟩ ⟨h.val * 256 + g.val * 64 + d.val, by omega⟩))
    (fun d => m ((c : Thread nD τ).loc main_arg1) (ix3 b (winRow n j) ⟨h.val * 64 + d.val, by omega⟩))
    (m ((c : Thread nD τ).loc main_arg3) (ix4 (tab n) h j ⟨g.val * 128 + r.val, by omega⟩))

/-- A query head's sink in base two. -/
def sinkO (c : Dev nD) (h : Fin 2) (g : Fin 4) : EReal :=
  Ideal.ofBits .f32 0x3FB8AA3B#32 * (m ((c : Thread nD τ).loc main_arg4) (ix1 ⟨h.val * 4 + g.val, by omega⟩) : EReal)

/-- One lane of one query head's output for one row of a block. -/
def outN (c : Dev nD) (b : Fin 4) (n : Fin 33) (h : Fin 2) (g : Fin 4) (r : Fin 128) (d : Fin 64) : EReal :=
  attend (scoreO m c b n h g r) (sinkO m c h g)
    (fun j => m ((c : Thread nD τ).loc main_arg2) (ix3 b (winRow n j) ⟨h.val * 64 + d.val, by omega⟩))

/-- The result. -/
def outO (c : Dev nD) (b : Fin 4) (i : Fin 4224) (k : Fin 512) : EReal :=
  outN m c b ⟨i.val / 128, by omega⟩ ⟨k.val / 256, by omega⟩ ⟨k.val / 64 % 4, by omega⟩ ⟨i.val % 128, by omega⟩ ⟨k.val % 64, by omega⟩

/-- The base-two factor is real. -/
theorem factor_isReal : IsReal (Ideal.ofBits .f32 0x3FB8AA3B#32) :=
  ⟨_, by simp only [Ideal.ofBits]; rfl⟩

/-- A key lane of a joined row. -/
theorem kv_key (c : Dev nD) (b : Fin 4) (i : Fin 4224) (h : Fin 2) (d : Fin 64) (l : Fin 384) (hl : l.val = h.val * 64 + d.val) :
    kv m c b i l = m ((c : Thread nD τ).loc main_arg1) (ix3 b i ⟨h.val * 64 + d.val, by omega⟩) := by
  unfold kv
  rw [dif_pos (by omega)]
  simp only [hl]

/-- A value lane of a joined row. -/
theorem kv_val (c : Dev nD) (b : Fin 4) (i : Fin 4224) (h : Fin 2) (d : Fin 64) (l : Fin 384) (hl : l.val = 128 + h.val * 128 + d.val) :
    kv m c b i l = m ((c : Thread nD τ).loc main_arg2) (ix3 b i ⟨h.val * 64 + d.val, by omega⟩) := by
  unfold kv
  rw [dif_neg (by omega)]
  have hh := h.isLt
  by_cases h0 : h.val = 0
  · rw [dif_pos (by omega)]
    congr 2
    apply Fin.ext
    dsimp only
    omega
  · rw [dif_neg (by omega), dif_neg (by omega), dif_pos (by omega)]
    congr 2
    apply Fin.ext
    dsimp only
    omega

/-- A unit lane of a joined row. -/
theorem kv_one (c : Dev nD) (b : Fin 4) (i : Fin 4224) (h : Fin 2) (l : Fin 384) (hl : l.val = 192 + h.val * 128) :
    kv m c b i l = 1 := by
  unfold kv
  rw [dif_neg (by omega), dif_neg (by omega)]
  have hh := h.isLt
  by_cases h0 : h.val = 0
  · rw [dif_pos (by omega)]
    exact if_pos (by omega)
  · rw [dif_neg (by omega), dif_neg (by omega)]
    exact if_pos (by omega)

/-- A score over the argument arrays. -/
theorem score_out (c : Dev nD) (b : Fin 4) (n : Fin 33) (h : Fin 2) (g : Fin 4) (r : Fin 128) (j : Fin 256) (q k : Fin 64 → EReal) (t : EReal)
    (hq : ∀ d, q d = m ((c : Thread nD τ).loc main_arg0) (ix3 b ⟨n.val * 128 + r.val, by omega⟩ ⟨h.val * 256 + g.val * 64 + d.val, by omega⟩))
    (hk : ∀ d, k d = m ((c : Thread nD τ).loc main_arg1) (ix3 b (winRow n j) ⟨h.val * 64 + d.val, by omega⟩))
    (ht : t = m ((c : Thread nD τ).loc main_arg3) (ix4 (tab n) h j ⟨g.val * 128 + r.val, by omega⟩)) :
    score q k t = scoreO m c b n h g r j := by
  obtain rfl := funext hq
  obtain rfl := funext hk
  subst ht
  rfl

/-- An output lane over the argument arrays, the division taken into the sum. -/
theorem attend_out {c : Dev nD} (hF : Reals m c) (b : Fin 4) (n : Fin 33) (h : Fin 2) (g : Fin 4) (r : Fin 128) (d : Fin 64)
    (s : Fin 256 → EReal) (z : EReal) (v u : Fin 256 → EReal) (hs : ∀ j, s j = scoreO m c b n h g r j) (hz : z = sinkO m c h g)
    (hv : ∀ j, v j = m ((c : Thread nD τ).loc main_arg2) (ix3 b (winRow n j) ⟨h.val * 64 + d.val, by omega⟩)) (hu : ∀ j, u j = 1) :
    attend' s z v u = outN m c b n h g r d := by
  have e : attend' s z v u = attend s z v := by
    refine attend_eq (fun j => ?_) ?_ hu
    · rw [hs]; exact score_isReal (fun _ => hF.q _ _ _) (fun _ => hF.k _ _ _) (hF.t _ _ _ _)
    · rw [hz]; exact factor_isReal.mul (hF.z _)
  rw [e]
  obtain rfl := funext hs
  obtain rfl := funext hv
  subst hz
  rfl

/-- The window's rows are the joined rows. -/
theorem win_eq (c : Dev nD) (b : Fin 4) (n : Fin 33) (kp kc : FVec Ideal S1x128x384 .bf16)
    (hc : ∀ (r : Fin 128) l, kc (ix3 0 r l) = kv m c b ⟨n.val * 128 + r.val, by omega⟩ l)
    (hp : ∀ (r : Fin 128) l, kp (ix3 0 r l) = kv m c b (winRow n ⟨r.val, by omega⟩) l) (j : Fin 256) (l : Fin 384) :
    win kp kc j l = kv m c b (winRow n j) l := by
  unfold win
  by_cases h : j.val < 128
  · rw [dif_pos h]
    exact hp _ _
  · rw [dif_neg h]
    refine (hc _ _).trans ?_
    unfold winRow
    rw [dif_neg h]

/-- What is stored for a block, over the argument arrays. -/
theorem piece_out {c : Dev nD} (hF : Reals m c) (b : Fin 4) (n : Fin 33) (q : FVec Ideal S1x128x512 .bf16) (kc kp : FVec Ideal S1x128x384 .bf16)
    (b0 b1 : FVec Ideal S1x1x256x512 .f32) (s0 s1 : FVec Ideal S1x1x512 .f32)
    (hq : ∀ (r : Fin 128) k, q (ix3 0 r k) = m ((c : Thread nD τ).loc main_arg0) (ix3 b ⟨n.val * 128 + r.val, by omega⟩ k))
    (hc : ∀ (r : Fin 128) l, kc (ix3 0 r l) = kv m c b ⟨n.val * 128 + r.val, by omega⟩ l)
    (hp : ∀ (r : Fin 128) l, kp (ix3 0 r l) = kv m c b (winRow n ⟨r.val, by omega⟩) l)
    (hb0 : ∀ j k, b0 (ix4 0 0 j k) = m ((c : Thread nD τ).loc main_arg3) (ix4 (tab n) 0 j k))
    (hb1 : ∀ j k, b1 (ix4 0 0 j k) = m ((c : Thread nD τ).loc main_arg3) (ix4 (tab n) 1 j k))
    (hs0 : ∀ (g : Fin 4) (k : Fin 512), k.val / 128 = g.val → s0 (ix3 0 0 k) = sinkO m c 0 g)
    (hs1 : ∀ (g : Fin 4) (k : Fin 512), k.val / 128 = g.val → s1 (ix3 0 0 k) = sinkO m c 1 g)
    (r : Fin 128) (k : Fin 512) (i : Fin 4224) (hi : i.val = n.val * 128 + r.val) :
    Block.piece q kc kp b0 b1 s0 s1 (ix3 0 r k) = outO m c b i k := by
  have hr := r.isLt
  have hk := k.isLt
  have hw := win_eq m c b n kp kc hc hp
  have z0 : (0 : Fin 2).val = 0 := rfl
  have z1 : (1 : Fin 2).val = 1 := rfl
  have e1 : (⟨i.val / 128, by omega⟩ : Fin 33) = n := Fin.ext (by dsimp only; omega)
  have e2 : (⟨i.val % 128, by omega⟩ : Fin 128) = r := Fin.ext (by dsimp only; omega)
  unfold outO
  rw [e1, e2]
  unfold Block.piece
  rw [stack_apply]
  by_cases h : k.val < 256
  · rw [if_pos h]
    have e3 : (⟨k.val / 256, by omega⟩ : Fin 2) = 0 := Fin.ext (by show k.val / 256 = 0; omega)
    rw [e3]
    refine (head0_apply q kc kp b0 s0 _ ⟨k.val / 64 % 4, by omega⟩ r _ rfl).trans ?_
    refine attend_out m hF b n 0 _ r _ _ _ _ _ (fun j => ?_) (hs0 _ _ (by dsimp only; omega)) (fun j => ?_) (fun j => ?_)
    · refine score_out m c b n 0 _ r j _ _ _ (fun d => ?_) (fun d => ?_) (hb0 _ _)
      · exact (hq r _).trans (congrArg (fun z => m ((c : Thread nD τ).loc main_arg0) (ix3 b _ z)) (Fin.ext (by dsimp only; omega)))
      · exact (hw j _).trans (kv_key m c b _ 0 d _ (by dsimp only; omega))
    · exact (hw j _).trans (kv_val m c b _ 0 _ _ (by dsimp only; omega))
    · exact (hw j _).trans (kv_one m c b _ 0 _ rfl)
  · rw [if_neg h]
    have e3 : (⟨k.val / 256, by omega⟩ : Fin 2) = 1 := Fin.ext (by show k.val / 256 = 1; omega)
    rw [e3]
    refine (head1_apply q kc kp b1 s1 _ ⟨k.val / 64 % 4, by omega⟩ r _ rfl).trans ?_
    refine attend_out m hF b n 1 _ r _ _ _ _ _ (fun j => ?_) (hs1 _ _ (by dsimp only; omega)) (fun j => ?_) (fun j => ?_)
    · refine score_out m c b n 1 _ r j _ _ _ (fun d => ?_) (fun d => ?_) (hb1 _ _)
      · exact (hq r _).trans (congrArg (fun z => m ((c : Thread nD τ).loc main_arg0) (ix3 b _ z)) (Fin.ext (by dsimp only; omega)))
      · exact (hw j _).trans (kv_key m c b _ 1 d _ (by dsimp only; omega))
    · exact (hw j _).trans (kv_val m c b _ 1 _ _ (by dsimp only; omega))
    · exact (hw j _).trans (kv_one m c b _ 1 _ rfl)

/-- A load of 128 rows of the queries from row `d` on. -/
theorem ld_q (x : Vec Ideal S1x1408x512 .bf16) (d : Nat) (hd : d + 128 ≤ 1408) (inb) (r : Fin 128) (k : Fin 512) :
    View.ld x (Rect.unit ![0, d, 0] ![1, 128, 512] inb) (ix3 0 r k) = x (ix3 0 ⟨d + r.val, by omega⟩ k) := by
  show x _ = x _
  congr 1
  funext a
  apply Fin.ext
  match a with
  | ⟨0, _⟩ => simp [ix3]
  | ⟨1, _⟩ => simp [ix3]
  | ⟨2, _⟩ => simp [ix3]

/-- A load of 128 rows of the keys and values from row `d` on. -/
theorem ld_kv (x : Vec Ideal S1x1408x384 .bf16) (d : Nat) (hd : d + 128 ≤ 1408) (inb) (r : Fin 128) (k : Fin 384) :
    View.ld x (Rect.unit ![0, d, 0] ![1, 128, 384] inb) (ix3 0 r k) = x (ix3 0 ⟨d + r.val, by omega⟩ k) := by
  show x _ = x _
  congr 1
  funext a
  apply Fin.ext
  match a with
  | ⟨0, _⟩ => simp [ix3]
  | ⟨1, _⟩ => simp [ix3]
  | ⟨2, _⟩ => simp [ix3]

/-- A load of one head's plane of one table. -/
theorem ld_table (x : Vec Ideal S3x2x256x512 .f32) (o : Fin 4 → ℕ) (s : Fin 3) (h : Fin 2) (ho : o = ![s.val, h.val, 0, 0]) (inb)
    (j : Fin 256) (k : Fin 512) :
    View.ld x (Rect.unit o ![1, 1, 256, 512] inb) (ix4 0 0 j k) = x (ix4 s h j k) := by
  subst ho
  show x _ = x _
  congr 1
  funext a
  apply Fin.ext
  match a with
  | ⟨0, _⟩ => simp [ix4]
  | ⟨1, _⟩ => simp [ix4]
  | ⟨2, _⟩ => simp [ix4]
  | ⟨3, _⟩ => simp [ix4]

/-- A load of one key head's sinks. -/
theorem ld_sink (x : Vec Ideal S2x1x512 .f32) (h : Fin 2) (inb) (k : Fin 512) :
    View.ld x (Rect.unit ![h.val, 0, 0] ![1, 1, 512] inb) (ix3 0 0 k) = x (ix3 h 0 k) := by
  show x _ = x _
  congr 1
  funext a
  apply Fin.ext
  match a with
  | ⟨0, _⟩ => simp [ix3]
  | ⟨1, _⟩ => simp [ix3]
  | ⟨2, _⟩ => simp [ix3]

/-- An index of one plane, by its row and lane. -/
theorem ix3_form {n p : ℕ} (x : (⟨3, ![1, n, p]⟩ : Shape).Idx) : ∃ (r : Fin n) (l : Fin p), x = ix3 0 r l :=
  ⟨x 1, x 2, by funext a; match a with | ⟨0, _⟩ => exact Subsingleton.elim (α := Fin 1) _ _ | ⟨1, _⟩ => rfl | ⟨2, _⟩ => rfl⟩

/-- A block's table by its number in the tile. -/
theorem tab_val (n : Fin 33) : (tab n).val = min n.val 2 := by
  unfold tab
  split
  · dsimp only; omega
  · show 2 = _; omega

section Tile

variable {c : Dev nD} (hF : Reals m c) (t : Fin grid0.N) (b : Fin 4) (i : Fin 4224) (hb : b.val = t.val / 3)
include hF hb

/-- The tile's `s`-th block, the block before it given by its rows. -/
theorem piece_tile (s : Fin 11) (d : ℕ) (hd : d = 128 * s.val) (kp : FVec Ideal S1x128x384 .bf16)
    (hp : ∀ (r : Fin 128) (l : Fin 384) (j : Fin 4224),
      j.val = (if 11 * (t.val % 3) + s.val < 1 then r.val else (11 * (t.val % 3) + s.val - 1) * 128 + r.val) →
      kp (ix3 0 r l) = kv m c b j l)
    (inbq : ∀ a : Fin 3, ![0, d, 0] a + ![1, 128, 512] a ≤ S1x1408x512.size a) (inbc : ∀ a : Fin 3, ![0, d, 0] a + ![1, 128, 384] a ≤ S1x1408x384.size a)
    (inb1 : ∀ a : Fin 4, k0_off1 (grid0.coords t) (BitVec.ofNat 32 s.val) a + ![1, 1, 256, 512] a ≤ S3x2x256x512.size a)
    (inb2 : ∀ a : Fin 4, k0_off2 (grid0.coords t) (BitVec.ofNat 32 s.val) a + ![1, 1, 256, 512] a ≤ S3x2x256x512.size a)
    (x : S1x128x512.Idx) (hi : i.val = 1408 * (t.val % 3) + (d + (x 1).val)) (k : Fin 512) (hk : k.val = (x 2).val) :
    Block.piece (View.ld (iblk m c 0 t) (Rect.unit ![0, d, 0] ![1, 128, 512] inbq)) (View.ld (iblk m c 2 t) (Rect.unit ![0, d, 0] ![1, 128, 384] inbc)) kp
        (View.ld (iblk m c 3 t) (Rect.unit (k0_off1 (grid0.coords t) (BitVec.ofNat 32 s.val)) ![1, 1, 256, 512] inb1))
        (View.ld (iblk m c 3 t) (Rect.unit (k0_off2 (grid0.coords t) (BitVec.ofNat 32 s.val)) ![1, 1, 256, 512] inb2))
        (View.ld (iblk m c 4 t) (Rect.unit ![0, 0, 0] ![1, 1, 512] inb_S2x1x512_S1x1x512_0_0_0))
        (View.ld (iblk m c 4 t) (Rect.unit ![1, 0, 0] ![1, 1, 512] inb_S2x1x512_S1x1x512_1_0_0)) x
      = outO m c b i k := by
  obtain ⟨r, l, rfl⟩ : ∃ (r : Fin 128) (l : Fin 512), (x : S1x128x512.Idx) = ix3 0 r l := ix3_form x
  obtain rfl : k = l := Fin.ext hk
  have hi' : i.val = 1408 * (t.val % 3) + (d + r.val) := hi
  have hs := s.isLt
  have hr := r.isLt
  have hN : t.val < 12 := t.isLt
  have hn : 11 * (t.val % 3) + s.val < 33 := by omega
  have ht := tab_val ⟨11 * (t.val % 3) + s.val, hn⟩
  refine piece_out m hF b ⟨11 * (t.val % 3) + s.val, hn⟩ _ _ kp _ _ _ _ (fun r k => ?_) (fun r l => ?_) (fun r l => ?_) (fun j k => ?_) (fun j k => ?_)
    (fun g k hg => ?_) (fun g k hg => ?_) r k i (by dsimp only; omega)
  · exact (ld_q (iblk m c 0 t) d (by omega) inbq r k).trans (blk0 m c t _ k b _ hb (by dsimp only; omega))
  · exact (ld_kv (iblk m c 2 t) d (by omega) inbc r l).trans (blk2 m c t _ l b _ hb (by dsimp only; omega))
  · refine hp r l _ ?_
    have hr := r.isLt
    unfold winRow
    rw [dif_pos hr]
    dsimp only
    split_ifs
    · dsimp only; omega
    · rfl
  · exact (ld_table (iblk m c 3 t) _ _ 0 ((off1 t s).trans (by rw [ht]; rfl)) inb1 j k).trans (blk3 m c t _ _ j k)
  · exact (ld_table (iblk m c 3 t) _ _ 1 ((off2 t s).trans (by rw [ht]; rfl)) inb2 j k).trans (blk3 m c t _ _ j k)
  · refine (ld_sink (iblk m c 4 t) 0 inb_S2x1x512_S1x1x512_0_0_0 k).trans ((blk4 m c t 0 k).trans ?_)
    unfold sinkO
    simp only [hg]
  · refine (ld_sink (iblk m c 4 t) 1 inb_S2x1x512_S1x1x512_1_0_0 k).trans ((blk4 m c t 1 k).trans ?_)
    unfold sinkO
    simp only [hg]

/-- The tile's first block: the block before it comes through its own window. -/
theorem piece_first (inbq : ∀ a : Fin 3, ![0, 0, 0] a + ![1, 128, 512] a ≤ S1x1408x512.size a) (inbc : ∀ a : Fin 3, ![0, 0, 0] a + ![1, 128, 384] a ≤ S1x1408x384.size a)
    (inb1 : ∀ a : Fin 4, k0_off1 (grid0.coords t) 0#32 a + ![1, 1, 256, 512] a ≤ S3x2x256x512.size a)
    (inb2 : ∀ a : Fin 4, k0_off2 (grid0.coords t) 0#32 a + ![1, 1, 256, 512] a ≤ S3x2x256x512.size a)
    (x : S1x128x512.Idx) (hi : i.val = 1408 * (t.val % 3) + (0 + (x 1).val)) (k : Fin 512) (hk : k.val = (x 2).val) :
    Block.piece (View.ld (iblk m c 0 t) (Rect.unit ![0, 0, 0] ![1, 128, 512] inbq)) (View.ld (iblk m c 2 t) (Rect.unit ![0, 0, 0] ![1, 128, 384] inbc))
        (iblk m c 1 t)
        (View.ld (iblk m c 3 t) (Rect.unit (k0_off1 (grid0.coords t) 0#32) ![1, 1, 256, 512] inb1))
        (View.ld (iblk m c 3 t) (Rect.unit (k0_off2 (grid0.coords t) 0#32) ![1, 1, 256, 512] inb2))
        (View.ld (iblk m c 4 t) (Rect.unit ![0, 0, 0] ![1, 1, 512] inb_S2x1x512_S1x1x512_0_0_0))
        (View.ld (iblk m c 4 t) (Rect.unit ![1, 0, 0] ![1, 1, 512] inb_S2x1x512_S1x1x512_1_0_0)) x
      = outO m c b i k := by
  refine piece_tile m hF t b i hb 0 0 rfl (iblk m c 1 t) (fun r l j hj => ?_) inbq inbc inb1 inb2 x hi k hk
  refine blk1 m c t r l b j hb ?_
  have z0 : (0 : Fin 11).val = 0 := rfl
  rw [z0] at hj
  split_ifs at hj <;> omega

/-- A later block of the tile: the block before it is in the tile too. -/
theorem piece_later (s : Fin 11) (dp d : ℕ) (hd : d = 128 * s.val) (hdp : dp + 128 = d)
    (inbp : ∀ a : Fin 3, ![0, dp, 0] a + ![1, 128, 384] a ≤ S1x1408x384.size a)
    (inbq : ∀ a : Fin 3, ![0, d, 0] a + ![1, 128, 512] a ≤ S1x1408x512.size a) (inbc : ∀ a : Fin 3, ![0, d, 0] a + ![1, 128, 384] a ≤ S1x1408x384.size a)
    (inb1 : ∀ a : Fin 4, k0_off1 (grid0.coords t) (BitVec.ofNat 32 s.val) a + ![1, 1, 256, 512] a ≤ S3x2x256x512.size a)
    (inb2 : ∀ a : Fin 4, k0_off2 (grid0.coords t) (BitVec.ofNat 32 s.val) a + ![1, 1, 256, 512] a ≤ S3x2x256x512.size a)
    (x : S1x128x512.Idx) (hi : i.val = 1408 * (t.val % 3) + (d + (x 1).val)) (k : Fin 512) (hk : k.val = (x 2).val) :
    Block.piece (View.ld (iblk m c 0 t) (Rect.unit ![0, d, 0] ![1, 128, 512] inbq)) (View.ld (iblk m c 2 t) (Rect.unit ![0, d, 0] ![1, 128, 384] inbc))
        (View.ld (iblk m c 2 t) (Rect.unit ![0, dp, 0] ![1, 128, 384] inbp))
        (View.ld (iblk m c 3 t) (Rect.unit (k0_off1 (grid0.coords t) (BitVec.ofNat 32 s.val)) ![1, 1, 256, 512] inb1))
        (View.ld (iblk m c 3 t) (Rect.unit (k0_off2 (grid0.coords t) (BitVec.ofNat 32 s.val)) ![1, 1, 256, 512] inb2))
        (View.ld (iblk m c 4 t) (Rect.unit ![0, 0, 0] ![1, 1, 512] inb_S2x1x512_S1x1x512_0_0_0))
        (View.ld (iblk m c 4 t) (Rect.unit ![1, 0, 0] ![1, 1, 512] inb_S2x1x512_S1x1x512_1_0_0)) x
      = outO m c b i k := by
  refine piece_tile m hF t b i hb s d hd _ (fun r l j hj => ?_) inbq inbc inb1 inb2 x hi k hk
  have hs := s.isLt
  refine (ld_kv (iblk m c 2 t) dp (by omega) inbp r l).trans (blk2 m c t _ l b j hb ?_)
  dsimp only
  split_ifs at hj <;> omega

end Tile

/-- The result, over a block. -/
theorem out5 {c : Dev nD} (hF : Reals m c) (t : Fin grid0.N) (y : S1x1408x512.Idx) (b : Fin 4) (i : Fin 4224) (hb : b.val = t.val / 3)
    (hi : i.val = 1408 * (t.val % 3) + (y 1).val) : outsAt0 m c t y = outO m c b i (y 2) := by
  unfold outsAt0
  frame_out
  canon_tiles x h using View.cover_of_tiledBy _ ![1, 128, 512] (by sl_kernel_rfl) y
  case piece0 => exact piece_later m hF t b i hb 10 1152 1280 rfl rfl inb_S1x1408x384_S1x128x384_0_1152_0 inb_S1x1408x512_S1x128x512_0_1280_0 inb_S1x1408x384_S1x128x384_0_1280_0 (k0_off1_inb _ 10) (k0_off2_inb _ 10) x (by omega) (y 2) (by omega)
  case piece1 => exact piece_later m hF t b i hb 9 1024 1152 rfl rfl inb_S1x1408x384_S1x128x384_0_1024_0 inb_S1x1408x512_S1x128x512_0_1152_0 inb_S1x1408x384_S1x128x384_0_1152_0 (k0_off1_inb _ 9) (k0_off2_inb _ 9) x (by omega) (y 2) (by omega)
  case piece2 => exact piece_later m hF t b i hb 8 896 1024 rfl rfl inb_S1x1408x384_S1x128x384_0_896_0 inb_S1x1408x512_S1x128x512_0_1024_0 inb_S1x1408x384_S1x128x384_0_1024_0 (k0_off1_inb _ 8) (k0_off2_inb _ 8) x (by omega) (y 2) (by omega)
  case piece3 => exact piece_later m hF t b i hb 7 768 896 rfl rfl inb_S1x1408x384_S1x128x384_0_768_0 inb_S1x1408x512_S1x128x512_0_896_0 inb_S1x1408x384_S1x128x384_0_896_0 (k0_off1_inb _ 7) (k0_off2_inb _ 7) x (by omega) (y 2) (by omega)
  case piece4 => exact piece_later m hF t b i hb 6 640 768 rfl rfl inb_S1x1408x384_S1x128x384_0_640_0 inb_S1x1408x512_S1x128x512_0_768_0 inb_S1x1408x384_S1x128x384_0_768_0 (k0_off1_inb _ 6) (k0_off2_inb _ 6) x (by omega) (y 2) (by omega)
  case piece5 => exact piece_later m hF t b i hb 5 512 640 rfl rfl inb_S1x1408x384_S1x128x384_0_512_0 inb_S1x1408x512_S1x128x512_0_640_0 inb_S1x1408x384_S1x128x384_0_640_0 (k0_off1_inb _ 5) (k0_off2_inb _ 5) x (by omega) (y 2) (by omega)
  case piece6 => exact piece_later m hF t b i hb 4 384 512 rfl rfl inb_S1x1408x384_S1x128x384_0_384_0 inb_S1x1408x512_S1x128x512_0_512_0 inb_S1x1408x384_S1x128x384_0_512_0 (k0_off1_inb _ 4) (k0_off2_inb _ 4) x (by omega) (y 2) (by omega)
  case piece7 => exact piece_later m hF t b i hb 3 256 384 rfl rfl inb_S1x1408x384_S1x128x384_0_256_0 inb_S1x1408x512_S1x128x512_0_384_0 inb_S1x1408x384_S1x128x384_0_384_0 (k0_off1_inb _ 3) (k0_off2_inb _ 3) x (by omega) (y 2) (by omega)
  case piece8 => exact piece_later m hF t b i hb 2 128 256 rfl rfl inb_S1x1408x384_S1x128x384_0_128_0 inb_S1x1408x512_S1x128x512_0_256_0 inb_S1x1408x384_S1x128x384_0_256_0 (k0_off1_inb _ 2) (k0_off2_inb _ 2) x (by omega) (y 2) (by omega)
  case piece9 => exact piece_later m hF t b i hb 1 0 128 rfl rfl inb_S1x1408x384_S1x128x384_0_0_0 inb_S1x1408x512_S1x128x512_0_128_0 inb_S1x1408x384_S1x128x384_0_128_0 (k0_off1_inb _ 1) (k0_off2_inb _ 1) x (by omega) (y 2) (by omega)
  case piece10 => exact piece_first m hF t b i hb inb_S1x1408x512_S1x128x512_0_0_0 inb_S1x1408x384_S1x128x384_0_0_0 (k0_off1_inb _ 0) (k0_off2_inb _ 0) x (by omega) (y 2) (by omega)

/-- Where an element of the result's block lies in its array. -/
theorem emb5 (t : Fin grid0.N) (r : Fin 1408) (k : Fin 512) (b : Fin 4) (i : Fin 4224) (hb : b.val = t.val / 3)
    (hi : i.val = 1408 * (t.val % 3) + r.val) : (win0_5.blk t).view.emb (ix3 0 r k) = ix3 b i k := by
  funext a
  apply Fin.ext
  refine (win0_5.rect_emb_val t (ix3 0 r k) a).trans ?_
  have h := (idx t).2.2.2.2.2
  match a with
  | ⟨0, _⟩ => exact (congrArg (· * 1 + 0) h.1).trans (by simpa using hb.symm)
  | ⟨1, _⟩ => exact (congrArg (· * 1408 + r.val) h.2.1).trans (by simp [ix3]; omega)
  | ⟨2, _⟩ => exact (congrArg (· * 512 + k.val) h.2.2).trans (by simp [ix3])

/-- The result array after the run. -/
theorem final5 {c : Dev nD} (hF : Reals m c) :
    (dats m 0 c).arrAt 5 cfg0.N = fun y : S4x4224x512.Idx => outO m c (y 0) (y 1) (y 2) := by
  refine (dats m 0 c).arrAt_eq_of_covers 5 _ (by decide +kernel) fun t hf y => ?_
  blk_simp
  rw [after0_5]
  obtain ⟨r, k, rfl⟩ : ∃ (r : Fin 1408) (k : Fin 512), (y : S1x1408x512.Idx) = ix3 0 r k := ix3_form y
  have ht := t.isLt
  have hN : cfg0.grid.N = 12 := rfl
  have hb : (⟨t.val / 3, by omega⟩ : Fin 4).val = t.val / 3 := rfl
  have hi : (⟨1408 * (t.val % 3) + r.val, by omega⟩ : Fin 4224).val = 1408 * (t.val % 3) + r.val := rfl
  rw [emb5 t r k _ _ hb hi]
  exact out5 m hF t (ix3 0 r k) _ _ hb hi

end Cert.Kernel5Ideal.Rows
-- ==== Proof.Swa5Real.lean ====
/- The windowed-attention kernel: what its precondition says of the argument arrays, entry by entry. -/
module

public import proofs.«01_k».proof.Defs
public import proofs.«01_k».proof.Proof.Gen.Pre_finite5
public import proofs.«01_k».proof.Proof.Swa5Rows
public import Idealize.ShloMosaic.Lib.ReduceAll

@[expose] public section

set_option maxRecDepth 16384

noncomputable section

namespace Cert.Kernel5Ideal.Rows

open Cert.MixRow Idealize.ShloMosaic Idealize.ShloMosaic.TcCoe Idealize.SL.Sem

/-- A conjunction of two bits is one exactly when both are. -/
theorem both_of_and {a b : BitVec 1} (h : IntOp.andi a b = 1#1) : a = 1#1 ∧ b = 1#1 := by
  revert h
  revert a b
  decide

/-- A whole array whose test reduces to one has only reals. -/
theorem real_of_all {s : Shape} {axes : List (Fin s.rank)} (x : FVec Ideal s .f32) (hb : Cert.Pre_finite5.S_.BroadcastsInDim s (![] : Fin 0 → Fin s.rank))
    (hr : s.ReducesTo axes Cert.Pre_finite5.S_) (hu : 0 < Cert.Pre_finite5.S_.numel) (j : Cert.Pre_finite5.S_.Idx)
    (e : Host.reduce IntOp.andi (cmpf .olt (Host.absf x) (broadcastInDim s ![] hb (constant Cert.Pre_finite5.S_ .f32 0x7F800000#32)))
      (constantI Cert.Pre_finite5.S_ 1 1#1) hr hu j = 1#1) (i : s.Idx) : IsReal (x i) := by
  have : Subsingleton Cert.Pre_finite5.S_.Idx := ⟨fun a b => by funext k; exact k.elim0⟩
  have h := Host.reduce_andi_all _ _ hr hu j e i
  exact isReal_of_lt (x i) h

/-- The precondition says the queries, the keys, the table and the sinks are real. -/
theorem reals (m : (ℓ : Loc Cert.Kernel5Ideal.nD Cert.Kernel5Ideal.τ Cert.Kernel5Ideal.sig) → Buf (Elt Ideal) ℓ)
    (h : Cert.Pre_Kernel5Ideal_finite5 (hPre_finite5 := Cert.Pre_finite5.Gen.facts) m) (c : Dev Cert.Kernel5Ideal.nD) : Reals m c := by
  have e := congrFun (h c) (fun k => k.elim0)
  have : Cert.Pre_finite5.Facts := Cert.Pre_finite5.Gen.facts
  dsimp only [Cert.Pre_finite5.fn, Cert.Pre_finite5.fn_part1, andi] at e
  obtain ⟨e, h3⟩ := both_of_and e
  obtain ⟨e, h2⟩ := both_of_and e
  obtain ⟨e, h1⟩ := both_of_and e
  exact ⟨fun b i k => real_of_all _ _ _ _ _ e (ix3 b i k),
    fun b i k => real_of_all _ _ _ _ _ h1 (ix3 b i k),
    fun s h j k => real_of_all _ _ _ _ _ h2 (ix4 s h j k),
    fun h => real_of_all _ _ _ _ _ h3 (ix1 h)⟩

end Cert.Kernel5Ideal.Rows
-- ==== Proof.Ref5Rows.lean ====
/- The windowed-attention reference, its result at an index as the row function of the argument rows. -/
module

public import proofs.«01_k».proof.Proof.Gen.Reference5Ideal.Read
public import proofs.«01_k».proof.Proof.SwaRow
public import Idealize.ShloMosaic.Lib.Pointwise

@[expose] public section

set_option maxRecDepth 16384

noncomputable section

namespace Cert.Reference5Ideal.Rows

open Cert.Reference5Ideal Cert.Reference5Ideal.Gen Cert.Reference5Ideal.Read Cert.SwaRow Idealize.ShloMosaic

variable (x0 : (⟨S4x4224x512, .bf16⟩ : BufTy).Contents (Elt Ideal))
variable (x1 x2 : (⟨S4x4224x128, .bf16⟩ : BufTy).Contents (Elt Ideal))
variable (x3 : (⟨S3x2x256x512, .f32⟩ : BufTy).Contents (Elt Ideal))
variable (x4 : (⟨S8, .f32⟩ : BufTy).Contents (Elt Ideal))

/-- The row of the window's `j`-th key for the queries of block `n`. -/
def winRow (n : Fin 33) (j : Fin 256) : Fin 4224 :=
  if h : j.val < 128 then
    if h2 : n.val < 1 then ⟨n.val * 128 + j.val, by omega⟩ else ⟨(n.val - 1) * 128 + j.val, by omega⟩
  else ⟨n.val * 128 + (j.val - 128), by omega⟩

/-- The table of block `n`. -/
def tab (n : Fin 33) : Fin 3 := if h : n.val < 2 then ⟨n.val, by omega⟩ else 2

/-- The keys of a window. -/
theorem key_apply (b : Fin 4) (n : Fin 33) (j : Fin 256) (h : Fin 2) (d : Fin 64) :
    val_main_v9 (F := Ideal) x1 (ix5 b n j h d) = x1 (ix3 b (winRow n j) ⟨h.val * 64 + d.val, by omega⟩) := by
  pointwise [val_main_v9, val_main_v8, val_main_v7, val_main_v6, val_main_v4, val_main_v1]
  unfold winRow
  split_ifs <;> rfl

/-- The values of a window. -/
theorem value_apply (b : Fin 4) (n : Fin 33) (j : Fin 256) (h : Fin 2) (d : Fin 64) :
    val_main_v13 (F := Ideal) x2 (ix5 b n j h d) = x2 (ix3 b (winRow n j) ⟨h.val * 64 + d.val, by omega⟩) := by
  pointwise [val_main_v13, val_main_v12, val_main_v11, val_main_v10, val_main_v5, val_main_v2]
  unfold winRow
  split_ifs <;> rfl

/-- The table of a block. -/
theorem table_apply (n : Fin 33) (h : Fin 2) (g : Fin 4) (r : Fin 128) (j : Fin 256) :
    val_main_v19 (F := Ideal) x3 (ix5 n h g r j) = x3 (ix4 (tab n) h j ⟨g.val * 128 + r.val, by omega⟩) := by
  pointwise [val_main_v19, val_main_v18, val_main_v17, val_main_v16, val_main_v15, val_main_v14]
  unfold tab
  split_ifs <;> rfl

/-- The queries of a block. -/
theorem query_apply (b : Fin 4) (n : Fin 33) (r : Fin 128) (h : Fin 2) (g : Fin 4) (d : Fin 64) :
    val_main_v3 (F := Ideal) x0 (ix6 b n r h g d)
      = x0 (ix3 b ⟨n.val * 128 + r.val, by omega⟩ ⟨h.val * 256 + g.val * 64 + d.val, by omega⟩) := by
  pointwise [val_main_v3, val_main_v0]

/-- A query's score against a key of its window. -/
abbrev scoreOf (b : Fin 4) (n : Fin 33) (h : Fin 2) (g : Fin 4) (r : Fin 128) (j : Fin 256) : EReal :=
  score (fun d : Fin 64 => x0 (ix3 b ⟨n.val * 128 + r.val, by omega⟩ ⟨h.val * 256 + g.val * 64 + d.val, by omega⟩))
    (fun d => x1 (ix3 b (winRow n j) ⟨h.val * 64 + d.val, by omega⟩)) (x3 (ix4 (tab n) h j ⟨g.val * 128 + r.val, by omega⟩))

/-- A head's sink, in base two. -/
abbrev sinkOf (h : Fin 2) (g : Fin 4) : EReal := Ideal.ofBits .f32 0x3FB8AA3B#32 * x4 (ix1 ⟨h.val * 4 + g.val, by omega⟩)

/-- The scores. -/
theorem score_apply (b : Fin 4) (n : Fin 33) (h : Fin 2) (g : Fin 4) (r : Fin 128) (j : Fin 256) :
    val_main_v24 (F := Ideal) x0 x1 x3 (ix6 b n h g r j) = scoreOf x0 x1 x3 b n h g r j := by
  pointwise [val_main_v24, val_main_v23, val_main_v22, val_main_v21, val_main_v20, key_apply, query_apply, table_apply]
  rfl

/-- The sinks. -/
theorem sink_apply (h : Fin 2) (g : Fin 4) : val_main_v28 (F := Ideal) x4 (ix6 0 0 h g 0 0) = sinkOf x4 h g := by
  pointwise [val_main_v28, val_main_v27, val_main_v26, val_main_v25, val_main_cst]

/-- The scores of a query are the last axis of their array. -/
theorem fiber_apply (b : Fin 4) (n : Fin 33) (h : Fin 2) (g : Fin 4) (r : Fin 128) (i : S4x33x2x4x128x256.Idx) :
    reducesTo_S4x33x2x4x128x256_S4x33x2x4x128_d5.drop i = ix5 b n h g r ↔ ∃ j : Fin 256, ix6 b n h g r j = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

/-- A fold over the last axis. -/
theorem fold_apply (b : Fin 4) (n : Fin 33) (h : Fin 2) (g : Fin 4) (r : Fin 128) (f : S4x33x2x4x128x256.Idx → EReal) (z : EReal) (inst) :
    Finset.fold max z f (@Finset.filter _ (fun i => reducesTo_S4x33x2x4x128x256_S4x33x2x4x128_d5.drop i = ix5 b n h g r) inst Finset.univ)
      = Finset.fold max z (fun j => f (ix6 b n h g r j)) Finset.univ := by
  rw [Finset.fold_filter_eq_fold_of_fiber max _ (fun j : Fin 256 => ix6 b n h g r j) (fun _ _ e => congrFun e 5) (fiber_apply b n h g r)]

/-- The largest entry of a query's row of scores. -/
theorem top_row (b : Fin 4) (n : Fin 33) (h : Fin 2) (g : Fin 4) (r : Fin 128) :
    (val_main_v29 (F := Ideal) x0 x1 x3 (ix5 b n h g r) : EReal)
      = Finset.fold max (Ideal.ofBits .f32 0xFF800000#32) (fun j => val_main_v24 x0 x1 x3 (ix6 b n h g r j)) Finset.univ := by
  pointwise [val_main_v29, val_main_cst_0]
  exact fold_apply b n h g r _ _ _

/-- The largest of the scores. -/
theorem top_apply (b : Fin 4) (n : Fin 33) (h : Fin 2) (g : Fin 4) (r : Fin 128) :
    (val_main_v29 (F := Ideal) x0 x1 x3 (ix5 b n h g r) : EReal)
      = Finset.fold max (Ideal.ofBits .f32 0xFF800000#32) (scoreOf x0 x1 x3 b n h g r) Finset.univ := by
  have e : (fun j : Fin 256 => (val_main_v24 x0 x1 x3 (ix6 b n h g r j) : EReal)) = scoreOf x0 x1 x3 b n h g r :=
    funext fun j => score_apply x0 x1 x3 b n h g r j
  rw [top_row, e]

/-- The largest of the scores and the sink. -/
theorem peak_apply (b : Fin 4) (n : Fin 33) (h : Fin 2) (g : Fin 4) (r : Fin 128) :
    val_main_v32 (F := Ideal) x0 x1 x3 x4 (ix6 b n h g r 0) = peak (scoreOf x0 x1 x3 b n h g r) (sinkOf x4 h g) := by
  rw [val_main_v32_apply, val_main_v30_apply, val_main_v31_apply]
  have e30 : idx_main_v30 (ix6 b n h g r 0) = ix5 b n h g r := by
    funext a
    match a with
    | ⟨0, _⟩ => rfl
    | ⟨1, _⟩ => rfl
    | ⟨2, _⟩ => rfl
    | ⟨3, _⟩ => rfl
    | ⟨4, _⟩ => rfl
  have e31 : idx_main_v31 (ix6 b n h g r 0) = ix6 0 0 h g 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e30, e31, top_apply, sink_apply]
  unfold peak
  exact Ideal.maximumf_def _ _

/-- The number two. -/
theorem two_eq : Ideal.ofBits .f32 0x40000000#32 = 2 := by
  simp [Ideal.ofBits, Ideal.ieee, -EReal.coe_mul]
  have e : (8388608 * (2 ^ 22)⁻¹ : ℝ) = 2 := by norm_num
  rw [e]
  rfl

/-- The weights. -/
theorem weight_apply (b : Fin 4) (n : Fin 33) (h : Fin 2) (g : Fin 4) (r : Fin 128) (j : Fin 256) :
    val_main_v36 (F := Ideal) x0 x1 x3 x4 (ix6 b n h g r j)
      = Ideal.pow 2 (scoreOf x0 x1 x3 b n h g r j - peak (scoreOf x0 x1 x3 b n h g r) (sinkOf x4 h g)) := by
  pointwise [val_main_v36, val_main_v35, val_main_v34, val_main_v33, val_main_cst_1, peak_apply, score_apply, two_eq]

/-- The sink's weight. -/
theorem rest_apply (b : Fin 4) (n : Fin 33) (h : Fin 2) (g : Fin 4) (r : Fin 128) :
    val_main_v42 (F := Ideal) x0 x1 x3 x4 (ix6 b n h g r 0)
      = Ideal.pow 2 (sinkOf x4 h g - peak (scoreOf x0 x1 x3 b n h g r) (sinkOf x4 h g)) := by
  pointwise [val_main_v42, val_main_v41, val_main_v40, val_main_v39, val_main_cst_3, peak_apply, sink_apply, two_eq]

/-- The weights' total. -/
theorem total_apply (b : Fin 4) (n : Fin 33) (h : Fin 2) (g : Fin 4) (r : Fin 128) :
    (val_main_v37 (F := Ideal) x0 x1 x3 x4 (ix5 b n h g r) : EReal)
      = ∑ j, Ideal.pow 2 (scoreOf x0 x1 x3 b n h g r j - peak (scoreOf x0 x1 x3 b n h g r) (sinkOf x4 h g)) := by
  rw [val_main_v37_apply]
  have e : ∀ k, idx_main_v37 (ix5 b n h g r) k = ix6 b n h g r k := fun k => by
    funext a
    match a with
    | ⟨0, _⟩ => rfl
    | ⟨1, _⟩ => rfl
    | ⟨2, _⟩ => rfl
    | ⟨3, _⟩ => rfl
    | ⟨4, _⟩ => rfl
    | ⟨5, _⟩ => rfl
  simp only [e, weight_apply]
  pointwise [val_main_cst_2]

/-- The weighted values. -/
theorem attend_apply (b : Fin 4) (n : Fin 33) (r : Fin 128) (h : Fin 2) (g : Fin 4) (d : Fin 64) :
    val_main_v47 (F := Ideal) x0 x1 x2 x3 x4 (ix6 b n r h g d)
      = attend (scoreOf x0 x1 x3 b n h g r) (sinkOf x4 h g) (fun j => x2 (ix3 b (winRow n j) ⟨h.val * 64 + d.val, by omega⟩)) := by
  pointwise [val_main_v47, val_main_v46, val_main_v45, val_main_v44, val_main_v43, val_main_v38, total_apply, value_apply, weight_apply, rest_apply]
  unfold attend
  rfl

/-- The result. -/
theorem out_apply (b : Fin 4) (i : Fin 4224) (k : Fin 512) :
    val_main_v48 (F := Ideal) x0 x1 x2 x3 x4 (ix3 b i k)
      = attend (scoreOf x0 x1 x3 b ⟨i.val / 128, by omega⟩ ⟨k.val / 256, by omega⟩ ⟨k.val / 64 % 4, by omega⟩ ⟨i.val % 128, by omega⟩)
          (sinkOf x4 ⟨k.val / 256, by omega⟩ ⟨k.val / 64 % 4, by omega⟩)
          (fun j => x2 (ix3 b (winRow ⟨i.val / 128, by omega⟩ j) ⟨k.val / 256 * 64 + k.val % 64, by omega⟩)) := by
  pointwise [val_main_v48]
  exact attend_apply x0 x1 x2 x3 x4 b _ _ _ _ _

end Cert.Reference5Ideal.Rows
-- ==== Proof.Swa5Join.lean ====
/- The windowed-attention kernel and its reference end with the same array: the reference's result is the row function the
   kernel's array was shown to be, of arguments that agree. -/
module

public import proofs.«01_k».proof.Proof.Swa5Real
public import proofs.«01_k».proof.Proof.Ref5Rows
public import proofs.«01_k».proof.Proof.Gen.Kernel5Ideal.Value
public import Idealize.ShloMosaic.Lib.Claim
public import Idealize.ShloMosaic.Adequacy
public import Idealize.ShloMosaic.Init

@[expose] public section

set_option maxRecDepth 16384

noncomputable section

namespace Cert.Swa5

open Cert.Kernel5Ideal.Rows Cert.SwaRow Idealize.ShloMosaic Idealize.SL.Sem

variable (m : (ℓ : Loc Cert.Kernel5Ideal.nD Cert.Kernel5Ideal.τ Cert.Kernel5Ideal.sig) → Buf (Elt Ideal) ℓ)
variable (m' : (ℓ : Loc Cert.Reference5Ideal.nD Cert.Reference5Ideal.τ Cert.Reference5Ideal.sig) → Buf (Elt Ideal) ℓ)

/-- The two memories hold the same arguments on device `c`. -/
abbrev Agree (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
    ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
    ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
    ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
    ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)

/-- The reference's array. -/
theorem outO_ref {c : Dev Cert.Kernel5Ideal.nD} (h : Agree m m' c) :
    Cert.Reference5Ideal.Read.val_main_v48 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = fun y : Cert.Kernel5Ideal.S4x4224x512.Idx => outO m c (y 0) (y 1) (y 2) := by
  funext y
  obtain ⟨b, i, k, rfl⟩ : ∃ (b : Fin 4) (i : Fin 4224) (k : Fin 512), (y : Cert.Reference5Ideal.S4x4224x512.Idx) = ix3 b i k :=
    ⟨y 0, y 1, y 2, by funext a; match a with | ⟨0, _⟩ => rfl | ⟨1, _⟩ => rfl | ⟨2, _⟩ => rfl⟩
  refine (Cert.Reference5Ideal.Rows.out_apply _ _ _ _ _ b i k).trans ?_
  obtain ⟨h0, h1, h2, h3, h4⟩ := h
  rw [h0, h1, h2, h3, h4]
  rfl

/-- At the ideal instance the kernel and the reference end with the same array. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m ρ m' ρ' hpre hagree
  have hF : ∀ c, Reals m c := reals m hpre
  refine ⟨fun c => fun y : Cert.Kernel5Ideal.S4x4224x512.Idx => outO m c (y 0) (y 1) (y 2), ?_, ?_⟩
  · exact (θ_run Cert.Kernel5Ideal.defs _ _).mono
      (fun _ h c => ⟨(h c).1.trans (final5 m (hF c)), (h c).2⟩) (Cert.Kernel5Ideal.Value.run_blocks m ρ)
  exact (θ_run Cert.Reference5Ideal.defs _ _).mono
    (fun _ h c => ⟨((h c).1.trans (Cert.Reference5Ideal.Read.val_main_v48_eq _ _)).trans (outO_ref m m' (hagree c)), (h c).2⟩)
    (Cert.Reference5Ideal.Value.run m' ρ')

end Cert.Swa5
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Pre_finite3
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Pre_finite5
public import proofs.«01_k».proof.Proof.KernelRows
public import proofs.«01_k».proof.Proof.RefRows
public import proofs.«01_k».proof.Proof.Kernel2Rows
public import proofs.«01_k».proof.Proof.Ref2Rows
public import proofs.«01_k».proof.Proof.Mix3Join
public import proofs.«01_k».proof.Proof.Mix4Join
public import proofs.«01_k».proof.Proof.Swa5Join
public import Idealize.ShloMosaic.Lib.Claim
public import Idealize.ShloMosaic.Adequacy
public import Idealize.ShloMosaic.Init

@[expose] public section

noncomputable section

namespace Cert.Proof

open Idealize.ShloMosaic Idealize.SL.Sem

/-- At the ideal instance the last layer's output kernel and the reference end with the same rows: each is the row
    model of the same rows of arguments that agree. -/
theorem algebraic : Cert.algebraic_KernelIdeal_ReferenceIdeal := by
  intro m ρ m' ρ' _ hagree
  refine ⟨fun c => fun y : Cert.KernelIdeal.S4x4096x1024.Idx => Cert.KernelIdeal.Rows.result m c (y 0) (y 1) (y 2), ?_, ?_⟩
  · exact (θ_run Cert.KernelIdeal.defs _ _).mono
      (fun _ h c => ⟨(h c).1.trans (Cert.KernelIdeal.Rows.final m c), (h c).2⟩) (Cert.KernelIdeal.Value.run_blocks m ρ)
  refine (θ_run Cert.ReferenceIdeal.defs _ _).mono (fun _ h c => ⟨(h c).1.trans ?_, (h c).2⟩)
    (Cert.ReferenceIdeal.Value.run m' ρ')
  refine (Cert.ReferenceIdeal.Read.val_main_v131_eq _).trans ?_
  simp only [StableHlo.launchContents_devRef]
  funext y
  obtain ⟨b, i, k, rfl⟩ : ∃ (b : Fin 4) (i : Fin 4096) (k : Fin 1024), (y : Cert.ReferenceIdeal.S4x4096x1024.Idx) = ix3 b i k :=
    ⟨y 0, y 1, y 2, by funext a; match a with | ⟨0, _⟩ => rfl | ⟨1, _⟩ => rfl | ⟨2, _⟩ => rfl⟩
  refine (Cert.ReferenceIdeal.Rows.out_apply _ _ _ _ _ _ _ _ _ _ _ _ _ b i k).trans ?_
  obtain ⟨h0, h1, h2, h3, h4, h5, h6, h7, h8, h9, h10, h11, h12, h13⟩ := hagree c
  unfold Cert.KernelIdeal.Rows.result
  rw [← h0, ← h2, ← h3, ← h4, ← h5, ← h6, ← h7, ← h8, ← h9, ← h10, ← h11, ← h12, ← h13]
  rfl

/-- At the ideal instance the first layer's output kernel and the reference end with the same rows: each is the row
    model of the same rows of arguments that agree. -/
theorem algebraic2 : Cert.algebraic_Kernel2Ideal_Reference2Ideal := by
  intro m ρ m' ρ' _ hagree
  refine ⟨fun c => fun y : Cert.Kernel2Ideal.S4x4224x1024.Idx => Cert.Kernel2Ideal.Rows.result m c (y 0) (y 1) (y 2), ?_, ?_⟩
  · exact (θ_run Cert.Kernel2Ideal.defs _ _).mono
      (fun _ h c => ⟨(h c).1.trans (Cert.Kernel2Ideal.Rows.final m c), (h c).2⟩) (Cert.Kernel2Ideal.Value.run_blocks m ρ)
  refine (θ_run Cert.Reference2Ideal.defs _ _).mono (fun _ h c => ⟨(h c).1.trans ?_, (h c).2⟩)
    (Cert.Reference2Ideal.Value.run m' ρ')
  refine (Cert.Reference2Ideal.Read.val_main_v134_eq _).trans ?_
  simp only [StableHlo.launchContents_devRef]
  funext y
  obtain ⟨b, i, k, rfl⟩ : ∃ (b : Fin 4) (i : Fin 4224) (k : Fin 1024), (y : Cert.Reference2Ideal.S4x4224x1024.Idx) = ix3 b i k :=
    ⟨y 0, y 1, y 2, by funext a; match a with | ⟨0, _⟩ => rfl | ⟨1, _⟩ => rfl | ⟨2, _⟩ => rfl⟩
  refine (Cert.Reference2Ideal.Rows.out_apply _ _ _ _ _ _ _ _ _ _ _ _ _ _ b i k).trans ?_
  obtain ⟨h0, h1, h2, h3, h4, h5, h6, h7, h8, h9, h10, h11, h12, h13⟩ := hagree c
  unfold Cert.Kernel2Ideal.Rows.result
  rw [← h0, ← h1, ← h2, ← h3, ← h4, ← h5, ← h6, ← h7, ← h8, ← h9, ← h10, ← h11, ← h12, ← h13]
  rfl

/-- THE CLAIM: the programs run to the end and leave their arguments, the two printings of each kernel agree, and each
    kernel computes its reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite3.Gen.facts, Cert.Pre_finite4.Gen.facts, Cert.Pre_finite5.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => Cert.Kernel2.Gen.frame m ρ, fun m ρ _ => Cert.Kernel2Ideal.Gen.frame m ρ,
  fun m ρ _ => (θ_run Cert.Reference2Ideal.defs _ _).mono
    (fun r h => ⟨fun c => (h c).2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => Cert.Kernel3Ideal.Gen.frame m ρ,
  fun m ρ _ => (θ_run Cert.Reference3Ideal.defs _ _).mono
    (fun r h => ⟨fun c => (h c).2.2.2.2.2, sem_eq_zero_of_no_sems (by decide) r.2⟩) (Cert.Reference3Ideal.Value.run m ρ),
  fun m ρ _ => (θ_run Cert.Reference3Ideal.defs _ _).mono
    (fun r h => ⟨fun c => (h c).2.2.2.2.2, sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => Cert.Kernel4Ideal.Gen.frame m ρ,
  fun m ρ _ => (θ_run Cert.Reference4Ideal.defs _ _).mono
    (fun r h => ⟨fun c => (h c).2.2.2.2.2, sem_eq_zero_of_no_sems (by decide) r.2⟩) (Cert.Reference4Ideal.Value.run m ρ),
  fun m ρ _ => (θ_run Cert.Reference4Ideal.defs _ _).mono
    (fun r h => ⟨fun c => (h c).2.2.2.2.2, sem_eq_zero_of_no_sems (by decide) r.2⟩) (Cert.Reference4Ideal.Value.run m ρ),
  fun m ρ _ => Cert.Kernel5.Gen.frame m ρ, fun m ρ _ => Cert.Kernel5Ideal.Gen.frame m ρ,
  fun m ρ _ => Cert.Kernel5Ideal.Gen.frame m ρ,
  fun m ρ _ => (θ_run Cert.Reference5Ideal.defs _ _).mono
    (fun r h => ⟨fun c => (h c).2, sem_eq_zero_of_no_sems (by decide) r.2⟩) (Cert.Reference5Ideal.Value.run m ρ),
  fun m ρ _ => (θ_run Cert.Reference5Ideal.defs _ _).mono
    (fun r h => ⟨fun c => (h c).2, sem_eq_zero_of_no_sems (by decide) r.2⟩) (Cert.Reference5Ideal.Value.run m ρ),
  trivial, algebraic, trivial, algebraic2,
  IdealRules.named_const.statement Cert.Kernel3Ideal.κ "inv_192" .f32 0x3BAAAAAB#32 ((1 / 192 : ℝ) : EReal) rfl, Cert.Mix3.algebraic,
  IdealRules.named_const.statement Cert.Kernel4Ideal.κ "inv_192" .f32 0x3BAAAAAB#32 ((1 / 192 : ℝ) : EReal) rfl, Cert.Mix4.algebraic,
  trivial, Cert.Swa5.algebraic⟩

end Cert.Proof

end
